-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)) (v2 : (c : Dev Cert.Kernel6Ideal.nD) → Buf (Elt Ideal) ((c.tc : Thread Cert.Kernel6Ideal.nD Cert.Kernel6Ideal.τ).loc Cert.Kernel6Ideal.main_v14_2)) (v3 : (c : Dev Cert.Kernel6Ideal.nD) → Buf (Elt Ideal) ((c.tc : Thread Cert.Kernel6Ideal.nD Cert.Kernel6Ideal.τ).loc Cert.Kernel6Ideal.main_v14_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_v14_2) = v2 c
          ∧ r.2.mem ((c.tc : Thread Cert.Kernel6Ideal.nD Cert.Kernel6Ideal.τ).loc Cert.Kernel6Ideal.main_v14_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v62) = v0 c
          ∧ r.2.mem ((c.tc : Thread Cert.Reference6Ideal.nD Cert.Reference6Ideal.τ).loc Cert.Reference6Ideal.main_v63) = v1 c
          ∧ r.2.mem ((c.tc : Thread Cert.Reference6Ideal.nD Cert.Reference6Ideal.τ).loc Cert.Reference6Ideal.main_v64) = v2 c
          ∧ r.2.mem ((c.tc : Thread Cert.Reference6Ideal.nD Cert.Reference6Ideal.τ).loc Cert.Reference6Ideal.main_v67) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v17_0)) (v1 : (c : Dev Cert.Kernel7Ideal.nD) → Buf (Elt Ideal) ((c.tc : Thread Cert.Kernel7Ideal.nD Cert.Kernel7Ideal.τ).loc Cert.Kernel7Ideal.main_v17_1)) (v2 : (c : Dev Cert.Kernel7Ideal.nD) → Buf (Elt Ideal) ((c.tc : Thread Cert.Kernel7Ideal.nD Cert.Kernel7Ideal.τ).loc Cert.Kernel7Ideal.main_v17_2)) (v3 : (c : Dev Cert.Kernel7Ideal.nD) → Buf (Elt Ideal) ((c.tc : Thread Cert.Kernel7Ideal.nD Cert.Kernel7Ideal.τ).loc Cert.Kernel7Ideal.main_v17_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17_0) = v0 c
          ∧ r.2.mem ((c.tc : Thread Cert.Kernel7Ideal.nD Cert.Kernel7Ideal.τ).loc Cert.Kernel7Ideal.main_v17_1) = v1 c
          ∧ r.2.mem ((c.tc : Thread Cert.Kernel7Ideal.nD Cert.Kernel7Ideal.τ).loc Cert.Kernel7Ideal.main_v17_2) = v2 c
          ∧ r.2.mem ((c.tc : Thread Cert.Kernel7Ideal.nD Cert.Kernel7Ideal.τ).loc Cert.Kernel7Ideal.main_v17_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_v61) = v1 c
          ∧ r.2.mem ((c.tc : Thread Cert.Reference7Ideal.nD Cert.Reference7Ideal.τ).loc Cert.Reference7Ideal.main_v62) = v2 c
          ∧ r.2.mem ((c.tc : Thread Cert.Reference7Ideal.nD Cert.Reference7Ideal.τ).loc Cert.Reference7Ideal.main_v65) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8x4096x1024 : Shape := ⟨3, ![8, 4096, 1024]⟩
abbrev S8x4096x128 : Shape := ⟨3, ![8, 4096, 128]⟩
abbrev S8x16x256x256 : Shape := ⟨4, ![8, 16, 256, 256]⟩
abbrev S8x16x512x128 : Shape := ⟨4, ![8, 16, 512, 128]⟩
abbrev S8x128x256 : Shape := ⟨3, ![8, 128, 256]⟩
abbrev S1x256x1024 : Shape := ⟨3, ![1, 256, 1024]⟩
abbrev S1x256x128 : Shape := ⟨3, ![1, 256, 128]⟩
abbrev S1x4096x1024 : Shape := ⟨3, ![1, 4096, 1024]⟩
abbrev S1x16x256x256 : Shape := ⟨4, ![1, 16, 256, 256]⟩
abbrev S1x16x512x128 : Shape := ⟨4, ![1, 16, 512, 128]⟩
abbrev S4096x256 : Shape := ⟨2, ![4096, 256]⟩
abbrev S16x32x8x256 : Shape := ⟨4, ![16, 32, 8, 256]⟩
abbrev S4x512x256 : Shape := ⟨3, ![4, 512, 256]⟩
abbrev S2048x128 : Shape := ⟨2, ![2048, 128]⟩
abbrev S8x2048 : Shape := ⟨2, ![8, 2048]⟩
abbrev S256x2048 : Shape := ⟨2, ![256, 2048]⟩
abbrev S264x2048 : Shape := ⟨2, ![264, 2048]⟩
abbrev S256x128 : Shape := ⟨2, ![256, 128]⟩
abbrev S128x256 : Shape := ⟨2, ![128, 256]⟩
abbrev S1x256 : Shape := ⟨2, ![1, 256]⟩
abbrev S256x256 : Shape := ⟨2, ![256, 256]⟩
abbrev S1x1x512x128 : Shape := ⟨4, ![1, 1, 512, 128]⟩
abbrev S512x128 : Shape := ⟨2, ![512, 128]⟩
abbrev S512x256 : Shape := ⟨2, ![512, 256]⟩
abbrev S8x256 : Shape := ⟨2, ![8, 256]⟩
abbrev S1x1x8x256 : Shape := ⟨4, ![1, 1, 8, 256]⟩
abbrev S1x256x256 : Shape := ⟨3, ![1, 256, 256]⟩
abbrev S1x512x256 : Shape := ⟨3, ![1, 512, 256]⟩
abbrev S256x512 : Shape := ⟨2, ![256, 512]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S512 : Shape := ⟨1, ![512]⟩
abbrev S1x512 : Shape := ⟨2, ![1, 512]⟩
abbrev S1x2048 : Shape := ⟨2, ![1, 2048]⟩
abbrev S1x1x256x256 : Shape := ⟨4, ![1, 1, 256, 256]⟩
abbrev S1x128x256 : Shape := ⟨3, ![1, 128, 256]⟩

abbrev nBuf : Space → Nat
  | .hbm => 8
  | .vmem => 23
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x4096x128, .f32⟩
  | .hbm, ⟨3, _⟩ => ⟨S8x4096x1024, .bf16⟩
  | .hbm, ⟨4, _⟩ => ⟨S8x16x256x256, .bf16⟩
  | .hbm, ⟨5, _⟩ => ⟨S8x16x512x128, .bf16⟩
  | .hbm, ⟨6, _⟩ => ⟨S8x128x256, .bf16⟩
  | .hbm, ⟨7, _⟩ => ⟨S8x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S1x4096x1024, .bf16⟩
  | .local _ .vmem, ⟨7, _⟩ => ⟨S1x4096x1024, .bf16⟩
  | .local _ .vmem, ⟨8, _⟩ => ⟨S1x16x256x256, .bf16⟩
  | .local _ .vmem, ⟨9, _⟩ => ⟨S1x16x256x256, .bf16⟩
  | .local _ .vmem, ⟨10, _⟩ => ⟨S1x16x512x128, .bf16⟩
  | .local _ .vmem, ⟨11, _⟩ => ⟨S1x16x512x128, .bf16⟩
  | .local _ .vmem, ⟨12, _⟩ => ⟨S8x128x256, .bf16⟩
  | .local _ .vmem, ⟨13, _⟩ => ⟨S1x256x1024, .bf16⟩
  | .local _ .vmem, ⟨14, _⟩ => ⟨S1x256x1024, .bf16⟩
  | .local _ .vmem, ⟨15, _⟩ => ⟨S4096x256, .i32⟩
  | .local _ .vmem, ⟨16, _⟩ => ⟨S16x32x8x256, .i32⟩
  | .local _ .vmem, ⟨17, _⟩ => ⟨S4x512x256, .bf16⟩
  | .local _ .vmem, ⟨18, _⟩ => ⟨S2048x128, .bf16⟩
  | .local _ .vmem, ⟨19, _⟩ => ⟨S8x2048, .f32⟩
  | .local _ .vmem, ⟨20, _⟩ => ⟨S256x2048, .f32⟩
  | .local _ .vmem, ⟨21, _⟩ => ⟨S264x2048, .f32⟩
  | .local _ .vmem, ⟨22, _⟩ => ⟨S264x2048, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_131 : BitVec 32 := 1#32
  ⟨c0_i32_129, v201, c1_i32_131⟩
def k0_mult1 (i : grid0.Coords) (k0_t1 : Fin (k0_t1_loop i).trips) : BitVec 32 :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let c0_i32_2508 : BitVec 32 := 0#32
  let v5588 : BitVec 32 := Scalar.addi v5587 c0_i32_2508
  let c256_i32_2509 : BitVec 32 := 256#32
  let v5589 : BitVec 32 := Scalar.muli v5588 c256_i32_2509
  v5589
def k0_off1 (i : grid0.Coords) (k0_t1 : Fin (k0_t1_loop i).trips) (c0_i32_2508 : BitVec 32) : Fin 4 → Nat :=
  let c0_2510 : Index := 0#32
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v5591 : Index := Scalar.indexCast v5588
  let c0_2511 : Index := 0#32
  let c0_2512 : Index := 0#32
  ![0, v5591.toNat, 0, 0]
def k0_off2 (i : grid0.Coords) (k0_t1 : Fin (k0_t1_loop i).trips) (c0_i32_2508 : BitVec 32) : Fin 2 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let c256_i32_2509 : BitVec 32 := 256#32
  let v5589 : BitVec 32 := Scalar.muli v5588 c256_i32_2509
  let v5590 : BitVec 32 := v5589
  let v5732 : Index := Scalar.indexCast v5590
  let c0_2587 : Index := 0#32
  ![v5732.toNat, 0]
def k0_off3 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6552 : Index := Scalar.indexCast v5588
  let c0_2855 : Index := 0#32
  let c0_2856 : Index := 0#32
  let c0_2857 : Index := 0#32
  ![v6552.toNat, 0, 0, 0]
def k0_off4 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6556 : Index := Scalar.indexCast v5588
  let c1_2858 : Index := 1#32
  let c0_2859 : Index := 0#32
  let c0_2860 : Index := 0#32
  ![v6556.toNat, 1, 0, 0]
def k0_off5 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6560 : Index := Scalar.indexCast v5588
  let c2_2861 : Index := 2#32
  let c0_2862 : Index := 0#32
  let c0_2863 : Index := 0#32
  ![v6560.toNat, 2, 0, 0]
def k0_off6 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6564 : Index := Scalar.indexCast v5588
  let c3_2864 : Index := 3#32
  let c0_2865 : Index := 0#32
  let c0_2866 : Index := 0#32
  ![v6564.toNat, 3, 0, 0]
def k0_off7 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6568 : Index := Scalar.indexCast v5588
  let c4_2867 : Index := 4#32
  let c0_2868 : Index := 0#32
  let c0_2869 : Index := 0#32
  ![v6568.toNat, 4, 0, 0]
def k0_off8 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6572 : Index := Scalar.indexCast v5588
  let c5_2870 : Index := 5#32
  let c0_2871 : Index := 0#32
  let c0_2872 : Index := 0#32
  ![v6572.toNat, 5, 0, 0]
def k0_off9 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6576 : Index := Scalar.indexCast v5588
  let c6_2873 : Index := 6#32
  let c0_2874 : Index := 0#32
  let c0_2875 : Index := 0#32
  ![v6576.toNat, 6, 0, 0]
def k0_off10 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6580 : Index := Scalar.indexCast v5588
  let c7_2876 : Index := 7#32
  let c0_2877 : Index := 0#32
  let c0_2878 : Index := 0#32
  ![v6580.toNat, 7, 0, 0]
def k0_off11 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6584 : Index := Scalar.indexCast v5588
  let c8_2879 : Index := 8#32
  let c0_2880 : Index := 0#32
  let c0_2881 : Index := 0#32
  ![v6584.toNat, 8, 0, 0]
def k0_off12 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6588 : Index := Scalar.indexCast v5588
  let c9_2882 : Index := 9#32
  let c0_2883 : Index := 0#32
  let c0_2884 : Index := 0#32
  ![v6588.toNat, 9, 0, 0]
def k0_off13 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6592 : Index := Scalar.indexCast v5588
  let c10_2885 : Index := 10#32
  let c0_2886 : Index := 0#32
  let c0_2887 : Index := 0#32
  ![v6592.toNat, 10, 0, 0]
def k0_off14 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6596 : Index := Scalar.indexCast v5588
  let c11_2888 : Index := 11#32
  let c0_2889 : Index := 0#32
  let c0_2890 : Index := 0#32
  ![v6596.toNat, 11, 0, 0]
def k0_off15 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6600 : Index := Scalar.indexCast v5588
  let c12_2891 : Index := 12#32
  let c0_2892 : Index := 0#32
  let c0_2893 : Index := 0#32
  ![v6600.toNat, 12, 0, 0]
def k0_off16 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6604 : Index := Scalar.indexCast v5588
  let c13_2894 : Index := 13#32
  let c0_2895 : Index := 0#32
  let c0_2896 : Index := 0#32
  ![v6604.toNat, 13, 0, 0]
def k0_off17 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6608 : Index := Scalar.indexCast v5588
  let c14_2897 : Index := 14#32
  let c0_2898 : Index := 0#32
  let c0_2899 : Index := 0#32
  ![v6608.toNat, 14, 0, 0]
def k0_off18 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6612 : Index := Scalar.indexCast v5588
  let c15_2900 : Index := 15#32
  let c0_2901 : Index := 0#32
  let c0_2902 : Index := 0#32
  ![v6612.toNat, 15, 0, 0]
def k0_off19 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6616 : Index := Scalar.indexCast v5588
  let c16_2903 : Index := 16#32
  let c0_2904 : Index := 0#32
  let c0_2905 : Index := 0#32
  ![v6616.toNat, 16, 0, 0]
def k0_off20 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6620 : Index := Scalar.indexCast v5588
  let c17_2906 : Index := 17#32
  let c0_2907 : Index := 0#32
  let c0_2908 : Index := 0#32
  ![v6620.toNat, 17, 0, 0]
def k0_off21 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6624 : Index := Scalar.indexCast v5588
  let c18_2909 : Index := 18#32
  let c0_2910 : Index := 0#32
  let c0_2911 : Index := 0#32
  ![v6624.toNat, 18, 0, 0]
def k0_off22 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6628 : Index := Scalar.indexCast v5588
  let c19_2912 : Index := 19#32
  let c0_2913 : Index := 0#32
  let c0_2914 : Index := 0#32
  ![v6628.toNat, 19, 0, 0]
def k0_off23 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6632 : Index := Scalar.indexCast v5588
  let c20_2915 : Index := 20#32
  let c0_2916 : Index := 0#32
  let c0_2917 : Index := 0#32
  ![v6632.toNat, 20, 0, 0]
def k0_off24 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6636 : Index := Scalar.indexCast v5588
  let c21_2918 : Index := 21#32
  let c0_2919 : Index := 0#32
  let c0_2920 : Index := 0#32
  ![v6636.toNat, 21, 0, 0]
def k0_off25 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6640 : Index := Scalar.indexCast v5588
  let c22_2921 : Index := 22#32
  let c0_2922 : Index := 0#32
  let c0_2923 : Index := 0#32
  ![v6640.toNat, 22, 0, 0]
def k0_off26 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6644 : Index := Scalar.indexCast v5588
  let c23_2924 : Index := 23#32
  let c0_2925 : Index := 0#32
  let c0_2926 : Index := 0#32
  ![v6644.toNat, 23, 0, 0]
def k0_off27 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6648 : Index := Scalar.indexCast v5588
  let c24_2927 : Index := 24#32
  let c0_2928 : Index := 0#32
  let c0_2929 : Index := 0#32
  ![v6648.toNat, 24, 0, 0]
def k0_off28 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6652 : Index := Scalar.indexCast v5588
  let c25_2930 : Index := 25#32
  let c0_2931 : Index := 0#32
  let c0_2932 : Index := 0#32
  ![v6652.toNat, 25, 0, 0]
def k0_off29 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6656 : Index := Scalar.indexCast v5588
  let c26_2933 : Index := 26#32
  let c0_2934 : Index := 0#32
  let c0_2935 : Index := 0#32
  ![v6656.toNat, 26, 0, 0]
def k0_off30 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6660 : Index := Scalar.indexCast v5588
  let c27_2936 : Index := 27#32
  let c0_2937 : Index := 0#32
  let c0_2938 : Index := 0#32
  ![v6660.toNat, 27, 0, 0]
def k0_off31 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6664 : Index := Scalar.indexCast v5588
  let c28_2939 : Index := 28#32
  let c0_2940 : Index := 0#32
  let c0_2941 : Index := 0#32
  ![v6664.toNat, 28, 0, 0]
def k0_off32 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6668 : Index := Scalar.indexCast v5588
  let c29_2942 : Index := 29#32
  let c0_2943 : Index := 0#32
  let c0_2944 : Index := 0#32
  ![v6668.toNat, 29, 0, 0]
def k0_off33 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6672 : Index := Scalar.indexCast v5588
  let c30_2945 : Index := 30#32
  let c0_2946 : Index := 0#32
  let c0_2947 : Index := 0#32
  ![v6672.toNat, 30, 0, 0]
def k0_off34 (i : grid0.Coords) (k0_t1 : Fin (k0_t1_loop i).trips) (c0_i32_2508 : BitVec 32) : Fin 4 → Nat :=
  let c0_i32_2507 : BitVec 32 := 0#32
  let c4_i32_2506 : BitVec 32 := 4#32
  let c0_i32_129 : BitVec 32 := 0#32
  let c1_i32_131 : BitVec 32 := 1#32
  let arg18 : BitVec 32 := Scf.iv c0_i32_129 c1_i32_131 k0_t1
  let v5586 : BitVec 32 := Scalar.muli c4_i32_2506 arg18
  let v5587 : BitVec 32 := Scalar.addi c0_i32_2507 v5586
  let v5588 : BitVec 32 := Scalar.addi v5587 c0_i32_2508
  let v6676 : Index := Scalar.indexCast v5588
  let c31_2948 : Index := 31#32
  let c0_2949 : Index := 0#32
  let c0_2950 : Index := 0#32
  ![v6676.toNat, 31, 0, 0]
def k0_mult2 (i : grid0.Coords) (k0_t1 : Fin (k0_t1_loop i).trips) : BitVec 32 :=
  let c0_i32_2952 : BitVec 32 := 0#32
  let c4_i32_2951 : BitVec 32 := 4#32
  let c0_i32_129 : BitVec 32 := 0#32
  let c1_i32_131 : BitVec 32 := 1#32
  let arg18 : BitVec 32 := Scf.iv c0_i32_129 c1_i32_131 k0_t1
  let v6680 : BitVec 32 := Scalar.muli c4_i32_2951 arg18
  let v6681 : BitVec 32 := Scalar.addi c0_i32_2952 v6680
  let c1_i32_2953 : BitVec 32 := 1#32
  let v6682 : BitVec 32 := Scalar.addi v6681 c1_i32_2953
  let c256_i32_2954 : BitVec 32 := 256#32
  let v6683 : BitVec 32 := Scalar.muli v6682 c256_i32_2954
  v6683
def k0_mult3 (i : grid0.Coords) (k0_t1 : Fin (k0_t1_loop i).trips) : BitVec 32 :=
  let c0_i32_3403 : BitVec 32 := 0#32
  let c4_i32_3402 : BitVec 32 := 4#32
  let c0_i32_129 : BitVec 32 := 0#32
  let c1_i32_131 : BitVec 32 := 1#32
  let arg18 : BitVec 32 := Scf.iv c0_i32_129 c1_i32_131 k0_t1
  let v7774 : BitVec 32 := Scalar.muli c4_i32_3402 arg18
  let v7775 : BitVec 32 := Scalar.addi c0_i32_3403 v7774
  let c2_i32_3404 : BitVec 32 := 2#32
  let v7776 : BitVec 32 := Scalar.addi v7775 c2_i32_3404
  let c256_i32_3405 : BitVec 32 := 256#32
  let v7777 : BitVec 32 := Scalar.muli v7776 c256_i32_3405
  v7777
def k0_mult4 (i : grid0.Coords) (k0_t1 : Fin (k0_t1_loop i).trips) : BitVec 32 :=
  let c0_i32_3854 : BitVec 32 := 0#32
  let c4_i32_3853 : BitVec 32 := 4#32
  let c0_i32_129 : BitVec 32 := 0#32
  let c1_i32_131 : BitVec 32 := 1#32
  let arg18 : BitVec 32 := Scf.iv c0_i32_129 c1_i32_131 k0_t1
  let v8868 : BitVec 32 := Scalar.muli c4_i32_3853 arg18
  let v8869 : BitVec 32 := Scalar.addi c0_i32_3854 v8868
  let c3_i32_3855 : BitVec 32 := 3#32
  let v8870 : BitVec 32 := Scalar.addi v8869 c3_i32_3855
  let c256_i32_3856 : BitVec 32 := 256#32
  let v8871 : BitVec 32 := Scalar.muli v8870 c256_i32_3856
  v8871
@[reducible] def k0_t2_loop (i : grid0.Coords) : Scf.Loop 32 :=
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let v198 : BitVec 32 := Scalar.addi c0_i32_129 v197
  let c1_i32_132 : BitVec 32 := 1#32
  ⟨v201, v198, c1_i32_132⟩
def k0_mult5 (i : grid0.Coords) (k0_t2 : Fin (k0_t2_loop i).trips) : BitVec 32 :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let c0_i32_2508 : BitVec 32 := 0#32
  let v5588 : BitVec 32 := Scalar.addi v5587 c0_i32_2508
  let c256_i32_2509 : BitVec 32 := 256#32
  let v5589 : BitVec 32 := Scalar.muli v5588 c256_i32_2509
  v5589
def k0_off35 (i : grid0.Coords) (k0_t2 : Fin (k0_t2_loop i).trips) (c0_i32_2508 : BitVec 32) : Fin 4 → Nat :=
  let c0_2510 : Index := 0#32
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v5591 : Index := Scalar.indexCast v5588
  let c0_2511 : Index := 0#32
  let c0_2512 : Index := 0#32
  ![0, v5591.toNat, 0, 0]
def k0_off36 (i : grid0.Coords) (k0_t2 : Fin (k0_t2_loop i).trips) (c0_i32_2508 : BitVec 32) : Fin 2 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let c256_i32_2509 : BitVec 32 := 256#32
  let v5589 : BitVec 32 := Scalar.muli v5588 c256_i32_2509
  let v5590 : BitVec 32 := v5589
  let v5732 : Index := Scalar.indexCast v5590
  let c0_2587 : Index := 0#32
  ![v5732.toNat, 0]
def k0_off37 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6552 : Index := Scalar.indexCast v5588
  let c0_2855 : Index := 0#32
  let c0_2856 : Index := 0#32
  let c0_2857 : Index := 0#32
  ![v6552.toNat, 0, 0, 0]
def k0_off38 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6556 : Index := Scalar.indexCast v5588
  let c1_2858 : Index := 1#32
  let c0_2859 : Index := 0#32
  let c0_2860 : Index := 0#32
  ![v6556.toNat, 1, 0, 0]
def k0_off39 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6560 : Index := Scalar.indexCast v5588
  let c2_2861 : Index := 2#32
  let c0_2862 : Index := 0#32
  let c0_2863 : Index := 0#32
  ![v6560.toNat, 2, 0, 0]
def k0_off40 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6564 : Index := Scalar.indexCast v5588
  let c3_2864 : Index := 3#32
  let c0_2865 : Index := 0#32
  let c0_2866 : Index := 0#32
  ![v6564.toNat, 3, 0, 0]
def k0_off41 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6568 : Index := Scalar.indexCast v5588
  let c4_2867 : Index := 4#32
  let c0_2868 : Index := 0#32
  let c0_2869 : Index := 0#32
  ![v6568.toNat, 4, 0, 0]
def k0_off42 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6572 : Index := Scalar.indexCast v5588
  let c5_2870 : Index := 5#32
  let c0_2871 : Index := 0#32
  let c0_2872 : Index := 0#32
  ![v6572.toNat, 5, 0, 0]
def k0_off43 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6576 : Index := Scalar.indexCast v5588
  let c6_2873 : Index := 6#32
  let c0_2874 : Index := 0#32
  let c0_2875 : Index := 0#32
  ![v6576.toNat, 6, 0, 0]
def k0_off44 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6580 : Index := Scalar.indexCast v5588
  let c7_2876 : Index := 7#32
  let c0_2877 : Index := 0#32
  let c0_2878 : Index := 0#32
  ![v6580.toNat, 7, 0, 0]
def k0_off45 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6584 : Index := Scalar.indexCast v5588
  let c8_2879 : Index := 8#32
  let c0_2880 : Index := 0#32
  let c0_2881 : Index := 0#32
  ![v6584.toNat, 8, 0, 0]
def k0_off46 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6588 : Index := Scalar.indexCast v5588
  let c9_2882 : Index := 9#32
  let c0_2883 : Index := 0#32
  let c0_2884 : Index := 0#32
  ![v6588.toNat, 9, 0, 0]
def k0_off47 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6592 : Index := Scalar.indexCast v5588
  let c10_2885 : Index := 10#32
  let c0_2886 : Index := 0#32
  let c0_2887 : Index := 0#32
  ![v6592.toNat, 10, 0, 0]
def k0_off48 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6596 : Index := Scalar.indexCast v5588
  let c11_2888 : Index := 11#32
  let c0_2889 : Index := 0#32
  let c0_2890 : Index := 0#32
  ![v6596.toNat, 11, 0, 0]
def k0_off49 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6600 : Index := Scalar.indexCast v5588
  let c12_2891 : Index := 12#32
  let c0_2892 : Index := 0#32
  let c0_2893 : Index := 0#32
  ![v6600.toNat, 12, 0, 0]
def k0_off50 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6604 : Index := Scalar.indexCast v5588
  let c13_2894 : Index := 13#32
  let c0_2895 : Index := 0#32
  let c0_2896 : Index := 0#32
  ![v6604.toNat, 13, 0, 0]
def k0_off51 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6608 : Index := Scalar.indexCast v5588
  let c14_2897 : Index := 14#32
  let c0_2898 : Index := 0#32
  let c0_2899 : Index := 0#32
  ![v6608.toNat, 14, 0, 0]
def k0_off52 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6612 : Index := Scalar.indexCast v5588
  let c15_2900 : Index := 15#32
  let c0_2901 : Index := 0#32
  let c0_2902 : Index := 0#32
  ![v6612.toNat, 15, 0, 0]
def k0_off53 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6616 : Index := Scalar.indexCast v5588
  let c16_2903 : Index := 16#32
  let c0_2904 : Index := 0#32
  let c0_2905 : Index := 0#32
  ![v6616.toNat, 16, 0, 0]
def k0_off54 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6620 : Index := Scalar.indexCast v5588
  let c17_2906 : Index := 17#32
  let c0_2907 : Index := 0#32
  let c0_2908 : Index := 0#32
  ![v6620.toNat, 17, 0, 0]
def k0_off55 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6624 : Index := Scalar.indexCast v5588
  let c18_2909 : Index := 18#32
  let c0_2910 : Index := 0#32
  let c0_2911 : Index := 0#32
  ![v6624.toNat, 18, 0, 0]
def k0_off56 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6628 : Index := Scalar.indexCast v5588
  let c19_2912 : Index := 19#32
  let c0_2913 : Index := 0#32
  let c0_2914 : Index := 0#32
  ![v6628.toNat, 19, 0, 0]
def k0_off57 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6632 : Index := Scalar.indexCast v5588
  let c20_2915 : Index := 20#32
  let c0_2916 : Index := 0#32
  let c0_2917 : Index := 0#32
  ![v6632.toNat, 20, 0, 0]
def k0_off58 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6636 : Index := Scalar.indexCast v5588
  let c21_2918 : Index := 21#32
  let c0_2919 : Index := 0#32
  let c0_2920 : Index := 0#32
  ![v6636.toNat, 21, 0, 0]
def k0_off59 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6640 : Index := Scalar.indexCast v5588
  let c22_2921 : Index := 22#32
  let c0_2922 : Index := 0#32
  let c0_2923 : Index := 0#32
  ![v6640.toNat, 22, 0, 0]
def k0_off60 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6644 : Index := Scalar.indexCast v5588
  let c23_2924 : Index := 23#32
  let c0_2925 : Index := 0#32
  let c0_2926 : Index := 0#32
  ![v6644.toNat, 23, 0, 0]
def k0_off61 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6648 : Index := Scalar.indexCast v5588
  let c24_2927 : Index := 24#32
  let c0_2928 : Index := 0#32
  let c0_2929 : Index := 0#32
  ![v6648.toNat, 24, 0, 0]
def k0_off62 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6652 : Index := Scalar.indexCast v5588
  let c25_2930 : Index := 25#32
  let c0_2931 : Index := 0#32
  let c0_2932 : Index := 0#32
  ![v6652.toNat, 25, 0, 0]
def k0_off63 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6656 : Index := Scalar.indexCast v5588
  let c26_2933 : Index := 26#32
  let c0_2934 : Index := 0#32
  let c0_2935 : Index := 0#32
  ![v6656.toNat, 26, 0, 0]
def k0_off64 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6660 : Index := Scalar.indexCast v5588
  let c27_2936 : Index := 27#32
  let c0_2937 : Index := 0#32
  let c0_2938 : Index := 0#32
  ![v6660.toNat, 27, 0, 0]
def k0_off65 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6664 : Index := Scalar.indexCast v5588
  let c28_2939 : Index := 28#32
  let c0_2940 : Index := 0#32
  let c0_2941 : Index := 0#32
  ![v6664.toNat, 28, 0, 0]
def k0_off66 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6668 : Index := Scalar.indexCast v5588
  let c29_2942 : Index := 29#32
  let c0_2943 : Index := 0#32
  let c0_2944 : Index := 0#32
  ![v6668.toNat, 29, 0, 0]
def k0_off67 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6672 : Index := Scalar.indexCast v5588
  let c30_2945 : Index := 30#32
  let c0_2946 : Index := 0#32
  let c0_2947 : Index := 0#32
  ![v6672.toNat, 30, 0, 0]
def k0_off68 (i : grid0.Coords) (k0_t2 : Fin (k0_t2_loop i).trips) (c0_i32_2508 : BitVec 32) : Fin 4 → Nat :=
  let c0_i32_2507 : BitVec 32 := 0#32
  let c4_i32_2506 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v5586 : BitVec 32 := Scalar.muli c4_i32_2506 arg18
  let v5587 : BitVec 32 := Scalar.addi c0_i32_2507 v5586
  let v5588 : BitVec 32 := Scalar.addi v5587 c0_i32_2508
  let v6676 : Index := Scalar.indexCast v5588
  let c31_2948 : Index := 31#32
  let c0_2949 : Index := 0#32
  let c0_2950 : Index := 0#32
  ![v6676.toNat, 31, 0, 0]
def k0_mult6 (i : grid0.Coords) (k0_t2 : Fin (k0_t2_loop i).trips) : BitVec 32 :=
  let c0_i32_2952 : BitVec 32 := 0#32
  let c4_i32_2951 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v6680 : BitVec 32 := Scalar.muli c4_i32_2951 arg18
  let v6681 : BitVec 32 := Scalar.addi c0_i32_2952 v6680
  let c1_i32_2953 : BitVec 32 := 1#32
  let v6682 : BitVec 32 := Scalar.addi v6681 c1_i32_2953
  let c256_i32_2954 : BitVec 32 := 256#32
  let v6683 : BitVec 32 := Scalar.muli v6682 c256_i32_2954
  v6683
def k0_mult7 (i : grid0.Coords) (k0_t2 : Fin (k0_t2_loop i).trips) : BitVec 32 :=
  let c0_i32_3403 : BitVec 32 := 0#32
  let c4_i32_3402 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v7774 : BitVec 32 := Scalar.muli c4_i32_3402 arg18
  let v7775 : BitVec 32 := Scalar.addi c0_i32_3403 v7774
  let c2_i32_3404 : BitVec 32 := 2#32
  let v7776 : BitVec 32 := Scalar.addi v7775 c2_i32_3404
  let c256_i32_3405 : BitVec 32 := 256#32
  let v7777 : BitVec 32 := Scalar.muli v7776 c256_i32_3405
  v7777
def k0_mult8 (i : grid0.Coords) (k0_t2 : Fin (k0_t2_loop i).trips) : BitVec 32 :=
  let c0_i32_3854 : BitVec 32 := 0#32
  let c4_i32_3853 : BitVec 32 := 4#32
  let c0_i32_129 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v197 : BitVec 32 := Scalar.subi v196 c0_i32_129
  let c1_i32_130 : BitVec 32 := 1#32
  let v199 : BitVec 32 := Scalar.divsi v197 c1_i32_130
  let v200 : BitVec 32 := Scalar.muli v199 c1_i32_130
  let v201 : BitVec 32 := Scalar.addi c0_i32_129 v200
  let c1_i32_132 : BitVec 32 := 1#32
  let arg18 : BitVec 32 := Scf.iv v201 c1_i32_132 k0_t2
  let v8868 : BitVec 32 := Scalar.muli c4_i32_3853 arg18
  let v8869 : BitVec 32 := Scalar.addi c0_i32_3854 v8868
  let c3_i32_3855 : BitVec 32 := 3#32
  let v8870 : BitVec 32 := Scalar.addi v8869 c3_i32_3855
  let c256_i32_3856 : BitVec 32 := 256#32
  let v8871 : BitVec 32 := Scalar.muli v8870 c256_i32_3856
  v8871
@[reducible] def k0_t3_loop (i : grid0.Coords) : Scf.Loop 32 :=
  let c0_i32_142 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_134 : BitVec 32 := 0#32
  let c4_i32_133 : BitVec 32 := 4#32
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_144 : BitVec 32 := 1#32
  ⟨c0_i32_142, v226, c1_i32_144⟩
def k0_mult9 (i : grid0.Coords) (k0_t3 : Fin (k0_t3_loop i).trips) : BitVec 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let c0_i32_2507 : BitVec 32 := 0#32
  let v5588 : BitVec 32 := Scalar.addi v5587 c0_i32_2507
  let c256_i32_2508 : BitVec 32 := 256#32
  let v5589 : BitVec 32 := Scalar.muli v5588 c256_i32_2508
  v5589
def k0_off69 (i : grid0.Coords) (k0_t3 : Fin (k0_t3_loop i).trips) (c0_i32_2507 : BitVec 32) : Fin 4 → Nat :=
  let c0_2509 : Index := 0#32
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v5591 : Index := Scalar.indexCast v5588
  let c0_2510 : Index := 0#32
  let c0_2511 : Index := 0#32
  ![0, v5591.toNat, 0, 0]
def k0_off70 (i : grid0.Coords) (k0_t3 : Fin (k0_t3_loop i).trips) (c0_i32_2507 : BitVec 32) : Fin 2 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let c256_i32_2508 : BitVec 32 := 256#32
  let v5589 : BitVec 32 := Scalar.muli v5588 c256_i32_2508
  let v5590 : BitVec 32 := v5589
  let v5732 : Index := Scalar.indexCast v5590
  let c0_2586 : Index := 0#32
  ![v5732.toNat, 0]
def k0_off71 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6552 : Index := Scalar.indexCast v5588
  let c0_2854 : Index := 0#32
  let c0_2855 : Index := 0#32
  let c0_2856 : Index := 0#32
  ![v6552.toNat, 0, 0, 0]
def k0_off72 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6556 : Index := Scalar.indexCast v5588
  let c1_2857 : Index := 1#32
  let c0_2858 : Index := 0#32
  let c0_2859 : Index := 0#32
  ![v6556.toNat, 1, 0, 0]
def k0_off73 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6560 : Index := Scalar.indexCast v5588
  let c2_2860 : Index := 2#32
  let c0_2861 : Index := 0#32
  let c0_2862 : Index := 0#32
  ![v6560.toNat, 2, 0, 0]
def k0_off74 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6564 : Index := Scalar.indexCast v5588
  let c3_2863 : Index := 3#32
  let c0_2864 : Index := 0#32
  let c0_2865 : Index := 0#32
  ![v6564.toNat, 3, 0, 0]
def k0_off75 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6568 : Index := Scalar.indexCast v5588
  let c4_2866 : Index := 4#32
  let c0_2867 : Index := 0#32
  let c0_2868 : Index := 0#32
  ![v6568.toNat, 4, 0, 0]
def k0_off76 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6572 : Index := Scalar.indexCast v5588
  let c5_2869 : Index := 5#32
  let c0_2870 : Index := 0#32
  let c0_2871 : Index := 0#32
  ![v6572.toNat, 5, 0, 0]
def k0_off77 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6576 : Index := Scalar.indexCast v5588
  let c6_2872 : Index := 6#32
  let c0_2873 : Index := 0#32
  let c0_2874 : Index := 0#32
  ![v6576.toNat, 6, 0, 0]
def k0_off78 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6580 : Index := Scalar.indexCast v5588
  let c7_2875 : Index := 7#32
  let c0_2876 : Index := 0#32
  let c0_2877 : Index := 0#32
  ![v6580.toNat, 7, 0, 0]
def k0_off79 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6584 : Index := Scalar.indexCast v5588
  let c8_2878 : Index := 8#32
  let c0_2879 : Index := 0#32
  let c0_2880 : Index := 0#32
  ![v6584.toNat, 8, 0, 0]
def k0_off80 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6588 : Index := Scalar.indexCast v5588
  let c9_2881 : Index := 9#32
  let c0_2882 : Index := 0#32
  let c0_2883 : Index := 0#32
  ![v6588.toNat, 9, 0, 0]
def k0_off81 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6592 : Index := Scalar.indexCast v5588
  let c10_2884 : Index := 10#32
  let c0_2885 : Index := 0#32
  let c0_2886 : Index := 0#32
  ![v6592.toNat, 10, 0, 0]
def k0_off82 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6596 : Index := Scalar.indexCast v5588
  let c11_2887 : Index := 11#32
  let c0_2888 : Index := 0#32
  let c0_2889 : Index := 0#32
  ![v6596.toNat, 11, 0, 0]
def k0_off83 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6600 : Index := Scalar.indexCast v5588
  let c12_2890 : Index := 12#32
  let c0_2891 : Index := 0#32
  let c0_2892 : Index := 0#32
  ![v6600.toNat, 12, 0, 0]
def k0_off84 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6604 : Index := Scalar.indexCast v5588
  let c13_2893 : Index := 13#32
  let c0_2894 : Index := 0#32
  let c0_2895 : Index := 0#32
  ![v6604.toNat, 13, 0, 0]
def k0_off85 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6608 : Index := Scalar.indexCast v5588
  let c14_2896 : Index := 14#32
  let c0_2897 : Index := 0#32
  let c0_2898 : Index := 0#32
  ![v6608.toNat, 14, 0, 0]
def k0_off86 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6612 : Index := Scalar.indexCast v5588
  let c15_2899 : Index := 15#32
  let c0_2900 : Index := 0#32
  let c0_2901 : Index := 0#32
  ![v6612.toNat, 15, 0, 0]
def k0_off87 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6616 : Index := Scalar.indexCast v5588
  let c16_2902 : Index := 16#32
  let c0_2903 : Index := 0#32
  let c0_2904 : Index := 0#32
  ![v6616.toNat, 16, 0, 0]
def k0_off88 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6620 : Index := Scalar.indexCast v5588
  let c17_2905 : Index := 17#32
  let c0_2906 : Index := 0#32
  let c0_2907 : Index := 0#32
  ![v6620.toNat, 17, 0, 0]
def k0_off89 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6624 : Index := Scalar.indexCast v5588
  let c18_2908 : Index := 18#32
  let c0_2909 : Index := 0#32
  let c0_2910 : Index := 0#32
  ![v6624.toNat, 18, 0, 0]
def k0_off90 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6628 : Index := Scalar.indexCast v5588
  let c19_2911 : Index := 19#32
  let c0_2912 : Index := 0#32
  let c0_2913 : Index := 0#32
  ![v6628.toNat, 19, 0, 0]
def k0_off91 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6632 : Index := Scalar.indexCast v5588
  let c20_2914 : Index := 20#32
  let c0_2915 : Index := 0#32
  let c0_2916 : Index := 0#32
  ![v6632.toNat, 20, 0, 0]
def k0_off92 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6636 : Index := Scalar.indexCast v5588
  let c21_2917 : Index := 21#32
  let c0_2918 : Index := 0#32
  let c0_2919 : Index := 0#32
  ![v6636.toNat, 21, 0, 0]
def k0_off93 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6640 : Index := Scalar.indexCast v5588
  let c22_2920 : Index := 22#32
  let c0_2921 : Index := 0#32
  let c0_2922 : Index := 0#32
  ![v6640.toNat, 22, 0, 0]
def k0_off94 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6644 : Index := Scalar.indexCast v5588
  let c23_2923 : Index := 23#32
  let c0_2924 : Index := 0#32
  let c0_2925 : Index := 0#32
  ![v6644.toNat, 23, 0, 0]
def k0_off95 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6648 : Index := Scalar.indexCast v5588
  let c24_2926 : Index := 24#32
  let c0_2927 : Index := 0#32
  let c0_2928 : Index := 0#32
  ![v6648.toNat, 24, 0, 0]
def k0_off96 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6652 : Index := Scalar.indexCast v5588
  let c25_2929 : Index := 25#32
  let c0_2930 : Index := 0#32
  let c0_2931 : Index := 0#32
  ![v6652.toNat, 25, 0, 0]
def k0_off97 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6656 : Index := Scalar.indexCast v5588
  let c26_2932 : Index := 26#32
  let c0_2933 : Index := 0#32
  let c0_2934 : Index := 0#32
  ![v6656.toNat, 26, 0, 0]
def k0_off98 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6660 : Index := Scalar.indexCast v5588
  let c27_2935 : Index := 27#32
  let c0_2936 : Index := 0#32
  let c0_2937 : Index := 0#32
  ![v6660.toNat, 27, 0, 0]
def k0_off99 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6664 : Index := Scalar.indexCast v5588
  let c28_2938 : Index := 28#32
  let c0_2939 : Index := 0#32
  let c0_2940 : Index := 0#32
  ![v6664.toNat, 28, 0, 0]
def k0_off100 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6668 : Index := Scalar.indexCast v5588
  let c29_2941 : Index := 29#32
  let c0_2942 : Index := 0#32
  let c0_2943 : Index := 0#32
  ![v6668.toNat, 29, 0, 0]
def k0_off101 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6672 : Index := Scalar.indexCast v5588
  let c30_2944 : Index := 30#32
  let c0_2945 : Index := 0#32
  let c0_2946 : Index := 0#32
  ![v6672.toNat, 30, 0, 0]
def k0_off102 (i : grid0.Coords) (k0_t3 : Fin (k0_t3_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let c1_i32_144 : BitVec 32 := 1#32
  let arg18 : BitVec 32 := Scf.iv c0_i32_142 c1_i32_144 k0_t3
  let v5586 : BitVec 32 := Scalar.muli c2_i32_2506 arg18
  let v5587 : BitVec 32 := Scalar.addi v203 v5586
  let v5588 : BitVec 32 := Scalar.addi v5587 c0_i32_2507
  let v6676 : Index := Scalar.indexCast v5588
  let c31_2947 : Index := 31#32
  let c0_2948 : Index := 0#32
  let c0_2949 : Index := 0#32
  ![v6676.toNat, 31, 0, 0]
def k0_mult10 (i : grid0.Coords) (k0_t3 : Fin (k0_t3_loop i).trips) : BitVec 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2950 : BitVec 32 := 2#32
  let c0_i32_142 : BitVec 32 := 0#32
  let c1_i32_144 : BitVec 32 := 1#32
  let arg18 : BitVec 32 := Scf.iv c0_i32_142 c1_i32_144 k0_t3
  let v6680 : BitVec 32 := Scalar.muli c2_i32_2950 arg18
  let v6681 : BitVec 32 := Scalar.addi v203 v6680
  let c1_i32_2951 : BitVec 32 := 1#32
  let v6682 : BitVec 32 := Scalar.addi v6681 c1_i32_2951
  let c256_i32_2952 : BitVec 32 := 256#32
  let v6683 : BitVec 32 := Scalar.muli v6682 c256_i32_2952
  v6683
@[reducible] def k0_t4_loop (i : grid0.Coords) : Scf.Loop 32 :=
  let c0_i32_142 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_134 : BitVec 32 := 0#32
  let c4_i32_133 : BitVec 32 := 4#32
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let v223 : BitVec 32 := Scalar.addi c0_i32_142 v222
  let c1_i32_145 : BitVec 32 := 1#32
  ⟨v226, v223, c1_i32_145⟩
def k0_mult11 (i : grid0.Coords) (k0_t4 : Fin (k0_t4_loop i).trips) : BitVec 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let c0_i32_2507 : BitVec 32 := 0#32
  let v5588 : BitVec 32 := Scalar.addi v5587 c0_i32_2507
  let c256_i32_2508 : BitVec 32 := 256#32
  let v5589 : BitVec 32 := Scalar.muli v5588 c256_i32_2508
  v5589
def k0_off103 (i : grid0.Coords) (k0_t4 : Fin (k0_t4_loop i).trips) (c0_i32_2507 : BitVec 32) : Fin 4 → Nat :=
  let c0_2509 : Index := 0#32
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v5591 : Index := Scalar.indexCast v5588
  let c0_2510 : Index := 0#32
  let c0_2511 : Index := 0#32
  ![0, v5591.toNat, 0, 0]
def k0_off104 (i : grid0.Coords) (k0_t4 : Fin (k0_t4_loop i).trips) (c0_i32_2507 : BitVec 32) : Fin 2 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let c256_i32_2508 : BitVec 32 := 256#32
  let v5589 : BitVec 32 := Scalar.muli v5588 c256_i32_2508
  let v5590 : BitVec 32 := v5589
  let v5732 : Index := Scalar.indexCast v5590
  let c0_2586 : Index := 0#32
  ![v5732.toNat, 0]
def k0_off105 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6552 : Index := Scalar.indexCast v5588
  let c0_2854 : Index := 0#32
  let c0_2855 : Index := 0#32
  let c0_2856 : Index := 0#32
  ![v6552.toNat, 0, 0, 0]
def k0_off106 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6556 : Index := Scalar.indexCast v5588
  let c1_2857 : Index := 1#32
  let c0_2858 : Index := 0#32
  let c0_2859 : Index := 0#32
  ![v6556.toNat, 1, 0, 0]
def k0_off107 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6560 : Index := Scalar.indexCast v5588
  let c2_2860 : Index := 2#32
  let c0_2861 : Index := 0#32
  let c0_2862 : Index := 0#32
  ![v6560.toNat, 2, 0, 0]
def k0_off108 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6564 : Index := Scalar.indexCast v5588
  let c3_2863 : Index := 3#32
  let c0_2864 : Index := 0#32
  let c0_2865 : Index := 0#32
  ![v6564.toNat, 3, 0, 0]
def k0_off109 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6568 : Index := Scalar.indexCast v5588
  let c4_2866 : Index := 4#32
  let c0_2867 : Index := 0#32
  let c0_2868 : Index := 0#32
  ![v6568.toNat, 4, 0, 0]
def k0_off110 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6572 : Index := Scalar.indexCast v5588
  let c5_2869 : Index := 5#32
  let c0_2870 : Index := 0#32
  let c0_2871 : Index := 0#32
  ![v6572.toNat, 5, 0, 0]
def k0_off111 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6576 : Index := Scalar.indexCast v5588
  let c6_2872 : Index := 6#32
  let c0_2873 : Index := 0#32
  let c0_2874 : Index := 0#32
  ![v6576.toNat, 6, 0, 0]
def k0_off112 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6580 : Index := Scalar.indexCast v5588
  let c7_2875 : Index := 7#32
  let c0_2876 : Index := 0#32
  let c0_2877 : Index := 0#32
  ![v6580.toNat, 7, 0, 0]
def k0_off113 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6584 : Index := Scalar.indexCast v5588
  let c8_2878 : Index := 8#32
  let c0_2879 : Index := 0#32
  let c0_2880 : Index := 0#32
  ![v6584.toNat, 8, 0, 0]
def k0_off114 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6588 : Index := Scalar.indexCast v5588
  let c9_2881 : Index := 9#32
  let c0_2882 : Index := 0#32
  let c0_2883 : Index := 0#32
  ![v6588.toNat, 9, 0, 0]
def k0_off115 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6592 : Index := Scalar.indexCast v5588
  let c10_2884 : Index := 10#32
  let c0_2885 : Index := 0#32
  let c0_2886 : Index := 0#32
  ![v6592.toNat, 10, 0, 0]
def k0_off116 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6596 : Index := Scalar.indexCast v5588
  let c11_2887 : Index := 11#32
  let c0_2888 : Index := 0#32
  let c0_2889 : Index := 0#32
  ![v6596.toNat, 11, 0, 0]
def k0_off117 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6600 : Index := Scalar.indexCast v5588
  let c12_2890 : Index := 12#32
  let c0_2891 : Index := 0#32
  let c0_2892 : Index := 0#32
  ![v6600.toNat, 12, 0, 0]
def k0_off118 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6604 : Index := Scalar.indexCast v5588
  let c13_2893 : Index := 13#32
  let c0_2894 : Index := 0#32
  let c0_2895 : Index := 0#32
  ![v6604.toNat, 13, 0, 0]
def k0_off119 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6608 : Index := Scalar.indexCast v5588
  let c14_2896 : Index := 14#32
  let c0_2897 : Index := 0#32
  let c0_2898 : Index := 0#32
  ![v6608.toNat, 14, 0, 0]
def k0_off120 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6612 : Index := Scalar.indexCast v5588
  let c15_2899 : Index := 15#32
  let c0_2900 : Index := 0#32
  let c0_2901 : Index := 0#32
  ![v6612.toNat, 15, 0, 0]
def k0_off121 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6616 : Index := Scalar.indexCast v5588
  let c16_2902 : Index := 16#32
  let c0_2903 : Index := 0#32
  let c0_2904 : Index := 0#32
  ![v6616.toNat, 16, 0, 0]
def k0_off122 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6620 : Index := Scalar.indexCast v5588
  let c17_2905 : Index := 17#32
  let c0_2906 : Index := 0#32
  let c0_2907 : Index := 0#32
  ![v6620.toNat, 17, 0, 0]
def k0_off123 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6624 : Index := Scalar.indexCast v5588
  let c18_2908 : Index := 18#32
  let c0_2909 : Index := 0#32
  let c0_2910 : Index := 0#32
  ![v6624.toNat, 18, 0, 0]
def k0_off124 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6628 : Index := Scalar.indexCast v5588
  let c19_2911 : Index := 19#32
  let c0_2912 : Index := 0#32
  let c0_2913 : Index := 0#32
  ![v6628.toNat, 19, 0, 0]
def k0_off125 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6632 : Index := Scalar.indexCast v5588
  let c20_2914 : Index := 20#32
  let c0_2915 : Index := 0#32
  let c0_2916 : Index := 0#32
  ![v6632.toNat, 20, 0, 0]
def k0_off126 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6636 : Index := Scalar.indexCast v5588
  let c21_2917 : Index := 21#32
  let c0_2918 : Index := 0#32
  let c0_2919 : Index := 0#32
  ![v6636.toNat, 21, 0, 0]
def k0_off127 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6640 : Index := Scalar.indexCast v5588
  let c22_2920 : Index := 22#32
  let c0_2921 : Index := 0#32
  let c0_2922 : Index := 0#32
  ![v6640.toNat, 22, 0, 0]
def k0_off128 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6644 : Index := Scalar.indexCast v5588
  let c23_2923 : Index := 23#32
  let c0_2924 : Index := 0#32
  let c0_2925 : Index := 0#32
  ![v6644.toNat, 23, 0, 0]
def k0_off129 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6648 : Index := Scalar.indexCast v5588
  let c24_2926 : Index := 24#32
  let c0_2927 : Index := 0#32
  let c0_2928 : Index := 0#32
  ![v6648.toNat, 24, 0, 0]
def k0_off130 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6652 : Index := Scalar.indexCast v5588
  let c25_2929 : Index := 25#32
  let c0_2930 : Index := 0#32
  let c0_2931 : Index := 0#32
  ![v6652.toNat, 25, 0, 0]
def k0_off131 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6656 : Index := Scalar.indexCast v5588
  let c26_2932 : Index := 26#32
  let c0_2933 : Index := 0#32
  let c0_2934 : Index := 0#32
  ![v6656.toNat, 26, 0, 0]
def k0_off132 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6660 : Index := Scalar.indexCast v5588
  let c27_2935 : Index := 27#32
  let c0_2936 : Index := 0#32
  let c0_2937 : Index := 0#32
  ![v6660.toNat, 27, 0, 0]
def k0_off133 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6664 : Index := Scalar.indexCast v5588
  let c28_2938 : Index := 28#32
  let c0_2939 : Index := 0#32
  let c0_2940 : Index := 0#32
  ![v6664.toNat, 28, 0, 0]
def k0_off134 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6668 : Index := Scalar.indexCast v5588
  let c29_2941 : Index := 29#32
  let c0_2942 : Index := 0#32
  let c0_2943 : Index := 0#32
  ![v6668.toNat, 29, 0, 0]
def k0_off135 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6672 : Index := Scalar.indexCast v5588
  let c30_2944 : Index := 30#32
  let c0_2945 : Index := 0#32
  let c0_2946 : Index := 0#32
  ![v6672.toNat, 30, 0, 0]
def k0_off136 (i : grid0.Coords) (k0_t4 : Fin (k0_t4_loop i).trips) (c0_i32_2507 : BitVec 32) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2506 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v5586 : BitVec 32 := Scalar.muli c2_i32_2506 arg18
  let v5587 : BitVec 32 := Scalar.addi v203 v5586
  let v5588 : BitVec 32 := Scalar.addi v5587 c0_i32_2507
  let v6676 : Index := Scalar.indexCast v5588
  let c31_2947 : Index := 31#32
  let c0_2948 : Index := 0#32
  let c0_2949 : Index := 0#32
  ![v6676.toNat, 31, 0, 0]
def k0_mult12 (i : grid0.Coords) (k0_t4 : Fin (k0_t4_loop i).trips) : BitVec 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_2950 : BitVec 32 := 2#32
  let c0_i32_142 : BitVec 32 := 0#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v222 : BitVec 32 := Scalar.subi v221 c0_i32_142
  let c1_i32_143 : BitVec 32 := 1#32
  let v224 : BitVec 32 := Scalar.divsi v222 c1_i32_143
  let v225 : BitVec 32 := Scalar.muli v224 c1_i32_143
  let v226 : BitVec 32 := Scalar.addi c0_i32_142 v225
  let c1_i32_145 : BitVec 32 := 1#32
  let arg18 : BitVec 32 := Scf.iv v226 c1_i32_145 k0_t4
  let v6680 : BitVec 32 := Scalar.muli c2_i32_2950 arg18
  let v6681 : BitVec 32 := Scalar.addi v203 v6680
  let c1_i32_2951 : BitVec 32 := 1#32
  let v6682 : BitVec 32 := Scalar.addi v6681 c1_i32_2951
  let c256_i32_2952 : BitVec 32 := 256#32
  let v6683 : BitVec 32 := Scalar.muli v6682 c256_i32_2952
  v6683
@[reducible] def k0_t5_loop (i : grid0.Coords) : Scf.Loop 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_149 : BitVec 32 := 1#32
  ⟨v228, v233, c1_i32_149⟩
def k0_mult13 (i : grid0.Coords) (k0_t5 : Fin (k0_t5_loop i).trips) : BitVec 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let c256_i32_2506 : BitVec 32 := 256#32
  let v5586 : BitVec 32 := Scalar.muli arg18 c256_i32_2506
  v5586
def k0_off137 (i : grid0.Coords) (k0_t5 : Fin (k0_t5_loop i).trips) : Fin 4 → Nat :=
  let c0_2507 : Index := 0#32
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v5588 : Index := Scalar.indexCast arg18
  let c0_2508 : Index := 0#32
  let c0_2509 : Index := 0#32
  ![0, v5588.toNat, 0, 0]
def k0_off138 (i : grid0.Coords) (k0_t5 : Fin (k0_t5_loop i).trips) : Fin 2 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let c256_i32_2506 : BitVec 32 := 256#32
  let v5586 : BitVec 32 := Scalar.muli arg18 c256_i32_2506
  let v5587 : BitVec 32 := v5586
  let v5729 : Index := Scalar.indexCast v5587
  let c0_2584 : Index := 0#32
  ![v5729.toNat, 0]
def k0_off139 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6549 : Index := Scalar.indexCast arg18
  let c0_2852 : Index := 0#32
  let c0_2853 : Index := 0#32
  let c0_2854 : Index := 0#32
  ![v6549.toNat, 0, 0, 0]
def k0_off140 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6553 : Index := Scalar.indexCast arg18
  let c1_2855 : Index := 1#32
  let c0_2856 : Index := 0#32
  let c0_2857 : Index := 0#32
  ![v6553.toNat, 1, 0, 0]
def k0_off141 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6557 : Index := Scalar.indexCast arg18
  let c2_2858 : Index := 2#32
  let c0_2859 : Index := 0#32
  let c0_2860 : Index := 0#32
  ![v6557.toNat, 2, 0, 0]
def k0_off142 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6561 : Index := Scalar.indexCast arg18
  let c3_2861 : Index := 3#32
  let c0_2862 : Index := 0#32
  let c0_2863 : Index := 0#32
  ![v6561.toNat, 3, 0, 0]
def k0_off143 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6565 : Index := Scalar.indexCast arg18
  let c4_2864 : Index := 4#32
  let c0_2865 : Index := 0#32
  let c0_2866 : Index := 0#32
  ![v6565.toNat, 4, 0, 0]
def k0_off144 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6569 : Index := Scalar.indexCast arg18
  let c5_2867 : Index := 5#32
  let c0_2868 : Index := 0#32
  let c0_2869 : Index := 0#32
  ![v6569.toNat, 5, 0, 0]
def k0_off145 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6573 : Index := Scalar.indexCast arg18
  let c6_2870 : Index := 6#32
  let c0_2871 : Index := 0#32
  let c0_2872 : Index := 0#32
  ![v6573.toNat, 6, 0, 0]
def k0_off146 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6577 : Index := Scalar.indexCast arg18
  let c7_2873 : Index := 7#32
  let c0_2874 : Index := 0#32
  let c0_2875 : Index := 0#32
  ![v6577.toNat, 7, 0, 0]
def k0_off147 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6581 : Index := Scalar.indexCast arg18
  let c8_2876 : Index := 8#32
  let c0_2877 : Index := 0#32
  let c0_2878 : Index := 0#32
  ![v6581.toNat, 8, 0, 0]
def k0_off148 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6585 : Index := Scalar.indexCast arg18
  let c9_2879 : Index := 9#32
  let c0_2880 : Index := 0#32
  let c0_2881 : Index := 0#32
  ![v6585.toNat, 9, 0, 0]
def k0_off149 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6589 : Index := Scalar.indexCast arg18
  let c10_2882 : Index := 10#32
  let c0_2883 : Index := 0#32
  let c0_2884 : Index := 0#32
  ![v6589.toNat, 10, 0, 0]
def k0_off150 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6593 : Index := Scalar.indexCast arg18
  let c11_2885 : Index := 11#32
  let c0_2886 : Index := 0#32
  let c0_2887 : Index := 0#32
  ![v6593.toNat, 11, 0, 0]
def k0_off151 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6597 : Index := Scalar.indexCast arg18
  let c12_2888 : Index := 12#32
  let c0_2889 : Index := 0#32
  let c0_2890 : Index := 0#32
  ![v6597.toNat, 12, 0, 0]
def k0_off152 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6601 : Index := Scalar.indexCast arg18
  let c13_2891 : Index := 13#32
  let c0_2892 : Index := 0#32
  let c0_2893 : Index := 0#32
  ![v6601.toNat, 13, 0, 0]
def k0_off153 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6605 : Index := Scalar.indexCast arg18
  let c14_2894 : Index := 14#32
  let c0_2895 : Index := 0#32
  let c0_2896 : Index := 0#32
  ![v6605.toNat, 14, 0, 0]
def k0_off154 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6609 : Index := Scalar.indexCast arg18
  let c15_2897 : Index := 15#32
  let c0_2898 : Index := 0#32
  let c0_2899 : Index := 0#32
  ![v6609.toNat, 15, 0, 0]
def k0_off155 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6613 : Index := Scalar.indexCast arg18
  let c16_2900 : Index := 16#32
  let c0_2901 : Index := 0#32
  let c0_2902 : Index := 0#32
  ![v6613.toNat, 16, 0, 0]
def k0_off156 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6617 : Index := Scalar.indexCast arg18
  let c17_2903 : Index := 17#32
  let c0_2904 : Index := 0#32
  let c0_2905 : Index := 0#32
  ![v6617.toNat, 17, 0, 0]
def k0_off157 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6621 : Index := Scalar.indexCast arg18
  let c18_2906 : Index := 18#32
  let c0_2907 : Index := 0#32
  let c0_2908 : Index := 0#32
  ![v6621.toNat, 18, 0, 0]
def k0_off158 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6625 : Index := Scalar.indexCast arg18
  let c19_2909 : Index := 19#32
  let c0_2910 : Index := 0#32
  let c0_2911 : Index := 0#32
  ![v6625.toNat, 19, 0, 0]
def k0_off159 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6629 : Index := Scalar.indexCast arg18
  let c20_2912 : Index := 20#32
  let c0_2913 : Index := 0#32
  let c0_2914 : Index := 0#32
  ![v6629.toNat, 20, 0, 0]
def k0_off160 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6633 : Index := Scalar.indexCast arg18
  let c21_2915 : Index := 21#32
  let c0_2916 : Index := 0#32
  let c0_2917 : Index := 0#32
  ![v6633.toNat, 21, 0, 0]
def k0_off161 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6637 : Index := Scalar.indexCast arg18
  let c22_2918 : Index := 22#32
  let c0_2919 : Index := 0#32
  let c0_2920 : Index := 0#32
  ![v6637.toNat, 22, 0, 0]
def k0_off162 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6641 : Index := Scalar.indexCast arg18
  let c23_2921 : Index := 23#32
  let c0_2922 : Index := 0#32
  let c0_2923 : Index := 0#32
  ![v6641.toNat, 23, 0, 0]
def k0_off163 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6645 : Index := Scalar.indexCast arg18
  let c24_2924 : Index := 24#32
  let c0_2925 : Index := 0#32
  let c0_2926 : Index := 0#32
  ![v6645.toNat, 24, 0, 0]
def k0_off164 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6649 : Index := Scalar.indexCast arg18
  let c25_2927 : Index := 25#32
  let c0_2928 : Index := 0#32
  let c0_2929 : Index := 0#32
  ![v6649.toNat, 25, 0, 0]
def k0_off165 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6653 : Index := Scalar.indexCast arg18
  let c26_2930 : Index := 26#32
  let c0_2931 : Index := 0#32
  let c0_2932 : Index := 0#32
  ![v6653.toNat, 26, 0, 0]
def k0_off166 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6657 : Index := Scalar.indexCast arg18
  let c27_2933 : Index := 27#32
  let c0_2934 : Index := 0#32
  let c0_2935 : Index := 0#32
  ![v6657.toNat, 27, 0, 0]
def k0_off167 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6661 : Index := Scalar.indexCast arg18
  let c28_2936 : Index := 28#32
  let c0_2937 : Index := 0#32
  let c0_2938 : Index := 0#32
  ![v6661.toNat, 28, 0, 0]
def k0_off168 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6665 : Index := Scalar.indexCast arg18
  let c29_2939 : Index := 29#32
  let c0_2940 : Index := 0#32
  let c0_2941 : Index := 0#32
  ![v6665.toNat, 29, 0, 0]
def k0_off169 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6669 : Index := Scalar.indexCast arg18
  let c30_2942 : Index := 30#32
  let c0_2943 : Index := 0#32
  let c0_2944 : Index := 0#32
  ![v6669.toNat, 30, 0, 0]
def k0_off170 (i : grid0.Coords) (k0_t5 : Fin (k0_t5_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let c1_i32_149 : BitVec 32 := 1#32
  let arg18 : BitVec 32 := Scf.iv v228 c1_i32_149 k0_t5
  let v6673 : Index := Scalar.indexCast arg18
  let c31_2945 : Index := 31#32
  let c0_2946 : Index := 0#32
  let c0_2947 : Index := 0#32
  ![v6673.toNat, 31, 0, 0]
@[reducible] def k0_t6_loop (i : grid0.Coords) : Scf.Loop 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let v230 : BitVec 32 := Scalar.addi v228 v229
  let c1_i32_150 : BitVec 32 := 1#32
  ⟨v233, v230, c1_i32_150⟩
def k0_mult14 (i : grid0.Coords) (k0_t6 : Fin (k0_t6_loop i).trips) : BitVec 32 :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let c256_i32_2506 : BitVec 32 := 256#32
  let v5586 : BitVec 32 := Scalar.muli arg18 c256_i32_2506
  v5586
def k0_off171 (i : grid0.Coords) (k0_t6 : Fin (k0_t6_loop i).trips) : Fin 4 → Nat :=
  let c0_2507 : Index := 0#32
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v5588 : Index := Scalar.indexCast arg18
  let c0_2508 : Index := 0#32
  let c0_2509 : Index := 0#32
  ![0, v5588.toNat, 0, 0]
def k0_off172 (i : grid0.Coords) (k0_t6 : Fin (k0_t6_loop i).trips) : Fin 2 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let c256_i32_2506 : BitVec 32 := 256#32
  let v5586 : BitVec 32 := Scalar.muli arg18 c256_i32_2506
  let v5587 : BitVec 32 := v5586
  let v5729 : Index := Scalar.indexCast v5587
  let c0_2584 : Index := 0#32
  ![v5729.toNat, 0]
def k0_off173 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6549 : Index := Scalar.indexCast arg18
  let c0_2852 : Index := 0#32
  let c0_2853 : Index := 0#32
  let c0_2854 : Index := 0#32
  ![v6549.toNat, 0, 0, 0]
def k0_off174 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6553 : Index := Scalar.indexCast arg18
  let c1_2855 : Index := 1#32
  let c0_2856 : Index := 0#32
  let c0_2857 : Index := 0#32
  ![v6553.toNat, 1, 0, 0]
def k0_off175 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6557 : Index := Scalar.indexCast arg18
  let c2_2858 : Index := 2#32
  let c0_2859 : Index := 0#32
  let c0_2860 : Index := 0#32
  ![v6557.toNat, 2, 0, 0]
def k0_off176 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6561 : Index := Scalar.indexCast arg18
  let c3_2861 : Index := 3#32
  let c0_2862 : Index := 0#32
  let c0_2863 : Index := 0#32
  ![v6561.toNat, 3, 0, 0]
def k0_off177 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6565 : Index := Scalar.indexCast arg18
  let c4_2864 : Index := 4#32
  let c0_2865 : Index := 0#32
  let c0_2866 : Index := 0#32
  ![v6565.toNat, 4, 0, 0]
def k0_off178 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6569 : Index := Scalar.indexCast arg18
  let c5_2867 : Index := 5#32
  let c0_2868 : Index := 0#32
  let c0_2869 : Index := 0#32
  ![v6569.toNat, 5, 0, 0]
def k0_off179 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6573 : Index := Scalar.indexCast arg18
  let c6_2870 : Index := 6#32
  let c0_2871 : Index := 0#32
  let c0_2872 : Index := 0#32
  ![v6573.toNat, 6, 0, 0]
def k0_off180 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6577 : Index := Scalar.indexCast arg18
  let c7_2873 : Index := 7#32
  let c0_2874 : Index := 0#32
  let c0_2875 : Index := 0#32
  ![v6577.toNat, 7, 0, 0]
def k0_off181 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6581 : Index := Scalar.indexCast arg18
  let c8_2876 : Index := 8#32
  let c0_2877 : Index := 0#32
  let c0_2878 : Index := 0#32
  ![v6581.toNat, 8, 0, 0]
def k0_off182 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6585 : Index := Scalar.indexCast arg18
  let c9_2879 : Index := 9#32
  let c0_2880 : Index := 0#32
  let c0_2881 : Index := 0#32
  ![v6585.toNat, 9, 0, 0]
def k0_off183 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6589 : Index := Scalar.indexCast arg18
  let c10_2882 : Index := 10#32
  let c0_2883 : Index := 0#32
  let c0_2884 : Index := 0#32
  ![v6589.toNat, 10, 0, 0]
def k0_off184 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6593 : Index := Scalar.indexCast arg18
  let c11_2885 : Index := 11#32
  let c0_2886 : Index := 0#32
  let c0_2887 : Index := 0#32
  ![v6593.toNat, 11, 0, 0]
def k0_off185 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6597 : Index := Scalar.indexCast arg18
  let c12_2888 : Index := 12#32
  let c0_2889 : Index := 0#32
  let c0_2890 : Index := 0#32
  ![v6597.toNat, 12, 0, 0]
def k0_off186 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6601 : Index := Scalar.indexCast arg18
  let c13_2891 : Index := 13#32
  let c0_2892 : Index := 0#32
  let c0_2893 : Index := 0#32
  ![v6601.toNat, 13, 0, 0]
def k0_off187 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6605 : Index := Scalar.indexCast arg18
  let c14_2894 : Index := 14#32
  let c0_2895 : Index := 0#32
  let c0_2896 : Index := 0#32
  ![v6605.toNat, 14, 0, 0]
def k0_off188 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6609 : Index := Scalar.indexCast arg18
  let c15_2897 : Index := 15#32
  let c0_2898 : Index := 0#32
  let c0_2899 : Index := 0#32
  ![v6609.toNat, 15, 0, 0]
def k0_off189 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6613 : Index := Scalar.indexCast arg18
  let c16_2900 : Index := 16#32
  let c0_2901 : Index := 0#32
  let c0_2902 : Index := 0#32
  ![v6613.toNat, 16, 0, 0]
def k0_off190 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6617 : Index := Scalar.indexCast arg18
  let c17_2903 : Index := 17#32
  let c0_2904 : Index := 0#32
  let c0_2905 : Index := 0#32
  ![v6617.toNat, 17, 0, 0]
def k0_off191 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6621 : Index := Scalar.indexCast arg18
  let c18_2906 : Index := 18#32
  let c0_2907 : Index := 0#32
  let c0_2908 : Index := 0#32
  ![v6621.toNat, 18, 0, 0]
def k0_off192 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6625 : Index := Scalar.indexCast arg18
  let c19_2909 : Index := 19#32
  let c0_2910 : Index := 0#32
  let c0_2911 : Index := 0#32
  ![v6625.toNat, 19, 0, 0]
def k0_off193 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6629 : Index := Scalar.indexCast arg18
  let c20_2912 : Index := 20#32
  let c0_2913 : Index := 0#32
  let c0_2914 : Index := 0#32
  ![v6629.toNat, 20, 0, 0]
def k0_off194 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6633 : Index := Scalar.indexCast arg18
  let c21_2915 : Index := 21#32
  let c0_2916 : Index := 0#32
  let c0_2917 : Index := 0#32
  ![v6633.toNat, 21, 0, 0]
def k0_off195 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6637 : Index := Scalar.indexCast arg18
  let c22_2918 : Index := 22#32
  let c0_2919 : Index := 0#32
  let c0_2920 : Index := 0#32
  ![v6637.toNat, 22, 0, 0]
def k0_off196 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6641 : Index := Scalar.indexCast arg18
  let c23_2921 : Index := 23#32
  let c0_2922 : Index := 0#32
  let c0_2923 : Index := 0#32
  ![v6641.toNat, 23, 0, 0]
def k0_off197 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6645 : Index := Scalar.indexCast arg18
  let c24_2924 : Index := 24#32
  let c0_2925 : Index := 0#32
  let c0_2926 : Index := 0#32
  ![v6645.toNat, 24, 0, 0]
def k0_off198 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6649 : Index := Scalar.indexCast arg18
  let c25_2927 : Index := 25#32
  let c0_2928 : Index := 0#32
  let c0_2929 : Index := 0#32
  ![v6649.toNat, 25, 0, 0]
def k0_off199 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6653 : Index := Scalar.indexCast arg18
  let c26_2930 : Index := 26#32
  let c0_2931 : Index := 0#32
  let c0_2932 : Index := 0#32
  ![v6653.toNat, 26, 0, 0]
def k0_off200 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6657 : Index := Scalar.indexCast arg18
  let c27_2933 : Index := 27#32
  let c0_2934 : Index := 0#32
  let c0_2935 : Index := 0#32
  ![v6657.toNat, 27, 0, 0]
def k0_off201 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6661 : Index := Scalar.indexCast arg18
  let c28_2936 : Index := 28#32
  let c0_2937 : Index := 0#32
  let c0_2938 : Index := 0#32
  ![v6661.toNat, 28, 0, 0]
def k0_off202 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6665 : Index := Scalar.indexCast arg18
  let c29_2939 : Index := 29#32
  let c0_2940 : Index := 0#32
  let c0_2941 : Index := 0#32
  ![v6665.toNat, 29, 0, 0]
def k0_off203 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6669 : Index := Scalar.indexCast arg18
  let c30_2942 : Index := 30#32
  let c0_2943 : Index := 0#32
  let c0_2944 : Index := 0#32
  ![v6669.toNat, 30, 0, 0]
def k0_off204 (i : grid0.Coords) (k0_t6 : Fin (k0_t6_loop i).trips) : Fin 4 → Nat :=
  let c0_i32_134 : BitVec 32 := 0#32
  let c4_i32_133 : BitVec 32 := 4#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_121 : BitVec 32 := 0#32
  let v179 : BitVec 32 := Scalar.subi v20 c0_i32_121
  let c0_i32_122 : BitVec 32 := 0#32
  let v181 : BitVec 1 := Scalar.cmpi .sgt v179 c0_i32_122
  let v182 : BitVec 32 := Scalar.extui v181
  let c0_i32_123 : BitVec 32 := 0#32
  let v183 : BitVec 1 := Scalar.cmpi .slt v179 c0_i32_123
  let v184 : BitVec 32 := Scalar.extui v183
  let v185 : BitVec 32 := Scalar.subi v182 v184
  let c4_i32 : BitVec 32 := 4#32
  let c0_i32_124 : BitVec 32 := 0#32
  let v186 : BitVec 1 := Scalar.cmpi .sgt c4_i32 c0_i32_124
  let v187 : BitVec 32 := Scalar.extui v186
  let c0_i32_125 : BitVec 32 := 0#32
  let v188 : BitVec 1 := Scalar.cmpi .slt c4_i32 c0_i32_125
  let v189 : BitVec 32 := Scalar.extui v188
  let v190 : BitVec 32 := Scalar.subi v187 v189
  let v191 : BitVec 1 := Scalar.cmpi .ne v185 v190
  let v192 : BitVec 32 := Scalar.remsi v179 c4_i32
  let c0_i32_126 : BitVec 32 := 0#32
  let v193 : BitVec 1 := Scalar.cmpi .ne v192 c0_i32_126
  let v194 : BitVec 1 := Scalar.andi v191 v193
  let v180 : BitVec 32 := Scalar.divsi v179 c4_i32
  let c1_i32_127 : BitVec 32 := 1#32
  let v195 : BitVec 32 := Scalar.subi v180 c1_i32_127
  let v196 : BitVec 32 := Scalar.select v194 v195 v180
  let v202 : BitVec 32 := Scalar.muli c4_i32_133 v196
  let v203 : BitVec 32 := Scalar.addi c0_i32_134 v202
  let c2_i32_146 : BitVec 32 := 2#32
  let v204 : BitVec 32 := Scalar.subi v20 v203
  let c0_i32_135 : BitVec 32 := 0#32
  let v206 : BitVec 1 := Scalar.cmpi .sgt v204 c0_i32_135
  let v207 : BitVec 32 := Scalar.extui v206
  let c0_i32_136 : BitVec 32 := 0#32
  let v208 : BitVec 1 := Scalar.cmpi .slt v204 c0_i32_136
  let v209 : BitVec 32 := Scalar.extui v208
  let v210 : BitVec 32 := Scalar.subi v207 v209
  let c2_i32 : BitVec 32 := 2#32
  let c0_i32_137 : BitVec 32 := 0#32
  let v211 : BitVec 1 := Scalar.cmpi .sgt c2_i32 c0_i32_137
  let v212 : BitVec 32 := Scalar.extui v211
  let c0_i32_138 : BitVec 32 := 0#32
  let v213 : BitVec 1 := Scalar.cmpi .slt c2_i32 c0_i32_138
  let v214 : BitVec 32 := Scalar.extui v213
  let v215 : BitVec 32 := Scalar.subi v212 v214
  let v216 : BitVec 1 := Scalar.cmpi .ne v210 v215
  let v217 : BitVec 32 := Scalar.remsi v204 c2_i32
  let c0_i32_139 : BitVec 32 := 0#32
  let v218 : BitVec 1 := Scalar.cmpi .ne v217 c0_i32_139
  let v219 : BitVec 1 := Scalar.andi v216 v218
  let v205 : BitVec 32 := Scalar.divsi v204 c2_i32
  let c1_i32_140 : BitVec 32 := 1#32
  let v220 : BitVec 32 := Scalar.subi v205 c1_i32_140
  let v221 : BitVec 32 := Scalar.select v219 v220 v205
  let v227 : BitVec 32 := Scalar.muli c2_i32_146 v221
  let v228 : BitVec 32 := Scalar.addi v203 v227
  let v229 : BitVec 32 := Scalar.subi v20 v228
  let c1_i32_148 : BitVec 32 := 1#32
  let v231 : BitVec 32 := Scalar.divsi v229 c1_i32_148
  let v232 : BitVec 32 := Scalar.muli v231 c1_i32_148
  let v233 : BitVec 32 := Scalar.addi v228 v232
  let c1_i32_150 : BitVec 32 := 1#32
  let arg18 : BitVec 32 := Scf.iv v233 c1_i32_150 k0_t6
  let v6673 : Index := Scalar.indexCast arg18
  let c31_2945 : Index := 31#32
  let c0_2946 : Index := 0#32
  let c0_2947 : Index := 0#32
  ![v6673.toNat, 31, 0, 0]
@[reducible] def k0_t7_loop (i : grid0.Coords) : Scf.Loop 32 :=
  let c0_i32_4637 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v13990 : BitVec 32 := Scalar.subi v20 c0_i32_4637
  let c1_i32_4638 : BitVec 32 := 1#32
  let v13992 : BitVec 32 := Scalar.divsi v13990 c1_i32_4638
  let v13993 : BitVec 32 := Scalar.muli v13992 c1_i32_4638
  let v13994 : BitVec 32 := Scalar.addi c0_i32_4637 v13993
  let c1_i32_4639 : BitVec 32 := 1#32
  ⟨c0_i32_4637, v13994, c1_i32_4639⟩
def k0_mult15 (i : grid0.Coords) (k0_t7 : Fin (k0_t7_loop i).trips) : BitVec 32 :=
  let c0_i32_4637 : BitVec 32 := 0#32
  let c1_i32_4639 : BitVec 32 := 1#32
  let arg18 : BitVec 32 := Scf.iv c0_i32_4637 c1_i32_4639 k0_t7
  let c256_i32_4641 : BitVec 32 := 256#32
  let v13995 : BitVec 32 := Scalar.muli arg18 c256_i32_4641
  v13995
def k0_off205 (i : grid0.Coords) (k0_t7 : Fin (k0_t7_loop i).trips) : Fin 2 → Nat :=
  let c0_i32_4637 : BitVec 32 := 0#32
  let c1_i32_4639 : BitVec 32 := 1#32
  let arg18 : BitVec 32 := Scf.iv c0_i32_4637 c1_i32_4639 k0_t7
  let c256_i32_4641 : BitVec 32 := 256#32
  let v13995 : BitVec 32 := Scalar.muli arg18 c256_i32_4641
  let v13996 : BitVec 32 := v13995
  let v13997 : Index := Scalar.indexCast v13996
  let c0_4642 : Index := 0#32
  ![v13997.toNat, 0]
@[reducible] def k0_t8_loop (i : grid0.Coords) : Scf.Loop 32 :=
  let c0_i32_4637 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v13990 : BitVec 32 := Scalar.subi v20 c0_i32_4637
  let c1_i32_4638 : BitVec 32 := 1#32
  let v13992 : BitVec 32 := Scalar.divsi v13990 c1_i32_4638
  let v13993 : BitVec 32 := Scalar.muli v13992 c1_i32_4638
  let v13994 : BitVec 32 := Scalar.addi c0_i32_4637 v13993
  let v13991 : BitVec 32 := Scalar.addi c0_i32_4637 v13990
  let c1_i32_4640 : BitVec 32 := 1#32
  ⟨v13994, v13991, c1_i32_4640⟩
def k0_mult16 (i : grid0.Coords) (k0_t8 : Fin (k0_t8_loop i).trips) : BitVec 32 :=
  let c0_i32_4637 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v13990 : BitVec 32 := Scalar.subi v20 c0_i32_4637
  let c1_i32_4638 : BitVec 32 := 1#32
  let v13992 : BitVec 32 := Scalar.divsi v13990 c1_i32_4638
  let v13993 : BitVec 32 := Scalar.muli v13992 c1_i32_4638
  let v13994 : BitVec 32 := Scalar.addi c0_i32_4637 v13993
  let c1_i32_4640 : BitVec 32 := 1#32
  let arg18 : BitVec 32 := Scf.iv v13994 c1_i32_4640 k0_t8
  let c256_i32_4641 : BitVec 32 := 256#32
  let v13995 : BitVec 32 := Scalar.muli arg18 c256_i32_4641
  v13995
def k0_off206 (i : grid0.Coords) (k0_t8 : Fin (k0_t8_loop i).trips) : Fin 2 → Nat :=
  let c0_i32_4637 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let v13990 : BitVec 32 := Scalar.subi v20 c0_i32_4637
  let c1_i32_4638 : BitVec 32 := 1#32
  let v13992 : BitVec 32 := Scalar.divsi v13990 c1_i32_4638
  let v13993 : BitVec 32 := Scalar.muli v13992 c1_i32_4638
  let v13994 : BitVec 32 := Scalar.addi c0_i32_4637 v13993
  let c1_i32_4640 : BitVec 32 := 1#32
  let arg18 : BitVec 32 := Scf.iv v13994 c1_i32_4640 k0_t8
  let c256_i32_4641 : BitVec 32 := 256#32
  let v13995 : BitVec 32 := Scalar.muli arg18 c256_i32_4641
  let v13996 : BitVec 32 := v13995
  let v13997 : Index := Scalar.indexCast v13996
  let c0_4642 : Index := 0#32
  ![v13997.toNat, 0]
@[reducible] def k0_t9_loop (i : grid0.Coords) : Scf.Loop 32 :=
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2416 : BitVec 32 := 1#32
  ⟨c0_i32_2414, v5435, c1_i32_2416⟩
def k0_mult17 (i : grid0.Coords) (k0_t9 : Fin (k0_t9_loop i).trips) : BitVec 32 :=
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let c0_i32_2508 : BitVec 32 := 0#32
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  v5591
def k0_off207 (i : grid0.Coords) (k0_t9 : Fin (k0_t9_loop i).trips) (c0_i32_2508 : BitVec 32) : Fin 2 → Nat :=
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5593 : Index := Scalar.indexCast v5592
  let c0_2512 : Index := 0#32
  ![v5593.toNat, 0]
def k0_off208 (i : grid0.Coords) (k0_t9 : Fin (k0_t9_loop i).trips) (c0_i32_2508 : BitVec 32) : Fin 3 → Nat :=
  let c0_2515 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5601 : Index := Scalar.indexCast v5592
  let c0_2516 : Index := 0#32
  ![0, v5601.toNat, 0]
def k0_off209 (i : grid0.Coords) (k0_t9 : Fin (k0_t9_loop i).trips) (c0_i32_2508 : BitVec 32) : Fin 3 → Nat :=
  let c0_2526 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5616 : Index := Scalar.indexCast v5592
  let c256_2527 : Index := 256#32
  ![0, v5616.toNat, 256]
def k0_off210 (i : grid0.Coords) (k0_t9 : Fin (k0_t9_loop i).trips) (c0_i32_2508 : BitVec 32) : Fin 3 → Nat :=
  let c0_2537 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5631 : Index := Scalar.indexCast v5592
  let c512_2538 : Index := 512#32
  ![0, v5631.toNat, 512]
def k0_off211 (i : grid0.Coords) (k0_t9 : Fin (k0_t9_loop i).trips) (c0_i32_2508 : BitVec 32) : Fin 3 → Nat :=
  let c0_2548 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5646 : Index := Scalar.indexCast v5592
  let c768_2549 : Index := 768#32
  ![0, v5646.toNat, 768]
def k0_off212 (i : grid0.Coords) (k0_t9 : Fin (k0_t9_loop i).trips) (c0_i32_2508 : BitVec 32) : Fin 4 → Nat :=
  let c0_2559 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let v5661 : Index := Scalar.indexCast v5589
  let c0_2560 : Index := 0#32
  let c0_2561 : Index := 0#32
  ![0, v5661.toNat, 0, 0]
def k0_mult18 (i : grid0.Coords) (k0_t9 : Fin (k0_t9_loop i).trips) : BitVec 32 :=
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let c0_i32_2508 : BitVec 32 := 0#32
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  v5765
def k0_off213 (i : grid0.Coords) (k0_t9 : Fin (k0_t9_loop i).trips) (c0_i32_2508 : BitVec 32) : Fin 2 → Nat :=
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5767 : Index := Scalar.indexCast v5766
  let c0_2605 : Index := 0#32
  ![v5767.toNat, 0]
def k0_off214 (i : grid0.Coords) (k0_t9 : Fin (k0_t9_loop i).trips) (c0_i32_2508 : BitVec 32) : Fin 3 → Nat :=
  let c0_2608 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5775 : Index := Scalar.indexCast v5766
  let c0_2609 : Index := 0#32
  ![0, v5775.toNat, 0]
def k0_off215 (i : grid0.Coords) (k0_t9 : Fin (k0_t9_loop i).trips) (c0_i32_2508 : BitVec 32) : Fin 3 → Nat :=
  let c0_2619 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5790 : Index := Scalar.indexCast v5766
  let c256_2620 : Index := 256#32
  ![0, v5790.toNat, 256]
def k0_off216 (i : grid0.Coords) (k0_t9 : Fin (k0_t9_loop i).trips) (c0_i32_2508 : BitVec 32) : Fin 3 → Nat :=
  let c0_2630 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5805 : Index := Scalar.indexCast v5766
  let c512_2631 : Index := 512#32
  ![0, v5805.toNat, 512]
def k0_off217 (i : grid0.Coords) (k0_t9 : Fin (k0_t9_loop i).trips) (c0_i32_2508 : BitVec 32) : Fin 3 → Nat :=
  let c0_2641 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5820 : Index := Scalar.indexCast v5766
  let c768_2642 : Index := 768#32
  ![0, v5820.toNat, 768]
def k0_off218 (i : grid0.Coords) (k0_t9 : Fin (k0_t9_loop i).trips) (c0_i32_2508 : BitVec 32) : Fin 4 → Nat :=
  let c0_2653 : Index := 0#32
  let c2_i32_2509 : BitVec 32 := 2#32
  let c0_i32_2507 : BitVec 32 := 0#32
  let c2_i32_2506 : BitVec 32 := 2#32
  let c0_i32_2414 : BitVec 32 := 0#32
  let c1_i32_2416 : BitVec 32 := 1#32
  let arg18 : BitVec 32 := Scf.iv c0_i32_2414 c1_i32_2416 k0_t9
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2652 : BitVec 32 := 1#32
  let v5835 : BitVec 32 := Scalar.addi v5589 c1_i32_2652
  let v5836 : Index := Scalar.indexCast v5835
  let c0_2654 : Index := 0#32
  let c0_2655 : Index := 0#32
  ![0, v5836.toNat, 0, 0]
def k0_mult19 (i : grid0.Coords) (k0_t9 : Fin (k0_t9_loop i).trips) : BitVec 32 :=
  let c2_i32_2699 : BitVec 32 := 2#32
  let c0_i32_2697 : BitVec 32 := 0#32
  let c2_i32_2696 : BitVec 32 := 2#32
  let c0_i32_2414 : BitVec 32 := 0#32
  let c1_i32_2416 : BitVec 32 := 1#32
  let arg18 : BitVec 32 := Scf.iv c0_i32_2414 c1_i32_2416 k0_t9
  let v5937 : BitVec 32 := Scalar.muli c2_i32_2696 arg18
  let v5938 : BitVec 32 := Scalar.addi c0_i32_2697 v5937
  let c1_i32_2698 : BitVec 32 := 1#32
  let v5939 : BitVec 32 := Scalar.addi v5938 c1_i32_2698
  let v5940 : BitVec 32 := Scalar.muli c2_i32_2699 v5939
  let c1_i32_2700 : BitVec 32 := 1#32
  let v5941 : BitVec 32 := Scalar.addi v5940 c1_i32_2700
  let c256_i32_2701 : BitVec 32 := 256#32
  let v5942 : BitVec 32 := Scalar.muli v5941 c256_i32_2701
  v5942
def k0_mult20 (i : grid0.Coords) (k0_t9 : Fin (k0_t9_loop i).trips) : BitVec 32 :=
  let c2_i32_2699 : BitVec 32 := 2#32
  let c0_i32_2697 : BitVec 32 := 0#32
  let c2_i32_2696 : BitVec 32 := 2#32
  let c0_i32_2414 : BitVec 32 := 0#32
  let c1_i32_2416 : BitVec 32 := 1#32
  let arg18 : BitVec 32 := Scf.iv c0_i32_2414 c1_i32_2416 k0_t9
  let v5937 : BitVec 32 := Scalar.muli c2_i32_2696 arg18
  let v5938 : BitVec 32 := Scalar.addi c0_i32_2697 v5937
  let c1_i32_2698 : BitVec 32 := 1#32
  let v5939 : BitVec 32 := Scalar.addi v5938 c1_i32_2698
  let v5940 : BitVec 32 := Scalar.muli c2_i32_2699 v5939
  let c2_i32_2792 : BitVec 32 := 2#32
  let v6113 : BitVec 32 := Scalar.addi v5940 c2_i32_2792
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2793 : BitVec 32 := 1#32
  let v6114 : BitVec 32 := Scalar.subi v20 c1_i32_2793
  let v6115 : BitVec 32 := Scalar.minsi v6113 v6114
  let c256_i32_2794 : BitVec 32 := 256#32
  let v6116 : BitVec 32 := Scalar.muli v6115 c256_i32_2794
  v6116
@[reducible] def k0_t10_loop (i : grid0.Coords) : Scf.Loop 32 :=
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let v5432 : BitVec 32 := Scalar.addi c0_i32_2414 v5431
  let c1_i32_2417 : BitVec 32 := 1#32
  ⟨v5435, v5432, c1_i32_2417⟩
def k0_mult21 (i : grid0.Coords) (k0_t10 : Fin (k0_t10_loop i).trips) : BitVec 32 :=
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let c0_i32_2508 : BitVec 32 := 0#32
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  v5591
def k0_off219 (i : grid0.Coords) (k0_t10 : Fin (k0_t10_loop i).trips) (c0_i32_2508 : BitVec 32) : Fin 2 → Nat :=
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5593 : Index := Scalar.indexCast v5592
  let c0_2512 : Index := 0#32
  ![v5593.toNat, 0]
def k0_off220 (i : grid0.Coords) (k0_t10 : Fin (k0_t10_loop i).trips) (c0_i32_2508 : BitVec 32) : Fin 3 → Nat :=
  let c0_2515 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5601 : Index := Scalar.indexCast v5592
  let c0_2516 : Index := 0#32
  ![0, v5601.toNat, 0]
def k0_off221 (i : grid0.Coords) (k0_t10 : Fin (k0_t10_loop i).trips) (c0_i32_2508 : BitVec 32) : Fin 3 → Nat :=
  let c0_2526 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5616 : Index := Scalar.indexCast v5592
  let c256_2527 : Index := 256#32
  ![0, v5616.toNat, 256]
def k0_off222 (i : grid0.Coords) (k0_t10 : Fin (k0_t10_loop i).trips) (c0_i32_2508 : BitVec 32) : Fin 3 → Nat :=
  let c0_2537 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5631 : Index := Scalar.indexCast v5592
  let c512_2538 : Index := 512#32
  ![0, v5631.toNat, 512]
def k0_off223 (i : grid0.Coords) (k0_t10 : Fin (k0_t10_loop i).trips) (c0_i32_2508 : BitVec 32) : Fin 3 → Nat :=
  let c0_2548 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2510 : BitVec 32 := 1#32
  let v5590 : BitVec 32 := Scalar.addi v5589 c1_i32_2510
  let c256_i32_2511 : BitVec 32 := 256#32
  let v5591 : BitVec 32 := Scalar.muli v5590 c256_i32_2511
  let v5592 : BitVec 32 := v5591
  let v5646 : Index := Scalar.indexCast v5592
  let c768_2549 : Index := 768#32
  ![0, v5646.toNat, 768]
def k0_off224 (i : grid0.Coords) (k0_t10 : Fin (k0_t10_loop i).trips) (c0_i32_2508 : BitVec 32) : Fin 4 → Nat :=
  let c0_2559 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let v5661 : Index := Scalar.indexCast v5589
  let c0_2560 : Index := 0#32
  let c0_2561 : Index := 0#32
  ![0, v5661.toNat, 0, 0]
def k0_mult22 (i : grid0.Coords) (k0_t10 : Fin (k0_t10_loop i).trips) : BitVec 32 :=
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let c0_i32_2508 : BitVec 32 := 0#32
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  v5765
def k0_off225 (i : grid0.Coords) (k0_t10 : Fin (k0_t10_loop i).trips) (c0_i32_2508 : BitVec 32) : Fin 2 → Nat :=
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5767 : Index := Scalar.indexCast v5766
  let c0_2605 : Index := 0#32
  ![v5767.toNat, 0]
def k0_off226 (i : grid0.Coords) (k0_t10 : Fin (k0_t10_loop i).trips) (c0_i32_2508 : BitVec 32) : Fin 3 → Nat :=
  let c0_2608 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5775 : Index := Scalar.indexCast v5766
  let c0_2609 : Index := 0#32
  ![0, v5775.toNat, 0]
def k0_off227 (i : grid0.Coords) (k0_t10 : Fin (k0_t10_loop i).trips) (c0_i32_2508 : BitVec 32) : Fin 3 → Nat :=
  let c0_2619 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5790 : Index := Scalar.indexCast v5766
  let c256_2620 : Index := 256#32
  ![0, v5790.toNat, 256]
def k0_off228 (i : grid0.Coords) (k0_t10 : Fin (k0_t10_loop i).trips) (c0_i32_2508 : BitVec 32) : Fin 3 → Nat :=
  let c0_2630 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5805 : Index := Scalar.indexCast v5766
  let c512_2631 : Index := 512#32
  ![0, v5805.toNat, 512]
def k0_off229 (i : grid0.Coords) (k0_t10 : Fin (k0_t10_loop i).trips) (c0_i32_2508 : BitVec 32) : Fin 3 → Nat :=
  let c0_2641 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c2_i32_2602 : BitVec 32 := 2#32
  let v5762 : BitVec 32 := Scalar.addi v5589 c2_i32_2602
  let c1_i32_2603 : BitVec 32 := 1#32
  let v5763 : BitVec 32 := Scalar.subi v20 c1_i32_2603
  let v5764 : BitVec 32 := Scalar.minsi v5762 v5763
  let c256_i32_2604 : BitVec 32 := 256#32
  let v5765 : BitVec 32 := Scalar.muli v5764 c256_i32_2604
  let v5766 : BitVec 32 := v5765
  let v5820 : Index := Scalar.indexCast v5766
  let c768_2642 : Index := 768#32
  ![0, v5820.toNat, 768]
def k0_off230 (i : grid0.Coords) (k0_t10 : Fin (k0_t10_loop i).trips) (c0_i32_2508 : BitVec 32) : Fin 4 → Nat :=
  let c0_2653 : Index := 0#32
  let c2_i32_2509 : BitVec 32 := 2#32
  let c0_i32_2507 : BitVec 32 := 0#32
  let c2_i32_2506 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5586 : BitVec 32 := Scalar.muli c2_i32_2506 arg18
  let v5587 : BitVec 32 := Scalar.addi c0_i32_2507 v5586
  let v5588 : BitVec 32 := Scalar.addi v5587 c0_i32_2508
  let v5589 : BitVec 32 := Scalar.muli c2_i32_2509 v5588
  let c1_i32_2652 : BitVec 32 := 1#32
  let v5835 : BitVec 32 := Scalar.addi v5589 c1_i32_2652
  let v5836 : Index := Scalar.indexCast v5835
  let c0_2654 : Index := 0#32
  let c0_2655 : Index := 0#32
  ![0, v5836.toNat, 0, 0]
def k0_mult23 (i : grid0.Coords) (k0_t10 : Fin (k0_t10_loop i).trips) : BitVec 32 :=
  let c2_i32_2699 : BitVec 32 := 2#32
  let c0_i32_2697 : BitVec 32 := 0#32
  let c2_i32_2696 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5937 : BitVec 32 := Scalar.muli c2_i32_2696 arg18
  let v5938 : BitVec 32 := Scalar.addi c0_i32_2697 v5937
  let c1_i32_2698 : BitVec 32 := 1#32
  let v5939 : BitVec 32 := Scalar.addi v5938 c1_i32_2698
  let v5940 : BitVec 32 := Scalar.muli c2_i32_2699 v5939
  let c1_i32_2700 : BitVec 32 := 1#32
  let v5941 : BitVec 32 := Scalar.addi v5940 c1_i32_2700
  let c256_i32_2701 : BitVec 32 := 256#32
  let v5942 : BitVec 32 := Scalar.muli v5941 c256_i32_2701
  v5942
def k0_mult24 (i : grid0.Coords) (k0_t10 : Fin (k0_t10_loop i).trips) : BitVec 32 :=
  let c2_i32_2699 : BitVec 32 := 2#32
  let c0_i32_2697 : BitVec 32 := 0#32
  let c2_i32_2696 : BitVec 32 := 2#32
  let c0_i32_2414 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5431 : BitVec 32 := Scalar.subi v5430 c0_i32_2414
  let c1_i32_2415 : BitVec 32 := 1#32
  let v5433 : BitVec 32 := Scalar.divsi v5431 c1_i32_2415
  let v5434 : BitVec 32 := Scalar.muli v5433 c1_i32_2415
  let v5435 : BitVec 32 := Scalar.addi c0_i32_2414 v5434
  let c1_i32_2417 : BitVec 32 := 1#32
  let arg18 : BitVec 32 := Scf.iv v5435 c1_i32_2417 k0_t10
  let v5937 : BitVec 32 := Scalar.muli c2_i32_2696 arg18
  let v5938 : BitVec 32 := Scalar.addi c0_i32_2697 v5937
  let c1_i32_2698 : BitVec 32 := 1#32
  let v5939 : BitVec 32 := Scalar.addi v5938 c1_i32_2698
  let v5940 : BitVec 32 := Scalar.muli c2_i32_2699 v5939
  let c2_i32_2792 : BitVec 32 := 2#32
  let v6113 : BitVec 32 := Scalar.addi v5940 c2_i32_2792
  let c1_i32_2793 : BitVec 32 := 1#32
  let v6114 : BitVec 32 := Scalar.subi v20 c1_i32_2793
  let v6115 : BitVec 32 := Scalar.minsi v6113 v6114
  let c256_i32_2794 : BitVec 32 := 256#32
  let v6116 : BitVec 32 := Scalar.muli v6115 c256_i32_2794
  v6116
@[reducible] def k0_t11_loop (i : grid0.Coords) : Scf.Loop 32 :=
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2421 : BitVec 32 := 1#32
  ⟨v5439, v5444, c1_i32_2421⟩
def k0_mult25 (i : grid0.Coords) (k0_t11 : Fin (k0_t11_loop i).trips) : BitVec 32 :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  v5588
def k0_off231 (i : grid0.Coords) (k0_t11 : Fin (k0_t11_loop i).trips) : Fin 2 → Nat :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5590 : Index := Scalar.indexCast v5589
  let c0_2509 : Index := 0#32
  ![v5590.toNat, 0]
def k0_off232 (i : grid0.Coords) (k0_t11 : Fin (k0_t11_loop i).trips) : Fin 3 → Nat :=
  let c0_2512 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5598 : Index := Scalar.indexCast v5589
  let c0_2513 : Index := 0#32
  ![0, v5598.toNat, 0]
def k0_off233 (i : grid0.Coords) (k0_t11 : Fin (k0_t11_loop i).trips) : Fin 3 → Nat :=
  let c0_2523 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5613 : Index := Scalar.indexCast v5589
  let c256_2524 : Index := 256#32
  ![0, v5613.toNat, 256]
def k0_off234 (i : grid0.Coords) (k0_t11 : Fin (k0_t11_loop i).trips) : Fin 3 → Nat :=
  let c0_2534 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5628 : Index := Scalar.indexCast v5589
  let c512_2535 : Index := 512#32
  ![0, v5628.toNat, 512]
def k0_off235 (i : grid0.Coords) (k0_t11 : Fin (k0_t11_loop i).trips) : Fin 3 → Nat :=
  let c0_2545 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5643 : Index := Scalar.indexCast v5589
  let c768_2546 : Index := 768#32
  ![0, v5643.toNat, 768]
def k0_off236 (i : grid0.Coords) (k0_t11 : Fin (k0_t11_loop i).trips) : Fin 4 → Nat :=
  let c0_2556 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let v5658 : Index := Scalar.indexCast v5586
  let c0_2557 : Index := 0#32
  let c0_2558 : Index := 0#32
  ![0, v5658.toNat, 0, 0]
def k0_mult26 (i : grid0.Coords) (k0_t11 : Fin (k0_t11_loop i).trips) : BitVec 32 :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  v5762
def k0_off237 (i : grid0.Coords) (k0_t11 : Fin (k0_t11_loop i).trips) : Fin 2 → Nat :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5764 : Index := Scalar.indexCast v5763
  let c0_2602 : Index := 0#32
  ![v5764.toNat, 0]
def k0_off238 (i : grid0.Coords) (k0_t11 : Fin (k0_t11_loop i).trips) : Fin 3 → Nat :=
  let c0_2605 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5772 : Index := Scalar.indexCast v5763
  let c0_2606 : Index := 0#32
  ![0, v5772.toNat, 0]
def k0_off239 (i : grid0.Coords) (k0_t11 : Fin (k0_t11_loop i).trips) : Fin 3 → Nat :=
  let c0_2616 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5787 : Index := Scalar.indexCast v5763
  let c256_2617 : Index := 256#32
  ![0, v5787.toNat, 256]
def k0_off240 (i : grid0.Coords) (k0_t11 : Fin (k0_t11_loop i).trips) : Fin 3 → Nat :=
  let c0_2627 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5802 : Index := Scalar.indexCast v5763
  let c512_2628 : Index := 512#32
  ![0, v5802.toNat, 512]
def k0_off241 (i : grid0.Coords) (k0_t11 : Fin (k0_t11_loop i).trips) : Fin 3 → Nat :=
  let c0_2638 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5817 : Index := Scalar.indexCast v5763
  let c768_2639 : Index := 768#32
  ![0, v5817.toNat, 768]
def k0_off242 (i : grid0.Coords) (k0_t11 : Fin (k0_t11_loop i).trips) : Fin 4 → Nat :=
  let c0_2650 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let c1_i32_2421 : BitVec 32 := 1#32
  let arg18 : BitVec 32 := Scf.iv v5439 c1_i32_2421 k0_t11
  let v5586 : BitVec 32 := Scalar.muli c2_i32_2506 arg18
  let c1_i32_2649 : BitVec 32 := 1#32
  let v5832 : BitVec 32 := Scalar.addi v5586 c1_i32_2649
  let v5833 : Index := Scalar.indexCast v5832
  let c0_2651 : Index := 0#32
  let c0_2652 : Index := 0#32
  ![0, v5833.toNat, 0, 0]
@[reducible] def k0_t12_loop (i : grid0.Coords) : Scf.Loop 32 :=
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let v5441 : BitVec 32 := Scalar.addi v5439 v5440
  let c1_i32_2422 : BitVec 32 := 1#32
  ⟨v5444, v5441, c1_i32_2422⟩
def k0_mult27 (i : grid0.Coords) (k0_t12 : Fin (k0_t12_loop i).trips) : BitVec 32 :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  v5588
def k0_off243 (i : grid0.Coords) (k0_t12 : Fin (k0_t12_loop i).trips) : Fin 2 → Nat :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5590 : Index := Scalar.indexCast v5589
  let c0_2509 : Index := 0#32
  ![v5590.toNat, 0]
def k0_off244 (i : grid0.Coords) (k0_t12 : Fin (k0_t12_loop i).trips) : Fin 3 → Nat :=
  let c0_2512 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5598 : Index := Scalar.indexCast v5589
  let c0_2513 : Index := 0#32
  ![0, v5598.toNat, 0]
def k0_off245 (i : grid0.Coords) (k0_t12 : Fin (k0_t12_loop i).trips) : Fin 3 → Nat :=
  let c0_2523 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5613 : Index := Scalar.indexCast v5589
  let c256_2524 : Index := 256#32
  ![0, v5613.toNat, 256]
def k0_off246 (i : grid0.Coords) (k0_t12 : Fin (k0_t12_loop i).trips) : Fin 3 → Nat :=
  let c0_2534 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5628 : Index := Scalar.indexCast v5589
  let c512_2535 : Index := 512#32
  ![0, v5628.toNat, 512]
def k0_off247 (i : grid0.Coords) (k0_t12 : Fin (k0_t12_loop i).trips) : Fin 3 → Nat :=
  let c0_2545 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2507 : BitVec 32 := 1#32
  let v5587 : BitVec 32 := Scalar.addi v5586 c1_i32_2507
  let c256_i32_2508 : BitVec 32 := 256#32
  let v5588 : BitVec 32 := Scalar.muli v5587 c256_i32_2508
  let v5589 : BitVec 32 := v5588
  let v5643 : Index := Scalar.indexCast v5589
  let c768_2546 : Index := 768#32
  ![0, v5643.toNat, 768]
def k0_off248 (i : grid0.Coords) (k0_t12 : Fin (k0_t12_loop i).trips) : Fin 4 → Nat :=
  let c0_2556 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let v5658 : Index := Scalar.indexCast v5586
  let c0_2557 : Index := 0#32
  let c0_2558 : Index := 0#32
  ![0, v5658.toNat, 0, 0]
def k0_mult28 (i : grid0.Coords) (k0_t12 : Fin (k0_t12_loop i).trips) : BitVec 32 :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  v5762
def k0_off249 (i : grid0.Coords) (k0_t12 : Fin (k0_t12_loop i).trips) : Fin 2 → Nat :=
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5764 : Index := Scalar.indexCast v5763
  let c0_2602 : Index := 0#32
  ![v5764.toNat, 0]
def k0_off250 (i : grid0.Coords) (k0_t12 : Fin (k0_t12_loop i).trips) : Fin 3 → Nat :=
  let c0_2605 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5772 : Index := Scalar.indexCast v5763
  let c0_2606 : Index := 0#32
  ![0, v5772.toNat, 0]
def k0_off251 (i : grid0.Coords) (k0_t12 : Fin (k0_t12_loop i).trips) : Fin 3 → Nat :=
  let c0_2616 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5787 : Index := Scalar.indexCast v5763
  let c256_2617 : Index := 256#32
  ![0, v5787.toNat, 256]
def k0_off252 (i : grid0.Coords) (k0_t12 : Fin (k0_t12_loop i).trips) : Fin 3 → Nat :=
  let c0_2627 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5802 : Index := Scalar.indexCast v5763
  let c512_2628 : Index := 512#32
  ![0, v5802.toNat, 512]
def k0_off253 (i : grid0.Coords) (k0_t12 : Fin (k0_t12_loop i).trips) : Fin 3 → Nat :=
  let c0_2638 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c2_i32_2599 : BitVec 32 := 2#32
  let v5759 : BitVec 32 := Scalar.addi v5586 c2_i32_2599
  let c1_i32_2600 : BitVec 32 := 1#32
  let v5760 : BitVec 32 := Scalar.subi v20 c1_i32_2600
  let v5761 : BitVec 32 := Scalar.minsi v5759 v5760
  let c256_i32_2601 : BitVec 32 := 256#32
  let v5762 : BitVec 32 := Scalar.muli v5761 c256_i32_2601
  let v5763 : BitVec 32 := v5762
  let v5817 : Index := Scalar.indexCast v5763
  let c768_2639 : Index := 768#32
  ![0, v5817.toNat, 768]
def k0_off254 (i : grid0.Coords) (k0_t12 : Fin (k0_t12_loop i).trips) : Fin 4 → Nat :=
  let c0_2650 : Index := 0#32
  let c2_i32_2506 : BitVec 32 := 2#32
  let c0_i32_2419 : BitVec 32 := 0#32
  let c2_i32_2418 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c0_i32_2398 : BitVec 32 := 0#32
  let v5395 : BitVec 1 := Scalar.cmpi .sgt v20 c0_i32_2398
  let v5396 : BitVec 32 := Scalar.extui v5395
  let c0_i32_2399 : BitVec 32 := 0#32
  let v5397 : BitVec 1 := Scalar.cmpi .slt v20 c0_i32_2399
  let v5398 : BitVec 32 := Scalar.extui v5397
  let v5399 : BitVec 32 := Scalar.subi v5396 v5398
  let c2_i32_2397 : BitVec 32 := 2#32
  let c0_i32_2400 : BitVec 32 := 0#32
  let v5400 : BitVec 1 := Scalar.cmpi .sgt c2_i32_2397 c0_i32_2400
  let v5401 : BitVec 32 := Scalar.extui v5400
  let c0_i32_2401 : BitVec 32 := 0#32
  let v5402 : BitVec 1 := Scalar.cmpi .slt c2_i32_2397 c0_i32_2401
  let v5403 : BitVec 32 := Scalar.extui v5402
  let v5404 : BitVec 32 := Scalar.subi v5401 v5403
  let v5405 : BitVec 1 := Scalar.cmpi .ne v5399 v5404
  let v5406 : BitVec 32 := Scalar.remsi v20 c2_i32_2397
  let c0_i32_2402 : BitVec 32 := 0#32
  let v5407 : BitVec 1 := Scalar.cmpi .ne v5406 c0_i32_2402
  let v5408 : BitVec 1 := Scalar.andi v5405 v5407
  let v5394 : BitVec 32 := Scalar.divsi v20 c2_i32_2397
  let c1_i32_2403 : BitVec 32 := 1#32
  let v5409 : BitVec 32 := Scalar.subi v5394 c1_i32_2403
  let v5410 : BitVec 32 := Scalar.select v5408 v5409 v5394
  let c0_i32_2406 : BitVec 32 := 0#32
  let v5413 : BitVec 32 := Scalar.subi v5410 c0_i32_2406
  let c0_i32_2408 : BitVec 32 := 0#32
  let v5415 : BitVec 1 := Scalar.cmpi .sgt v5413 c0_i32_2408
  let v5416 : BitVec 32 := Scalar.extui v5415
  let c0_i32_2409 : BitVec 32 := 0#32
  let v5417 : BitVec 1 := Scalar.cmpi .slt v5413 c0_i32_2409
  let v5418 : BitVec 32 := Scalar.extui v5417
  let v5419 : BitVec 32 := Scalar.subi v5416 v5418
  let c2_i32_2407 : BitVec 32 := 2#32
  let c0_i32_2410 : BitVec 32 := 0#32
  let v5420 : BitVec 1 := Scalar.cmpi .sgt c2_i32_2407 c0_i32_2410
  let v5421 : BitVec 32 := Scalar.extui v5420
  let c0_i32_2411 : BitVec 32 := 0#32
  let v5422 : BitVec 1 := Scalar.cmpi .slt c2_i32_2407 c0_i32_2411
  let v5423 : BitVec 32 := Scalar.extui v5422
  let v5424 : BitVec 32 := Scalar.subi v5421 v5423
  let v5425 : BitVec 1 := Scalar.cmpi .ne v5419 v5424
  let v5426 : BitVec 32 := Scalar.remsi v5413 c2_i32_2407
  let c0_i32_2412 : BitVec 32 := 0#32
  let v5427 : BitVec 1 := Scalar.cmpi .ne v5426 c0_i32_2412
  let v5428 : BitVec 1 := Scalar.andi v5425 v5427
  let v5414 : BitVec 32 := Scalar.divsi v5413 c2_i32_2407
  let c1_i32_2413 : BitVec 32 := 1#32
  let v5429 : BitVec 32 := Scalar.subi v5414 c1_i32_2413
  let v5430 : BitVec 32 := Scalar.select v5428 v5429 v5414
  let v5438 : BitVec 32 := Scalar.muli c2_i32_2418 v5430
  let v5439 : BitVec 32 := Scalar.addi c0_i32_2419 v5438
  let v5440 : BitVec 32 := Scalar.subi v5410 v5439
  let c1_i32_2420 : BitVec 32 := 1#32
  let v5442 : BitVec 32 := Scalar.divsi v5440 c1_i32_2420
  let v5443 : BitVec 32 := Scalar.muli v5442 c1_i32_2420
  let v5444 : BitVec 32 := Scalar.addi v5439 v5443
  let c1_i32_2422 : BitVec 32 := 1#32
  let arg18 : BitVec 32 := Scf.iv v5444 c1_i32_2422 k0_t12
  let v5586 : BitVec 32 := Scalar.muli c2_i32_2506 arg18
  let c1_i32_2649 : BitVec 32 := 1#32
  let v5832 : BitVec 32 := Scalar.addi v5586 c1_i32_2649
  let v5833 : Index := Scalar.indexCast v5832
  let c0_2651 : Index := 0#32
  let c0_2652 : Index := 0#32
  ![0, v5833.toNat, 0, 0]
@[reducible] def k0_t13_loop (i : grid0.Coords) : Scf.Loop 32 :=
  let c0_i32_2429 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32_2423 : BitVec 32 := 2#32
  let c0_i32_2424 : BitVec 32 := 0#32
  let v5447 : BitVec 1 := Scalar.cmpi .eq c2_i32_2423 c0_i32_2424
  let c1_i32_2425 : BitVec 32 := 1#32
  let v5448 : BitVec 32 := Scalar.select v5447 c1_i32_2425 c2_i32_2423
  let v5449 : BitVec 32 := Scalar.remsi v20 v5448
  let c0_i32_2427 : BitVec 32 := 0#32
  let v5451 : BitVec 1 := Scalar.cmpi .slt v5449 c0_i32_2427
  let c0_i32_2428 : BitVec 32 := 0#32
  let v5452 : BitVec 1 := Scalar.cmpi .slt v5448 c0_i32_2428
  let v5453 : BitVec 1 := Scalar.xori v5451 v5452
  let c0_i32_2426 : BitVec 32 := 0#32
  let v5450 : BitVec 1 := Scalar.cmpi .ne v5449 c0_i32_2426
  let v5454 : BitVec 1 := Scalar.andi v5453 v5450
  let v5455 : BitVec 32 := Scalar.addi v5449 v5448
  let v5456 : BitVec 32 := Scalar.select v5454 v5455 v5449
  let v5457 : BitVec 32 := Scalar.subi v5456 c0_i32_2429
  let c1_i32_2430 : BitVec 32 := 1#32
  let v5459 : BitVec 32 := Scalar.divsi v5457 c1_i32_2430
  let v5460 : BitVec 32 := Scalar.muli v5459 c1_i32_2430
  let v5461 : BitVec 32 := Scalar.addi c0_i32_2429 v5460
  let c1_i32_2431 : BitVec 32 := 1#32
  ⟨c0_i32_2429, v5461, c1_i32_2431⟩
def k0_off255 (i : grid0.Coords) : Fin 4 → Nat :=
  let c0_2507 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2506 : BitVec 32 := 1#32
  let v5586 : BitVec 32 := Scalar.subi v20 c1_i32_2506
  let v5587 : Index := Scalar.indexCast v5586
  let c0_2508 : Index := 0#32
  let c0_2509 : Index := 0#32
  ![0, v5587.toNat, 0, 0]
@[reducible] def k0_t14_loop (i : grid0.Coords) : Scf.Loop 32 :=
  let c0_i32_2429 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c2_i32_2423 : BitVec 32 := 2#32
  let c0_i32_2424 : BitVec 32 := 0#32
  let v5447 : BitVec 1 := Scalar.cmpi .eq c2_i32_2423 c0_i32_2424
  let c1_i32_2425 : BitVec 32 := 1#32
  let v5448 : BitVec 32 := Scalar.select v5447 c1_i32_2425 c2_i32_2423
  let v5449 : BitVec 32 := Scalar.remsi v20 v5448
  let c0_i32_2427 : BitVec 32 := 0#32
  let v5451 : BitVec 1 := Scalar.cmpi .slt v5449 c0_i32_2427
  let c0_i32_2428 : BitVec 32 := 0#32
  let v5452 : BitVec 1 := Scalar.cmpi .slt v5448 c0_i32_2428
  let v5453 : BitVec 1 := Scalar.xori v5451 v5452
  let c0_i32_2426 : BitVec 32 := 0#32
  let v5450 : BitVec 1 := Scalar.cmpi .ne v5449 c0_i32_2426
  let v5454 : BitVec 1 := Scalar.andi v5453 v5450
  let v5455 : BitVec 32 := Scalar.addi v5449 v5448
  let v5456 : BitVec 32 := Scalar.select v5454 v5455 v5449
  let v5457 : BitVec 32 := Scalar.subi v5456 c0_i32_2429
  let c1_i32_2430 : BitVec 32 := 1#32
  let v5459 : BitVec 32 := Scalar.divsi v5457 c1_i32_2430
  let v5460 : BitVec 32 := Scalar.muli v5459 c1_i32_2430
  let v5461 : BitVec 32 := Scalar.addi c0_i32_2429 v5460
  let v5458 : BitVec 32 := Scalar.addi c0_i32_2429 v5457
  let c1_i32_2432 : BitVec 32 := 1#32
  ⟨v5461, v5458, c1_i32_2432⟩
def k0_off256 (i : grid0.Coords) : Fin 4 → Nat :=
  let c0_2507 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c256_i32_1 : BitVec 32 := 256#32
  let v2 : BitVec 32 := Scalar.addi v1 c256_i32_1
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c256_i32_2 : BitVec 32 := 256#32
  let c0_i32_4 : BitVec 32 := 0#32
  let v10 : BitVec 1 := Scalar.cmpi .sgt c256_i32_2 c0_i32_4
  let v11 : BitVec 32 := Scalar.extui v10
  let c0_i32_5 : BitVec 32 := 0#32
  let v12 : BitVec 1 := Scalar.cmpi .slt c256_i32_2 c0_i32_5
  let v13 : BitVec 32 := Scalar.extui v12
  let v14 : BitVec 32 := Scalar.subi v11 v13
  let v15 : BitVec 1 := Scalar.cmpi .ne v9 v14
  let v16 : BitVec 32 := Scalar.remsi v3 c256_i32_2
  let c0_i32_6 : BitVec 32 := 0#32
  let v17 : BitVec 1 := Scalar.cmpi .ne v16 c0_i32_6
  let v18 : BitVec 1 := Scalar.andi v15 v17
  let v4 : BitVec 32 := Scalar.divsi v3 c256_i32_2
  let c1_i32_7 : BitVec 32 := 1#32
  let v19 : BitVec 32 := Scalar.subi v4 c1_i32_7
  let v20 : BitVec 32 := Scalar.select v18 v19 v4
  let c1_i32_2506 : BitVec 32 := 1#32
  let v5586 : BitVec 32 := Scalar.subi v20 c1_i32_2506
  let v5587 : Index := Scalar.indexCast v5586
  let c0_2508 : Index := 0#32
  let c0_2509 : Index := 0#32
  ![0, v5587.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S8x4096x1024 : Shape := ⟨3, ![8, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x2816 : Shape := ⟨2, ![8, 2816]⟩
abbrev S1x1024 : Shape := ⟨2, ![1, 1024]⟩
abbrev S1x2816 : Shape := ⟨2, ![1, 2816]⟩
abbrev S1x512x1024 : Shape := ⟨3, ![1, 512, 1024]⟩
abbrev S256x256 : Shape := ⟨2, ![256, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S8x256 : Shape := ⟨2, ![8, 256]⟩
abbrev S1x256 : Shape := ⟨2, ![1, 256]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S8x2816, .f32⟩
  | .hbm, ⟨10, _⟩ => ⟨S1x1024, .f32⟩
  | .hbm, ⟨11, _⟩ => ⟨S1024x5632, .bf16⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S8x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S8x4096x2816, .f32⟩
  | .hbm, ⟨25, _⟩ => ⟨S8x4096x2816, .f32⟩
  | .hbm, ⟨26, _⟩ => ⟨S_, .i32⟩
  | .hbm, ⟨27, _⟩ => ⟨S_, .f32⟩
  | .hbm, ⟨28, _⟩ => ⟨S8x4098x2816, .f32⟩
  | .hbm, ⟨29, _⟩ => ⟨S1x2816, .f32⟩
  | .hbm, ⟨30, _⟩ => ⟨S2816, .f32⟩
  | .hbm, ⟨31, _⟩ => ⟨S8x4096x2816, .f32⟩
  | .hbm, ⟨32, _⟩ => ⟨S1x1x2816, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S1x2816, .f32⟩
  | .hbm, ⟨39, _⟩ => ⟨S2816, .f32⟩
  | .hbm, ⟨40, _⟩ => ⟨S8x4096x2816, .f32⟩
  | .hbm, ⟨41, _⟩ => ⟨S1x1x2816, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S1x2816, .f32⟩
  | .hbm, ⟨46, _⟩ => ⟨S2816, .f32⟩
  | .hbm, ⟨47, _⟩ => ⟨S8x4096x2816, .f32⟩
  | .hbm, ⟨48, _⟩ => ⟨S1x1x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S_, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S1x1x1024, .f32⟩
  | .hbm, ⟨81, _⟩ => ⟨S8x4096x1024, .f32⟩
  | .hbm, ⟨82, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x2816 : Shape := ⟨2, ![8, 2816]⟩
abbrev S1x1024 : Shape := ⟨2, ![1, 1024]⟩
abbrev S1x2816 : Shape := ⟨2, ![1, 2816]⟩
abbrev S1x512x1024 : Shape := ⟨3, ![1, 512, 1024]⟩
abbrev S256x256 : Shape := ⟨2, ![256, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S8x256 : Shape := ⟨2, ![8, 256]⟩
abbrev S1x256 : Shape := ⟨2, ![1, 256]⟩

abbrev nBuf : Space → Nat
  | .hbm => 16
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S8x2816, .f32⟩
  | .hbm, ⟨10, _⟩ => ⟨S1x1024, .f32⟩
  | .hbm, ⟨11, _⟩ => ⟨S1024x5632, .bf16⟩
  | .hbm, ⟨12, _⟩ => ⟨S1x2816, .f32⟩
  | .hbm, ⟨13, _⟩ => ⟨S2816x1024, .bf16⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S8x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S8x4096x2816, .f32⟩
  | .hbm, ⟨25, _⟩ => ⟨S8x4096x2816, .f32⟩
  | .hbm, ⟨26, _⟩ => ⟨S_, .i32⟩
  | .hbm, ⟨27, _⟩ => ⟨S_, .f32⟩
  | .hbm, ⟨28, _⟩ => ⟨S8x4098x2816, .f32⟩
  | .hbm, ⟨29, _⟩ => ⟨S1x2816, .f32⟩
  | .hbm, ⟨30, _⟩ => ⟨S2816, .f32⟩
  | .hbm, ⟨31, _⟩ => ⟨S8x4096x2816, .f32⟩
  | .hbm, ⟨32, _⟩ => ⟨S1x1x2816, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S1x2816, .f32⟩
  | .hbm, ⟨39, _⟩ => ⟨S2816, .f32⟩
  | .hbm, ⟨40, _⟩ => ⟨S8x4096x2816, .f32⟩
  | .hbm, ⟨41, _⟩ => ⟨S1x1x2816, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S1x2816, .f32⟩
  | .hbm, ⟨46, _⟩ => ⟨S2816, .f32⟩
  | .hbm, ⟨47, _⟩ => ⟨S8x4096x2816, .f32⟩
  | .hbm, ⟨48, _⟩ => ⟨S1x1x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S1x1x2816, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S_, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x1024, .f32⟩
  | .hbm, ⟨66, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x256 : Shape := ⟨3, ![8, 4096, 256]⟩
abbrev S8x256x512 : Shape := ⟨3, ![8, 256, 512]⟩
abbrev S1280x1024 : Shape := ⟨2, ![1280, 1024]⟩
abbrev S1x512x1024 : Shape := ⟨3, ![1, 512, 1024]⟩
abbrev S1x512x256 : Shape := ⟨3, ![1, 512, 256]⟩
abbrev S1x256x512 : Shape := ⟨3, ![1, 256, 512]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S256x1024 : Shape := ⟨2, ![256, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x256, .bf16⟩
  | .hbm, ⟨3, _⟩ => ⟨S8x256x512, .bf16⟩
  | .hbm, ⟨4, _⟩ => ⟨S8x256x512, .bf16⟩
  | .hbm, ⟨5, _⟩ => ⟨S1280x1024, .f32⟩
  | .hbm, ⟨6, _⟩ => ⟨S1280x1024, .bf16⟩
  | .hbm, ⟨7, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1280x1024, .bf16⟩
  | .local _ .vmem, ⟨11, _⟩ => ⟨S1x512x1024, .f32⟩
  | .local _ .vmem, ⟨12, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1280x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x4096x1024 : Shape := ⟨3, ![8, 4096, 1024]⟩
abbrev S8x4096x256 : Shape := ⟨3, ![8, 4096, 256]⟩
abbrev S8x256x512 : Shape := ⟨3, ![8, 256, 512]⟩
abbrev S1280x1024 : Shape := ⟨2, ![1280, 1024]⟩
abbrev S8x4096x2x128 : Shape := ⟨4, ![8, 4096, 2, 128]⟩
abbrev S8x256x2x2x128 : Shape := ⟨5, ![8, 256, 2, 2, 128]⟩
abbrev S8x2x256x2x4096 : Shape := ⟨5, ![8, 2, 256, 2, 4096]⟩
abbrev S8x2x2x4096x256 : Shape := ⟨5, ![8, 2, 2, 4096, 256]⟩
abbrev S_ : Shape := ⟨0, ![]⟩
abbrev S8x2x2x4096 : Shape := ⟨4, ![8, 2, 2, 4096]⟩
abbrev S8x2x2x4096x1 : Shape := ⟨5, ![8, 2, 2, 4096, 1]⟩
abbrev S8x2x2x4096x128 : Shape := ⟨5, ![8, 2, 2, 4096, 128]⟩
abbrev S8x2x4096x128 : Shape := ⟨4, ![8, 2, 4096, 128]⟩
abbrev S8x4096x1280 : Shape := ⟨3, ![8, 4096, 1280]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x256, .bf16⟩
  | .hbm, ⟨3, _⟩ => ⟨S8x256x512, .bf16⟩
  | .hbm, ⟨4, _⟩ => ⟨S8x256x512, .bf16⟩
  | .hbm, ⟨5, _⟩ => ⟨S1280x1024, .f32⟩
  | .hbm, ⟨6, _⟩ => ⟨S8x4096x256, .f32⟩
  | .hbm, ⟨7, _⟩ => ⟨S8x4096x2x128, .f32⟩
  | .hbm, ⟨8, _⟩ => ⟨S8x256x512, .f32⟩
  | .hbm, ⟨9, _⟩ => ⟨S8x256x2x2x128, .f32⟩
  | .hbm, ⟨10, _⟩ => ⟨S8x256x512, .f32⟩
  | .hbm, ⟨11, _⟩ => ⟨S8x256x2x2x128, .f32⟩
  | .hbm, ⟨12, _⟩ => ⟨S8x2x256x2x4096, .f32⟩
  | .hbm, ⟨13, _⟩ => ⟨S8x2x2x4096x256, .f32⟩
  | .hbm, ⟨14, _⟩ => ⟨S_, .f32⟩
  | .hbm, ⟨15, _⟩ => ⟨S8x2x2x4096x256, .f32⟩
  | .hbm, ⟨16, _⟩ => ⟨S_, .f32⟩
  | .hbm, ⟨17, _⟩ => ⟨S8x2x2x4096, .f32⟩
  | .hbm, ⟨18, _⟩ => ⟨S8x2x2x4096x1, .f32⟩
  | .hbm, ⟨19, _⟩ => ⟨S8x2x2x4096x256, .f32⟩
  | .hbm, ⟨20, _⟩ => ⟨S8x2x2x4096x256, .f32⟩
  | .hbm, ⟨21, _⟩ => ⟨S8x2x2x4096x256, .f32⟩
  | .hbm, ⟨22, _⟩ => ⟨S8x2x2x4096x128, .f32⟩
  | .hbm, ⟨23, _⟩ => ⟨S_, .f32⟩
  | .hbm, ⟨24, _⟩ => ⟨S8x2x2x4096, .f32⟩
  | .hbm, ⟨25, _⟩ => ⟨S8x2x2x4096x1, .f32⟩
  | .hbm, ⟨26, _⟩ => ⟨S8x2x2x4096x128, .f32⟩
  | .hbm, ⟨27, _⟩ => ⟨S8x2x2x4096x128, .f32⟩
  | .hbm, ⟨28, _⟩ => ⟨S_, .f32⟩
  | .hbm, ⟨29, _⟩ => ⟨S8x2x4096x128, .f32⟩
  | .hbm, ⟨30, _⟩ => ⟨S8x4096x2x128, .f32⟩
  | .hbm, ⟨31, _⟩ => ⟨S8x4096x256, .f32⟩
  | .hbm, ⟨32, _⟩ => ⟨S8x4096x1024, .f32⟩
  | .hbm, ⟨33, _⟩ => ⟨S8x4096x1280, .f32⟩
  | .hbm, ⟨34, _⟩ => ⟨S8x4096x1024, .f32⟩
  | .hbm, ⟨35, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel5.lean ====
abbrev S8x256x1024 : Shape := ⟨3, ![8, 256, 1024]⟩
abbrev S1024 : Shape := ⟨1, ![1024]⟩
abbrev S4x1024x512 : Shape := ⟨3, ![4, 1024, 512]⟩
abbrev S1x1024 : Shape := ⟨2, ![1, 1024]⟩
abbrev S4x8x256x512 : Shape := ⟨4, ![4, 8, 256, 512]⟩
abbrev S1x256x1024 : Shape := ⟨3, ![1, 256, 1024]⟩
abbrev S1x1024x512 : Shape := ⟨3, ![1, 1024, 512]⟩
abbrev S1x1x256x512 : Shape := ⟨4, ![1, 1, 256, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 7
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S4x1024x512, .f32⟩
  | .hbm, ⟨3, _⟩ => ⟨S1x1024, .f32⟩
  | .hbm, ⟨4, _⟩ => ⟨S4x1024x512, .bf16⟩
  | .hbm, ⟨5, _⟩ => ⟨S4x8x256x512, .bf16⟩
  | .hbm, ⟨6, _⟩ => ⟨S4x8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1x256x512, .bf16⟩
  | .local _ .vmem, ⟨6, _⟩ => ⟨S1x1x256x512, .bf16⟩
  | .local _ .vmem, ⟨7, _⟩ => ⟨S1x1x256x512, .bf16⟩
  | .local _ .vmem, ⟨8, _⟩ => ⟨S1x1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x256x1024 : Shape := ⟨3, ![8, 256, 1024]⟩
abbrev S1024 : Shape := ⟨1, ![1024]⟩
abbrev S4x1024x512 : Shape := ⟨3, ![4, 1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩
abbrev S4x512x2048 : Shape := ⟨3, ![4, 512, 2048]⟩
abbrev S4x2048x512 : Shape := ⟨3, ![4, 2048, 512]⟩
abbrev S4x2048x256 : Shape := ⟨3, ![4, 2048, 256]⟩
abbrev S4x2048x2x2x64 : Shape := ⟨5, ![4, 2048, 2, 2, 64]⟩
abbrev S4x2048x2x1x64 : Shape := ⟨5, ![4, 2048, 2, 1, 64]⟩
abbrev S4x2048x2x64 : Shape := ⟨4, ![4, 2048, 2, 64]⟩
abbrev S4x2048x2x128 : Shape := ⟨4, ![4, 2048, 2, 128]⟩
abbrev S4x2048x2x1x128 : Shape := ⟨5, ![4, 2048, 2, 1, 128]⟩
abbrev S4x2048x2x2x128 : Shape := ⟨5, ![4, 2048, 2, 2, 128]⟩
abbrev S4x8x256x512 : Shape := ⟨4, ![4, 8, 256, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S4x1024x512, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S2048x1024, .f32⟩
  | .hbm, ⟨20, _⟩ => ⟨S4x512x2048, .f32⟩
  | .hbm, ⟨21, _⟩ => ⟨S4x2048x512, .f32⟩
  | .hbm, ⟨22, _⟩ => ⟨S4x2048x256, .f32⟩
  | .hbm, ⟨23, _⟩ => ⟨S4x2048x256, .f32⟩
  | .hbm, ⟨24, _⟩ => ⟨S4x2048x2x2x64, .f32⟩
  | .hbm, ⟨25, _⟩ => ⟨S4x2048x2x1x64, .f32⟩
  | .hbm, ⟨26, _⟩ => ⟨S4x2048x2x64, .f32⟩
  | .hbm, ⟨27, _⟩ => ⟨S_, .i32⟩
  | .hbm, ⟨28, _⟩ => ⟨S_, .f32⟩
  | .hbm, ⟨29, _⟩ => ⟨S4x2048x2x128, .f32⟩
  | .hbm, ⟨30, _⟩ => ⟨S4x2048x2x1x64, .f32⟩
  | .hbm, ⟨31, _⟩ => ⟨S4x2048x2x64, .f32⟩
  | .hbm, ⟨32, _⟩ => ⟨S_, .i32⟩
  | .hbm, ⟨33, _⟩ => ⟨S_, .f32⟩
  | .hbm, ⟨34, _⟩ => ⟨S4x2048x2x128, .f32⟩
  | .hbm, ⟨35, _⟩ => ⟨S4x2048x2x1x128, .f32⟩
  | .hbm, ⟨36, _⟩ => ⟨S4x2048x2x1x128, .f32⟩
  | .hbm, ⟨37, _⟩ => ⟨S4x2048x2x2x128, .f32⟩
  | .hbm, ⟨38, _⟩ => ⟨S4x8x256x512, .f32⟩
  | .hbm, ⟨39, _⟩ => ⟨S4x8x256x512, .bf16⟩
  | .hbm, ⟨40, _⟩ => ⟨S4x2048x2x2x64, .f32⟩
  | .hbm, ⟨41, _⟩ => ⟨S4x2048x2x1x64, .f32⟩
  | .hbm, ⟨42, _⟩ => ⟨S4x2048x2x64, .f32⟩
  | .hbm, ⟨43, _⟩ => ⟨S_, .i32⟩
  | .hbm, ⟨44, _⟩ => ⟨S_, .f32⟩
  | .hbm, ⟨45, _⟩ => ⟨S4x2048x2x128, .f32⟩
  | .hbm, ⟨46, _⟩ => ⟨S4x2048x2x1x64, .f32⟩
  | .hbm, ⟨47, _⟩ => ⟨S4x2048x2x64, .f32⟩
  | .hbm, ⟨48, _⟩ => ⟨S_, .i32⟩
  | .hbm, ⟨49, _⟩ => ⟨S_, .f32⟩
  | .hbm, ⟨50, _⟩ => ⟨S4x2048x2x128, .f32⟩
  | .hbm, ⟨51, _⟩ => ⟨S4x2048x2x1x128, .f32⟩
  | .hbm, ⟨52, _⟩ => ⟨S4x2048x2x1x128, .f32⟩
  | .hbm, ⟨53, _⟩ => ⟨S4x2048x2x2x128, .f32⟩
  | .hbm, ⟨54, _⟩ => ⟨S4x8x256x512, .f32⟩
  | .hbm, ⟨55, _⟩ => ⟨S4x8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_call1_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_call2_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_call3_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S1024x3328 : Shape := ⟨2, ![1024, 3328]⟩
abbrev S8x4096x16 : Shape := ⟨3, ![8, 4096, 16]⟩
abbrev S1x1024 : Shape := ⟨2, ![1, 1024]⟩
abbrev S_ : Shape := ⟨0, ![]⟩
abbrev S8x4096x96 : Shape := ⟨3, ![8, 4096, 96]⟩
abbrev S8x4096x32 : Shape := ⟨3, ![8, 4096, 32]⟩
abbrev S8x4096x128 : Shape := ⟨3, ![8, 4096, 128]⟩
abbrev S8x4096x112 : Shape := ⟨3, ![8, 4096, 112]⟩
abbrev S8x4096x256 : Shape := ⟨3, ![8, 4096, 256]⟩
abbrev S8x4096x384 : Shape := ⟨3, ![8, 4096, 384]⟩
abbrev S8x16x1024x256 : Shape := ⟨4, ![8, 16, 1024, 256]⟩
abbrev S1x512x1024 : Shape := ⟨3, ![1, 512, 1024]⟩
abbrev S1x512x384 : Shape := ⟨3, ![1, 512, 384]⟩
abbrev S1x2x1024x256 : Shape := ⟨4, ![1, 2, 1024, 256]⟩
abbrev S1x512x256 : Shape := ⟨3, ![1, 512, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x384 : Shape := ⟨3, ![1, 256, 384]⟩
abbrev S256x384 : Shape := ⟨2, ![256, 384]⟩
abbrev S256x128 : Shape := ⟨2, ![256, 128]⟩
abbrev S1x256x128 : Shape := ⟨3, ![1, 256, 128]⟩
abbrev S1x256x256 : Shape := ⟨3, ![1, 256, 256]⟩
abbrev S1x1x256x256 : Shape := ⟨4, ![1, 1, 256, 256]⟩

abbrev nBuf : Space → Nat
  | .hbm => 27
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3328, .f32⟩
  | .hbm, ⟨3, _⟩ => ⟨S8x4096x16, .f32⟩
  | .hbm, ⟨4, _⟩ => ⟨S8x4096x16, .f32⟩
  | .hbm, ⟨5, _⟩ => ⟨S1x1024, .f32⟩
  | .hbm, ⟨6, _⟩ => ⟨S1024x3328, .bf16⟩
  | .hbm, ⟨7, _⟩ => ⟨S_, .f32⟩
  | .hbm, ⟨8, _⟩ => ⟨S8x4096x96, .f32⟩
  | .hbm, ⟨9, _⟩ => ⟨S8x4096x32, .f32⟩
  | .hbm, ⟨10, _⟩ => ⟨S8x4096x128, .f32⟩
  | .hbm, ⟨11, _⟩ => ⟨S_, .f32⟩
  | .hbm, ⟨12, _⟩ => ⟨S8x4096x16, .f32⟩
  | .hbm, ⟨13, _⟩ => ⟨S_, .f32⟩
  | .hbm, ⟨14, _⟩ => ⟨S8x4096x96, .f32⟩
  | .hbm, ⟨15, _⟩ => ⟨S8x4096x112, .f32⟩
  | .hbm, ⟨16, _⟩ => ⟨S8x4096x128, .f32⟩
  | .hbm, ⟨17, _⟩ => ⟨S8x4096x16, .f32⟩
  | .hbm, ⟨18, _⟩ => ⟨S_, .f32⟩
  | .hbm, ⟨19, _⟩ => ⟨S8x4096x112, .f32⟩
  | .hbm, ⟨20, _⟩ => ⟨S8x4096x128, .f32⟩
  | .hbm, ⟨21, _⟩ => ⟨S8x4096x256, .f32⟩
  | .hbm, ⟨22, _⟩ => ⟨S8x4096x384, .f32⟩
  | .hbm, ⟨23, _⟩ => ⟨S8x4096x1024, .bf16⟩
  | .hbm, ⟨24, _⟩ => ⟨S8x4096x1024, .bf16⟩
  | .hbm, ⟨25, _⟩ => ⟨S8x16x1024x256, .bf16⟩
  | .hbm, ⟨26, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3328, .bf16⟩
  | .local _ .vmem, ⟨4, _⟩ => ⟨S1x512x384, .f32⟩
  | .local _ .vmem, ⟨5, _⟩ => ⟨S1x512x384, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x2x1024x256, .bf16⟩
  | .local _ .vmem, ⟨11, _⟩ => ⟨S1x2x1024x256, .bf16⟩
  | .local _ .vmem, ⟨12, _⟩ => ⟨S1x512x256, .bf16⟩
  | .local _ .vmem, ⟨13, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8x4096x1024 : Shape := ⟨3, ![8, 4096, 1024]⟩
abbrev S1024 : Shape := ⟨1, ![1024]⟩
abbrev S1024x3328 : Shape := ⟨2, ![1024, 3328]⟩
abbrev S8x4096x16 : Shape := ⟨3, ![8, 4096, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3328 : Shape := ⟨3, ![8, 4096, 3328]⟩
abbrev S8x4096x256 : Shape := ⟨3, ![8, 4096, 256]⟩
abbrev S8x4096x8x128 : Shape := ⟨4, ![8, 4096, 8, 128]⟩
abbrev S8x4096x8x32 : Shape := ⟨4, ![8, 4096, 8, 32]⟩
abbrev S8x4096x8x16 : Shape := ⟨4, ![8, 4096, 8, 16]⟩
abbrev S8x4096x1x16 : Shape := ⟨4, ![8, 4096, 1, 16]⟩
abbrev S8x4096x8x96 : Shape := ⟨4, ![8, 4096, 8, 96]⟩
abbrev S8x16x256x1024 : Shape := ⟨4, ![8, 16, 256, 1024]⟩
abbrev S8x16x1024x256 : Shape := ⟨4, ![8, 16, 1024, 256]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3328, .f32⟩
  | .hbm, ⟨3, _⟩ => ⟨S8x4096x16, .f32⟩
  | .hbm, ⟨4, _⟩ => ⟨S8x4096x16, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3328, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x256, .f32⟩
  | .hbm, ⟨26, _⟩ => ⟨S8x4096x8x128, .f32⟩
  | .hbm, ⟨27, _⟩ => ⟨S8x4096x8x32, .f32⟩
  | .hbm, ⟨28, _⟩ => ⟨S8x4096x8x16, .f32⟩
  | .hbm, ⟨29, _⟩ => ⟨S8x4096x8x16, .f32⟩
  | .hbm, ⟨30, _⟩ => ⟨S8x4096x1x16, .f32⟩
  | .hbm, ⟨31, _⟩ => ⟨S8x4096x1x16, .f32⟩
  | .hbm, ⟨32, _⟩ => ⟨S8x4096x8x16, .f32⟩
  | .hbm, ⟨33, _⟩ => ⟨S8x4096x8x16, .f32⟩
  | .hbm, ⟨34, _⟩ => ⟨S8x4096x8x16, .f32⟩
  | .hbm, ⟨35, _⟩ => ⟨S8x4096x8x16, .f32⟩
  | .hbm, ⟨36, _⟩ => ⟨S8x4096x8x16, .f32⟩
  | .hbm, ⟨37, _⟩ => ⟨S8x4096x8x16, .f32⟩
  | .hbm, ⟨38, _⟩ => ⟨S8x4096x8x16, .f32⟩
  | .hbm, ⟨39, _⟩ => ⟨S8x4096x8x16, .f32⟩
  | .hbm, ⟨40, _⟩ => ⟨S8x4096x8x16, .f32⟩
  | .hbm, ⟨41, _⟩ => ⟨S8x4096x8x16, .f32⟩
  | .hbm, ⟨42, _⟩ => ⟨S8x4096x8x32, .f32⟩
  | .hbm, ⟨43, _⟩ => ⟨S8x4096x8x96, .f32⟩
  | .hbm, ⟨44, _⟩ => ⟨S8x4096x8x128, .f32⟩
  | .hbm, ⟨45, _⟩ => ⟨S8x4096x1024, .f32⟩
  | .hbm, ⟨46, _⟩ => ⟨S8x4096x8x128, .f32⟩
  | .hbm, ⟨47, _⟩ => ⟨S8x4096x8x32, .f32⟩
  | .hbm, ⟨48, _⟩ => ⟨S8x4096x8x16, .f32⟩
  | .hbm, ⟨49, _⟩ => ⟨S8x4096x8x16, .f32⟩
  | .hbm, ⟨50, _⟩ => ⟨S8x4096x1x16, .f32⟩
  | .hbm, ⟨51, _⟩ => ⟨S8x4096x1x16, .f32⟩
  | .hbm, ⟨52, _⟩ => ⟨S8x4096x8x16, .f32⟩
  | .hbm, ⟨53, _⟩ => ⟨S8x4096x8x16, .f32⟩
  | .hbm, ⟨54, _⟩ => ⟨S8x4096x8x16, .f32⟩
  | .hbm, ⟨55, _⟩ => ⟨S8x4096x8x16, .f32⟩
  | .hbm, ⟨56, _⟩ => ⟨S8x4096x8x16, .f32⟩
  | .hbm, ⟨57, _⟩ => ⟨S8x4096x8x16, .f32⟩
  | .hbm, ⟨58, _⟩ => ⟨S8x4096x8x16, .f32⟩
  | .hbm, ⟨59, _⟩ => ⟨S8x4096x8x16, .f32⟩
  | .hbm, ⟨60, _⟩ => ⟨S8x4096x8x16, .f32⟩
  | .hbm, ⟨61, _⟩ => ⟨S8x4096x8x16, .f32⟩
  | .hbm, ⟨62, _⟩ => ⟨S8x4096x8x32, .f32⟩
  | .hbm, ⟨63, _⟩ => ⟨S8x4096x8x96, .f32⟩
  | .hbm, ⟨64, _⟩ => ⟨S8x4096x8x128, .f32⟩
  | .hbm, ⟨65, _⟩ => ⟨S8x4096x1024, .f32⟩
  | .hbm, ⟨66, _⟩ => ⟨S8x16x256x1024, .f32⟩
  | .hbm, ⟨67, _⟩ => ⟨S8x16x1024x256, .f32⟩
  | .hbm, ⟨68, _⟩ => ⟨S_, .f32⟩
  | .hbm, ⟨69, _⟩ => ⟨S8x4096x1024, .f32⟩
  | .hbm, ⟨70, _⟩ => ⟨S8x4096x1024, .f32⟩
  | .hbm, ⟨71, _⟩ => ⟨S8x4096x1024, .bf16⟩
  | .hbm, ⟨72, _⟩ => ⟨S8x4096x1024, .bf16⟩
  | .hbm, ⟨73, _⟩ => ⟨S8x16x1024x256, .bf16⟩
  | .hbm, ⟨74, _⟩ => ⟨S_, .f32⟩
  | .hbm, ⟨75, _⟩ => ⟨S8x4096x256, .f32⟩
  | .hbm, ⟨76, _⟩ => ⟨S8x4096x256, .f32⟩
  | .hbm, ⟨77, _⟩ => ⟨S8x4096x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_2 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_3 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩

abbrev nD : Nat := 1
abbrev τ : Topo := Topo.v7x

variable {F : FTy → Type} [FloatOps F]
-- ==== Kernel7.lean ====
abbrev S8x4096x1024 : Shape := ⟨3, ![8, 4096, 1024]⟩
abbrev S1024 : Shape := ⟨1, ![1024]⟩
abbrev S1024x3328 : Shape := ⟨2, ![1024, 3328]⟩
abbrev S8x4096x8 : Shape := ⟨3, ![8, 4096, 8]⟩
abbrev S1x1024 : Shape := ⟨2, ![1, 1024]⟩
abbrev S_ : Shape := ⟨0, ![]⟩
abbrev S8x4096x48 : Shape := ⟨3, ![8, 4096, 48]⟩
abbrev S8x4096x16 : Shape := ⟨3, ![8, 4096, 16]⟩
abbrev S8x4096x64 : Shape := ⟨3, ![8, 4096, 64]⟩
abbrev S8x4096x56 : Shape := ⟨3, ![8, 4096, 56]⟩
abbrev S8x4096x128 : Shape := ⟨3, ![8, 4096, 128]⟩
abbrev S8x4096x256 : Shape := ⟨3, ![8, 4096, 256]⟩
abbrev S8x4096x384 : Shape := ⟨3, ![8, 4096, 384]⟩
abbrev S1x512x1024 : Shape := ⟨3, ![1, 512, 1024]⟩
abbrev S1x512x384 : Shape := ⟨3, ![1, 512, 384]⟩
abbrev S1x512x256 : Shape := ⟨3, ![1, 512, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x384 : Shape := ⟨3, ![1, 256, 384]⟩
abbrev S256x384 : Shape := ⟨2, ![256, 384]⟩
abbrev S256x128 : Shape := ⟨2, ![256, 128]⟩
abbrev S1x256x128 : Shape := ⟨3, ![1, 256, 128]⟩
abbrev S1x256x256 : Shape := ⟨3, ![1, 256, 256]⟩

abbrev nBuf : Space → Nat
  | .hbm => 30
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3328, .f32⟩
  | .hbm, ⟨3, _⟩ => ⟨S8x4096x8, .f32⟩
  | .hbm, ⟨4, _⟩ => ⟨S8x4096x8, .f32⟩
  | .hbm, ⟨5, _⟩ => ⟨S1x1024, .f32⟩
  | .hbm, ⟨6, _⟩ => ⟨S1024x3328, .bf16⟩
  | .hbm, ⟨7, _⟩ => ⟨S_, .f32⟩
  | .hbm, ⟨8, _⟩ => ⟨S8x4096x48, .f32⟩
  | .hbm, ⟨9, _⟩ => ⟨S8x4096x16, .f32⟩
  | .hbm, ⟨10, _⟩ => ⟨S8x4096x64, .f32⟩
  | .hbm, ⟨11, _⟩ => ⟨S_, .f32⟩
  | .hbm, ⟨12, _⟩ => ⟨S8x4096x8, .f32⟩
  | .hbm, ⟨13, _⟩ => ⟨S_, .f32⟩
  | .hbm, ⟨14, _⟩ => ⟨S8x4096x48, .f32⟩
  | .hbm, ⟨15, _⟩ => ⟨S8x4096x56, .f32⟩
  | .hbm, ⟨16, _⟩ => ⟨S8x4096x64, .f32⟩
  | .hbm, ⟨17, _⟩ => ⟨S8x4096x8, .f32⟩
  | .hbm, ⟨18, _⟩ => ⟨S_, .f32⟩
  | .hbm, ⟨19, _⟩ => ⟨S8x4096x56, .f32⟩
  | .hbm, ⟨20, _⟩ => ⟨S8x4096x64, .f32⟩
  | .hbm, ⟨21, _⟩ => ⟨S8x4096x128, .f32⟩
  | .hbm, ⟨22, _⟩ => ⟨S8x4096x128, .f32⟩
  | .hbm, ⟨23, _⟩ => ⟨S8x4096x128, .f32⟩
  | .hbm, ⟨24, _⟩ => ⟨S8x4096x256, .f32⟩
  | .hbm, ⟨25, _⟩ => ⟨S8x4096x384, .f32⟩
  | .hbm, ⟨26, _⟩ => ⟨S8x4096x1024, .bf16⟩
  | .hbm, ⟨27, _⟩ => ⟨S8x4096x1024, .bf16⟩
  | .hbm, ⟨28, _⟩ => ⟨S8x4096x1024, .bf16⟩
  | .hbm, ⟨29, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3328, .bf16⟩
  | .local _ .vmem, ⟨4, _⟩ => ⟨S1x512x384, .f32⟩
  | .local _ .vmem, ⟨5, _⟩ => ⟨S1x512x384, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x256, .bf16⟩
  | .local _ .vmem, ⟨13, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S8x4096x1024 : Shape := ⟨3, ![8, 4096, 1024]⟩
abbrev S1024 : Shape := ⟨1, ![1024]⟩
abbrev S1024x3328 : Shape := ⟨2, ![1024, 3328]⟩
abbrev S8x4096x8 : Shape := ⟨3, ![8, 4096, 8]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3328 : Shape := ⟨3, ![8, 4096, 3328]⟩
abbrev S8x4096x256 : Shape := ⟨3, ![8, 4096, 256]⟩
abbrev S8x4096x16x64 : Shape := ⟨4, ![8, 4096, 16, 64]⟩
abbrev S8x4096x16x16 : Shape := ⟨4, ![8, 4096, 16, 16]⟩
abbrev S8x4096x16x8 : Shape := ⟨4, ![8, 4096, 16, 8]⟩
abbrev S8x4096x1x8 : Shape := ⟨4, ![8, 4096, 1, 8]⟩
abbrev S8x4096x16x48 : Shape := ⟨4, ![8, 4096, 16, 48]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3328, .f32⟩
  | .hbm, ⟨3, _⟩ => ⟨S8x4096x8, .f32⟩
  | .hbm, ⟨4, _⟩ => ⟨S8x4096x8, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x3328, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x256, .f32⟩
  | .hbm, ⟨26, _⟩ => ⟨S8x4096x16x64, .f32⟩
  | .hbm, ⟨27, _⟩ => ⟨S8x4096x16x16, .f32⟩
  | .hbm, ⟨28, _⟩ => ⟨S8x4096x16x8, .f32⟩
  | .hbm, ⟨29, _⟩ => ⟨S8x4096x16x8, .f32⟩
  | .hbm, ⟨30, _⟩ => ⟨S8x4096x1x8, .f32⟩
  | .hbm, ⟨31, _⟩ => ⟨S8x4096x1x8, .f32⟩
  | .hbm, ⟨32, _⟩ => ⟨S8x4096x16x8, .f32⟩
  | .hbm, ⟨33, _⟩ => ⟨S8x4096x16x8, .f32⟩
  | .hbm, ⟨34, _⟩ => ⟨S8x4096x16x8, .f32⟩
  | .hbm, ⟨35, _⟩ => ⟨S8x4096x16x8, .f32⟩
  | .hbm, ⟨36, _⟩ => ⟨S8x4096x16x8, .f32⟩
  | .hbm, ⟨37, _⟩ => ⟨S8x4096x16x8, .f32⟩
  | .hbm, ⟨38, _⟩ => ⟨S8x4096x16x8, .f32⟩
  | .hbm, ⟨39, _⟩ => ⟨S8x4096x16x8, .f32⟩
  | .hbm, ⟨40, _⟩ => ⟨S8x4096x16x8, .f32⟩
  | .hbm, ⟨41, _⟩ => ⟨S8x4096x16x8, .f32⟩
  | .hbm, ⟨42, _⟩ => ⟨S8x4096x16x16, .f32⟩
  | .hbm, ⟨43, _⟩ => ⟨S8x4096x16x48, .f32⟩
  | .hbm, ⟨44, _⟩ => ⟨S8x4096x16x64, .f32⟩
  | .hbm, ⟨45, _⟩ => ⟨S8x4096x1024, .f32⟩
  | .hbm, ⟨46, _⟩ => ⟨S8x4096x16x64, .f32⟩
  | .hbm, ⟨47, _⟩ => ⟨S8x4096x16x16, .f32⟩
  | .hbm, ⟨48, _⟩ => ⟨S8x4096x16x8, .f32⟩
  | .hbm, ⟨49, _⟩ => ⟨S8x4096x16x8, .f32⟩
  | .hbm, ⟨50, _⟩ => ⟨S8x4096x1x8, .f32⟩
  | .hbm, ⟨51, _⟩ => ⟨S8x4096x1x8, .f32⟩
  | .hbm, ⟨52, _⟩ => ⟨S8x4096x16x8, .f32⟩
  | .hbm, ⟨53, _⟩ => ⟨S8x4096x16x8, .f32⟩
  | .hbm, ⟨54, _⟩ => ⟨S8x4096x16x8, .f32⟩
  | .hbm, ⟨55, _⟩ => ⟨S8x4096x16x8, .f32⟩
  | .hbm, ⟨56, _⟩ => ⟨S8x4096x16x8, .f32⟩
  | .hbm, ⟨57, _⟩ => ⟨S8x4096x16x8, .f32⟩
  | .hbm, ⟨58, _⟩ => ⟨S8x4096x16x8, .f32⟩
  | .hbm, ⟨59, _⟩ => ⟨S8x4096x16x8, .f32⟩
  | .hbm, ⟨60, _⟩ => ⟨S8x4096x16x8, .f32⟩
  | .hbm, ⟨61, _⟩ => ⟨S8x4096x16x8, .f32⟩
  | .hbm, ⟨62, _⟩ => ⟨S8x4096x16x16, .f32⟩
  | .hbm, ⟨63, _⟩ => ⟨S8x4096x16x48, .f32⟩
  | .hbm, ⟨64, _⟩ => ⟨S8x4096x16x64, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S8x4096x1024, .bf16⟩
  | .hbm, ⟨70, _⟩ => ⟨S8x4096x1024, .bf16⟩
  | .hbm, ⟨71, _⟩ => ⟨S8x4096x1024, .bf16⟩
  | .hbm, ⟨72, _⟩ => ⟨S_, .f32⟩
  | .hbm, ⟨73, _⟩ => ⟨S8x4096x256, .f32⟩
  | .hbm, ⟨74, _⟩ => ⟨S8x4096x256, .f32⟩
  | .hbm, ⟨75, _⟩ => ⟨S8x4096x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_2 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_3 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩

abbrev nD : Nat := 1
abbrev τ : Topo := Topo.v7x

variable {F : FTy → Type} [FloatOps F]
-- ==== Proof.Keeps.lean ====
/- A program that only loads and stores, in buffers that an assertion owns: it runs to its end, and the assertion
   holds again. Nothing is said of the values, so each operation takes one small step whatever the program computes
   between two of them. -/
module

public import Idealize.ShloMosaic.Lib.Pipeline.Frame
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Rules

variable {nD : Nat} {τ : Topo} {sig : RefSig} {Val : EltTy → Type} {Λ : Labels} {U : Type} [URA U]

local notation "𝕄" => MT nD τ sig Unit Val ℕ U ℕ

/-- `R` owns the whole buffer of `m` at some contents, and takes it back at any. -/
def Lends (c : Dev nD) (R : sProp 𝕄) {sp : Space} {s : Shape} {e : EltTy} (m : Memref sig .tc sp s e) : Prop :=
  R ⊢ iprop(∃ f : Buf Val (m.view.loc (c.tc : Thread nD τ)), (m.view.loc (c.tc : Thread nD τ) ↦{fullShare} f)
    ∗ (∀ f' : Buf Val (m.view.loc (c.tc : Thread nD τ)), (m.view.loc (c.tc : Thread nD τ) ↦{fullShare} f') -∗ R))

variable (c : Dev nD) {sp : Space} {s : Shape} {e : EltTy} {m : Memref sig .tc sp s e}

theorem Lends.left {A B : sProp 𝕄} (h : Lends c A m) : Lends c iprop(A ∗ B) m := by
  unfold Lends at *
  iintro ⟨HA, HB⟩
  ihave H := h $$ HA
  icases H with ⟨%f, Hf, Hb⟩
  iexists f
  isplitl [Hf]; · iexact Hf
  iintro %f' Hf
  isplitl [Hb Hf]
  · iapply Hb; iexact Hf
  iexact HB

theorem Lends.right {A B : sProp 𝕄} (h : Lends c B m) : Lends c iprop(A ∗ B) m := by
  unfold Lends at *
  iintro ⟨HA, HB⟩
  ihave H := h $$ HB
  icases H with ⟨%f, Hf, Hb⟩
  iexists f
  isplitl [Hf]; · iexact Hf
  iintro %f' Hf
  isplitl [HA]
  · iexact HA
  iapply Hb; iexact Hf

theorem Lends.points (b : Ref sig .tc) :
    Lends c (iprop(∃ f : Buf Val ((c.tc : Thread nD τ).loc b), ((c.tc : Thread nD τ).loc b) ↦{fullShare} f) : sProp 𝕄) (Memref.whole b) := by
  unfold Lends
  iintro ⟨%f, H⟩
  iexists f
  isplitl [H]; · iexact H
  iintro %f' H
  iexists f'
  iexact H

theorem Lends.owned (h : m.IsWhole) : Lends c (iprop(∃ X, owns (c.tc : Thread nD τ) m fullShare X) : sProp 𝕄) m := by
  obtain ⟨b, rfl, rfl, rfl, hm⟩ := h; cases hm
  unfold Lends
  simp only [owns_whole_eq]
  iintro ⟨%X, H⟩
  icases H with ⟨%f, -, H⟩
  iexists f
  isplitl [H]; · iexact H
  iintro %f' H
  iexists f'
  iexists f'
  isplitr; · ipureintro; rfl
  iexact H

variable (defs : Defs nD τ sig Val Λ) (𝒱 : Variants) (bd : Option 𝒱.V) (E : Set ℕ) (R : sProp (MT nD τ sig Unit Val ℕ U ℕ))

/-- From `R` the program runs to its end, and `R` holds there. -/
def Keeps {α : Type} (p : Prog (TpuEff nD τ sig Val Λ .tc) α) : Prop :=
  R ⊢ wp frame (wpE (Ix := Unit) (Name := ℕ) (U := U) (Lvl := ℕ) defs 𝒱 (c.tc : Thread nD τ) bd) E p fun _ => R

variable {c defs 𝒱 bd E R} {α β : Type}

theorem Keeps.bind {p : Prog (TpuEff nD τ sig Val Λ .tc) α} {k : α → Prog (TpuEff nD τ sig Val Λ .tc) β}
    (hp : Keeps c defs 𝒱 bd E R p) (hk : ∀ x, Keeps c defs 𝒱 bd E R (k x)) : Keeps c defs 𝒱 bd E R (p >>= k) := by
  unfold Keeps at *
  rw [wp_bind]
  exact hp.trans (wp_mono _ _ _ fun x => hk x)

theorem Keeps.pure (x : α) : Keeps c defs 𝒱 bd E R (Pure.pure x : Prog (TpuEff nD τ sig Val Λ .tc) α) :=
  le_wp_ret _ _ _ x fun _ => R

theorem Keeps.load {cs : CoreSpace} {m : Memref sig .tc cs s e} {r : LoadRect s} {hl : m.view.LoadsAt r}
    (h : Lends c R m) : Keeps c defs 𝒱 bd E R (Prog.lift (.load m r hl)) := by
  unfold Keeps
  refine h.trans ?_
  iintro ⟨%f, Hf, Hb⟩
  iapply (wp_load 𝒱 (c.tc : Thread nD τ) bd E (m := m) (r := r) (hl := hl) (S := Finset.univ) (q := fullShare) (f := f) (k := fun x => .ret x)
    (Finset.subset_univ _)) $$ Hf
  iintro Hf
  rw [wp_ret]
  imodintro
  iapply Hb
  iexact Hf

theorem Keeps.store {cs : CoreSpace} {m : Memref sig .tc cs s e} {r : Rect s} {w : r.shape.Idx → Val e}
    {Mk : Finset r.shape.Idx} {hx : (m.access r).Stores Mk} {hm : Mk = Finset.univ ∨ ∀ a, r.stride a = 1}
    (h : Lends c R m) : Keeps c defs 𝒱 bd E R (Prog.lift (.store m r w Mk hx hm)) := by
  unfold Keeps
  refine h.trans ?_
  iintro ⟨%f, Hf, Hb⟩
  iapply (wp_store 𝒱 (c.tc : Thread nD τ) bd E (m := m) (r := r) (w := w) (Mk := Mk) (hx := hx) (hm := hm) (S := Finset.univ) (f := f) (k := fun x => .ret x)
    (Finset.subset_univ _)) $$ Hf
  iintro Hf
  rw [wp_ret]
  imodintro
  iapply Hb
  iexact Hf

theorem Keeps.loop {w : Nat} {l : Scf.Loop w} {hok : l.OK} {init : α} {body : Fin l.trips → α → Prog (TpuEff nD τ sig Val Λ .tc) α}
    (h : ∀ k acc, Keeps c defs 𝒱 bd E R (body k acc)) : Keeps c defs 𝒱 bd E R (Scf.Loop.for l hok init body) := by
  unfold Keeps
  have hw := Scf.wp_for frame (wpE (Ix := Unit) (Name := ℕ) (U := U) (Lvl := ℕ) defs 𝒱 (c.tc : Thread nD τ) bd) E l.lb l.ub l.st hok init body (Q := fun _ => R)
    (fun _ _ => R) fun k acc => h k acc
  iintro H
  iapply hw
  isplitl [H]; · iexact H
  iintro %acc H
  iexact H

theorem Keeps.cond {q : Prop} [Decidable q] {a b : Prog (TpuEff nD τ sig Val Λ .tc) α}
    (ha : Keeps c defs 𝒱 bd E R a) (hb : Keeps c defs 𝒱 bd E R b) : Keeps c defs 𝒱 bd E R (if q then a else b) := by
  split <;> assumption

theorem Keeps.dcond {q : Prop} [Decidable q] {a : q → Prog (TpuEff nD τ sig Val Λ .tc) α} {b : ¬ q → Prog (TpuEff nD τ sig Val Λ .tc) α}
    (ha : ∀ h, Keeps c defs 𝒱 bd E R (a h)) (hb : ∀ h, Keeps c defs 𝒱 bd E R (b h)) : Keeps c defs 𝒱 bd E R (if h : q then a h else b h) := by
  split
  · exact ha _
  · exact hb _

end Rules

end Cert.Proof

end
-- ==== Proof.Body.lean ====
/- The body of the call's grid point, statement by statement: each load and store takes the buffer it touches out of `R`
   and puts it back, whatever the values are. A theorem for each long stretch of the body; the short ones are opened
   in place. -/
module

public import proofs.«01_k».proof.Proof.Keeps
public import proofs.«01_k».proof.Kernel

@[expose] public section

set_option maxHeartbeats 4000000
set_option maxRecDepth 100000

noncomputable section

namespace Cert.Proof

open Idealize.ShloMosaic Idealize.ShloMosaic.TcCoe Idealize.SL Idealize.SL.BI Idealize.SL.Sem Cert.Kernel

variable {F : FTy → Type} [BitOps F] [Facts] {U : Type} [RA.URA U] {c : Dev nD} {E : Set ℕ}
  {R : sProp (MT nD τ sig Unit (Elt F) ℕ U ℕ)}

theorem keeps_part106 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v174 : IVec S256x256 32} {v175 : IVec S256x256 32} {c0_i32_129 : BitVec 32} {c1_i32_131 : BitVec 32} {k0_t1 : Fin (k0_t1_loop i).trips}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v174 v175 c0_i32_129 c1_i32_131 k0_t1) :=
  .bind (.bind (.load h7) fun _ => .bind (.load h13) fun _ => .bind (.load h14) fun _ => .bind (.load h14) fun _ =>
  .bind (.load h13) fun _ => .bind (.load h14) fun _ => .pure _) fun _ => .bind (.bind (.load h14) fun _ =>
  .bind (.load h13) fun _ => .bind (.load h14) fun _ => .bind (.load h14) fun _ => .bind (.load h13) fun _ =>
  .bind (.load h14) fun _ => .bind (.load h14) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .pure _) fun _ =>
  .bind (.bind (.load h14) fun _ => .bind (.load h13) fun _ => .bind (.load h14) fun _ => .bind (.load h14) fun _ =>
  .bind (.load h10) fun _ => .bind (.store h10) fun _ => .pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h7) fun _ => .bind (.load h13) fun _ => .bind (.load h14) fun _ =>
  .bind (.load h14) fun _ => .pure _) fun _ => .bind (.bind (.load h13) fun _ => .bind (.load h14) fun _ =>
  .bind (.load h14) fun _ => .bind (.load h13) fun _ => .bind (.load h14) fun _ => .bind (.load h14) fun _ =>
  .bind (.load h13) fun _ => .bind (.load h14) fun _ => .pure _) fun _ => .bind (.bind (.load h14) fun _ =>
  .bind (.load h13) fun _ => .bind (.load h14) fun _ => .bind (.load h14) fun _ => .bind (.load h13) fun _ =>
  .bind (.load h14) fun _ => .bind (.load h14) fun _ => .pure _) fun _ => .bind (.bind (.load h13) fun _ =>
  .bind (.load h14) fun _ => .bind (.load h14) fun _ => .bind (.load h13) fun _ => .bind (.load h14) fun _ =>
  .bind (.load h14) fun _ => .pure _) fun _ => .bind (.bind (.load h10) fun _ => .bind (.store h10) fun _ =>
  .pure _) fun _ => .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .pure _) fun _ => .bind (.bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .pure _) fun _ => .bind (.bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h7) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .pure _) fun _ =>
  .bind (.bind (.load h14) fun _ => .bind (.load h13) fun _ => .bind (.load h14) fun _ => .bind (.load h14) fun _ =>
  .bind (.load h13) fun _ => .bind (.load h14) fun _ => .bind (.load h14) fun _ => .bind (.load h13) fun _ =>
  .pure _) fun _ => .bind (.bind (.load h14) fun _ => .bind (.load h14) fun _ => .bind (.load h13) fun _ =>
  .bind (.load h14) fun _ => .bind (.load h14) fun _ => .bind (.load h13) fun _ => .bind (.load h14) fun _ =>
  .pure _) fun _ => .bind (.bind (.load h14) fun _ => .bind (.load h10) fun _ => .bind (.store h10) fun _ =>
  .pure _) fun _ => .bind (.pure _) fun _ => .bind (.pure _) fun _ => .bind (.pure _) fun _ => .pure _

theorem keeps_part212 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v174 : IVec S256x256 32} {v175 : IVec S256x256 32} {v201 : BitVec 32} {c1_i32_132 : BitVec 32} {k0_t2 : Fin (k0_t2_loop i).trips}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part212 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v174 v175 v201 c1_i32_132 k0_t2) :=
  .bind (.bind (.load h7) fun _ => .bind (.load h13) fun _ => .bind (.load h14) fun _ => .bind (.load h14) fun _ =>
  .bind (.load h13) fun _ => .bind (.load h14) fun _ => .pure _) fun _ => .bind (.bind (.load h14) fun _ =>
  .bind (.load h13) fun _ => .bind (.load h14) fun _ => .bind (.load h14) fun _ => .bind (.load h13) fun _ =>
  .bind (.load h14) fun _ => .bind (.load h14) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .pure _) fun _ =>
  .bind (.bind (.load h14) fun _ => .bind (.load h13) fun _ => .bind (.load h14) fun _ => .bind (.load h14) fun _ =>
  .bind (.load h10) fun _ => .bind (.store h10) fun _ => .pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h7) fun _ => .bind (.load h13) fun _ => .bind (.load h14) fun _ =>
  .bind (.load h14) fun _ => .pure _) fun _ => .bind (.bind (.load h13) fun _ => .bind (.load h14) fun _ =>
  .bind (.load h14) fun _ => .bind (.load h13) fun _ => .bind (.load h14) fun _ => .bind (.load h14) fun _ =>
  .bind (.load h13) fun _ => .bind (.load h14) fun _ => .pure _) fun _ => .bind (.bind (.load h14) fun _ =>
  .bind (.load h13) fun _ => .bind (.load h14) fun _ => .bind (.load h14) fun _ => .bind (.load h13) fun _ =>
  .bind (.load h14) fun _ => .bind (.load h14) fun _ => .pure _) fun _ => .bind (.bind (.load h13) fun _ =>
  .bind (.load h14) fun _ => .bind (.load h14) fun _ => .bind (.load h13) fun _ => .bind (.load h14) fun _ =>
  .bind (.load h14) fun _ => .pure _) fun _ => .bind (.bind (.load h10) fun _ => .bind (.store h10) fun _ =>
  .pure _) fun _ => .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .pure _) fun _ => .bind (.bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .pure _) fun _ => .bind (.bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h7) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .pure _) fun _ =>
  .bind (.bind (.load h14) fun _ => .bind (.load h13) fun _ => .bind (.load h14) fun _ => .bind (.load h14) fun _ =>
  .bind (.load h13) fun _ => .bind (.load h14) fun _ => .bind (.load h14) fun _ => .bind (.load h13) fun _ =>
  .pure _) fun _ => .bind (.bind (.load h14) fun _ => .bind (.load h14) fun _ => .bind (.load h13) fun _ =>
  .bind (.load h14) fun _ => .bind (.load h14) fun _ => .bind (.load h13) fun _ => .bind (.load h14) fun _ =>
  .pure _) fun _ => .bind (.bind (.load h14) fun _ => .bind (.load h10) fun _ => .bind (.store h10) fun _ =>
  .pure _) fun _ => .bind (.pure _) fun _ => .bind (.pure _) fun _ => .bind (.pure _) fun _ => .pure _

theorem keeps_part265 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v174 : IVec S256x256 32} {v175 : IVec S256x256 32} {v203 : BitVec 32} {c0_i32_142 : BitVec 32} {c1_i32_144 : BitVec 32} {k0_t3 : Fin (k0_t3_loop i).trips}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part265 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v174 v175 v203 c0_i32_142 c1_i32_144 k0_t3) :=
  .bind (.bind (.load h7) fun _ => .bind (.load h13) fun _ => .bind (.load h14) fun _ => .bind (.load h14) fun _ =>
  .bind (.load h13) fun _ => .bind (.load h14) fun _ => .bind (.load h14) fun _ => .pure _) fun _ =>
  .bind (.bind (.load h13) fun _ => .bind (.load h14) fun _ => .bind (.load h14) fun _ => .bind (.load h13) fun _ =>
  .bind (.load h14) fun _ => .bind (.load h14) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .pure _) fun _ =>
  .bind (.bind (.load h14) fun _ => .bind (.load h13) fun _ => .bind (.load h14) fun _ => .bind (.load h14) fun _ =>
  .bind (.load h10) fun _ => .bind (.store h10) fun _ => .pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h7) fun _ => .bind (.load h13) fun _ => .bind (.load h14) fun _ =>
  .bind (.load h14) fun _ => .bind (.load h13) fun _ => .pure _) fun _ => .bind (.bind (.load h14) fun _ =>
  .bind (.load h14) fun _ => .bind (.load h13) fun _ => .bind (.load h14) fun _ => .bind (.load h14) fun _ =>
  .bind (.load h13) fun _ => .bind (.load h14) fun _ => .pure _) fun _ => .bind (.bind (.load h14) fun _ =>
  .bind (.load h13) fun _ => .bind (.load h14) fun _ => .bind (.load h14) fun _ => .bind (.load h13) fun _ =>
  .bind (.load h14) fun _ => .bind (.load h14) fun _ => .pure _) fun _ => .bind (.bind (.load h13) fun _ =>
  .bind (.load h14) fun _ => .bind (.load h14) fun _ => .bind (.load h13) fun _ => .bind (.load h14) fun _ =>
  .bind (.load h14) fun _ => .pure _) fun _ => .bind (.bind (.load h10) fun _ => .bind (.store h10) fun _ =>
  .pure _) fun _ => .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.store h11) fun _ => .bind (.load h11) fun _ => .pure _

theorem keeps_part318 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v174 : IVec S256x256 32} {v175 : IVec S256x256 32} {v203 : BitVec 32} {v226 : BitVec 32} {c1_i32_145 : BitVec 32} {k0_t4 : Fin (k0_t4_loop i).trips}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part318 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v174 v175 v203 v226 c1_i32_145 k0_t4) :=
  .bind (.bind (.load h7) fun _ => .bind (.load h13) fun _ => .bind (.load h14) fun _ => .bind (.load h14) fun _ =>
  .bind (.load h13) fun _ => .bind (.load h14) fun _ => .bind (.load h14) fun _ => .pure _) fun _ =>
  .bind (.bind (.load h13) fun _ => .bind (.load h14) fun _ => .bind (.load h14) fun _ => .bind (.load h13) fun _ =>
  .bind (.load h14) fun _ => .bind (.load h14) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .pure _) fun _ =>
  .bind (.bind (.load h14) fun _ => .bind (.load h13) fun _ => .bind (.load h14) fun _ => .bind (.load h14) fun _ =>
  .bind (.load h10) fun _ => .bind (.store h10) fun _ => .pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h7) fun _ => .bind (.load h13) fun _ => .bind (.load h14) fun _ =>
  .bind (.load h14) fun _ => .bind (.load h13) fun _ => .pure _) fun _ => .bind (.bind (.load h14) fun _ =>
  .bind (.load h14) fun _ => .bind (.load h13) fun _ => .bind (.load h14) fun _ => .bind (.load h14) fun _ =>
  .bind (.load h13) fun _ => .bind (.load h14) fun _ => .pure _) fun _ => .bind (.bind (.load h14) fun _ =>
  .bind (.load h13) fun _ => .bind (.load h14) fun _ => .bind (.load h14) fun _ => .bind (.load h13) fun _ =>
  .bind (.load h14) fun _ => .bind (.load h14) fun _ => .pure _) fun _ => .bind (.bind (.load h13) fun _ =>
  .bind (.load h14) fun _ => .bind (.load h14) fun _ => .bind (.load h13) fun _ => .bind (.load h14) fun _ =>
  .bind (.load h14) fun _ => .pure _) fun _ => .bind (.bind (.load h10) fun _ => .bind (.store h10) fun _ =>
  .pure _) fun _ => .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.store h11) fun _ => .bind (.load h11) fun _ => .pure _

theorem keeps_part576 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v20 : BitVec 32} {v5295 : IVec S1x256 32} {c0_i32_2414 : BitVec 32} {c1_i32_2416 : BitVec 32} {k0_t9 : Fin (k0_t9_loop i).trips} {arg19 : FVec F S1x2048 .f32} {arg20 : FVec F S1x2048 .f32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part576 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v5295 c0_i32_2414 c1_i32_2416 k0_t9 arg19 arg20) :=
  .bind (.bind (.load h10) fun _ => .bind (.load h5) fun _ => .bind (.load h12) fun _ => .bind (.load h17) fun _ =>
  .bind (.store h17) fun _ => .bind (.load h17) fun _ => .bind (.store h17) fun _ => .bind (.load h5) fun _ =>
  .pure _) fun _ => .bind (.bind (.load h12) fun _ => .bind (.load h17) fun _ => .bind (.store h17) fun _ =>
  .bind (.load h17) fun _ => .bind (.store h17) fun _ => .bind (.load h5) fun _ => .bind (.load h12) fun _ =>
  .bind (.load h17) fun _ => .bind (.store h17) fun _ => .bind (.load h17) fun _ => .bind (.store h17) fun _ =>
  .bind (.load h5) fun _ => .bind (.load h12) fun _ => .pure _) fun _ => .bind (.bind (.load h17) fun _ =>
  .bind (.store h17) fun _ => .bind (.load h17) fun _ => .bind (.store h17) fun _ => .bind (.load h6) fun _ =>
  .bind (.load h16) fun _ => .bind (.load h16) fun _ => .bind (.load h15) fun _ => .bind (.load h15) fun _ =>
  .bind (.store h15) fun _ => .pure _) fun _ => .bind (.bind (.load h16) fun _ => .bind (.load h16) fun _ =>
  .bind (.load h15) fun _ => .bind (.load h15) fun _ => .bind (.store h15) fun _ => .bind (.load h16) fun _ =>
  .bind (.load h16) fun _ => .bind (.load h15) fun _ => .pure _) fun _ => .bind (.bind (.load h15) fun _ =>
  .bind (.store h15) fun _ => .bind (.load h16) fun _ => .bind (.load h16) fun _ => .bind (.load h15) fun _ =>
  .bind (.load h15) fun _ => .bind (.store h15) fun _ => .bind (.load h10) fun _ => .pure _) fun _ =>
  .bind (.bind (.load h5) fun _ => .bind (.load h12) fun _ => .bind (.load h16) fun _ => .bind (.store h16) fun _ =>
  .bind (.load h16) fun _ => .bind (.store h16) fun _ => .bind (.load h5) fun _ => .bind (.load h12) fun _ =>
  .bind (.load h16) fun _ => .bind (.store h16) fun _ => .bind (.load h16) fun _ => .bind (.store h16) fun _ =>
  .pure _) fun _ => .bind (.bind (.load h5) fun _ => .bind (.load h12) fun _ => .bind (.load h16) fun _ =>
  .bind (.store h16) fun _ => .bind (.load h16) fun _ => .bind (.store h16) fun _ => .bind (.load h5) fun _ =>
  .bind (.load h12) fun _ => .bind (.load h16) fun _ => .bind (.store h16) fun _ => .bind (.load h16) fun _ =>
  .bind (.store h16) fun _ => .pure _) fun _ => .bind (.bind (.load h6) fun _ => .bind (.load h17) fun _ =>
  .bind (.load h17) fun _ => .bind (.load h15) fun _ => .bind (.load h15) fun _ => .bind (.store h15) fun _ =>
  .bind (.load h17) fun _ => .bind (.load h17) fun _ => .pure _) fun _ => .bind (.bind (.load h15) fun _ =>
  .bind (.load h15) fun _ => .bind (.store h15) fun _ => .bind (.load h17) fun _ => .bind (.load h17) fun _ =>
  .bind (.load h15) fun _ => .bind (.load h15) fun _ => .bind (.store h15) fun _ => .bind (.load h17) fun _ =>
  .bind (.load h17) fun _ => .pure _) fun _ => .bind (.bind (.load h15) fun _ => .bind (.load h15) fun _ =>
  .bind (.store h15) fun _ => .bind (.load h10) fun _ => .bind (.load h5) fun _ => .bind (.load h12) fun _ =>
  .pure _) fun _ => .bind (.bind (.load h17) fun _ => .bind (.store h17) fun _ => .bind (.load h17) fun _ =>
  .bind (.store h17) fun _ => .bind (.load h5) fun _ => .bind (.load h12) fun _ => .bind (.load h17) fun _ =>
  .bind (.store h17) fun _ => .bind (.load h17) fun _ => .bind (.store h17) fun _ => .bind (.load h5) fun _ =>
  .bind (.load h12) fun _ => .pure _) fun _ => .bind (.bind (.load h17) fun _ => .bind (.store h17) fun _ =>
  .bind (.load h17) fun _ => .bind (.store h17) fun _ => .bind (.load h5) fun _ => .bind (.load h12) fun _ =>
  .bind (.load h17) fun _ => .bind (.store h17) fun _ => .bind (.load h17) fun _ => .bind (.store h17) fun _ =>
  .bind (.load h6) fun _ => .bind (.load h16) fun _ => .bind (.load h16) fun _ => .pure _) fun _ =>
  .bind (.bind (.load h15) fun _ => .bind (.load h15) fun _ => .bind (.store h15) fun _ => .bind (.load h16) fun _ =>
  .bind (.load h16) fun _ => .bind (.load h15) fun _ => .bind (.load h15) fun _ => .bind (.store h15) fun _ =>
  .pure _) fun _ => .bind (.bind (.load h16) fun _ => .bind (.load h16) fun _ => .bind (.load h15) fun _ =>
  .bind (.load h15) fun _ => .bind (.store h15) fun _ => .bind (.load h16) fun _ => .bind (.load h16) fun _ =>
  .bind (.load h15) fun _ => .pure _) fun _ => .bind (.bind (.load h15) fun _ => .bind (.store h15) fun _ =>
  .bind (.load h10) fun _ => .bind (.load h5) fun _ => .bind (.load h12) fun _ => .bind (.load h16) fun _ =>
  .bind (.store h16) fun _ => .bind (.load h16) fun _ => .bind (.store h16) fun _ => .pure _) fun _ =>
  .bind (.bind (.load h5) fun _ => .bind (.load h12) fun _ => .bind (.load h16) fun _ => .bind (.store h16) fun _ =>
  .bind (.load h16) fun _ => .bind (.store h16) fun _ => .bind (.load h5) fun _ => .bind (.load h12) fun _ =>
  .bind (.load h16) fun _ => .bind (.store h16) fun _ => .bind (.load h16) fun _ => .bind (.store h16) fun _ =>
  .bind (.load h5) fun _ => .pure _) fun _ => .bind (.bind (.load h12) fun _ => .bind (.load h16) fun _ =>
  .bind (.store h16) fun _ => .bind (.load h16) fun _ => .bind (.store h16) fun _ => .bind (.load h6) fun _ =>
  .bind (.load h17) fun _ => .bind (.load h17) fun _ => .bind (.load h15) fun _ => .pure _) fun _ =>
  .bind (.bind (.load h15) fun _ => .bind (.store h15) fun _ => .bind (.load h17) fun _ => .bind (.load h17) fun _ =>
  .bind (.load h15) fun _ => .bind (.load h15) fun _ => .bind (.store h15) fun _ => .bind (.load h17) fun _ =>
  .bind (.load h17) fun _ => .pure _) fun _ => .bind (.load h15) fun _ => .bind (.load h15) fun _ =>
  .bind (.store h15) fun _ => .bind (.load h17) fun _ => .bind (.load h17) fun _ => .bind (.load h15) fun _ => .pure _

theorem keeps_part595 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v20 : BitVec 32} {v5295 : IVec S1x256 32} {v5435 : BitVec 32} {c1_i32_2417 : BitVec 32} {k0_t10 : Fin (k0_t10_loop i).trips} {arg19 : FVec F S1x2048 .f32} {arg20 : FVec F S1x2048 .f32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part595 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v5295 v5435 c1_i32_2417 k0_t10 arg19 arg20) :=
  .bind (.bind (.load h10) fun _ => .bind (.load h5) fun _ => .bind (.load h12) fun _ => .bind (.load h17) fun _ =>
  .bind (.store h17) fun _ => .bind (.load h17) fun _ => .bind (.store h17) fun _ => .bind (.load h5) fun _ =>
  .pure _) fun _ => .bind (.bind (.load h12) fun _ => .bind (.load h17) fun _ => .bind (.store h17) fun _ =>
  .bind (.load h17) fun _ => .bind (.store h17) fun _ => .bind (.load h5) fun _ => .bind (.load h12) fun _ =>
  .bind (.load h17) fun _ => .bind (.store h17) fun _ => .bind (.load h17) fun _ => .bind (.store h17) fun _ =>
  .bind (.load h5) fun _ => .bind (.load h12) fun _ => .pure _) fun _ => .bind (.bind (.load h17) fun _ =>
  .bind (.store h17) fun _ => .bind (.load h17) fun _ => .bind (.store h17) fun _ => .bind (.load h6) fun _ =>
  .bind (.load h16) fun _ => .bind (.load h16) fun _ => .bind (.load h15) fun _ => .bind (.load h15) fun _ =>
  .bind (.store h15) fun _ => .pure _) fun _ => .bind (.bind (.load h16) fun _ => .bind (.load h16) fun _ =>
  .bind (.load h15) fun _ => .bind (.load h15) fun _ => .bind (.store h15) fun _ => .bind (.load h16) fun _ =>
  .bind (.load h16) fun _ => .bind (.load h15) fun _ => .pure _) fun _ => .bind (.bind (.load h15) fun _ =>
  .bind (.store h15) fun _ => .bind (.load h16) fun _ => .bind (.load h16) fun _ => .bind (.load h15) fun _ =>
  .bind (.load h15) fun _ => .bind (.store h15) fun _ => .bind (.load h10) fun _ => .pure _) fun _ =>
  .bind (.bind (.load h5) fun _ => .bind (.load h12) fun _ => .bind (.load h16) fun _ => .bind (.store h16) fun _ =>
  .bind (.load h16) fun _ => .bind (.store h16) fun _ => .bind (.load h5) fun _ => .bind (.load h12) fun _ =>
  .bind (.load h16) fun _ => .bind (.store h16) fun _ => .bind (.load h16) fun _ => .bind (.store h16) fun _ =>
  .pure _) fun _ => .bind (.bind (.load h5) fun _ => .bind (.load h12) fun _ => .bind (.load h16) fun _ =>
  .bind (.store h16) fun _ => .bind (.load h16) fun _ => .bind (.store h16) fun _ => .bind (.load h5) fun _ =>
  .bind (.load h12) fun _ => .bind (.load h16) fun _ => .bind (.store h16) fun _ => .bind (.load h16) fun _ =>
  .bind (.store h16) fun _ => .pure _) fun _ => .bind (.bind (.load h6) fun _ => .bind (.load h17) fun _ =>
  .bind (.load h17) fun _ => .bind (.load h15) fun _ => .bind (.load h15) fun _ => .bind (.store h15) fun _ =>
  .bind (.load h17) fun _ => .bind (.load h17) fun _ => .pure _) fun _ => .bind (.bind (.load h15) fun _ =>
  .bind (.load h15) fun _ => .bind (.store h15) fun _ => .bind (.load h17) fun _ => .bind (.load h17) fun _ =>
  .bind (.load h15) fun _ => .bind (.load h15) fun _ => .bind (.store h15) fun _ => .bind (.load h17) fun _ =>
  .bind (.load h17) fun _ => .pure _) fun _ => .bind (.bind (.load h15) fun _ => .bind (.load h15) fun _ =>
  .bind (.store h15) fun _ => .bind (.load h10) fun _ => .bind (.load h5) fun _ => .bind (.load h12) fun _ =>
  .pure _) fun _ => .bind (.bind (.load h17) fun _ => .bind (.store h17) fun _ => .bind (.load h17) fun _ =>
  .bind (.store h17) fun _ => .bind (.load h5) fun _ => .bind (.load h12) fun _ => .bind (.load h17) fun _ =>
  .bind (.store h17) fun _ => .bind (.load h17) fun _ => .bind (.store h17) fun _ => .bind (.load h5) fun _ =>
  .bind (.load h12) fun _ => .pure _) fun _ => .bind (.bind (.load h17) fun _ => .bind (.store h17) fun _ =>
  .bind (.load h17) fun _ => .bind (.store h17) fun _ => .bind (.load h5) fun _ => .bind (.load h12) fun _ =>
  .bind (.load h17) fun _ => .bind (.store h17) fun _ => .bind (.load h17) fun _ => .bind (.store h17) fun _ =>
  .bind (.load h6) fun _ => .bind (.load h16) fun _ => .bind (.load h16) fun _ => .pure _) fun _ =>
  .bind (.bind (.load h15) fun _ => .bind (.load h15) fun _ => .bind (.store h15) fun _ => .bind (.load h16) fun _ =>
  .bind (.load h16) fun _ => .bind (.load h15) fun _ => .bind (.load h15) fun _ => .bind (.store h15) fun _ =>
  .pure _) fun _ => .bind (.bind (.load h16) fun _ => .bind (.load h16) fun _ => .bind (.load h15) fun _ =>
  .bind (.load h15) fun _ => .bind (.store h15) fun _ => .bind (.load h16) fun _ => .bind (.load h16) fun _ =>
  .bind (.load h15) fun _ => .pure _) fun _ => .bind (.bind (.load h15) fun _ => .bind (.store h15) fun _ =>
  .bind (.load h10) fun _ => .bind (.load h5) fun _ => .bind (.load h12) fun _ => .bind (.load h16) fun _ =>
  .bind (.store h16) fun _ => .bind (.load h16) fun _ => .bind (.store h16) fun _ => .pure _) fun _ =>
  .bind (.bind (.load h5) fun _ => .bind (.load h12) fun _ => .bind (.load h16) fun _ => .bind (.store h16) fun _ =>
  .bind (.load h16) fun _ => .bind (.store h16) fun _ => .bind (.load h5) fun _ => .bind (.load h12) fun _ =>
  .bind (.load h16) fun _ => .bind (.store h16) fun _ => .bind (.load h16) fun _ => .bind (.store h16) fun _ =>
  .bind (.load h5) fun _ => .pure _) fun _ => .bind (.bind (.load h12) fun _ => .bind (.load h16) fun _ =>
  .bind (.store h16) fun _ => .bind (.load h16) fun _ => .bind (.store h16) fun _ => .bind (.load h6) fun _ =>
  .bind (.load h17) fun _ => .bind (.load h17) fun _ => .bind (.load h15) fun _ => .pure _) fun _ =>
  .bind (.bind (.load h15) fun _ => .bind (.store h15) fun _ => .bind (.load h17) fun _ => .bind (.load h17) fun _ =>
  .bind (.load h15) fun _ => .bind (.load h15) fun _ => .bind (.store h15) fun _ => .bind (.load h17) fun _ =>
  .bind (.load h17) fun _ => .pure _) fun _ => .bind (.load h15) fun _ => .bind (.load h15) fun _ =>
  .bind (.store h15) fun _ => .bind (.load h17) fun _ => .bind (.load h17) fun _ => .bind (.load h15) fun _ => .pure _

theorem keeps_part618 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part618 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) :=
  Keeps.dcond (fun _ =>   .bind (.load h12) fun _ => .bind (.store h12) fun _ => .bind (.load h2) fun _ =>
  .bind (.load h12) fun _ => .bind (.store h12) fun _ => .bind (.load h3) fun _ => .bind (.load h13) fun _ =>
  .pure _) (fun _ =>   .bind (.load h2) fun _ => .bind (.load h12) fun _ => .bind (.store h12) fun _ =>
  .bind (.load h3) fun _ => .bind (.load h13) fun _ => .pure _)

theorem keeps_part623 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {arg1 : BitVec 32} {v20 : BitVec 32} {v106 : FVec F S128x256 .f32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part623 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v20 v106) :=
  .bind (.load h14) fun _ => .bind (.store h14) fun _ => .bind (.load h14) fun _ => .bind (.store h14) fun _ =>
  .bind (.load h14) fun _ => .bind (.store h14) fun _ => .bind (.load h14) fun _ => .bind (.store h14) fun _ =>
  .bind (.load h14) fun _ => .bind (.store h14) fun _ => .bind (.load h14) fun _ => .bind (.store h14) fun _ =>
  Keeps.dcond (fun _ =>   .bind (.load h11) fun _ => .bind (.store h11) fun _ => .pure _) (fun _ =>   .pure _)

theorem keeps_part624 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v20 : BitVec 32} {v174 : IVec S256x256 32} {v175 : IVec S256x256 32} {v179 : BitVec 32} {c4_i32 : BitVec 32} {v180 : BitVec 32} {v181 : BitVec 1}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part624 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v174 v175 v179 c4_i32 v180 v181) :=
  .bind (.loop fun _ _ => .bind (keeps_part106 h2 h3 h4 h5 h6 h7 h8 h9 h10 h11 h12 h13 h14 h15 h16 h17 ) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h7) fun _ =>
  .bind (.load h13) fun _ => .bind (.load h14) fun _ => .bind (.load h14) fun _ => .bind (.load h13) fun _ =>
  .bind (.load h14) fun _ => .bind (.load h14) fun _ => .pure _) fun _ => .bind (.bind (.load h13) fun _ =>
  .bind (.load h14) fun _ => .bind (.load h14) fun _ => .bind (.load h13) fun _ => .bind (.load h14) fun _ =>
  .bind (.load h14) fun _ => .bind (.load h13) fun _ => .pure _) fun _ => .bind (.bind (.load h14) fun _ =>
  .bind (.load h14) fun _ => .bind (.load h13) fun _ => .bind (.load h14) fun _ => .bind (.load h14) fun _ =>
  .bind (.load h13) fun _ => .bind (.load h14) fun _ => .bind (.load h14) fun _ => .pure _) fun _ =>
  .bind (.bind (.load h13) fun _ => .bind (.load h14) fun _ => .bind (.load h14) fun _ => .bind (.load h10) fun _ =>
  .bind (.store h10) fun _ => .pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .pure _) fun _ =>
  .bind (.bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.load h11) fun _ => .bind (.store h11) fun _ => .bind (.load h11) fun _ => .bind (.store h11) fun _ =>
  .pure _) fun _ => .bind (.loop fun _ _ =>
  .bind (keeps_part212 h2 h3 h4 h5 h6 h7 h8 h9 h10 h11 h12 h13 h14 h15 h16 h17 ) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .pure _) fun _ => .bind (.bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .pure _) fun _ => .bind (.bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .pure _) fun _ => .bind (.bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .pure _) fun _ => .bind (.bind (.load h7) fun _ => .bind (.load h13) fun _ =>
  .bind (.load h14) fun _ => .bind (.load h14) fun _ => .bind (.load h13) fun _ => .bind (.load h14) fun _ =>
  .bind (.load h14) fun _ => .pure _) fun _ => .bind (.bind (.load h13) fun _ => .bind (.load h14) fun _ =>
  .bind (.load h14) fun _ => .bind (.load h13) fun _ => .bind (.load h14) fun _ => .bind (.load h14) fun _ =>
  .bind (.load h13) fun _ => .pure _) fun _ => .bind (.bind (.load h14) fun _ => .bind (.load h14) fun _ =>
  .bind (.load h13) fun _ => .bind (.load h14) fun _ => .bind (.load h14) fun _ => .bind (.load h13) fun _ =>
  .bind (.load h14) fun _ => .bind (.load h14) fun _ => .pure _) fun _ => .bind (.bind (.load h13) fun _ =>
  .bind (.load h14) fun _ => .bind (.load h14) fun _ => .bind (.load h10) fun _ => .bind (.store h10) fun _ =>
  .pure _) fun _ => .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .pure _) fun _ => .bind (.bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .pure _) fun _ => .bind (.bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .pure _) fun _ => .bind (.bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .pure _) fun _ => .bind (.load h11) fun _ => .bind (.store h11) fun _ =>
  .bind (.load h11) fun _ => .bind (.store h11) fun _ => .pure _) fun _ => .pure _

theorem keeps_part625 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v20 : BitVec 32} {v174 : IVec S256x256 32} {v175 : IVec S256x256 32} {v203 : BitVec 32} {v205 : BitVec 32} {v219 : BitVec 1} {v220 : BitVec 32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part625 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v174 v175 v203 v205 v219 v220) :=
  .bind (.loop fun _ _ => .bind (keeps_part265 h2 h3 h4 h5 h6 h7 h8 h9 h10 h11 h12 h13 h14 h15 h16 h17 ) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.loop fun _ _ => .bind (keeps_part318 h2 h3 h4 h5 h6 h7 h8 h9 h10 h11 h12 h13 h14 h15 h16 h17 ) fun _ =>
  .bind (.store h11) fun _ => .bind (.load h11) fun _ => .bind (.store h11) fun _ => .bind (.load h11) fun _ =>
  .bind (.store h11) fun _ => .bind (.load h11) fun _ => .bind (.store h11) fun _ => .pure _) fun _ =>
  .bind (.loop fun _ _ => .bind (.bind (.load h7) fun _ => .bind (.load h13) fun _ => .bind (.load h14) fun _ =>
  .bind (.load h14) fun _ => .bind (.load h13) fun _ => .bind (.load h14) fun _ => .bind (.load h14) fun _ =>
  .pure _) fun _ => .bind (.bind (.load h13) fun _ => .bind (.load h14) fun _ => .bind (.load h14) fun _ =>
  .bind (.load h13) fun _ => .bind (.load h14) fun _ => .bind (.load h14) fun _ => .bind (.load h13) fun _ =>
  .pure _) fun _ => .bind (.bind (.load h14) fun _ => .bind (.load h14) fun _ => .bind (.load h13) fun _ =>
  .bind (.load h14) fun _ => .bind (.load h14) fun _ => .bind (.load h13) fun _ => .bind (.load h14) fun _ =>
  .bind (.load h14) fun _ => .pure _) fun _ => .bind (.bind (.load h13) fun _ => .bind (.load h14) fun _ =>
  .bind (.load h14) fun _ => .bind (.load h10) fun _ => .bind (.store h10) fun _ => .pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .pure _) fun _ => .bind (.bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .pure _) fun _ => .bind (.bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .pure _) fun _ => .bind (.bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .pure _) fun _ => .bind (.load h11) fun _ => .bind (.store h11) fun _ =>
  .bind (.load h11) fun _ => .bind (.store h11) fun _ => .pure _) fun _ => .bind (.loop fun _ _ =>
  .bind (.bind (.load h7) fun _ => .bind (.load h13) fun _ => .bind (.load h14) fun _ => .bind (.load h14) fun _ =>
  .bind (.load h13) fun _ => .bind (.load h14) fun _ => .bind (.load h14) fun _ => .pure _) fun _ =>
  .bind (.bind (.load h13) fun _ => .bind (.load h14) fun _ => .bind (.load h14) fun _ => .bind (.load h13) fun _ =>
  .bind (.load h14) fun _ => .bind (.load h14) fun _ => .bind (.load h13) fun _ => .pure _) fun _ =>
  .bind (.bind (.load h14) fun _ => .bind (.load h14) fun _ => .bind (.load h13) fun _ => .bind (.load h14) fun _ =>
  .bind (.load h14) fun _ => .bind (.load h13) fun _ => .bind (.load h14) fun _ => .bind (.load h14) fun _ =>
  .pure _) fun _ => .bind (.bind (.load h13) fun _ => .bind (.load h14) fun _ => .bind (.load h14) fun _ =>
  .bind (.load h10) fun _ => .bind (.store h10) fun _ => .pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .pure _) fun _ => .bind (.bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .pure _) fun _ => .bind (.bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .bind (.store h11) fun _ => .bind (.load h11) fun _ => .bind (.store h11) fun _ => .bind (.load h11) fun _ =>
  .pure _) fun _ => .bind (.bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .bind (.load h11) fun _ => .bind (.store h11) fun _ => .bind (.load h11) fun _ => .bind (.store h11) fun _ =>
  .pure _) fun _ => .bind (.load h11) fun _ => .bind (.store h11) fun _ => .bind (.load h11) fun _ =>
  .bind (.store h11) fun _ => .pure _) fun _ => .bind (.load h5) fun _ => .bind (.load h12) fun _ =>
  .bind (.load h16) fun _ => .bind (.store h16) fun _ => .bind (.load h5) fun _ => .bind (.load h12) fun _ =>
  .bind (.load h16) fun _ => .pure _

theorem keeps_part748 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v20 : BitVec 32} {v175 : IVec S256x256 32} {v5225 : IVec S8x256 32} {v5229 : IVec S8x256 32} {v5233 : IVec S8x256 32} {v5237 : IVec S8x256 32} {v5241 : IVec S8x256 32} {v5245 : IVec S8x256 32} {v5249 : IVec S8x256 32} {v5253 : IVec S8x256 32} {v5257 : IVec S8x256 32} {v5261 : IVec S8x256 32} {v5265 : IVec S8x256 32} {v5269 : IVec S8x256 32} {v5273 : IVec S8x256 32} {v5277 : IVec S8x256 32} {v5281 : IVec S8x256 32} {v5285 : IVec S8x256 32} {v5287 : IVec S1x256 32} {v5291 : IVec S1x256 32} {v5295 : IVec S1x256 32} {v5318 : IVec S8x256 32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part748 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v175 v5225 v5229 v5233 v5237 v5241 v5245 v5249 v5253 v5257 v5261 v5265 v5269 v5273 v5277 v5281 v5285 v5287 v5291 v5295 v5318) :=
  Keeps.cond (.bind (.bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ => .pure _) fun _ =>
  .bind (.bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ => .pure _) fun _ =>
  .bind (.bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ =>
  .bind (.pure _) fun _ => .bind (.pure _) fun _ => .bind (.pure _) fun _ => .bind (.pure _) fun _ => .pure _) fun _ =>
  .bind (.pure _) fun _ => .bind (.pure _) fun _ => .bind (.pure _) fun _ => .bind (.pure _) fun _ =>
  .bind (.loop fun _ _ => .bind (.load h10) fun _ => .bind (.load h10) fun _ => .bind (.store h10) fun _ =>
  .pure _) fun _ => .bind (.loop fun _ _ => .bind (.load h10) fun _ => .bind (.load h10) fun _ =>
  .bind (.store h10) fun _ => .pure _) fun _ => .bind (.load h15) fun _ => .bind (.store h15) fun _ =>
  .bind (.load h10) fun _ => .bind (.load h16) fun _ => .bind (.load h16) fun _ => .pure _) (.bind (.load h15) fun _ =>
  .bind (.store h15) fun _ => .bind (.load h10) fun _ => .bind (.load h16) fun _ => .bind (.load h16) fun _ => .pure _)

theorem keeps_part751 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v20 : BitVec 32} {v5295 : IVec S1x256 32} {v5410 : BitVec 32} {v5411 : FVec F S1x2048 .f32} {v5412 : FVec F S1x2048 .f32} {v5414 : BitVec 32} {v5428 : BitVec 1} {v5429 : BitVec 32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part751 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v20 v5295 v5410 v5411 v5412 v5414 v5428 v5429) :=
  .bind (.loop fun _ _ => .bind (keeps_part576 h2 h3 h4 h5 h6 h7 h8 h9 h10 h11 h12 h13 h14 h15 h16 h17 ) fun _ =>
  .bind (.load h15) fun _ => .bind (.store h15) fun _ => .pure _) fun _ => .bind (.loop fun _ _ =>
  .bind (keeps_part595 h2 h3 h4 h5 h6 h7 h8 h9 h10 h11 h12 h13 h14 h15 h16 h17 ) fun _ => .bind (.load h15) fun _ =>
  .bind (.store h15) fun _ => .pure _) fun _ => .bind (.loop fun _ _ => .bind (.bind (.load h10) fun _ =>
  .bind (.load h5) fun _ => .bind (.load h12) fun _ => .bind (.load h17) fun _ => .bind (.store h17) fun _ =>
  .bind (.load h17) fun _ => .bind (.store h17) fun _ => .bind (.load h5) fun _ => .bind (.load h12) fun _ =>
  .pure _) fun _ => .bind (.bind (.load h17) fun _ => .bind (.store h17) fun _ => .bind (.load h17) fun _ =>
  .bind (.store h17) fun _ => .bind (.load h5) fun _ => .bind (.load h12) fun _ => .bind (.load h17) fun _ =>
  .bind (.store h17) fun _ => .bind (.load h17) fun _ => .bind (.store h17) fun _ => .bind (.load h5) fun _ =>
  .bind (.load h12) fun _ => .bind (.load h17) fun _ => .pure _) fun _ => .bind (.bind (.store h17) fun _ =>
  .bind (.load h17) fun _ => .bind (.store h17) fun _ => .bind (.load h6) fun _ => .bind (.load h16) fun _ =>
  .bind (.load h16) fun _ => .bind (.load h15) fun _ => .bind (.load h15) fun _ => .bind (.store h15) fun _ =>
  .bind (.load h16) fun _ => .bind (.load h16) fun _ => .pure _) fun _ => .bind (.bind (.load h15) fun _ =>
  .bind (.load h15) fun _ => .bind (.store h15) fun _ => .bind (.load h16) fun _ => .bind (.load h16) fun _ =>
  .bind (.load h15) fun _ => .bind (.load h15) fun _ => .pure _) fun _ => .bind (.bind (.store h15) fun _ =>
  .bind (.load h16) fun _ => .bind (.load h16) fun _ => .bind (.load h15) fun _ => .bind (.load h15) fun _ =>
  .bind (.store h15) fun _ => .bind (.load h10) fun _ => .pure _) fun _ => .bind (.bind (.load h5) fun _ =>
  .bind (.load h12) fun _ => .bind (.load h16) fun _ => .bind (.store h16) fun _ => .bind (.load h16) fun _ =>
  .bind (.store h16) fun _ => .bind (.load h5) fun _ => .bind (.load h12) fun _ => .bind (.load h16) fun _ =>
  .bind (.store h16) fun _ => .bind (.load h16) fun _ => .bind (.store h16) fun _ => .bind (.load h5) fun _ =>
  .pure _) fun _ => .bind (.bind (.load h12) fun _ => .bind (.load h16) fun _ => .bind (.store h16) fun _ =>
  .bind (.load h16) fun _ => .bind (.store h16) fun _ => .bind (.load h5) fun _ => .bind (.load h12) fun _ =>
  .bind (.load h16) fun _ => .bind (.store h16) fun _ => .bind (.load h16) fun _ => .bind (.store h16) fun _ =>
  .bind (.load h6) fun _ => .pure _) fun _ => .bind (.bind (.load h17) fun _ => .bind (.load h17) fun _ =>
  .bind (.load h15) fun _ => .bind (.load h15) fun _ => .bind (.store h15) fun _ => .bind (.load h17) fun _ =>
  .bind (.load h17) fun _ => .bind (.load h15) fun _ => .pure _) fun _ => .bind (.bind (.load h15) fun _ =>
  .bind (.store h15) fun _ => .bind (.load h17) fun _ => .bind (.load h17) fun _ => .bind (.load h15) fun _ =>
  .bind (.load h15) fun _ => .bind (.store h15) fun _ => .bind (.load h17) fun _ => .bind (.load h17) fun _ =>
  .pure _) fun _ => .bind (.load h15) fun _ => .bind (.load h15) fun _ => .bind (.store h15) fun _ => .pure _) fun _ =>
  .bind (.loop fun _ _ => .bind (.bind (.load h10) fun _ => .bind (.load h5) fun _ => .bind (.load h12) fun _ =>
  .bind (.load h17) fun _ => .bind (.store h17) fun _ => .bind (.load h17) fun _ => .bind (.store h17) fun _ =>
  .bind (.load h5) fun _ => .bind (.load h12) fun _ => .pure _) fun _ => .bind (.bind (.load h17) fun _ =>
  .bind (.store h17) fun _ => .bind (.load h17) fun _ => .bind (.store h17) fun _ => .bind (.load h5) fun _ =>
  .bind (.load h12) fun _ => .bind (.load h17) fun _ => .bind (.store h17) fun _ => .bind (.load h17) fun _ =>
  .bind (.store h17) fun _ => .bind (.load h5) fun _ => .bind (.load h12) fun _ => .bind (.load h17) fun _ =>
  .pure _) fun _ => .bind (.bind (.store h17) fun _ => .bind (.load h17) fun _ => .bind (.store h17) fun _ =>
  .bind (.load h6) fun _ => .bind (.load h16) fun _ => .bind (.load h16) fun _ => .bind (.load h15) fun _ =>
  .bind (.load h15) fun _ => .bind (.store h15) fun _ => .bind (.load h16) fun _ => .bind (.load h16) fun _ =>
  .pure _) fun _ => .bind (.bind (.load h15) fun _ => .bind (.load h15) fun _ => .bind (.store h15) fun _ =>
  .bind (.load h16) fun _ => .bind (.load h16) fun _ => .bind (.load h15) fun _ => .bind (.load h15) fun _ =>
  .pure _) fun _ => .bind (.bind (.store h15) fun _ => .bind (.load h16) fun _ => .bind (.load h16) fun _ =>
  .bind (.load h15) fun _ => .bind (.load h15) fun _ => .bind (.store h15) fun _ => .bind (.load h10) fun _ =>
  .pure _) fun _ => .bind (.bind (.load h5) fun _ => .bind (.load h12) fun _ => .bind (.load h16) fun _ =>
  .bind (.store h16) fun _ => .bind (.load h16) fun _ => .bind (.store h16) fun _ => .bind (.load h5) fun _ =>
  .bind (.load h12) fun _ => .bind (.load h16) fun _ => .bind (.store h16) fun _ => .bind (.load h16) fun _ =>
  .bind (.store h16) fun _ => .bind (.load h5) fun _ => .pure _) fun _ => .bind (.bind (.load h12) fun _ =>
  .bind (.load h16) fun _ => .bind (.store h16) fun _ => .bind (.load h16) fun _ => .bind (.store h16) fun _ =>
  .bind (.load h5) fun _ => .bind (.load h12) fun _ => .bind (.load h16) fun _ => .bind (.store h16) fun _ =>
  .bind (.load h16) fun _ => .bind (.store h16) fun _ => .bind (.load h6) fun _ => .pure _) fun _ =>
  .bind (.bind (.load h17) fun _ => .bind (.load h17) fun _ => .bind (.load h15) fun _ => .bind (.load h15) fun _ =>
  .bind (.store h15) fun _ => .bind (.load h17) fun _ => .bind (.load h17) fun _ => .bind (.load h15) fun _ =>
  .pure _) fun _ => .bind (.bind (.load h15) fun _ => .bind (.store h15) fun _ => .bind (.load h17) fun _ =>
  .bind (.load h17) fun _ => .bind (.load h15) fun _ => .bind (.load h15) fun _ => .bind (.store h15) fun _ =>
  .bind (.load h17) fun _ => .bind (.load h17) fun _ => .pure _) fun _ => .bind (.load h15) fun _ =>
  .bind (.load h15) fun _ => .bind (.store h15) fun _ => .pure _) fun _ => .bind (.loop fun _ _ =>
  .bind (.bind (.load h6) fun _ => .bind (.load h16) fun _ => .bind (.load h16) fun _ => .bind (.load h15) fun _ =>
  .bind (.load h15) fun _ => .bind (.store h15) fun _ => .bind (.load h16) fun _ => .bind (.load h16) fun _ =>
  .pure _) fun _ => .bind (.bind (.load h15) fun _ => .bind (.load h15) fun _ => .bind (.store h15) fun _ =>
  .bind (.load h16) fun _ => .bind (.load h16) fun _ => .bind (.load h15) fun _ => .bind (.load h15) fun _ =>
  .bind (.store h15) fun _ => .bind (.load h16) fun _ => .pure _) fun _ => .bind (.load h16) fun _ =>
  .bind (.load h15) fun _ => .bind (.load h15) fun _ => .bind (.store h15) fun _ => .pure _) fun _ =>
  .bind (.loop fun _ _ => .bind (.bind (.load h6) fun _ => .bind (.load h16) fun _ => .bind (.load h16) fun _ =>
  .bind (.load h15) fun _ => .bind (.load h15) fun _ => .bind (.store h15) fun _ => .bind (.load h16) fun _ =>
  .bind (.load h16) fun _ => .pure _) fun _ => .bind (.bind (.load h15) fun _ => .bind (.load h15) fun _ =>
  .bind (.store h15) fun _ => .bind (.load h16) fun _ => .bind (.load h16) fun _ => .bind (.load h15) fun _ =>
  .bind (.load h15) fun _ => .bind (.store h15) fun _ => .bind (.load h16) fun _ => .pure _) fun _ =>
  .bind (.load h16) fun _ => .bind (.load h15) fun _ => .bind (.load h15) fun _ => .bind (.store h15) fun _ =>
  .pure _) fun _ => .bind (.load h8) fun _ => .pure _

theorem keeps_part755 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part755 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) :=
  .bind (keeps_part618 h2 h3 h4 h5 h6 h7 h8 h9 h10 h11 h12 h13 h14 h15 h16 h17 ) fun _ =>
  .bind (.bind (.store h13) fun _ => .bind (.load h2) fun _ => .bind (.load h12) fun _ => .bind (.store h12) fun _ =>
  .bind (.load h3) fun _ => .bind (.load h13) fun _ => .bind (.store h13) fun _ => .bind (.load h2) fun _ =>
  .bind (.load h12) fun _ => .bind (.store h12) fun _ => .bind (.load h3) fun _ => .bind (.load h13) fun _ =>
  .bind (.store h13) fun _ => .bind (.load h2) fun _ => .bind (.load h12) fun _ => .pure _) fun _ =>
  .bind (.bind (.store h12) fun _ => .bind (.load h3) fun _ => .bind (.load h13) fun _ => .bind (.store h13) fun _ =>
  .bind (.load h2) fun _ => .bind (.load h12) fun _ => .bind (.store h12) fun _ => .bind (.load h3) fun _ =>
  .bind (.load h13) fun _ => .bind (.store h13) fun _ => .bind (.load h2) fun _ => .bind (.load h12) fun _ =>
  .bind (.store h12) fun _ => .bind (.load h3) fun _ => .bind (.load h13) fun _ => .bind (.store h13) fun _ =>
  .pure _) fun _ => .bind (.bind (.load h2) fun _ => .bind (.load h12) fun _ => .bind (.store h12) fun _ =>
  .bind (.load h3) fun _ => .bind (.load h13) fun _ => .bind (.store h13) fun _ => .bind (.load h2) fun _ =>
  .bind (.load h12) fun _ => .bind (.store h12) fun _ => .bind (.load h3) fun _ => .bind (.load h13) fun _ =>
  .bind (.store h13) fun _ => .bind (.load h4) fun _ => .bind (.load h14) fun _ => .bind (.store h14) fun _ =>
  .pure _) fun _ => .bind (.bind (.load h14) fun _ => .bind (.store h14) fun _ => .bind (.load h14) fun _ =>
  .bind (.store h14) fun _ => .bind (.load h14) fun _ => .bind (.store h14) fun _ => .bind (.load h14) fun _ =>
  .bind (.store h14) fun _ => .bind (.load h14) fun _ => .bind (.store h14) fun _ => .bind (.load h14) fun _ =>
  .bind (.store h14) fun _ => .bind (.load h14) fun _ => .bind (.store h14) fun _ => .bind (.load h14) fun _ =>
  .bind (.store h14) fun _ => .bind (.load h14) fun _ => .bind (.store h14) fun _ => .pure _) fun _ =>
  .bind (keeps_part623 h2 h3 h4 h5 h6 h7 h8 h9 h10 h11 h12 h13 h14 h15 h16 h17 ) fun _ =>
  .bind (keeps_part624 h2 h3 h4 h5 h6 h7 h8 h9 h10 h11 h12 h13 h14 h15 h16 h17 ) fun _ =>
  .bind (keeps_part625 h2 h3 h4 h5 h6 h7 h8 h9 h10 h11 h12 h13 h14 h15 h16 h17 ) fun _ =>
  .bind (.bind (.store h16) fun _ => .bind (.load h5) fun _ => .bind (.load h12) fun _ => .bind (.load h16) fun _ =>
  .bind (.store h16) fun _ => .bind (.load h5) fun _ => .bind (.load h12) fun _ => .bind (.load h16) fun _ =>
  .bind (.store h16) fun _ => .pure _) fun _ => .bind (.pure _) fun _ => .bind (.bind (.load h11) fun _ =>
  .bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .pure _) fun _ => .bind (.pure _) fun _ => .bind (.bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .pure _) fun _ => .bind (.pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.pure _) fun _ => .bind (.bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .bind (.load h11) fun _ => .bind (.load h11) fun _ =>
  .pure _) fun _ => .bind (.pure _) fun _ => .bind (.bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .pure _) fun _ => .bind (.pure _) fun _ => .bind (.bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .bind (.load h11) fun _ => .pure _) fun _ =>
  .bind (.pure _) fun _ => .bind (.bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .pure _) fun _ =>
  .bind (.pure _) fun _ => .bind (.bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .bind (.load h11) fun _ => .pure _) fun _ =>
  .bind (.pure _) fun _ => .bind (.bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .pure _) fun _ =>
  .bind (.pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.pure _) fun _ =>
  .bind (.bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .pure _) fun _ => .bind (.pure _) fun _ =>
  .bind (.bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .pure _) fun _ => .bind (.pure _) fun _ =>
  .bind (.bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .pure _) fun _ => .bind (.bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .pure _

theorem keeps_part756 {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole} {v2280 : IVec S8x256 32} {v2284 : IVec S8x256 32} {v2288 : IVec S8x256 32} {v2292 : IVec S8x256 32} {v2296 : IVec S8x256 32} {v2300 : IVec S8x256 32} {v2304 : IVec S8x256 32} {v2308 : IVec S8x256 32} {v2312 : IVec S8x256 32} {v2316 : IVec S8x256 32} {v2320 : IVec S8x256 32} {v2324 : IVec S8x256 32} {v2328 : IVec S8x256 32} {v2332 : IVec S8x256 32} {v2336 : IVec S8x256 32} {v2340 : IVec S8x256 32} {v2342 : IVec S1x256 32} {v2346 : IVec S1x256 32} {v2349 : IVec S8x256 32} {v2352 : IVec S8x256 32} {v2355 : IVec S8x256 32} {v2358 : IVec S8x256 32} {v2361 : IVec S8x256 32} {v2364 : IVec S8x256 32} {v2367 : IVec S8x256 32} {v2370 : IVec S8x256 32} {v2373 : IVec S8x256 32}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (k0_part756 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2280 v2284 v2288 v2292 v2296 v2300 v2304 v2308 v2312 v2316 v2320 v2324 v2328 v2332 v2336 v2340 v2342 v2346 v2349 v2352 v2355 v2358 v2361 v2364 v2367 v2370 v2373) :=
  .bind (.bind (.load h11) fun _ => .bind (.load h11) fun _ => .bind (.load h11) fun _ => .bind (.load h11) fun _ =>
  .bind (.load h11) fun _ => .bind (.load h11) fun _ => .bind (.load h11) fun _ => .pure _) fun _ =>
  .bind (.pure _) fun _ => .bind (.bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .bind (.load h11) fun _ => .pure _) fun _ =>
  .bind (.pure _) fun _ => .bind (.bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .pure _) fun _ =>
  .bind (.pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.pure _) fun _ =>
  .bind (.bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .pure _) fun _ => .bind (.pure _) fun _ =>
  .bind (.bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .pure _) fun _ => .bind (.pure _) fun _ =>
  .bind (.bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .pure _) fun _ => .bind (.bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .pure _) fun _ => .bind (.pure _) fun _ => .bind (.bind (.load h11) fun _ =>
  .bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .pure _) fun _ => .bind (.pure _) fun _ => .bind (.bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .pure _) fun _ => .bind (.pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.pure _) fun _ => .bind (.bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .pure _) fun _ => .bind (.pure _) fun _ => .bind (.bind (.load h11) fun _ => .bind (.load h11) fun _ =>
  .bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .pure _) fun _ => .bind (.pure _) fun _ => .bind (.bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .pure _) fun _ => .bind (.pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .bind (.load h11) fun _ => .pure _) fun _ =>
  .bind (.bind (.load h11) fun _ => .bind (.load h11) fun _ => .bind (.load h11) fun _ => .bind (.load h11) fun _ =>
  .bind (.load h11) fun _ => .bind (.load h11) fun _ => .bind (.load h11) fun _ => .pure _) fun _ =>
  .bind (.pure _) fun _ => .bind (.bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .bind (.bind (.load h11) fun _ => .bind (.load h11) fun _ =>
  .bind (.load h11) fun _ => .bind (.load h11) fun _ => .bind (.load h11) fun _ => .pure _) fun _ =>
  .bind (.pure _) fun _ => .bind (.bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .pure _

theorem keeps_cc0_dsa {i : grid0.Coords} {arg2 : Memref sig .tc .vmem S1x256x1024 .bf16} {harg2 : arg2.IsWhole} {arg3 : Memref sig .tc .vmem S1x256x1024 .bf16} {harg3 : arg3.IsWhole} {arg4 : Memref sig .tc .vmem S1x256x128 .f32} {harg4 : arg4.IsWhole} {arg5 : Memref sig .tc .vmem S1x4096x1024 .bf16} {harg5 : arg5.IsWhole} {arg6 : Memref sig .tc .vmem S1x16x256x256 .bf16} {harg6 : arg6.IsWhole} {arg7 : Memref sig .tc .vmem S1x16x512x128 .bf16} {harg7 : arg7.IsWhole} {arg8 : Memref sig .tc .vmem S8x128x256 .bf16} {harg8 : arg8.IsWhole} {arg9 : Memref sig .tc .vmem S1x256x1024 .bf16} {harg9 : arg9.IsWhole} {arg10 : Memref sig .tc .vmem S4096x256 .i32} {harg10 : arg10.IsWhole} {arg11 : Memref sig .tc .vmem S16x32x8x256 .i32} {harg11 : arg11.IsWhole} {arg12 : Memref sig .tc .vmem S4x512x256 .bf16} {harg12 : arg12.IsWhole} {arg13 : Memref sig .tc .vmem S2048x128 .bf16} {harg13 : arg13.IsWhole} {arg14 : Memref sig .tc .vmem S8x2048 .f32} {harg14 : arg14.IsWhole} {arg15 : Memref sig .tc .vmem S256x2048 .f32} {harg15 : arg15.IsWhole} {arg16 : Memref sig .tc .vmem S264x2048 .f32} {harg16 : arg16.IsWhole} {arg17 : Memref sig .tc .vmem S264x2048 .f32} {harg17 : arg17.IsWhole}
    (h2 : Lends c R arg2) (h3 : Lends c R arg3) (h4 : Lends c R arg4) (h5 : Lends c R arg5) (h6 : Lends c R arg6) (h7 : Lends c R arg7) (h8 : Lends c R arg8) (h9 : Lends c R arg9) (h10 : Lends c R arg10) (h11 : Lends c R arg11) (h12 : Lends c R arg12) (h13 : Lends c R arg13) (h14 : Lends c R arg14) (h15 : Lends c R arg15) (h16 : Lends c R arg16) (h17 : Lends c R arg17) :
    Keeps c defs₀ Variants.none none E R (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) :=
  .bind (keeps_part755 h2 h3 h4 h5 h6 h7 h8 h9 h10 h11 h12 h13 h14 h15 h16 h17 ) fun _ =>
  .bind (keeps_part756 h2 h3 h4 h5 h6 h7 h8 h9 h10 h11 h12 h13 h14 h15 h16 h17 ) fun _ =>
  .bind (.bind (.load h11) fun _ => .bind (.load h11) fun _ => .pure _) fun _ => .bind (.pure _) fun _ =>
  .bind (.bind (.load h11) fun _ => .bind (.load h11) fun _ => .bind (.load h11) fun _ => .bind (.load h11) fun _ =>
  .bind (.load h11) fun _ => .bind (.load h11) fun _ => .bind (.load h11) fun _ => .bind (.load h11) fun _ =>
  .pure _) fun _ => .bind (.bind (.load h11) fun _ => .bind (.load h11) fun _ => .bind (.load h11) fun _ =>
  .bind (.load h11) fun _ => .bind (.load h11) fun _ => .bind (.load h11) fun _ => .bind (.load h11) fun _ =>
  .bind (.load h11) fun _ => .pure _) fun _ => .bind (.pure _) fun _ => .bind (.bind (.load h11) fun _ =>
  .bind (.load h11) fun _ => .pure _) fun _ => .bind (.bind (.load h11) fun _ => .bind (.load h11) fun _ =>
  .bind (.load h11) fun _ => .bind (.load h11) fun _ => .bind (.load h11) fun _ => .bind (.load h11) fun _ =>
  .bind (.load h11) fun _ => .bind (.load h11) fun _ => .pure _) fun _ => .bind (.bind (.load h11) fun _ =>
  .bind (.load h11) fun _ => .bind (.load h11) fun _ => .bind (.load h11) fun _ => .bind (.load h11) fun _ =>
  .bind (.load h11) fun _ => .pure _) fun _ => .bind (.pure _) fun _ => .bind (.pure _) fun _ =>
  .bind (keeps_part748 h2 h3 h4 h5 h6 h7 h8 h9 h10 h11 h12 h13 h14 h15 h16 h17 ) fun _ =>
  .bind (.bind (.store h16) fun _ => .bind (.load h16) fun _ => .bind (.store h16) fun _ => .bind (.load h16) fun _ =>
  .bind (.load h16) fun _ => .bind (.store h16) fun _ => .bind (.load h16) fun _ => .bind (.store h16) fun _ =>
  .bind (.load h16) fun _ => .bind (.load h16) fun _ => .bind (.store h16) fun _ => .bind (.load h16) fun _ =>
  .bind (.store h16) fun _ => .bind (.load h16) fun _ => .bind (.load h16) fun _ => .bind (.store h16) fun _ =>
  .pure _) fun _ => .bind (.bind (.load h16) fun _ => .bind (.store h16) fun _ => .pure _) fun _ =>
  .bind (keeps_part751 h2 h3 h4 h5 h6 h7 h8 h9 h10 h11 h12 h13 h14 h15 h16 h17 ) fun _ =>
  .bind (.bind (.load h15) fun _ => .bind (.load h9) fun _ => .bind (.store h9) fun _ => .bind (.load h8) fun _ =>
  .bind (.load h15) fun _ => .bind (.load h9) fun _ => .bind (.store h9) fun _ => .bind (.load h8) fun _ =>
  .bind (.load h15) fun _ => .pure _) fun _ => .bind (.bind (.load h9) fun _ => .bind (.store h9) fun _ =>
  .bind (.load h8) fun _ => .bind (.load h15) fun _ => .bind (.load h9) fun _ => .bind (.store h9) fun _ =>
  .bind (.load h8) fun _ => .bind (.load h15) fun _ => .bind (.load h9) fun _ => .pure _) fun _ =>
  .bind (.bind (.store h9) fun _ => .bind (.load h8) fun _ => .bind (.load h15) fun _ => .bind (.load h9) fun _ =>
  .bind (.store h9) fun _ => .bind (.load h8) fun _ => .bind (.load h15) fun _ => .bind (.load h9) fun _ =>
  .bind (.store h9) fun _ => .bind (.load h8) fun _ => .bind (.load h15) fun _ => .pure _) fun _ =>
  .bind (.load h9) fun _ => .bind (.store h9) fun _ => .pure _

end Cert.Proof

end
-- ==== Proof.Run.lean ====
/- The launch: at each grid point the body owns the eight staging buffers and the eight scratch buffers whole, so it
   runs to its end (`Keeps`); the pipeline writes none of the argument arrays. Any float semantics. -/
module

public import proofs.«01_k».proof.Proof.Body
public import proofs.«01_k».proof.Proof.Gen.Kernel.Frame

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Cfg Window)
open Cert.Kernel Cert.Kernel.Gen

variable {F : FTy → Type} [BitOps F]

local notation "𝕄" => MT nD τ sig Unit (Elt F) ℕ (UR sig nD τ) ℕ

/-- Everything the body may touch at point `t`: the windows' staging buffers and the scratch, at some contents. -/
def held (c : Dev nD) (t : Fin cfg0.N) : sProp 𝕄 :=
  iprop((∃ X, owns (c.tc : Thread nD τ) (st0_0 t) fullShare X) ∗ (∃ X, owns (c.tc : Thread nD τ) (st0_1 t) fullShare X)
    ∗ (∃ X, owns (c.tc : Thread nD τ) (st0_2 t) fullShare X) ∗ (∃ X, owns (c.tc : Thread nD τ) (st0_3 t) fullShare X)
    ∗ (∃ X, owns (c.tc : Thread nD τ) (st0_4 t) fullShare X) ∗ (∃ X, owns (c.tc : Thread nD τ) (st0_5 t) fullShare X)
    ∗ (∃ X, owns (c.tc : Thread nD τ) (st0_6 t) fullShare X) ∗ (∃ X, owns (c.tc : Thread nD τ) (st0_7 t) fullShare X)
    ∗ (∃ f : Buf (Elt F) ((c.tc : Thread nD τ).loc cc0_scratch0), ((c.tc : Thread nD τ).loc cc0_scratch0) ↦{fullShare} f)
    ∗ (∃ f : Buf (Elt F) ((c.tc : Thread nD τ).loc cc0_scratch1), ((c.tc : Thread nD τ).loc cc0_scratch1) ↦{fullShare} f)
    ∗ (∃ f : Buf (Elt F) ((c.tc : Thread nD τ).loc cc0_scratch2), ((c.tc : Thread nD τ).loc cc0_scratch2) ↦{fullShare} f)
    ∗ (∃ f : Buf (Elt F) ((c.tc : Thread nD τ).loc cc0_scratch3), ((c.tc : Thread nD τ).loc cc0_scratch3) ↦{fullShare} f)
    ∗ (∃ f : Buf (Elt F) ((c.tc : Thread nD τ).loc cc0_scratch4), ((c.tc : Thread nD τ).loc cc0_scratch4) ↦{fullShare} f)
    ∗ (∃ f : Buf (Elt F) ((c.tc : Thread nD τ).loc cc0_scratch5), ((c.tc : Thread nD τ).loc cc0_scratch5) ↦{fullShare} f)
    ∗ (∃ f : Buf (Elt F) ((c.tc : Thread nD τ).loc cc0_scratch6), ((c.tc : Thread nD τ).loc cc0_scratch6) ↦{fullShare} f)
    ∗ (∃ f : Buf (Elt F) ((c.tc : Thread nD τ).loc cc0_scratch7), ((c.tc : Thread nD τ).loc cc0_scratch7) ↦{fullShare} f))

theorem keeps_body (c : Dev nD) (t : Fin cfg0.N) :
    Keeps c (defs₀ (F := F)) Variants.none none Set.univ (held c t) (bodyAt0 t) :=
  keeps_cc0_dsa
    (.left _ (.owned _ (stage_whole0 0 _)))
    (.right _ (.left _ (.owned _ (stage_whole0 1 _))))
    (.right _ (.right _ (.left _ (.owned _ (stage_whole0 2 _)))))
    (.right _ (.right _ (.right _ (.left _ (.owned _ (stage_whole0 3 _))))))
    (.right _ (.right _ (.right _ (.right _ (.left _ (.owned _ (stage_whole0 4 _)))))))
    (.right _ (.right _ (.right _ (.right _ (.right _ (.left _ (.owned _ (stage_whole0 5 _))))))))
    (.right _ (.right _ (.right _ (.right _ (.right _ (.right _ (.left _ (.owned _ (stage_whole0 6 _)))))))))
    (.right _ (.right _ (.right _ (.right _ (.right _ (.right _ (.right _ (.left _ (.owned _ (stage_whole0 7 _))))))))))
    (.right _ (.right _ (.right _ (.right _ (.right _ (.right _ (.right _ (.right _ (.left _ (.points _ _))))))))))
    (.right _ (.right _ (.right _ (.right _ (.right _ (.right _ (.right _ (.right _ (.right _ (.left _ (.points _ _)))))))))))
    (.right _ (.right _ (.right _ (.right _ (.right _ (.right _ (.right _ (.right _ (.right _ (.right _ (.left _ (.points _ _))))))))))))
    (.right _ (.right _ (.right _ (.right _ (.right _ (.right _ (.right _ (.right _ (.right _ (.right _ (.right _ (.left _ (.points _ _)))))))))))))
    (.right _ (.right _ (.right _ (.right _ (.right _ (.right _ (.right _ (.right _ (.right _ (.right _ (.right _ (.right _ (.left _ (.points _ _))))))))))))))
    (.right _ (.right _ (.right _ (.right _ (.right _ (.right _ (.right _ (.right _ (.right _ (.right _ (.right _ (.right _ (.right _ (.left _ (.points _ _)))))))))))))))
    (.right _ (.right _ (.right _ (.right _ (.right _ (.right _ (.right _ (.right _ (.right _ (.right _ (.right _ (.right _ (.right _ (.right _ (.left _ (.points _ _))))))))))))))))
    (.right _ (.right _ (.right _ (.right _ (.right _ (.right _ (.right _ (.right _ (.right _ (.right _ (.right _ (.right _ (.right _ (.right _ (.right _ (.points _ _))))))))))))))))

/-- The run's data: the arrays as launched, anything left in a staging buffer, the scratch at anything. -/
def rdat (m : (ℓ : Loc nD τ sig) → Buf (Elt F) ℓ) (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

theorem body_obligation (m : (ℓ : Loc nD τ sig) → Buf (Elt F) ℓ) (c : Dev nD) :
    (rdat m c).BodyObligation (defs₀ (F := F)) Variants.none () Set.univ := by
  intro t Y _
  have hb := keeps_body (F := F) c t
  unfold Keeps at hb
  rw [bigSep_W0]
  simp only [bigSep_W0]
  unfold rdat Pipeline.RDat.owesAt Pipeline.owesWithin Pipeline.ΦA
  simp only [scopedRest0_eq]
  iintro ⟨⟨⟨S0, S1, S2, S3, S4, S5, S6, S7⟩, HP⟩, HO, H0, H1, H2, H3, H4, H5, H6, H7⟩
  iapply (wp_wand_r Idealize.ShloMosaic.frame (wpE (defs₀ (F := F)) Variants.none (c.tc : Thread nD τ) none) Set.univ (p := bodyAt0 t)
    (Q := fun _ => held c t))
  isplitl [S0 S1 S2 S3 S4 S5 S6 S7 H0 H1 H2 H3 H4 H5 H6 H7]
  · iapply hb
    unfold held
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %_ H
  unfold held
  icases H with ⟨⟨%X0, H0⟩, ⟨%X1, H1⟩, ⟨%X2, H2⟩, ⟨%X3, H3⟩, ⟨%X4, H4⟩, ⟨%X5, H5⟩, ⟨%X6, H6⟩, ⟨%X7, H7⟩, S0, S1, S2, S3, S4, S5, S6, S7⟩
  isplitl [S0 S1 S2 S3 S4 S5 S6 S7 HP]
  · isplitr [HP]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact HP
  isplitl [HO]; · iexact HO
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  isplitl [H4]; · iexists X4; isplitr; · ipureintro; trivial
                  iexact H4
  isplitl [H5]; · iexists X5; isplitr; · ipureintro; trivial
                  iexact H5
  isplitl [H6]; · iexists X6; isplitr; · ipureintro; trivial
                  iexact H6
  iexists X7; isplitr; · ipureintro; trivial
  iexact H7

/-- From any memory with every counter at zero: every execution ends, each argument array holds what it held, and
    every counter is zero again. -/
theorem run (m : (ℓ : Loc nD τ sig) → Buf (Elt F) ℓ) (g : Dev nD → PrngReg) :
    θ_run (Cert.Kernel.defs (F := F)) (onTc (τ := τ) (Cert.Kernel.main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.RDat.θ_run_frame cfgs 0 launch0 defs₀ Variants.none (rdat m) m g main (fun c => body_obligation m c)
    (fun c w => ?_) (fun _ _ => rfl) (V m) (hmain m Variants.none) (fun _ _ => rfl) (fun _ _ => rfl) _ ?_
  · unfold Pipeline.RDat.share; split <;> rfl
  · rintro r ⟨h, hs⟩
    exact ⟨fun c => ⟨h.arr_in c 0 rfl, h.arr_in c 1 rfl, h.arr_in c 2 rfl, h.arr_in c 3 rfl, h.arr_in c 4 rfl,
      h.arr_in c 5 rfl, h.arr_in c 6 rfl⟩, hs⟩

end Cert.Proof

end
-- ==== Proof.FfnSpec.lean ====
/- The gated feed-forward layer with its causal convolution and the two normalisations around it, as plain functions of
   whole-number coordinates. Both programs are compared with these. -/
module

public import Idealize.ShloMosaic.PureOps.Ideal.Laws
public import Idealize.ShloMosaic.Lib.Pointwise

@[expose] public section

noncomputable section

namespace Cert.Ffn

open Idealize.ShloMosaic

/-! ### Arrays read at whole numbers -/

/-- A vector at a coordinate, zero off its end. -/
def at1 {n0 : ℕ} (v : (⟨1, ![n0]⟩ : Shape).Idx → EReal) (a : ℕ) : EReal :=
  if h : a < n0 then v (ix1 ⟨a, h⟩) else 0

/-- A matrix at two coordinates, zero off its edges. -/
def at2 {n0 n1 : ℕ} (v : (⟨2, ![n0, n1]⟩ : Shape).Idx → EReal) (a b : ℕ) : EReal :=
  if h : a < n0 ∧ b < n1 then v (ix2 ⟨a, h.1⟩ ⟨b, h.2⟩) else 0

/-- An array of rank three at its coordinates, zero off its edges. -/
def at3 {n0 n1 n2 : ℕ} (v : (⟨3, ![n0, n1, n2]⟩ : Shape).Idx → EReal) (a b c : ℕ) : EReal :=
  if h : a < n0 ∧ b < n1 ∧ c < n2 then v (ix3 ⟨a, h.1⟩ ⟨b, h.2.1⟩ ⟨c, h.2.2⟩) else 0

theorem eq_at1 {n0 : ℕ} (v : (⟨1, ![n0]⟩ : Shape).Idx → EReal) (i : (⟨1, ![n0]⟩ : Shape).Idx) {a : ℕ}
    (ha : (i 0).val = a) : v i = at1 v a := by
  subst ha
  rw [at1, dif_pos (show (i 0).val < n0 from (i 0).isLt)]
  exact congrArg v (funext fun k => Fin.ext (by match k with | ⟨0, _⟩ => rfl))

theorem eq_at2 {n0 n1 : ℕ} (v : (⟨2, ![n0, n1]⟩ : Shape).Idx → EReal) (i : (⟨2, ![n0, n1]⟩ : Shape).Idx) {a b : ℕ}
    (ha : (i 0).val = a) (hb : (i 1).val = b) : v i = at2 v a b := by
  subst ha hb
  rw [at2, dif_pos ⟨(i 0).isLt, (i 1).isLt⟩]
  exact congrArg v (funext fun k => Fin.ext (by match k with | ⟨0, _⟩ => rfl | ⟨1, _⟩ => rfl))

theorem eq_at3 {n0 n1 n2 : ℕ} (v : (⟨3, ![n0, n1, n2]⟩ : Shape).Idx → EReal) (i : (⟨3, ![n0, n1, n2]⟩ : Shape).Idx)
    {a b c : ℕ} (ha : (i 0).val = a) (hb : (i 1).val = b) (hc : (i 2).val = c) : v i = at3 v a b c := by
  subst ha hb hc
  rw [at3, dif_pos ⟨(i 0).isLt, (i 1).isLt, (i 2).isLt⟩]
  exact congrArg v (funext fun k => Fin.ext (by match k with | ⟨0, _⟩ => rfl | ⟨1, _⟩ => rfl | ⟨2, _⟩ => rfl))

/-! ### The layer -/

/-- The layer's operands: the rows, the first scale, the widening matrix, the three taps and their bias, the narrowing
    matrix, the last scale. -/
structure Inp where
  x : ℕ → ℕ → ℕ → EReal
  g : ℕ → EReal
  wu : ℕ → ℕ → EReal
  cw : ℕ → ℕ → EReal
  cb : ℕ → EReal
  wd : ℕ → ℕ → EReal
  gf : ℕ → EReal

/-- The operands taken from the seven argument arrays. -/
def Inp.of (x0 : (⟨3, ![8, 4096, 1024]⟩ : Shape).Idx → EReal) (x1 : (⟨1, ![1024]⟩ : Shape).Idx → EReal)
    (x2 : (⟨2, ![1024, 5632]⟩ : Shape).Idx → EReal) (x3 : (⟨2, ![3, 2816]⟩ : Shape).Idx → EReal)
    (x4 : (⟨1, ![2816]⟩ : Shape).Idx → EReal) (x5 : (⟨2, ![2816, 1024]⟩ : Shape).Idx → EReal)
    (x6 : (⟨1, ![1024]⟩ : Shape).Idx → EReal) : Inp :=
  ⟨at3 x0, at1 x1, at2 x2, at2 x3, at1 x4, at2 x5, at1 x6⟩

/-- One over the root of a row's mean square (with the small constant under the root). -/
def inv (v : ℕ → EReal) : EReal :=
  Ideal.rsqrt (Ideal.div (∑ k : Fin 1024, v k.val * v k.val) (Ideal.ofBits .f32 0x44800000#32)
    + Ideal.ofBits .f32 0x358637BD#32)

/-- A row brought to unit mean square and scaled. -/
def norm (v s : ℕ → EReal) (d : ℕ) : EReal := v d * inv v * s d

/-- The widened row `r` of batch `b`, at column `f` of both halves together. -/
def up (p : Inp) (b r f : ℕ) : EReal := ∑ k : Fin 1024, norm (p.x b r) p.g k.val * p.wu k.val f

/-- The first half, `j` rows earlier: zero before the first row. -/
def back (p : Inp) (b r j f : ℕ) : EReal := if r < j then 0 else up p b (r - j) f

/-- The convolution over the row and the two before it. -/
def conv (p : Inp) (b r f : ℕ) : EReal :=
  p.cw 0 f * back p b r 2 f + p.cw 1 f * back p b r 1 f + p.cw 2 f * back p b r 0 f + p.cb f

/-- The gate: the convolution through `v / (1 + exp (-v))`, times the second half. -/
def gate (p : Inp) (b r f : ℕ) : EReal :=
  Ideal.div (conv p b r f) (1 + Ideal.exp (-conv p b r f)) * up p b r (2816 + f)

/-- The row with the narrowed gate added. -/
def mix (p : Inp) (b r d : ℕ) : EReal := p.x b r d + ∑ k : Fin 2816, gate p b r k.val * p.wd k.val d

/-- What the layer returns. -/
def out (p : Inp) (b r d : ℕ) : EReal := norm (mix p b r) p.gf d

/-! ### Small facts -/

theorem back_zero (p : Inp) (b r f : ℕ) : back p b r 0 f = up p b r f := by simp [back]

/-- The pattern of one denotes one. -/
theorem ofBits_one : Ideal.ofBits .f32 0x3F800000#32 = 1 := by
  have h : ((8388608 : ℝ) : EReal) * (((2 ^ 23 : ℝ)⁻¹ : ℝ) : EReal) = 1 := by
    rw [← EReal.coe_mul]; norm_num
  simpa [Ideal.ofBits, Ideal.ieee] using h

/-- `exp` is nowhere negative. -/
theorem exp_nonneg (v : EReal) : 0 ≤ Ideal.exp v := by
  induction v with
  | bot => exact le_refl (0 : EReal)
  | top => exact (le_top : (0 : EReal) ≤ ⊤)
  | coe r => exact EReal.coe_nonneg.mpr (Real.exp_pos r).le

/-- Dividing by `1 + exp w` is multiplying by one over it. -/
theorem mul_one_div (v w : EReal) : v * Ideal.div 1 (1 + Ideal.exp w) = Ideal.div v (1 + Ideal.exp w) := by
  have h : (1 : EReal) + Ideal.exp w ≠ 0 := by
    have h1 : (1 : EReal) + 0 ≤ 1 + Ideal.exp w := by gcongr; exact exp_nonneg w
    rw [add_zero] at h1
    exact (lt_of_lt_of_le (by exact_mod_cast one_pos) h1).ne'
  simp only [Ideal.div, if_neg h, one_mul]

/-- Eleven stretches of 256 summed one after the other are the sum over all 2816. -/
theorem sum_stretches (v : EReal) (h : ℕ → EReal) :
    v + (∑ k : Fin 256, h (0 + k.val)) + (∑ k : Fin 256, h (256 + k.val)) + (∑ k : Fin 256, h (512 + k.val))
      + (∑ k : Fin 256, h (768 + k.val)) + (∑ k : Fin 256, h (1024 + k.val)) + (∑ k : Fin 256, h (1280 + k.val))
      + (∑ k : Fin 256, h (1536 + k.val)) + (∑ k : Fin 256, h (1792 + k.val)) + (∑ k : Fin 256, h (2048 + k.val))
      + (∑ k : Fin 256, h (2304 + k.val)) + (∑ k : Fin 256, h (2560 + k.val))
    = v + ∑ k : Fin 2816, h k.val := by
  have e : ∀ n : ℕ, ∑ k ∈ Finset.range (n + 256), h k = ∑ k ∈ Finset.range n, h k + ∑ k : Fin 256, h (n + k.val) := fun n => by
    rw [Finset.sum_range_add, Finset.sum_range (fun k => h (n + k))]
  rw [← Finset.sum_range (fun k => h k)]
  rw [show (2816 : ℕ) = 0 + 256 + 256 + 256 + 256 + 256 + 256 + 256 + 256 + 256 + 256 + 256 from rfl]
  simp only [e]
  simp only [Finset.range_zero, Finset.sum_empty, zero_add, add_assoc]

end Cert.Ffn

end
-- ==== Proof.FfnRef.lean ====
/- The reference at an index: its operations read one after the other give the layer of FfnSpec. -/
module

public import proofs.«01_k».proof.Proof.FfnSpec
public import proofs.«01_k».proof.Proof.Gen.Reference2Ideal.Read
public import Idealize.ShloMosaic.Lib.KernelVsHost

@[expose] public section

set_option maxRecDepth 16384

noncomputable section

namespace Cert.Ffn.Ref

open Cert.Reference2Ideal Cert.Reference2Ideal.Gen Cert.Reference2Ideal.Read Idealize.ShloMosaic Cert.Ffn

variable (x0 : FVec Ideal S8x4096x1024 .f32) (x1 : FVec Ideal S1024 .f32) (x2 : FVec Ideal S1024x5632 .f32)
  (x3 : FVec Ideal S3x2816 .f32) (x4 : FVec Ideal S2816 .f32) (x5 : FVec Ideal S2816x1024 .f32) (x6 : FVec Ideal S1024 .f32)

/-- The normalised rows. -/
theorem norm_eq (i : S8x4096x1024.Idx) : val_main_v12 (F := Ideal) x0 x1 i
    = norm (at3 x0 (i 0).val (i 1).val) (at1 x1) (i 2).val := by
  simp only [val_main_v12_apply, val_main_v9_apply, val_main_v8_apply, val_main_v7_apply, val_main_v6_apply,
    val_main_v5_apply, val_main_v4_apply, val_main_v3_apply, val_main_v2_apply, val_main_v1_apply, val_main_v0_apply,
    val_main_v11_apply, val_main_v10_apply, val_main_cst_apply, val_main_cst_0_apply, val_main_cst_1_apply,
    Ideal.mulf_def, Ideal.addf_def, Ideal.hostDivf_def, Ideal.hostUnary_rsqrt_def, Ideal.ofBits_def,
    Ideal.ofBits_zero_f32, zero_add]
  simp only [norm, inv, fun j => eq_at3 x0 j rfl rfl rfl, fun j => eq_at1 x1 j rfl]

/-- The widened rows. -/
theorem up_eq (i : S8x4096x5632.Idx) : val_main_v13 (F := Ideal) x0 x1 x2 i
    = up (Inp.of x0 x1 x2 x3 x4 x5 x6) (i 0).val (i 1).val (i 2).val := by
  rw [val_main_v13_apply, up]
  refine Finset.sum_congr rfl fun k _ => ?_
  rw [norm_eq, eq_at2 x2 _ rfl rfl]
  rfl

/-- The first half with two rows of zeros before it. -/
theorem pad_eq (i : S8x4098x2816.Idx) : val_main_v16 (F := Ideal) x0 x1 x2 i
    = if (i 1).val < 2 then 0 else up (Inp.of x0 x1 x2 x3 x4 x5 x6) (i 0).val ((i 1).val - 2) (i 2).val := by
  have h1 : (i 1).val < 4098 := (i 1).isLt
  unfold val_main_v16
  by_cases h : (i 1).val < 2
  · rw [if_pos h, pad_apply_of_not_inside (a := 1)]
    · rw [val_main_call0_v0_apply, val_main_c_apply]
      simp [FloatOps.sitofp]
    · intro hin
      have : 2 ≤ (i 1).val := hin.1
      omega
  · rw [if_neg h, pad_apply_of_inside (k := (fun a => match a with
      | ⟨0, _⟩ => ⟨(i 0).val, (i 0).isLt⟩
      | ⟨1, _⟩ => ⟨(i 1).val - 2, by show (i 1).val - 2 < 4096; omega⟩
      | ⟨2, _⟩ => ⟨(i 2).val, (i 2).isLt⟩ : S8x4096x2816.Idx))]
    · rw [val_main_v14_apply, up_eq x0 x1 x2 x3 x4 x5 x6]
    · intro a
      match a with
      | ⟨0, _⟩ => show (i 0).val = 0 + (i 0).val * (0 + 1); omega
      | ⟨1, _⟩ => show (i 1).val = 2 + ((i 1).val - 2) * (0 + 1); omega
      | ⟨2, _⟩ => show (i 2).val = 0 + (i 2).val * (0 + 1); omega

/-- The convolution. -/
theorem conv_eq (i : S8x4096x2816.Idx) : val_main_v41 (F := Ideal) x0 x1 x2 x3 x4 i
    = conv (Inp.of x0 x1 x2 x3 x4 x5 x6) (i 0).val (i 1).val (i 2).val := by
  have h2 : (i 2).val < 2816 := (i 2).isLt
  simp only [val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_cst_2_apply, pad_eq x0 x1 x2 x3 x4 x5 x6,
    Ideal.mulf_def, Ideal.addf_def, Ideal.ofBits_def, Ideal.ofBits_zero_f32, zero_add]
  rw [eq_at2 x3 _ (a := 0) (b := (i 2).val) rfl (Nat.mod_eq_of_lt h2), eq_at2 x3 _ (a := 1) (b := (i 2).val) rfl (Nat.mod_eq_of_lt h2),
    eq_at2 x3 _ (a := 2) (b := (i 2).val) rfl (Nat.mod_eq_of_lt h2), eq_at1 x4 _ (a := (i 2).val) rfl, conv]
  have e2 : ∀ j : ℕ, j ≤ 2 → (if j + (i 1).val < 2 then (0 : EReal) else up (Inp.of x0 x1 x2 x3 x4 x5 x6) (i 0).val (j + (i 1).val - 2) (i 2).val)
      = back (Inp.of x0 x1 x2 x3 x4 x5 x6) (i 0).val (i 1).val (2 - j) (i 2).val := fun j hj => by
    rw [back]
    by_cases h : j + (i 1).val < 2
    · rw [if_pos h, if_pos (by omega)]
    · rw [if_neg h, if_neg (by omega), show j + (i 1).val - 2 = (i 1).val - (2 - j) by omega]
  have e := e2 0 (by omega)
  rw [zero_add] at e
  rw [← e2 1 (by omega), ← e2 2 (by omega)]
  exact congrArg₂ _ (congrArg₂ _ (congrArg₂ _ (congrArg₂ _ rfl e) rfl) rfl) rfl

/-- The gate. -/
theorem gate_eq (i : S8x4096x2816.Idx) : val_main_v43 (F := Ideal) x0 x1 x2 x3 x4 i
    = gate (Inp.of x0 x1 x2 x3 x4 x5 x6) (i 0).val (i 1).val (i 2).val := by
  simp only [val_main_v43_apply, val_main_v42_apply, val_main_call1_v5_apply, val_main_call1_v4_apply, val_main_call1_v3_apply,
    val_main_call1_v2_apply, val_main_call1_v1_apply, val_main_call1_v0_apply, val_main_call1_cst_apply,
    val_main_call1_cst_0_apply, val_main_v15_apply, conv_eq x0 x1 x2 x3 x4 x5 x6, up_eq x0 x1 x2 x3 x4 x5 x6,
    Ideal.mulf_def, Ideal.addf_def, Ideal.hostDivf_def, Ideal.hostUnary_exp_def, Ideal.hostNegf_def, Ideal.ofBits_def, ofBits_one, mul_one_div]
  rfl

/-- The row with the narrowed gate added. -/
theorem mix_eq (i : S8x4096x1024.Idx) : val_main_v45 (F := Ideal) x0 x1 x2 x3 x4 x5 i
    = mix (Inp.of x0 x1 x2 x3 x4 x5 x6) (i 0).val (i 1).val (i 2).val := by
  rw [val_main_v45_apply, val_main_v44_apply, mix, Ideal.addf_def, eq_at3 x0 i rfl rfl rfl]
  refine congrArg₂ _ rfl (Finset.sum_congr rfl fun k _ => ?_)
  rw [gate_eq x0 x1 x2 x3 x4 x5 x6, eq_at2 x5 _ rfl rfl]
  rfl

/-- The reference's result. -/
theorem out_eq (i : S8x4096x1024.Idx) : val_main_v58 (F := Ideal) x0 x1 x2 x3 x4 x5 x6 i
    = out (Inp.of x0 x1 x2 x3 x4 x5 x6) (i 0).val (i 1).val (i 2).val := by
  simp only [val_main_v58_apply, val_main_v57_apply, val_main_v56_apply, val_main_v55_apply, val_main_v54_apply,
    val_main_v53_apply, val_main_v52_apply, val_main_v51_apply, val_main_v50_apply, val_main_v49_apply, val_main_v48_apply,
    val_main_v47_apply, val_main_v46_apply, val_main_cst_3_apply, val_main_cst_4_apply, val_main_cst_5_apply,
    mix_eq x0 x1 x2 x3 x4 x5 x6,
    Ideal.mulf_def, Ideal.addf_def, Ideal.hostDivf_def, Ideal.hostUnary_rsqrt_def, Ideal.ofBits_def,
    Ideal.ofBits_zero_f32, zero_add]
  rw [eq_at1 x6 _ rfl]
  rfl

end Cert.Ffn.Ref

end
-- ==== Proof.FfnChunk.lean ====
/- One stretch of 256 columns of the kernel's body, named once, and read at an index. -/
module

public import proofs.«01_k».proof.Proof.FfnSpec
public import proofs.«01_k».proof.Proof.Gen.Kernel2Ideal.Skeleton
public import Idealize.ShloMosaic.Lib.Pipeline.ValueKit

@[expose] public section

set_option maxRecDepth 16384

noncomputable section

namespace Cert.Kernel2Ideal.Layer

open Cert.Kernel2Ideal Cert.Kernel2Ideal.Gen Idealize.ShloMosaic Idealize.ShloMosaic.TcCoe Idealize.SL.Sem Cert.Ffn

/-- The number of its row, at each place of a 256 by 256 block. -/
def rowNo : IVec S256x256 32 := iota Kind.tc S256x256 32 [0] iota_S256x256_d0_w32

/-- The block one row later, its first row the last of `q`. -/
def later (a : FVec Ideal S256x256 .f32) (q : FVec Ideal S8x256 .f32) : FVec Ideal S256x256 .f32 :=
  select (cmpi .eq rowNo (broadcast S256x256 0#32))
    (broadcastTo S256x256 (shapeCast S1x256 (k0_pay14 q) shapeCasts_S1x256_S1x256) broadcasts_S1x256_S256x256)
    (dynamicRotate 0 1#32 none a rotates_S256x256_d0)

/-- A stretch: the sum so far with the narrowed gate of these 256 columns added. -/
def stretch (acc : FVec Ideal S256x1024 .f32) (a b : FVec Ideal S256x256 .f32) (q : FVec Ideal S8x256 .f32)
    (cw : FVec Ideal S8x256 .f32) (cb : FVec Ideal S1x256 .f32) (wd : FVec Ideal S256x1024 .bf16) : FVec Ideal S256x1024 .f32 :=
  k0_pay17 rowNo acc a b (k0_pay14 q) (k0_pay15 q) (later a q) cw cb wd

theorem pick (r n : ℕ) (hr : r < 256) (hn : n < 256) (x y : EReal) :
    Scalar.select (IntOp.cmpi CmpIPredicate.eq (BitVec.ofNat 32 r) (BitVec.ofNat 32 n)) x y = if r = n then x else y := by
  have e : (BitVec.ofNat 32 r = BitVec.ofNat 32 n) ↔ r = n := by
    rw [← BitVec.toNat_inj, BitVec.toNat_ofNat, BitVec.toNat_ofNat]
    omega
  by_cases h : r = n
  · simp [Scalar.select, IntOp.cmpi, h]
  · have f : (BitVec.ofNat 32 r == BitVec.ofNat 32 n) = false := beq_eq_false_iff_ne.mpr fun q => h (e.mp q)
    simp [Scalar.select, IntOp.cmpi, f, h]

/-- A stretch at an index. -/
theorem stretch_apply (acc : FVec Ideal S256x1024 .f32) (a b : FVec Ideal S256x256 .f32) (q : FVec Ideal S8x256 .f32)
    (cw : FVec Ideal S8x256 .f32) (cb : FVec Ideal S1x256 .f32) (wd : FVec Ideal S256x1024 .bf16) (p : Inp) (n base o : ℕ)
    (ha : ∀ (r f : Fin 256), a (ix2 r f) = up p n (base + r.val) (o + f.val))
    (hb : ∀ (r f : Fin 256), b (ix2 r f) = up p n (base + r.val) (2816 + (o + f.val)))
    (hq1 : ∀ f : Fin 256, q (ix2 7 f) = back p n base 1 (o + f.val))
    (hq2 : ∀ f : Fin 256, q (ix2 6 f) = back p n base 2 (o + f.val))
    (h0 : ∀ f : Fin 256, cw (ix2 0 f) = p.cw 0 (o + f.val))
    (h1 : ∀ f : Fin 256, cw (ix2 1 f) = p.cw 1 (o + f.val))
    (h2 : ∀ f : Fin 256, cw (ix2 2 f) = p.cw 2 (o + f.val))
    (hc : ∀ f : Fin 256, cb (ix2 0 f) = p.cb (o + f.val))
    (hd : ∀ (f : Fin 256) (d : Fin 1024), wd (ix2 f d) = p.wd (o + f.val) d.val)
    (r : Fin 256) (d : Fin 1024) :
    stretch acc a b q cw cb wd (ix2 r d)
      = acc (ix2 r d) + ∑ k : Fin 256, gate p n (base + r.val) (o + k.val) * p.wd (o + k.val) d.val := by
  have hr := r.isLt
  have e1 : ∀ f : Fin 256, Scalar.select (IntOp.cmpi CmpIPredicate.eq (BitVec.ofNat 32 r.val) 0#32) (q (ix2 7 f))
      (a (ix2 ⟨(r.val + 256 - 1) % 256, Nat.mod_lt _ (by omega)⟩ f)) = back p n (base + r.val) 1 (o + f.val) := fun f => by
    rw [pick r.val 0 hr (by omega)]
    by_cases h : r.val = 0
    · rw [if_pos h, hq1, h, Nat.add_zero]
    · rw [if_neg h, ha, back, if_neg (by omega)]
      congr 1
      show base + (r.val + 256 - 1) % 256 = _
      omega
  have e2 : ∀ f : Fin 256, Scalar.select (IntOp.cmpi CmpIPredicate.eq (BitVec.ofNat 32 r.val) 0#32) (q (ix2 6 f))
      (Scalar.select (IntOp.cmpi CmpIPredicate.eq (BitVec.ofNat 32 r.val) 1#32) (q (ix2 7 f))
        (a (ix2 ⟨(r.val + 256 - 2) % 256, Nat.mod_lt _ (by omega)⟩ f))) = back p n (base + r.val) 2 (o + f.val) := fun f => by
    rw [pick r.val 0 hr (by omega), pick r.val 1 hr (by omega)]
    by_cases h : r.val = 0
    · rw [if_pos h, hq2, h, Nat.add_zero]
    · rw [if_neg h]
      by_cases h' : r.val = 1
      · rw [if_pos h', hq1, h']
        by_cases hb : base = 0
        · rw [back, back, if_pos (by omega), if_pos (by omega)]
        · rw [back, back, if_neg (by omega), if_neg (by omega)]
          congr 1
      · rw [if_neg h', ha, back, if_neg (by omega)]
        congr 1
        show base + (r.val + 256 - 2) % 256 = _
        omega
  pointwise [stretch, later, rowNo, k0_pay14, k0_pay15, k0_pay17]
  simp only [e1, e2]
  simp only [ha, hb, h0, h1, h2, hc, hd, gate, conv, back_zero, sub_eq_add_neg, zero_add]

/-- A block of the widened rows at an index. -/
theorem up_apply (n : FVec Ideal S256x1024 .bf16) (w : FVec Ideal S1024x256 .bf16) (p : Inp) (b base o : ℕ)
    (hn : ∀ (r : Fin 256) (d : Fin 1024), n (ix2 r d) = norm (p.x b (base + r.val)) p.g d.val)
    (hw : ∀ (d : Fin 1024) (f : Fin 256), w (ix2 d f) = p.wu d.val (o + f.val)) (r f : Fin 256) :
    k0_pay6 n w (ix2 r f) = up p b (base + r.val) (o + f.val) := by
  pointwise [k0_pay6]
  simp only [hn, hw, up]

/-- A block of normalised rows at an index. -/
theorem rms_apply (v : FVec Ideal S1x256x1024 .f32) (g : FVec Ideal S1x1024 .f32) (V s : ℕ → EReal) (r : Fin 256)
    (hv : ∀ d : Fin 1024, v (ix3 0 r d) = V d.val) (hg : ∀ d : Fin 1024, g (ix2 0 d) = s d.val) (d : Fin 1024) :
    k0_pay4 (F := Ideal) v g (ix2 r d) = norm V s d.val := by
  pointwise [k0_pay4, k0_pay2]
  simp only [hv, hg, Ffn.norm, Ffn.inv]

/-- The last step's block at an index. -/
theorem last_apply (v : FVec Ideal S256x1024 .f32) (g : FVec Ideal S1x1024 .f32) (V s : ℕ → EReal) (r : Fin 256)
    (hv : ∀ d : Fin 1024, v (ix2 r d) = V d.val) (hg : ∀ d : Fin 1024, g (ix2 0 d) = s d.val) (d : Fin 1024) :
    k0_pay165 (F := Ideal) v g (ix3 0 r d) = norm V s d.val := by
  pointwise [k0_pay165]
  simp only [hv, hg, Ffn.norm, Ffn.inv]

/-- The carried block at an index. -/
theorem tail_apply (a : FVec Ideal S256x256 .f32) (r : Fin 8) (f : Fin 256) :
    k0_pay18 (F := Ideal) a (ix2 r f) = a (ix2 ⟨248 + r.val, by omega⟩ f) := by
  pointwise [k0_pay18]

end Cert.Kernel2Ideal.Layer

end
-- ==== Proof.FfnSteps.lean ====
/- The kernel's body writes each stretch of 256 columns out again, cut at different places. Each of the 22 writings (11
   stretches, 2 halves of the rows) is the one stretch of FfnChunk, and each of the 11 carried blocks the last rows of
   the second half. -/
module

public import proofs.«01_k».proof.Proof.FfnChunk

@[expose] public section

set_option maxRecDepth 16384

noncomputable section

namespace Cert.Kernel2Ideal.Layer

open Cert.Kernel2Ideal Cert.Kernel2Ideal.Gen Idealize.ShloMosaic Idealize.ShloMosaic.TcCoe Idealize.SL.Sem

theorem rms_same (v : FVec Ideal S1x256x1024 .f32) (g : FVec Ideal S1x1024 .f32) :
    k0_pay5 (F := Ideal) v g = k0_pay4 v g := rfl

theorem rows_same (v : FVec Ideal S1x256x1024 .f32) : k0_pay3 (F := Ideal) v = k0_pay2 v := rfl

theorem step0_0 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay17 (iota Kind.tc S256x256 32 [0] iota_S256x256_d0_w32) acc (k0_pay6 n0 wa) (k0_pay7 n0 wb) (k0_pay14 q)
    (k0_pay15 q) (k0_pay16 (iota Kind.tc S256x256 32 [0] iota_S256x256_d0_w32) n0 wa q) cw cb wd
      = stretch acc (k0_pay6 n0 wa) (k0_pay6 n0 wb) q cw cb wd := rfl

theorem step0_1 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay34 (k0_pay10 n0 wa) (k0_pay11 n0 wb) acc (k0_pay31 (iota Kind.tc S256x256 32 [0] iota_S256x256_d0_w32)
    (k0_pay10 n0 wa) q) (k0_pay32 cw) (k0_pay33 (iota Kind.tc S256x256 32 [0] iota_S256x256_d0_w32) (k0_pay10 n0 wa)
    q cw) cb wd
      = stretch acc (k0_pay6 n0 wa) (k0_pay6 n0 wb) q cw cb wd := rfl

theorem step0_2 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay48 (k0_pay27 n0 wb) acc (k0_pay46 (iota Kind.tc S256x256 32 [0] iota_S256x256_d0_w32) (k0_pay26 n0 wa) q
    cw cb) (k0_pay47 (iota Kind.tc S256x256 32 [0] iota_S256x256_d0_w32) (k0_pay26 n0 wa) q cw cb) wd
      = stretch acc (k0_pay6 n0 wa) (k0_pay6 n0 wb) q cw cb wd := rfl

theorem step0_3 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay61 (iota Kind.tc S256x256 32 [0] iota_S256x256_d0_w32) (k0_pay42 n0 wa) (k0_pay43 n0 wb) acc (k0_pay57 q)
    (k0_pay58 q) (k0_pay59 (iota Kind.tc S256x256 32 [0] iota_S256x256_d0_w32) (k0_pay42 n0 wa) q) (k0_pay60 (iota
    Kind.tc S256x256 32 [0] iota_S256x256_d0_w32)) cw cb wd
      = stretch acc (k0_pay6 n0 wa) (k0_pay6 n0 wb) q cw cb wd := rfl

theorem step0_4 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay76 (k0_pay53 n0 wa) (k0_pay54 n0 wb) acc (k0_pay73 cw) (k0_pay74 (iota Kind.tc S256x256 32 [0]
    iota_S256x256_d0_w32) (k0_pay53 n0 wa) q cw) (k0_pay75 (iota Kind.tc S256x256 32 [0] iota_S256x256_d0_w32)
    (k0_pay53 n0 wa) q cw) cb wd
      = stretch acc (k0_pay6 n0 wa) (k0_pay6 n0 wb) q cw cb wd := rfl

theorem step0_5 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay90 acc (k0_pay89 (iota Kind.tc S256x256 32 [0] iota_S256x256_d0_w32) (k0_pay68 n0 wa) (k0_pay69 n0 wb) q
    cw cb) wd
      = stretch acc (k0_pay6 n0 wa) (k0_pay6 n0 wb) q cw cb wd := rfl

theorem step0_6 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay104 (k0_pay84 n0 wa) (k0_pay85 n0 wb) acc (k0_pay99 q) (k0_pay100 q) (k0_pay101 (iota Kind.tc S256x256 32
    [0] iota_S256x256_d0_w32) (k0_pay84 n0 wa) q) (k0_pay102 (iota Kind.tc S256x256 32 [0] iota_S256x256_d0_w32))
    (k0_pay103 (iota Kind.tc S256x256 32 [0] iota_S256x256_d0_w32)) cw cb wd
      = stretch acc (k0_pay6 n0 wa) (k0_pay6 n0 wb) q cw cb wd := rfl

theorem step0_7 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay120 (k0_pay95 n0 wa) (k0_pay96 n0 wb) acc (k0_pay118 (iota Kind.tc S256x256 32 [0] iota_S256x256_d0_w32)
    (k0_pay95 n0 wa) q cw) (k0_pay119 cw) cb wd
      = stretch acc (k0_pay6 n0 wa) (k0_pay6 n0 wb) q cw cb wd := rfl

theorem step0_8 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay133 acc (k0_pay132 (iota Kind.tc S256x256 32 [0] iota_S256x256_d0_w32) (k0_pay113 n0 (k0_pay112 wa))
    (k0_pay114 n0 wb) q cw cb) wd
      = stretch acc (k0_pay6 n0 wa) (k0_pay6 n0 wb) q cw cb wd := rfl

theorem step0_9 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay148 (k0_pay128 n0 wa) (k0_pay129 n0 wb) acc (k0_pay142 q) (k0_pay143 (iota Kind.tc S256x256 32 [0]
    iota_S256x256_d0_w32) (k0_pay128 n0 wa) q) (k0_pay144 (iota Kind.tc S256x256 32 [0] iota_S256x256_d0_w32))
    (k0_pay145 (iota Kind.tc S256x256 32 [0] iota_S256x256_d0_w32)) (k0_pay146 (k0_pay128 n0 wa)) (k0_pay147 q) cw
    cb wd
      = stretch acc (k0_pay6 n0 wa) (k0_pay6 n0 wb) q cw cb wd := rfl

theorem step0_10 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay160 (iota Kind.tc S256x256 32 [0] iota_S256x256_d0_w32) (k0_pay137 n0 wa) (k0_pay138 n0 wb) acc (k0_pay157
    q) (k0_pay158 q) k0_pay159 cw cb wd
      = stretch acc (k0_pay6 n0 wa) (k0_pay6 n0 wb) q cw cb wd := rfl

theorem step1_0 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay23 (iota Kind.tc S256x256 32 [0] iota_S256x256_d0_w32) acc (k0_pay8 n1 wa) (k0_pay9 n1 wb) (k0_pay19
    (k0_pay6 n0 wa)) (k0_pay20 (k0_pay6 n0 wa)) (k0_pay21 (iota Kind.tc S256x256 32 [0] iota_S256x256_d0_w32))
    (k0_pay22 (k0_pay8 n1 wa)) cw cb wd
      = stretch acc (k0_pay6 n1 wa) (k0_pay6 n1 wb) (k0_pay18 (k0_pay6 n0 wa)) cw cb wd := rfl

theorem step1_1 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay40 (k0_pay12 n1 wa) (k0_pay13 n1 wb) acc (k0_pay37 (iota Kind.tc S256x256 32 [0] iota_S256x256_d0_w32)
    (k0_pay10 n0 wa) (k0_pay12 n1 wa)) (k0_pay38 (iota Kind.tc S256x256 32 [0] iota_S256x256_d0_w32) (k0_pay10 n0
    wa) (k0_pay12 n1 wa)) (k0_pay39 cw) cb wd
      = stretch acc (k0_pay6 n1 wa) (k0_pay6 n1 wb) (k0_pay18 (k0_pay6 n0 wa)) cw cb wd := rfl

theorem step1_2 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay51 (k0_pay29 n1 wb) acc (k0_pay49 (iota Kind.tc S256x256 32 [0] iota_S256x256_d0_w32) (k0_pay26 n0 wa)
    (k0_pay28 n1 wa) cw cb) (k0_pay50 (iota Kind.tc S256x256 32 [0] iota_S256x256_d0_w32) (k0_pay26 n0 wa) (k0_pay28
    n1 wa) cw cb) wd
      = stretch acc (k0_pay6 n1 wa) (k0_pay6 n1 wb) (k0_pay18 (k0_pay6 n0 wa)) cw cb wd := rfl

theorem step1_3 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay66 (iota Kind.tc S256x256 32 [0] iota_S256x256_d0_w32) (k0_pay44 n1 wa) (k0_pay45 n1 wb) acc (k0_pay63
    (k0_pay42 n0 wa)) (k0_pay64 (k0_pay42 n0 wa)) (k0_pay65 (iota Kind.tc S256x256 32 [0] iota_S256x256_d0_w32)
    (k0_pay42 n0 wa) (k0_pay44 n1 wa)) cw cb wd
      = stretch acc (k0_pay6 n1 wa) (k0_pay6 n1 wb) (k0_pay18 (k0_pay6 n0 wa)) cw cb wd := rfl

theorem step1_4 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay82 (k0_pay55 n1 wa) (k0_pay56 n1 wb) acc (k0_pay79 (iota Kind.tc S256x256 32 [0] iota_S256x256_d0_w32)
    (k0_pay53 n0 wa) (k0_pay55 n1 wa)) (k0_pay80 cw) (k0_pay81 (iota Kind.tc S256x256 32 [0] iota_S256x256_d0_w32)
    (k0_pay53 n0 wa) (k0_pay55 n1 wa) cw) cb wd
      = stretch acc (k0_pay6 n1 wa) (k0_pay6 n1 wb) (k0_pay18 (k0_pay6 n0 wa)) cw cb wd := rfl

theorem step1_5 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay93 (k0_pay71 n1 wb) acc (k0_pay91 (iota Kind.tc S256x256 32 [0] iota_S256x256_d0_w32) (k0_pay68 n0 wa)
    (k0_pay70 n1 wa) cw cb) (k0_pay92 (iota Kind.tc S256x256 32 [0] iota_S256x256_d0_w32) (k0_pay68 n0 wa) (k0_pay70
    n1 wa) cw cb) wd
      = stretch acc (k0_pay6 n1 wa) (k0_pay6 n1 wb) (k0_pay18 (k0_pay6 n0 wa)) cw cb wd := rfl

theorem step1_6 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay110 (iota Kind.tc S256x256 32 [0] iota_S256x256_d0_w32) (k0_pay86 n1 wa) (k0_pay88 n1 (k0_pay87 wb)) acc
    (k0_pay106 (k0_pay84 n0 wa)) (k0_pay107 (k0_pay84 n0 wa)) (k0_pay108 (iota Kind.tc S256x256 32 [0]
    iota_S256x256_d0_w32) (k0_pay84 n0 wa) (k0_pay86 n1 wa)) (k0_pay109 (iota Kind.tc S256x256 32 [0]
    iota_S256x256_d0_w32)) cw cb wd
      = stretch acc (k0_pay6 n1 wa) (k0_pay6 n1 wb) (k0_pay18 (k0_pay6 n0 wa)) cw cb wd := rfl

theorem step1_7 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay126 (k0_pay97 n1 wa) (k0_pay98 n1 wb) acc (k0_pay123 cw) (k0_pay124 (iota Kind.tc S256x256 32 [0]
    iota_S256x256_d0_w32) (k0_pay95 n0 wa) (k0_pay97 n1 wa) cw) (k0_pay125 (iota Kind.tc S256x256 32 [0]
    iota_S256x256_d0_w32) (k0_pay95 n0 wa) (k0_pay97 n1 wa) cw) cb wd
      = stretch acc (k0_pay6 n1 wa) (k0_pay6 n1 wb) (k0_pay18 (k0_pay6 n0 wa)) cw cb wd := rfl

theorem step1_8 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay135 acc (k0_pay134 (iota Kind.tc S256x256 32 [0] iota_S256x256_d0_w32) (k0_pay113 n0 (k0_pay112 wa))
    (k0_pay115 n1 wa) (k0_pay116 n1 wb) cw cb) wd
      = stretch acc (k0_pay6 n1 wa) (k0_pay6 n1 wb) (k0_pay18 (k0_pay6 n0 wa)) cw cb wd := rfl

theorem step1_9 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay155 (k0_pay130 n1 wa) (k0_pay131 n1 wb) acc (k0_pay150 (k0_pay128 n0 wa)) (k0_pay151 (k0_pay128 n0 wa))
    (k0_pay152 (iota Kind.tc S256x256 32 [0] iota_S256x256_d0_w32) (k0_pay128 n0 wa) (k0_pay130 n1 wa)) (k0_pay153
    (iota Kind.tc S256x256 32 [0] iota_S256x256_d0_w32)) (k0_pay154 (iota Kind.tc S256x256 32 [0]
    iota_S256x256_d0_w32)) cw cb wd
      = stretch acc (k0_pay6 n1 wa) (k0_pay6 n1 wb) (k0_pay18 (k0_pay6 n0 wa)) cw cb wd := rfl

theorem step1_10 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) (gf : FVec Ideal S1x1024 .f32) :
    k0_pay166 acc (k0_pay163 (iota Kind.tc S256x256 32 [0] iota_S256x256_d0_w32) (k0_pay139 n1 wa) (k0_pay140 n1 wb)
    (k0_pay161 (k0_pay137 n0 wa)) (k0_pay162 (k0_pay137 n0 wa)) cw cb wd) gf
      = k0_pay165 (stretch acc (k0_pay6 n1 wa) (k0_pay6 n1 wb) (k0_pay18 (k0_pay6 n0 wa)) cw cb wd) gf := rfl

theorem tail_0 (n1 : FVec Ideal S256x1024 .bf16) (wa : FVec Ideal S1024x256 .bf16) :
    k0_pay25 (k0_pay24 (k0_pay8 n1 wa))
      = k0_pay25 (k0_pay18 (k0_pay6 n1 wa)) := rfl

theorem tail_1 (n1 : FVec Ideal S256x1024 .bf16) (wa : FVec Ideal S1024x256 .bf16) :
    k0_pay41 (k0_pay12 n1 wa)
      = k0_pay25 (k0_pay18 (k0_pay6 n1 wa)) := rfl

theorem tail_2 (n1 : FVec Ideal S256x1024 .bf16) (wa : FVec Ideal S1024x256 .bf16) :
    k0_pay52 (k0_pay28 n1 wa)
      = k0_pay25 (k0_pay18 (k0_pay6 n1 wa)) := rfl

theorem tail_3 (n1 : FVec Ideal S256x1024 .bf16) (wa : FVec Ideal S1024x256 .bf16) :
    k0_pay67 (k0_pay44 n1 wa)
      = k0_pay25 (k0_pay18 (k0_pay6 n1 wa)) := rfl

theorem tail_4 (n1 : FVec Ideal S256x1024 .bf16) (wa : FVec Ideal S1024x256 .bf16) :
    k0_pay83 (k0_pay55 n1 wa)
      = k0_pay25 (k0_pay18 (k0_pay6 n1 wa)) := rfl

theorem tail_5 (n1 : FVec Ideal S256x1024 .bf16) (wa : FVec Ideal S1024x256 .bf16) :
    k0_pay94 (k0_pay70 n1 wa)
      = k0_pay25 (k0_pay18 (k0_pay6 n1 wa)) := rfl

theorem tail_6 (n1 : FVec Ideal S256x1024 .bf16) (wa : FVec Ideal S1024x256 .bf16) :
    k0_pay111 (k0_pay86 n1 wa)
      = k0_pay25 (k0_pay18 (k0_pay6 n1 wa)) := rfl

theorem tail_7 (n1 : FVec Ideal S256x1024 .bf16) (wa : FVec Ideal S1024x256 .bf16) :
    k0_pay127 (k0_pay97 n1 wa)
      = k0_pay25 (k0_pay18 (k0_pay6 n1 wa)) := rfl

theorem tail_8 (n1 : FVec Ideal S256x1024 .bf16) (wa : FVec Ideal S1024x256 .bf16) :
    k0_pay136 (k0_pay115 n1 wa)
      = k0_pay25 (k0_pay18 (k0_pay6 n1 wa)) := rfl

theorem tail_9 (n1 : FVec Ideal S256x1024 .bf16) (wa : FVec Ideal S1024x256 .bf16) :
    k0_pay156 (k0_pay130 n1 wa)
      = k0_pay25 (k0_pay18 (k0_pay6 n1 wa)) := rfl

theorem tail_10 (n1 : FVec Ideal S256x1024 .bf16) (wa : FVec Ideal S1024x256 .bf16) :
    k0_pay164 (k0_pay139 n1 wa)
      = k0_pay25 (k0_pay18 (k0_pay6 n1 wa)) := rfl

end Cert.Kernel2Ideal.Layer

end
-- ==== Proof.FfnBody.lean ====
/- What one grid point computes, from blocks that hold the operands' rows: the two halves of 256 rows, each over the
   eleven stretches of columns, and the last eight widened rows carried to the point after. -/
module

public import proofs.«01_k».proof.Proof.FfnSteps

@[expose] public section

set_option maxRecDepth 16384

noncomputable section

namespace Cert.Kernel2Ideal.Layer

open Cert.Kernel2Ideal Cert.Kernel2Ideal.Gen Idealize.ShloMosaic Idealize.ShloMosaic.TcCoe Idealize.SL.Sem Cert.Ffn

/-- The blocks of a point hold the operands `p`: of `x`, the 512 rows of batch `b` from row `s` on. -/
structure Fits (p : Inp) (b s : ℕ) (X : Vec Ideal S1x512x1024 .f32) (g : Vec Ideal S1x1024 .f32) (wu : Vec Ideal S1024x5632 .bf16)
    (cw : Vec Ideal S8x2816 .f32) (cb : Vec Ideal S1x2816 .f32) (wd : Vec Ideal S2816x1024 .bf16)
    (gf : Vec Ideal S1x1024 .f32) (C : Vec Ideal S8x2816 .f32) : Prop where
  x : ∀ i, X i = p.x b (s + (i 1).val) (i 2).val
  g : ∀ i, g i = p.g (i 1).val
  wu : ∀ i, wu i = p.wu (i 0).val (i 1).val
  cw : ∀ i, (i 0).val < 3 → cw i = p.cw (i 0).val (i 1).val
  cb : ∀ i, cb i = p.cb (i 1).val
  wd : ∀ i, wd i = p.wd (i 0).val (i 1).val
  gf : ∀ i, gf i = p.gf (i 1).val
  c1 : ∀ i, (i 0).val = 7 → C i = back p b s 1 (i 1).val
  c2 : ∀ i, (i 0).val = 6 → C i = back p b s 2 (i 1).val

/-- The normalised first 256 rows. -/
def half0 (X : Vec Ideal S1x512x1024 .f32) (g : Vec Ideal S1x1024 .f32) : FVec Ideal S256x1024 .bf16 :=
  k0_pay4 (View.ld X (Rect.unit (s := S1x512x1024) ![0, 0, 0] ![1, 256, 1024] inb_S1x512x1024_S1x256x1024_0_0_0)) g

/-- The normalised last 256 rows. -/
def half1 (X : Vec Ideal S1x512x1024 .f32) (g : Vec Ideal S1x1024 .f32) : FVec Ideal S256x1024 .bf16 :=
  k0_pay4 (View.ld X (Rect.unit (s := S1x512x1024) ![0, 256, 0] ![1, 256, 1024] inb_S1x512x1024_S1x256x1024_0_256_0)) g

/-- The first 256 rows with the narrowed gate added. -/
def mix0 (X : Vec Ideal S1x512x1024 .f32) (g : Vec Ideal S1x1024 .f32) (wu : Vec Ideal S1024x5632 .bf16)
    (cw : Vec Ideal S8x2816 .f32) (cb : Vec Ideal S1x2816 .f32) (wd : Vec Ideal S2816x1024 .bf16)
    (C : Vec Ideal S8x2816 .f32) : FVec Ideal S256x1024 .f32 :=
  stretch (stretch (stretch (stretch (stretch (stretch (stretch (stretch (stretch (stretch (stretch (k0_pay2 (View.ld X (Rect.unit (s := S1x512x1024) ![0, 0, 0] ![1, 256, 1024] inb_S1x512x1024_S1x256x1024_0_0_0)))
      (k0_pay6 (half0 X g) (View.ld wu (Rect.unit (s := S1024x5632) ![0, 0] ![1024, 256] inb_S1024x5632_S1024x256_0_0)))
      (k0_pay6 (half0 X g) (View.ld wu (Rect.unit (s := S1024x5632) ![0, 2816] ![1024, 256] inb_S1024x5632_S1024x256_0_2816))) (View.ld C (Rect.unit (s := S8x2816) ![0, 0] ![8, 256] inb_S8x2816_S8x256_0_0))
      (View.ld cw (Rect.unit (s := S8x2816) ![0, 0] ![8, 256] inb_S8x2816_S8x256_0_0))
      (View.ld cb (Rect.unit (s := S1x2816) ![0, 0] ![1, 256] inb_S1x2816_S1x256_0_0))
      (View.ld wd (Rect.unit (s := S2816x1024) ![0, 0] ![256, 1024] inb_S2816x1024_S256x1024_0_0)))
      (k0_pay6 (half0 X g) (View.ld wu (Rect.unit (s := S1024x5632) ![0, 256] ![1024, 256] inb_S1024x5632_S1024x256_0_256)))
      (k0_pay6 (half0 X g) (View.ld wu (Rect.unit (s := S1024x5632) ![0, 3072] ![1024, 256] inb_S1024x5632_S1024x256_0_3072))) (View.ld C (Rect.unit (s := S8x2816) ![0, 256] ![8, 256] inb_S8x2816_S8x256_0_256))
      (View.ld cw (Rect.unit (s := S8x2816) ![0, 256] ![8, 256] inb_S8x2816_S8x256_0_256))
      (View.ld cb (Rect.unit (s := S1x2816) ![0, 256] ![1, 256] inb_S1x2816_S1x256_0_256))
      (View.ld wd (Rect.unit (s := S2816x1024) ![256, 0] ![256, 1024] inb_S2816x1024_S256x1024_256_0)))
      (k0_pay6 (half0 X g) (View.ld wu (Rect.unit (s := S1024x5632) ![0, 512] ![1024, 256] inb_S1024x5632_S1024x256_0_512)))
      (k0_pay6 (half0 X g) (View.ld wu (Rect.unit (s := S1024x5632) ![0, 3328] ![1024, 256] inb_S1024x5632_S1024x256_0_3328))) (View.ld C (Rect.unit (s := S8x2816) ![0, 512] ![8, 256] inb_S8x2816_S8x256_0_512))
      (View.ld cw (Rect.unit (s := S8x2816) ![0, 512] ![8, 256] inb_S8x2816_S8x256_0_512))
      (View.ld cb (Rect.unit (s := S1x2816) ![0, 512] ![1, 256] inb_S1x2816_S1x256_0_512))
      (View.ld wd (Rect.unit (s := S2816x1024) ![512, 0] ![256, 1024] inb_S2816x1024_S256x1024_512_0)))
      (k0_pay6 (half0 X g) (View.ld wu (Rect.unit (s := S1024x5632) ![0, 768] ![1024, 256] inb_S1024x5632_S1024x256_0_768)))
      (k0_pay6 (half0 X g) (View.ld wu (Rect.unit (s := S1024x5632) ![0, 3584] ![1024, 256] inb_S1024x5632_S1024x256_0_3584))) (View.ld C (Rect.unit (s := S8x2816) ![0, 768] ![8, 256] inb_S8x2816_S8x256_0_768))
      (View.ld cw (Rect.unit (s := S8x2816) ![0, 768] ![8, 256] inb_S8x2816_S8x256_0_768))
      (View.ld cb (Rect.unit (s := S1x2816) ![0, 768] ![1, 256] inb_S1x2816_S1x256_0_768))
      (View.ld wd (Rect.unit (s := S2816x1024) ![768, 0] ![256, 1024] inb_S2816x1024_S256x1024_768_0)))
      (k0_pay6 (half0 X g) (View.ld wu (Rect.unit (s := S1024x5632) ![0, 1024] ![1024, 256] inb_S1024x5632_S1024x256_0_1024)))
      (k0_pay6 (half0 X g) (View.ld wu (Rect.unit (s := S1024x5632) ![0, 3840] ![1024, 256] inb_S1024x5632_S1024x256_0_3840))) (View.ld C (Rect.unit (s := S8x2816) ![0, 1024] ![8, 256] inb_S8x2816_S8x256_0_1024))
      (View.ld cw (Rect.unit (s := S8x2816) ![0, 1024] ![8, 256] inb_S8x2816_S8x256_0_1024))
      (View.ld cb (Rect.unit (s := S1x2816) ![0, 1024] ![1, 256] inb_S1x2816_S1x256_0_1024))
      (View.ld wd (Rect.unit (s := S2816x1024) ![1024, 0] ![256, 1024] inb_S2816x1024_S256x1024_1024_0)))
      (k0_pay6 (half0 X g) (View.ld wu (Rect.unit (s := S1024x5632) ![0, 1280] ![1024, 256] inb_S1024x5632_S1024x256_0_1280)))
      (k0_pay6 (half0 X g) (View.ld wu (Rect.unit (s := S1024x5632) ![0, 4096] ![1024, 256] inb_S1024x5632_S1024x256_0_4096))) (View.ld C (Rect.unit (s := S8x2816) ![0, 1280] ![8, 256] inb_S8x2816_S8x256_0_1280))
      (View.ld cw (Rect.unit (s := S8x2816) ![0, 1280] ![8, 256] inb_S8x2816_S8x256_0_1280))
      (View.ld cb (Rect.unit (s := S1x2816) ![0, 1280] ![1, 256] inb_S1x2816_S1x256_0_1280))
      (View.ld wd (Rect.unit (s := S2816x1024) ![1280, 0] ![256, 1024] inb_S2816x1024_S256x1024_1280_0)))
      (k0_pay6 (half0 X g) (View.ld wu (Rect.unit (s := S1024x5632) ![0, 1536] ![1024, 256] inb_S1024x5632_S1024x256_0_1536)))
      (k0_pay6 (half0 X g) (View.ld wu (Rect.unit (s := S1024x5632) ![0, 4352] ![1024, 256] inb_S1024x5632_S1024x256_0_4352))) (View.ld C (Rect.unit (s := S8x2816) ![0, 1536] ![8, 256] inb_S8x2816_S8x256_0_1536))
      (View.ld cw (Rect.unit (s := S8x2816) ![0, 1536] ![8, 256] inb_S8x2816_S8x256_0_1536))
      (View.ld cb (Rect.unit (s := S1x2816) ![0, 1536] ![1, 256] inb_S1x2816_S1x256_0_1536))
      (View.ld wd (Rect.unit (s := S2816x1024) ![1536, 0] ![256, 1024] inb_S2816x1024_S256x1024_1536_0)))
      (k0_pay6 (half0 X g) (View.ld wu (Rect.unit (s := S1024x5632) ![0, 1792] ![1024, 256] inb_S1024x5632_S1024x256_0_1792)))
      (k0_pay6 (half0 X g) (View.ld wu (Rect.unit (s := S1024x5632) ![0, 4608] ![1024, 256] inb_S1024x5632_S1024x256_0_4608))) (View.ld C (Rect.unit (s := S8x2816) ![0, 1792] ![8, 256] inb_S8x2816_S8x256_0_1792))
      (View.ld cw (Rect.unit (s := S8x2816) ![0, 1792] ![8, 256] inb_S8x2816_S8x256_0_1792))
      (View.ld cb (Rect.unit (s := S1x2816) ![0, 1792] ![1, 256] inb_S1x2816_S1x256_0_1792))
      (View.ld wd (Rect.unit (s := S2816x1024) ![1792, 0] ![256, 1024] inb_S2816x1024_S256x1024_1792_0)))
      (k0_pay6 (half0 X g) (View.ld wu (Rect.unit (s := S1024x5632) ![0, 2048] ![1024, 256] inb_S1024x5632_S1024x256_0_2048)))
      (k0_pay6 (half0 X g) (View.ld wu (Rect.unit (s := S1024x5632) ![0, 4864] ![1024, 256] inb_S1024x5632_S1024x256_0_4864))) (View.ld C (Rect.unit (s := S8x2816) ![0, 2048] ![8, 256] inb_S8x2816_S8x256_0_2048))
      (View.ld cw (Rect.unit (s := S8x2816) ![0, 2048] ![8, 256] inb_S8x2816_S8x256_0_2048))
      (View.ld cb (Rect.unit (s := S1x2816) ![0, 2048] ![1, 256] inb_S1x2816_S1x256_0_2048))
      (View.ld wd (Rect.unit (s := S2816x1024) ![2048, 0] ![256, 1024] inb_S2816x1024_S256x1024_2048_0)))
      (k0_pay6 (half0 X g) (View.ld wu (Rect.unit (s := S1024x5632) ![0, 2304] ![1024, 256] inb_S1024x5632_S1024x256_0_2304)))
      (k0_pay6 (half0 X g) (View.ld wu (Rect.unit (s := S1024x5632) ![0, 5120] ![1024, 256] inb_S1024x5632_S1024x256_0_5120))) (View.ld C (Rect.unit (s := S8x2816) ![0, 2304] ![8, 256] inb_S8x2816_S8x256_0_2304))
      (View.ld cw (Rect.unit (s := S8x2816) ![0, 2304] ![8, 256] inb_S8x2816_S8x256_0_2304))
      (View.ld cb (Rect.unit (s := S1x2816) ![0, 2304] ![1, 256] inb_S1x2816_S1x256_0_2304))
      (View.ld wd (Rect.unit (s := S2816x1024) ![2304, 0] ![256, 1024] inb_S2816x1024_S256x1024_2304_0)))
      (k0_pay6 (half0 X g) (View.ld wu (Rect.unit (s := S1024x5632) ![0, 2560] ![1024, 256] inb_S1024x5632_S1024x256_0_2560)))
      (k0_pay6 (half0 X g) (View.ld wu (Rect.unit (s := S1024x5632) ![0, 5376] ![1024, 256] inb_S1024x5632_S1024x256_0_5376))) (View.ld C (Rect.unit (s := S8x2816) ![0, 2560] ![8, 256] inb_S8x2816_S8x256_0_2560))
      (View.ld cw (Rect.unit (s := S8x2816) ![0, 2560] ![8, 256] inb_S8x2816_S8x256_0_2560))
      (View.ld cb (Rect.unit (s := S1x2816) ![0, 2560] ![1, 256] inb_S1x2816_S1x256_0_2560))
      (View.ld wd (Rect.unit (s := S2816x1024) ![2560, 0] ![256, 1024] inb_S2816x1024_S256x1024_2560_0))

/-- The last 256 rows with the narrowed gate added. -/
def mix1 (X : Vec Ideal S1x512x1024 .f32) (g : Vec Ideal S1x1024 .f32) (wu : Vec Ideal S1024x5632 .bf16)
    (cw : Vec Ideal S8x2816 .f32) (cb : Vec Ideal S1x2816 .f32) (wd : Vec Ideal S2816x1024 .bf16) :
    FVec Ideal S256x1024 .f32 :=
  stretch (stretch (stretch (stretch (stretch (stretch (stretch (stretch (stretch (stretch (stretch (k0_pay2 (View.ld X (Rect.unit (s := S1x512x1024) ![0, 256, 0] ![1, 256, 1024] inb_S1x512x1024_S1x256x1024_0_256_0)))
      (k0_pay6 (half1 X g) (View.ld wu (Rect.unit (s := S1024x5632) ![0, 0] ![1024, 256] inb_S1024x5632_S1024x256_0_0)))
      (k0_pay6 (half1 X g) (View.ld wu (Rect.unit (s := S1024x5632) ![0, 2816] ![1024, 256] inb_S1024x5632_S1024x256_0_2816))) (k0_pay18 (k0_pay6 (half0 X g) (View.ld wu (Rect.unit (s := S1024x5632) ![0, 0] ![1024, 256] inb_S1024x5632_S1024x256_0_0))))
      (View.ld cw (Rect.unit (s := S8x2816) ![0, 0] ![8, 256] inb_S8x2816_S8x256_0_0))
      (View.ld cb (Rect.unit (s := S1x2816) ![0, 0] ![1, 256] inb_S1x2816_S1x256_0_0))
      (View.ld wd (Rect.unit (s := S2816x1024) ![0, 0] ![256, 1024] inb_S2816x1024_S256x1024_0_0)))
      (k0_pay6 (half1 X g) (View.ld wu (Rect.unit (s := S1024x5632) ![0, 256] ![1024, 256] inb_S1024x5632_S1024x256_0_256)))
      (k0_pay6 (half1 X g) (View.ld wu (Rect.unit (s := S1024x5632) ![0, 3072] ![1024, 256] inb_S1024x5632_S1024x256_0_3072))) (k0_pay18 (k0_pay6 (half0 X g) (View.ld wu (Rect.unit (s := S1024x5632) ![0, 256] ![1024, 256] inb_S1024x5632_S1024x256_0_256))))
      (View.ld cw (Rect.unit (s := S8x2816) ![0, 256] ![8, 256] inb_S8x2816_S8x256_0_256))
      (View.ld cb (Rect.unit (s := S1x2816) ![0, 256] ![1, 256] inb_S1x2816_S1x256_0_256))
      (View.ld wd (Rect.unit (s := S2816x1024) ![256, 0] ![256, 1024] inb_S2816x1024_S256x1024_256_0)))
      (k0_pay6 (half1 X g) (View.ld wu (Rect.unit (s := S1024x5632) ![0, 512] ![1024, 256] inb_S1024x5632_S1024x256_0_512)))
      (k0_pay6 (half1 X g) (View.ld wu (Rect.unit (s := S1024x5632) ![0, 3328] ![1024, 256] inb_S1024x5632_S1024x256_0_3328))) (k0_pay18 (k0_pay6 (half0 X g) (View.ld wu (Rect.unit (s := S1024x5632) ![0, 512] ![1024, 256] inb_S1024x5632_S1024x256_0_512))))
      (View.ld cw (Rect.unit (s := S8x2816) ![0, 512] ![8, 256] inb_S8x2816_S8x256_0_512))
      (View.ld cb (Rect.unit (s := S1x2816) ![0, 512] ![1, 256] inb_S1x2816_S1x256_0_512))
      (View.ld wd (Rect.unit (s := S2816x1024) ![512, 0] ![256, 1024] inb_S2816x1024_S256x1024_512_0)))
      (k0_pay6 (half1 X g) (View.ld wu (Rect.unit (s := S1024x5632) ![0, 768] ![1024, 256] inb_S1024x5632_S1024x256_0_768)))
      (k0_pay6 (half1 X g) (View.ld wu (Rect.unit (s := S1024x5632) ![0, 3584] ![1024, 256] inb_S1024x5632_S1024x256_0_3584))) (k0_pay18 (k0_pay6 (half0 X g) (View.ld wu (Rect.unit (s := S1024x5632) ![0, 768] ![1024, 256] inb_S1024x5632_S1024x256_0_768))))
      (View.ld cw (Rect.unit (s := S8x2816) ![0, 768] ![8, 256] inb_S8x2816_S8x256_0_768))
      (View.ld cb (Rect.unit (s := S1x2816) ![0, 768] ![1, 256] inb_S1x2816_S1x256_0_768))
      (View.ld wd (Rect.unit (s := S2816x1024) ![768, 0] ![256, 1024] inb_S2816x1024_S256x1024_768_0)))
      (k0_pay6 (half1 X g) (View.ld wu (Rect.unit (s := S1024x5632) ![0, 1024] ![1024, 256] inb_S1024x5632_S1024x256_0_1024)))
      (k0_pay6 (half1 X g) (View.ld wu (Rect.unit (s := S1024x5632) ![0, 3840] ![1024, 256] inb_S1024x5632_S1024x256_0_3840))) (k0_pay18 (k0_pay6 (half0 X g) (View.ld wu (Rect.unit (s := S1024x5632) ![0, 1024] ![1024, 256] inb_S1024x5632_S1024x256_0_1024))))
      (View.ld cw (Rect.unit (s := S8x2816) ![0, 1024] ![8, 256] inb_S8x2816_S8x256_0_1024))
      (View.ld cb (Rect.unit (s := S1x2816) ![0, 1024] ![1, 256] inb_S1x2816_S1x256_0_1024))
      (View.ld wd (Rect.unit (s := S2816x1024) ![1024, 0] ![256, 1024] inb_S2816x1024_S256x1024_1024_0)))
      (k0_pay6 (half1 X g) (View.ld wu (Rect.unit (s := S1024x5632) ![0, 1280] ![1024, 256] inb_S1024x5632_S1024x256_0_1280)))
      (k0_pay6 (half1 X g) (View.ld wu (Rect.unit (s := S1024x5632) ![0, 4096] ![1024, 256] inb_S1024x5632_S1024x256_0_4096))) (k0_pay18 (k0_pay6 (half0 X g) (View.ld wu (Rect.unit (s := S1024x5632) ![0, 1280] ![1024, 256] inb_S1024x5632_S1024x256_0_1280))))
      (View.ld cw (Rect.unit (s := S8x2816) ![0, 1280] ![8, 256] inb_S8x2816_S8x256_0_1280))
      (View.ld cb (Rect.unit (s := S1x2816) ![0, 1280] ![1, 256] inb_S1x2816_S1x256_0_1280))
      (View.ld wd (Rect.unit (s := S2816x1024) ![1280, 0] ![256, 1024] inb_S2816x1024_S256x1024_1280_0)))
      (k0_pay6 (half1 X g) (View.ld wu (Rect.unit (s := S1024x5632) ![0, 1536] ![1024, 256] inb_S1024x5632_S1024x256_0_1536)))
      (k0_pay6 (half1 X g) (View.ld wu (Rect.unit (s := S1024x5632) ![0, 4352] ![1024, 256] inb_S1024x5632_S1024x256_0_4352))) (k0_pay18 (k0_pay6 (half0 X g) (View.ld wu (Rect.unit (s := S1024x5632) ![0, 1536] ![1024, 256] inb_S1024x5632_S1024x256_0_1536))))
      (View.ld cw (Rect.unit (s := S8x2816) ![0, 1536] ![8, 256] inb_S8x2816_S8x256_0_1536))
      (View.ld cb (Rect.unit (s := S1x2816) ![0, 1536] ![1, 256] inb_S1x2816_S1x256_0_1536))
      (View.ld wd (Rect.unit (s := S2816x1024) ![1536, 0] ![256, 1024] inb_S2816x1024_S256x1024_1536_0)))
      (k0_pay6 (half1 X g) (View.ld wu (Rect.unit (s := S1024x5632) ![0, 1792] ![1024, 256] inb_S1024x5632_S1024x256_0_1792)))
      (k0_pay6 (half1 X g) (View.ld wu (Rect.unit (s := S1024x5632) ![0, 4608] ![1024, 256] inb_S1024x5632_S1024x256_0_4608))) (k0_pay18 (k0_pay6 (half0 X g) (View.ld wu (Rect.unit (s := S1024x5632) ![0, 1792] ![1024, 256] inb_S1024x5632_S1024x256_0_1792))))
      (View.ld cw (Rect.unit (s := S8x2816) ![0, 1792] ![8, 256] inb_S8x2816_S8x256_0_1792))
      (View.ld cb (Rect.unit (s := S1x2816) ![0, 1792] ![1, 256] inb_S1x2816_S1x256_0_1792))
      (View.ld wd (Rect.unit (s := S2816x1024) ![1792, 0] ![256, 1024] inb_S2816x1024_S256x1024_1792_0)))
      (k0_pay6 (half1 X g) (View.ld wu (Rect.unit (s := S1024x5632) ![0, 2048] ![1024, 256] inb_S1024x5632_S1024x256_0_2048)))
      (k0_pay6 (half1 X g) (View.ld wu (Rect.unit (s := S1024x5632) ![0, 4864] ![1024, 256] inb_S1024x5632_S1024x256_0_4864))) (k0_pay18 (k0_pay6 (half0 X g) (View.ld wu (Rect.unit (s := S1024x5632) ![0, 2048] ![1024, 256] inb_S1024x5632_S1024x256_0_2048))))
      (View.ld cw (Rect.unit (s := S8x2816) ![0, 2048] ![8, 256] inb_S8x2816_S8x256_0_2048))
      (View.ld cb (Rect.unit (s := S1x2816) ![0, 2048] ![1, 256] inb_S1x2816_S1x256_0_2048))
      (View.ld wd (Rect.unit (s := S2816x1024) ![2048, 0] ![256, 1024] inb_S2816x1024_S256x1024_2048_0)))
      (k0_pay6 (half1 X g) (View.ld wu (Rect.unit (s := S1024x5632) ![0, 2304] ![1024, 256] inb_S1024x5632_S1024x256_0_2304)))
      (k0_pay6 (half1 X g) (View.ld wu (Rect.unit (s := S1024x5632) ![0, 5120] ![1024, 256] inb_S1024x5632_S1024x256_0_5120))) (k0_pay18 (k0_pay6 (half0 X g) (View.ld wu (Rect.unit (s := S1024x5632) ![0, 2304] ![1024, 256] inb_S1024x5632_S1024x256_0_2304))))
      (View.ld cw (Rect.unit (s := S8x2816) ![0, 2304] ![8, 256] inb_S8x2816_S8x256_0_2304))
      (View.ld cb (Rect.unit (s := S1x2816) ![0, 2304] ![1, 256] inb_S1x2816_S1x256_0_2304))
      (View.ld wd (Rect.unit (s := S2816x1024) ![2304, 0] ![256, 1024] inb_S2816x1024_S256x1024_2304_0)))
      (k0_pay6 (half1 X g) (View.ld wu (Rect.unit (s := S1024x5632) ![0, 2560] ![1024, 256] inb_S1024x5632_S1024x256_0_2560)))
      (k0_pay6 (half1 X g) (View.ld wu (Rect.unit (s := S1024x5632) ![0, 5376] ![1024, 256] inb_S1024x5632_S1024x256_0_5376))) (k0_pay18 (k0_pay6 (half0 X g) (View.ld wu (Rect.unit (s := S1024x5632) ![0, 2560] ![1024, 256] inb_S1024x5632_S1024x256_0_2560))))
      (View.ld cw (Rect.unit (s := S8x2816) ![0, 2560] ![8, 256] inb_S8x2816_S8x256_0_2560))
      (View.ld cb (Rect.unit (s := S1x2816) ![0, 2560] ![1, 256] inb_S1x2816_S1x256_0_2560))
      (View.ld wd (Rect.unit (s := S2816x1024) ![2560, 0] ![256, 1024] inb_S2816x1024_S256x1024_2560_0))

section
variable {p : Inp} {b s : ℕ} {X : Vec Ideal S1x512x1024 .f32} {g : Vec Ideal S1x1024 .f32} {wu : Vec Ideal S1024x5632 .bf16}
    {cw : Vec Ideal S8x2816 .f32} {cb : Vec Ideal S1x2816 .f32} {wd : Vec Ideal S2816x1024 .bf16}
  {gf : Vec Ideal S1x1024 .f32} {C : Vec Ideal S8x2816 .f32}
variable (F : Fits p b s X g wu cw cb wd gf C)
include F

theorem half0_apply (r : Fin 256) (d : Fin 1024) : half0 X g (ix2 r d) = norm (p.x b (s + r.val)) p.g d.val :=
  rms_apply _ _ _ _ r (fun d => (F.x _).trans (by
    show p.x b (s + (0 + 1 * r.val)) (0 + 1 * d.val) = _
    simp only [Nat.zero_add, Nat.one_mul])) (fun d => F.g _) d

theorem half1_apply (r : Fin 256) (d : Fin 1024) : half1 X g (ix2 r d) = norm (p.x b (s + 256 + r.val)) p.g d.val :=
  rms_apply _ _ _ _ r (fun d => (F.x _).trans (by
    show p.x b (s + (256 + 1 * r.val)) (0 + 1 * d.val) = _
    simp only [Nat.zero_add, Nat.one_mul, Nat.add_assoc])) (fun d => F.g _) d

/-- A block of 256 widened columns from column `o` on. -/
theorem widen (n : FVec Ideal S256x1024 .bf16) (base o : ℕ) (h : ∀ a, ![0, o] a + ![1024, 256] a ≤ S1024x5632.size a)
    (hn : ∀ (r : Fin 256) (d : Fin 1024), n (ix2 r d) = norm (p.x b (base + r.val)) p.g d.val) (r f : Fin 256) :
    k0_pay6 n (View.ld wu (Rect.unit (s := S1024x5632) ![0, o] ![1024, 256] h)) (ix2 r f)
      = up p b (base + r.val) (o + f.val) :=
  up_apply n _ p b base o hn (fun d f => (F.wu _).trans (by
    show p.wu (0 + 1 * d.val) (o + 1 * f.val) = _
    simp only [Nat.zero_add, Nat.one_mul])) r f

/-- One stretch of the body over blocks that hold the operands. -/
theorem stretch_fits (acc : FVec Ideal S256x1024 .f32) (n : FVec Ideal S256x1024 .bf16) (q : FVec Ideal S8x256 .f32)
    (base o o' : ℕ) (h1 : ∀ a, ![0, o] a + ![1024, 256] a ≤ S1024x5632.size a)
    (h2 : ∀ a, ![0, o'] a + ![1024, 256] a ≤ S1024x5632.size a) (h3 : ∀ a, ![0, o] a + ![8, 256] a ≤ S8x2816.size a)
    (h4 : ∀ a, ![0, o] a + ![1, 256] a ≤ S1x2816.size a) (h5 : ∀ a, ![o, 0] a + ![256, 1024] a ≤ S2816x1024.size a)
    (ho : o' = 2816 + o)
    (hn : ∀ (r : Fin 256) (d : Fin 1024), n (ix2 r d) = norm (p.x b (base + r.val)) p.g d.val)
    (hq1 : ∀ f : Fin 256, q (ix2 7 f) = back p b base 1 (o + f.val))
    (hq2 : ∀ f : Fin 256, q (ix2 6 f) = back p b base 2 (o + f.val)) (r : Fin 256) (d : Fin 1024) :
    stretch acc (k0_pay6 n (View.ld wu (Rect.unit (s := S1024x5632) ![0, o] ![1024, 256] h1)))
      (k0_pay6 n (View.ld wu (Rect.unit (s := S1024x5632) ![0, o'] ![1024, 256] h2))) q
      (View.ld cw (Rect.unit (s := S8x2816) ![0, o] ![8, 256] h3))
      (View.ld cb (Rect.unit (s := S1x2816) ![0, o] ![1, 256] h4))
      (View.ld wd (Rect.unit (s := S2816x1024) ![o, 0] ![256, 1024] h5)) (ix2 r d)
    = acc (ix2 r d) + ∑ k : Fin 256, gate p b (base + r.val) (o + k.val) * p.wd (o + k.val) d.val := by
  refine stretch_apply acc _ _ q _ _ _ p b base o (widen F n base o h1 hn) (fun r f => ?_) hq1 hq2 (fun f => ?_)
    (fun f => ?_) (fun f => ?_) (fun f => ?_) (fun f d => ?_) r d
  · rw [widen F n base o' h2 hn, ho, Nat.add_assoc]
  · refine (F.cw _ (by show 0 + 1 * 0 < 3; omega)).trans ?_
    show p.cw (0 + 1 * 0) (o + 1 * f.val) = _
    simp only [Nat.one_mul]
  · refine (F.cw _ (by show 0 + 1 * 1 < 3; omega)).trans ?_
    show p.cw (0 + 1 * 1) (o + 1 * f.val) = _
    simp only [Nat.one_mul]
  · refine (F.cw _ (by show 0 + 1 * 2 < 3; omega)).trans ?_
    show p.cw (0 + 1 * 2) (o + 1 * f.val) = _
    simp only [Nat.one_mul]
  · refine (F.cb _).trans ?_
    show p.cb (o + 1 * f.val) = _
    simp only [Nat.one_mul]
  · refine (F.wd _).trans ?_
    show p.wd (o + 1 * f.val) (0 + 1 * d.val) = _
    simp only [Nat.zero_add, Nat.one_mul]

/-- The carried rows read as the rows before the first half. -/
theorem carry1 (o : ℕ) (h : ∀ a, ![0, o] a + ![8, 256] a ≤ S8x2816.size a) (f : Fin 256) :
    View.ld C (Rect.unit (s := S8x2816) ![0, o] ![8, 256] h) (ix2 7 f) = back p b s 1 (o + f.val) := by
  refine (F.c1 _ (by show 0 + 1 * 7 = 7; omega)).trans ?_
  show back p b s 1 (o + 1 * f.val) = _
  rw [Nat.one_mul]

theorem carry2 (o : ℕ) (h : ∀ a, ![0, o] a + ![8, 256] a ≤ S8x2816.size a) (f : Fin 256) :
    View.ld C (Rect.unit (s := S8x2816) ![0, o] ![8, 256] h) (ix2 6 f) = back p b s 2 (o + f.val) := by
  refine (F.c2 _ (by show 0 + 1 * 6 = 6; omega)).trans ?_
  show back p b s 2 (o + 1 * f.val) = _
  rw [Nat.one_mul]

/-- The last rows of the first half read as the rows before the second. -/
theorem within1 (o : ℕ) (h : ∀ a, ![0, o] a + ![1024, 256] a ≤ S1024x5632.size a) (f : Fin 256) :
    k0_pay18 (k0_pay6 (half0 X g) (View.ld wu (Rect.unit (s := S1024x5632) ![0, o] ![1024, 256] h))) (ix2 7 f)
      = back p b (s + 256) 1 (o + f.val) := by
  rw [tail_apply, widen F _ s o h (half0_apply F), back, if_neg (by omega)]
  rfl

theorem within2 (o : ℕ) (h : ∀ a, ![0, o] a + ![1024, 256] a ≤ S1024x5632.size a) (f : Fin 256) :
    k0_pay18 (k0_pay6 (half0 X g) (View.ld wu (Rect.unit (s := S1024x5632) ![0, o] ![1024, 256] h))) (ix2 6 f)
      = back p b (s + 256) 2 (o + f.val) := by
  rw [tail_apply, widen F _ s o h (half0_apply F), back, if_neg (by omega)]
  rfl

theorem mix0_apply (r : Fin 256) (d : Fin 1024) :
    mix0 X g wu cw cb wd C (ix2 r d) = mix p b (s + r.val) d.val := by
  rw [mix0]
  iterate 11 rw [stretch_fits F _ _ _ s _ _ _ _ _ _ _ rfl (half0_apply F) (carry1 F _ _) (carry2 F _ _)]
  rw [sum_stretches _ (fun k => gate p b (s + r.val) k * p.wd k d.val), mix]
  refine congrArg (· + _) ?_
  pointwise [k0_pay2]
  exact F.x _

theorem mix1_apply (r : Fin 256) (d : Fin 1024) :
    mix1 X g wu cw cb wd (ix2 r d) = mix p b (s + 256 + r.val) d.val := by
  rw [mix1]
  iterate 11 rw [stretch_fits F _ _ _ (s + 256) _ _ _ _ _ _ _ rfl (half1_apply F) (within1 F _ _) (within2 F _ _)]
  rw [sum_stretches _ (fun k => gate p b (s + 256 + r.val) k * p.wd k d.val), mix]
  refine congrArg (· + _) ?_
  pointwise [k0_pay2]
  refine (F.x _).trans ?_
  show p.x b (s + (256 + r.val)) d.val = _
  rw [Nat.add_assoc]

/-- What a point stores into its block of the result. -/
theorem out_fits :
    View.canon (Val := Elt Ideal) (s := S1x512x1024) (e := .f32)
      [⟨Rect.unit (s := S1x512x1024) ![0, 256, 0] ![1, 256, 1024] inb_S1x512x1024_S1x256x1024_0_256_0,
          k0_pay165 (mix1 X g wu cw cb wd) gf⟩,
        ⟨Rect.unit (s := S1x512x1024) ![0, 0, 0] ![1, 256, 1024] inb_S1x512x1024_S1x256x1024_0_0_0,
          k0_pay165 (mix0 X g wu cw cb wd C) gf⟩]
    = fun i => out p b (s + (i 1).val) (i 2).val := by
  funext y
  canon_tiles x h
  · have e : x = ix3 0 (x 1) (x 2) := by
      funext a
      match a with
      | ⟨0, _⟩ => exact Fin.ext (by have := (x 0).isLt; change _ < 1 at this; show (x 0).val = 0; omega)
      | ⟨1, _⟩ => rfl
      | ⟨2, _⟩ => rfl
    rw [e]
    refine (last_apply _ _ (mix p b (s + 256 + (x 1).val)) p.gf (x 1) (fun d => mix1_apply F (x 1) d) (fun d => F.gf _) (x 2)).trans ?_
    rw [out, h1, h2]
    simp only [Nat.zero_add, Nat.add_assoc]
  · have e : x = ix3 0 (x 1) (x 2) := by
      funext a
      match a with
      | ⟨0, _⟩ => exact Fin.ext (by have := (x 0).isLt; change _ < 1 at this; show (x 0).val = 0; omega)
      | ⟨1, _⟩ => rfl
      | ⟨2, _⟩ => rfl
    rw [e]
    refine (last_apply _ _ (mix p b (s + (x 1).val)) p.gf (x 1) (fun d => mix0_apply F (x 1) d) (fun d => F.gf _) (x 2)).trans ?_
    rw [out, h1, h2]

/-- A block of 256 carried columns stored after those before column `o`. -/
theorem carry_cons (o : ℕ) (h : ∀ a, ![0, o] a + ![8, 256] a ≤ S8x2816.size a)
    (h' : ∀ a, ![0, o] a + ![1024, 256] a ≤ S1024x5632.size a) (L : List (View.Piece (Elt Ideal) S8x2816 .f32))
    (hL : ∀ y : S8x2816.Idx, (y 1).val < o → View.canon L y = up p b (s + 504 + (y 0).val) (y 1).val)
    (y : S8x2816.Idx) (hy : (y 1).val < o + 256) :
    View.canon ((⟨Rect.unit (s := S8x2816) ![0, o] ![8, 256] h, k0_pay25 (k0_pay18 (k0_pay6 (half1 X g)
        (View.ld wu (Rect.unit (s := S1024x5632) ![0, o] ![1024, 256] h'))))⟩ : View.Piece (Elt Ideal) S8x2816 .f32) :: L) y
      = up p b (s + 504 + (y 0).val) (y 1).val := by
  by_cases hlt : (y 1).val < o
  · rw [View.canon_cons_of_not_mem, hL y hlt]
    intro hm
    have := ((Rect.mem_set_unit (inb := h)).mp hm 1).1
    change o ≤ (y 1).val at this
    omega
  · obtain ⟨r, hr⟩ : ∃ r : Fin 8, r.val = (y 0).val := ⟨⟨(y 0).val, (y 0).isLt⟩, rfl⟩
    have e : y = (Rect.unit (s := S8x2816) ![0, o] ![8, 256] h).emb
        (ix2 r ⟨(y 1).val - o, by omega⟩ : (⟨2, ![8, 256]⟩ : Shape).Idx) := by
      funext a
      match a with
      | ⟨0, _⟩ => exact Fin.ext (by show (y 0).val = 0 + 1 * r.val; omega)
      | ⟨1, _⟩ => exact Fin.ext (by show (y 1).val = o + 1 * ((y 1).val - o); omega)
    generalize hz : (ix2 r ⟨(y 1).val - o, by omega⟩ : (⟨2, ![8, 256]⟩ : Shape).Idx) = z at e
    rw [e, View.canon_cons_emb, ← e, ← hz]
    have e2 : ∀ (v : FVec Ideal S8x256 .f32) (i : S8x256.Idx), k0_pay25 v i = v i := fun v i => by
      obtain ⟨r, f, rfl⟩ : ∃ r f, i = ix2 r f := ⟨i 0, i 1, by funext a; match a with | ⟨0, _⟩ => rfl | ⟨1, _⟩ => rfl⟩
      pointwise [k0_pay25]
    rw [e2, tail_apply, widen F _ (s + 256) o h' (half1_apply F)]
    congr 1
    · show s + 256 + (248 + r.val) = _
      omega
    · show o + ((y 1).val - o) = _
      omega

/-- What a point leaves carried: the last eight widened rows, over whatever was there. -/
theorem tail_fits (L : List (View.Piece (Elt Ideal) S8x2816 .f32)) :
    View.canon (Val := Elt Ideal) (s := S8x2816) (e := .f32) (
    ⟨Rect.unit (s := S8x2816) ![0, 2560] ![8, 256] inb_S8x2816_S8x256_0_2560, k0_pay25 (k0_pay18 (k0_pay6 (half1 X g) (View.ld wu (Rect.unit (s := S1024x5632) ![0, 2560] ![1024, 256] inb_S1024x5632_S1024x256_0_2560))))⟩ ::
    ⟨Rect.unit (s := S8x2816) ![0, 2304] ![8, 256] inb_S8x2816_S8x256_0_2304, k0_pay25 (k0_pay18 (k0_pay6 (half1 X g) (View.ld wu (Rect.unit (s := S1024x5632) ![0, 2304] ![1024, 256] inb_S1024x5632_S1024x256_0_2304))))⟩ ::
    ⟨Rect.unit (s := S8x2816) ![0, 2048] ![8, 256] inb_S8x2816_S8x256_0_2048, k0_pay25 (k0_pay18 (k0_pay6 (half1 X g) (View.ld wu (Rect.unit (s := S1024x5632) ![0, 2048] ![1024, 256] inb_S1024x5632_S1024x256_0_2048))))⟩ ::
    ⟨Rect.unit (s := S8x2816) ![0, 1792] ![8, 256] inb_S8x2816_S8x256_0_1792, k0_pay25 (k0_pay18 (k0_pay6 (half1 X g) (View.ld wu (Rect.unit (s := S1024x5632) ![0, 1792] ![1024, 256] inb_S1024x5632_S1024x256_0_1792))))⟩ ::
    ⟨Rect.unit (s := S8x2816) ![0, 1536] ![8, 256] inb_S8x2816_S8x256_0_1536, k0_pay25 (k0_pay18 (k0_pay6 (half1 X g) (View.ld wu (Rect.unit (s := S1024x5632) ![0, 1536] ![1024, 256] inb_S1024x5632_S1024x256_0_1536))))⟩ ::
    ⟨Rect.unit (s := S8x2816) ![0, 1280] ![8, 256] inb_S8x2816_S8x256_0_1280, k0_pay25 (k0_pay18 (k0_pay6 (half1 X g) (View.ld wu (Rect.unit (s := S1024x5632) ![0, 1280] ![1024, 256] inb_S1024x5632_S1024x256_0_1280))))⟩ ::
    ⟨Rect.unit (s := S8x2816) ![0, 1024] ![8, 256] inb_S8x2816_S8x256_0_1024, k0_pay25 (k0_pay18 (k0_pay6 (half1 X g) (View.ld wu (Rect.unit (s := S1024x5632) ![0, 1024] ![1024, 256] inb_S1024x5632_S1024x256_0_1024))))⟩ ::
    ⟨Rect.unit (s := S8x2816) ![0, 768] ![8, 256] inb_S8x2816_S8x256_0_768, k0_pay25 (k0_pay18 (k0_pay6 (half1 X g) (View.ld wu (Rect.unit (s := S1024x5632) ![0, 768] ![1024, 256] inb_S1024x5632_S1024x256_0_768))))⟩ ::
    ⟨Rect.unit (s := S8x2816) ![0, 512] ![8, 256] inb_S8x2816_S8x256_0_512, k0_pay25 (k0_pay18 (k0_pay6 (half1 X g) (View.ld wu (Rect.unit (s := S1024x5632) ![0, 512] ![1024, 256] inb_S1024x5632_S1024x256_0_512))))⟩ ::
    ⟨Rect.unit (s := S8x2816) ![0, 256] ![8, 256] inb_S8x2816_S8x256_0_256, k0_pay25 (k0_pay18 (k0_pay6 (half1 X g) (View.ld wu (Rect.unit (s := S1024x5632) ![0, 256] ![1024, 256] inb_S1024x5632_S1024x256_0_256))))⟩ ::
    ⟨Rect.unit (s := S8x2816) ![0, 0] ![8, 256] inb_S8x2816_S8x256_0_0, k0_pay25 (k0_pay18 (k0_pay6 (half1 X g) (View.ld wu (Rect.unit (s := S1024x5632) ![0, 0] ![1024, 256] inb_S1024x5632_S1024x256_0_0))))⟩ :: L)
    = fun y => up p b (s + 504 + (y 0).val) (y 1).val := by
  funext y
  have hy : (y 1).val < 2560 + 256 := (y 1).isLt
  revert hy
  revert y
  refine carry_cons F 2560 _ _ _ ?_
  refine carry_cons F 2304 _ _ _ ?_
  refine carry_cons F 2048 _ _ _ ?_
  refine carry_cons F 1792 _ _ _ ?_
  refine carry_cons F 1536 _ _ _ ?_
  refine carry_cons F 1280 _ _ _ ?_
  refine carry_cons F 1024 _ _ _ ?_
  refine carry_cons F 768 _ _ _ ?_
  refine carry_cons F 512 _ _ _ ?_
  refine carry_cons F 256 _ _ _ ?_
  refine carry_cons F 0 _ _ _ ?_
  exact fun y h => absurd h (Nat.not_lt_zero _)

end

end Cert.Kernel2Ideal.Layer

end
-- ==== Proof.FfnPoint.lean ====
/- Each grid point's result and carried rows, from the operands its blocks hold. -/
module

public import proofs.«01_k».proof.Proof.FfnBody
public import proofs.«01_k».proof.Proof.Gen.Kernel2Ideal.Value
public import Idealize.ShloMosaic.Lib.Pipeline.ReadBack

@[expose] public section

set_option maxRecDepth 16384

noncomputable section

namespace Cert.Kernel2Ideal.Layer

open Cert.Kernel2Ideal Cert.Kernel2Ideal.Gen Idealize.ShloMosaic Idealize.ShloMosaic.TcCoe Idealize.SL.Sem Cert.Ffn

variable (m : (ℓ : Loc nD τ sig) → Buf (Elt Ideal) ℓ)

/-- The blocks of point `t` over the carried rows `C` hold `p`, of batch `b` from row `s` on. -/
def Holds (c : Dev nD) (t : Fin cfg0.N) (p : Inp) (b s : ℕ) (C : Vec Ideal S8x2816 .f32) : Prop :=
  Fits p b s (iblk m c 0 t) (iblk m c 1 t) (iblk m c 2 t) (iblk m c 3 t) (iblk m c 4 t) (iblk m c 5 t) (iblk m c 6 t) C

set_option maxHeartbeats 3200000 in
theorem tail_A (c : Dev nD) (t : Fin cfg0.N) (h0 : t.val % 8 = 0) {p : Inp} {b s : ℕ} {C : Vec Ideal S8x2816 .f32}
    (F : Holds m c t p b s C) :
    (outsAt0 m c t.val t.isLt).2 = fun y => up p b (s + 504 + (y 0).val) (y 1).val := by
  rw [outsAt0_A m c t h0]
  frame_out
  simp only [rms_same, tail_0, tail_1, tail_2, tail_3, tail_4, tail_5, tail_6, tail_7, tail_8, tail_9, tail_10]
  exact tail_fits F _

set_option maxHeartbeats 3200000 in
theorem tail_B (c : Dev nD) (t : Fin cfg0.N) (h0 : ¬t.val % 8 = 0) {p : Inp} {b s : ℕ} {C : Vec Ideal S8x2816 .f32}
    (F : Holds m c t p b s C) :
    (outsAt0 m c t.val t.isLt).2 = fun y => up p b (s + 504 + (y 0).val) (y 1).val := by
  rw [outsAt0_B m c t h0]
  frame_out
  simp only [rms_same, tail_0, tail_1, tail_2, tail_3, tail_4, tail_5, tail_6, tail_7, tail_8, tail_9, tail_10]
  exact tail_fits F _

set_option maxHeartbeats 3200000 in
theorem out_A (c : Dev nD) (t : Fin cfg0.N) (h0 : t.val % 8 = 0) {p : Inp} {b s : ℕ}
    (F : Holds m c t p b s (k0_pay1 (F := Ideal))) :
    (outsAt0 m c t.val t.isLt).1 = fun i => out p b (s + (i 1).val) (i 2).val := by
  rw [outsAt0_A m c t h0]
  frame_out
  simp (disch := decide) only [↓ View.readCov_skip, ↓ View.readCov_cons_toLoadRect, ↓ View.readCov_fill]
  simp only [rms_same, rows_same, step0_0, step0_1, step0_2, step0_3, step0_4, step0_5, step0_6, step0_7, step0_8, step0_9, step0_10,
    step1_0, step1_1, step1_2, step1_3, step1_4, step1_5, step1_6, step1_7, step1_8, step1_9, step1_10]
  exact out_fits F

set_option maxHeartbeats 3200000 in
theorem out_B (c : Dev nD) (t : Fin cfg0.N) (h0 : ¬t.val % 8 = 0) {p : Inp} {b s : ℕ}
    (F : Holds m c t p b s (outsAt0 m c (t.val - 1) (Nat.lt_of_le_of_lt (Nat.sub_le _ _) t.isLt)).2) :
    (outsAt0 m c t.val t.isLt).1 = fun i => out p b (s + (i 1).val) (i 2).val := by
  rw [outsAt0_B m c t h0]
  frame_out
  simp only [read_unread_whole, rms_same, rows_same, step0_0, step0_1, step0_2, step0_3, step0_4, step0_5, step0_6, step0_7, step0_8, step0_9, step0_10,
    step1_0, step1_1, step1_2, step1_3, step1_4, step1_5, step1_6, step1_7, step1_8, step1_9, step1_10]
  exact out_fits F

end Cert.Kernel2Ideal.Layer

end
-- ==== Proof.FfnBlocks.lean ====
/- The blocks of a grid point hold the operands. -/
module

public import proofs.«01_k».proof.Proof.FfnPoint
public import Idealize.ShloMosaic.Lib.Pipeline.ValueKit
public import Idealize.ShloMosaic.Lib.Claim

@[expose] public section

set_option maxRecDepth 16384

noncomputable section

namespace Cert.Kernel2Ideal.Layer

open Cert.Kernel2Ideal Cert.Kernel2Ideal.Gen Idealize.ShloMosaic Idealize.ShloMosaic.TcCoe Idealize.SL.Sem Cert.Ffn

variable (m : (ℓ : Loc nD τ sig) → Buf (Elt Ideal) ℓ)

/-- The operands of the call, as a chip's memory holds them. -/
def ops (c : Dev nD) : Inp :=
  Inp.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] :=
  (by decide +kernel : ∀ t : Fin grid0.N, _)

theorem blk_x (c : Dev nD) (t : Fin cfg0.N) (i : S1x512x1024.Idx) :
    (iblk m c 0 t : Vec Ideal S1x512x1024 .f32) i = (ops m c).x (t.val / 8) (512 * (t.val % 8) + (i 1).val) (i 2).val := by
  have e : (i 0).val = 0 := by have := (i 0).isLt; change _ < 1 at this; omega
  refine eq_at3 (m ((c : Thread nD τ).loc main_arg0)) (((cfg0.win 0).blk t).view.emb i) ?_ ?_ ?_ <;>
    (blk_simp [idx t]; try omega)

/-! The operands the host line prepares. -/

theorem at_v1 (c : Dev nD) :
    V m c main_v1 = (shapeCast S1x1024 (m ((c : Thread nD τ).loc main_arg1)) shapeCasts_S1024_S1x1024 : Vec Ideal S1x1024 .f32) := by
  simp only [V, List.flatten_cons, List.flatten_nil, List.append_nil, List.cons_append, List.nil_append, hostOps0, hostOps0_1,
    hostOps0_2]
  after_results
  try rfl

theorem at_v0 (c : Dev nD) :
    V m c main_v0 = (pad S8x2816 ![0, 0] ![5, 0] ![0, 0] (m ((c : Thread nD τ).loc main_arg3) : Vec Ideal S3x2816 .f32)
      (sitofp (F := Ideal) .f32 (constantI S_ 32 0#32)) pads_S3x2816_S8x2816_050_000 h_S_ : Vec Ideal S8x2816 .f32) := by
  simp only [V, List.flatten_cons, List.flatten_nil, List.append_nil, List.cons_append, List.nil_append, hostOps0, hostOps0_1,
    hostOps0_2]
  after_results
  try rfl

theorem at_v2 (c : Dev nD) :
    V m c main_v2 = (truncf (F := Ideal) .bf16 (m ((c : Thread nD τ).loc main_arg2) : Vec Ideal S1024x5632 .f32) bitsLt_bf16_f32 : Vec Ideal S1024x5632 .bf16) := by
  simp only [V, List.flatten_cons, List.flatten_nil, List.append_nil, List.cons_append, List.nil_append, hostOps0, hostOps0_1,
    hostOps0_2]
  after_results
  try rfl

theorem at_v3 (c : Dev nD) :
    V m c main_v3 = (shapeCast S1x2816 (m ((c : Thread nD τ).loc main_arg4)) shapeCasts_S2816_S1x2816 : Vec Ideal S1x2816 .f32) := by
  simp only [V, List.flatten_cons, List.flatten_nil, List.append_nil, List.cons_append, List.nil_append, hostOps0, hostOps0_1,
    hostOps0_2]
  after_results
  try rfl

theorem at_v4 (c : Dev nD) :
    V m c main_v4 = (truncf (F := Ideal) .bf16 (m ((c : Thread nD τ).loc main_arg5) : Vec Ideal S2816x1024 .f32) bitsLt_bf16_f32 : Vec Ideal S2816x1024 .bf16) := by
  simp only [V, List.flatten_cons, List.flatten_nil, List.append_nil, List.cons_append, List.nil_append, hostOps0, hostOps0_1,
    hostOps0_2]
  after_results
  try rfl

theorem at_v5 (c : Dev nD) :
    V m c main_v5 = (shapeCast S1x1024 (m ((c : Thread nD τ).loc main_arg6)) shapeCasts_S1024_S1x1024 : Vec Ideal S1x1024 .f32) := by
  simp only [V, List.flatten_cons, List.flatten_nil, List.append_nil, List.cons_append, List.nil_append, hostOps0, hostOps0_1,
    hostOps0_2]
  after_results
  try rfl

theorem row1024 (v : FVec Ideal S1024 .f32) (j : S1x1024.Idx) {a : ℕ} (h : (j 1).val = a) :
    shapeCast S1x1024 v shapeCasts_S1024_S1x1024 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem row2816 (v : FVec Ideal S2816 .f32) (j : S1x2816.Idx) {a : ℕ} (h : (j 1).val = a) :
    shapeCast S1x2816 v shapeCasts_S2816_S1x2816 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem taps (v : FVec Ideal S3x2816 .f32) (z : FVec Ideal S_ .f32) (j : S8x2816.Idx) {a b : ℕ} (h : (j 0).val = a)
    (h' : (j 1).val = b) (h3 : a < 3) :
    pad S8x2816 ![0, 0] ![5, 0] ![0, 0] v z pads_S3x2816_S8x2816_050_000 h_S_ j = at2 v a b := by
  obtain ⟨r, f, rfl⟩ : ∃ r f, j = ix2 r f := ⟨j 0, j 1, by funext a; match a with | ⟨0, _⟩ => rfl | ⟨1, _⟩ => rfl⟩
  have hr : r.val < 3 := h ▸ h3
  pointwise
  rw [dif_pos hr]
  exact eq_at2 v _ h h'

theorem blk_g (c : Dev nD) (t : Fin cfg0.N) (i : S1x1024.Idx) :
    (iblk m c 1 t : Vec Ideal S1x1024 .f32) i = (ops m c).g (i 1).val := by
  show V m c main_v1 (((cfg0.win 1).blk t).view.emb i) = _
  rw [at_v1]
  exact row1024 _ _ (by blk_simp [idx t]; try omega)

theorem blk_gf (c : Dev nD) (t : Fin cfg0.N) (i : S1x1024.Idx) :
    (iblk m c 6 t : Vec Ideal S1x1024 .f32) i = (ops m c).gf (i 1).val := by
  show V m c main_v5 (((cfg0.win 6).blk t).view.emb i) = _
  rw [at_v5]
  exact row1024 _ _ (by blk_simp [idx t]; try omega)

theorem blk_cb (c : Dev nD) (t : Fin cfg0.N) (i : S1x2816.Idx) :
    (iblk m c 4 t : Vec Ideal S1x2816 .f32) i = (ops m c).cb (i 1).val := by
  show V m c main_v3 (((cfg0.win 4).blk t).view.emb i) = _
  rw [at_v3]
  exact row2816 _ _ (by blk_simp [idx t]; try omega)

theorem blk_wu (c : Dev nD) (t : Fin cfg0.N) (i : S1024x5632.Idx) :
    (iblk m c 2 t : Vec Ideal S1024x5632 .bf16) i = (ops m c).wu (i 0).val (i 1).val := by
  show V m c main_v2 (((cfg0.win 2).blk t).view.emb i) = _
  rw [at_v2]
  refine eq_at2 (m ((c : Thread nD τ).loc main_arg2)) (((cfg0.win 2).blk t).view.emb i) ?_ ?_ <;> (blk_simp [idx t]; try omega)

theorem blk_wd (c : Dev nD) (t : Fin cfg0.N) (i : S2816x1024.Idx) :
    (iblk m c 5 t : Vec Ideal S2816x1024 .bf16) i = (ops m c).wd (i 0).val (i 1).val := by
  show V m c main_v4 (((cfg0.win 5).blk t).view.emb i) = _
  rw [at_v4]
  refine eq_at2 (m ((c : Thread nD τ).loc main_arg5)) (((cfg0.win 5).blk t).view.emb i) ?_ ?_ <;> (blk_simp [idx t]; try omega)

theorem blk_cw (c : Dev nD) (t : Fin cfg0.N) (i : S8x2816.Idx) (h : (i 0).val < 3) :
    (iblk m c 3 t : Vec Ideal S8x2816 .f32) i = (ops m c).cw (i 0).val (i 1).val := by
  show V m c main_v0 (((cfg0.win 3).blk t).view.emb i) = _
  rw [at_v0]
  exact taps _ _ _ (by blk_simp [idx t]; try omega) (by blk_simp [idx t]; try omega) h

/-- A point's blocks hold the operands, whatever agrees with the two rows before them. -/
theorem holds (c : Dev nD) (t : Fin cfg0.N) (C : Vec Ideal S8x2816 .f32)
    (c1 : ∀ i, (i 0).val = 7 → C i = back (ops m c) (t.val / 8) (512 * (t.val % 8)) 1 (i 1).val)
    (c2 : ∀ i, (i 0).val = 6 → C i = back (ops m c) (t.val / 8) (512 * (t.val % 8)) 2 (i 1).val) :
    Holds m c t (ops m c) (t.val / 8) (512 * (t.val % 8)) C :=
  ⟨blk_x m c t, blk_g m c t, blk_wu m c t, blk_cw m c t, blk_cb m c t, blk_wd m c t, blk_gf m c t, c1, c2⟩

/-- What is carried after a point: the last eight widened rows of its block. -/
theorem carried (c : Dev nD) (t : Fin cfg0.N) : (outsAt0 m c t.val t.isLt).2
    = fun y => up (ops m c) (t.val / 8) (512 * (t.val % 8) + 504 + (y 0).val) (y 1).val := by
  have F := holds m c t (fun i => back (ops m c) (t.val / 8) (512 * (t.val % 8)) (8 - (i 0).val) (i 1).val)
    (fun i h => by rw [h]) (fun i h => by rw [h])
  by_cases h0 : t.val % 8 = 0
  · exact tail_A m c t h0 F
  · exact tail_B m c t h0 F

theorem zeros (i : S8x2816.Idx) : k0_pay1 (F := Ideal) i = 0 := by
  obtain ⟨r, f, rfl⟩ : ∃ r f, i = ix2 r f := ⟨i 0, i 1, by funext a; match a with | ⟨0, _⟩ => rfl | ⟨1, _⟩ => rfl⟩
  pointwise [k0_pay1]

/-- What a point leaves in its block of the result. -/
theorem produced (c : Dev nD) (t : Fin cfg0.N) : (outsAt0 m c t.val t.isLt).1
    = fun i => out (ops m c) (t.val / 8) (512 * (t.val % 8) + (i 1).val) (i 2).val := by
  have ht := t.isLt
  by_cases h0 : t.val % 8 = 0
  · refine out_A m c t h0 (holds m c t _ (fun i _ => ?_) (fun i _ => ?_)) <;> rw [zeros, back, if_pos (by omega)]
  · have e := carried m c ⟨t.val - 1, by omega⟩
    refine out_B m c t h0 (holds m c t _ (fun i h => ?_) (fun i h => ?_))
    · rw [back, if_neg (by omega)]
      refine (congrFun e i).trans ?_
      show up (ops m c) ((t.val - 1) / 8) (512 * ((t.val - 1) % 8) + 504 + (i 0).val) (i 1).val = _
      rw [show (t.val - 1) / 8 = t.val / 8 by omega,
        show 512 * ((t.val - 1) % 8) + 504 + (i 0).val = 512 * (t.val % 8) - 1 by omega]
    · rw [back, if_neg (by omega)]
      refine (congrFun e i).trans ?_
      show up (ops m c) ((t.val - 1) / 8) (512 * ((t.val - 1) % 8) + 504 + (i 0).val) (i 1).val = _
      rw [show (t.val - 1) / 8 = t.val / 8 by omega,
        show 512 * ((t.val - 1) % 8) + 504 + (i 0).val = 512 * (t.val % 8) - 2 by omega]

/-- The result array after the run. -/
theorem final (c : Dev nD) : (dats m 0 c).arrAt 7 cfg0.N
    = fun i => out (ops m c) (i 0).val (i 1).val (i 2).val := by
  refine (dats m 0 c).arrAt_eq_of_covers 7 (fun i => out (ops m c) (i 0).val (i 1).val (i 2).val) (by decide +kernel)
    fun t _ y => ?_
  blk_simp
  rw [after0_7, produced]
  blk_simp [idx t]
  rw [Nat.mul_comm 512]

/-- The same, of the array the run names. -/
theorem result (c : Dev nD) : Value.G7 m c = fun i => out (ops m c) (i 0).val (i 1).val (i 2).val :=
  (Value.final7 m c).symm.trans (final m c)

end Cert.Kernel2Ideal.Layer

end
-- ==== Proof.MidRef.lean ====
/- The inner layers' reference at an index: its operations read one after the other give the layer of FfnSpec, before the
   last normalisation. -/
module

public import proofs.«01_k».proof.Proof.FfnSpec
public import proofs.«01_k».proof.Proof.Gen.Reference3Ideal.Read
public import Idealize.ShloMosaic.Lib.KernelVsHost

@[expose] public section

set_option maxRecDepth 16384

noncomputable section

namespace Cert.Ffn.MidRef

open Cert.Reference3Ideal Cert.Reference3Ideal.Gen Cert.Reference3Ideal.Read Idealize.ShloMosaic Cert.Ffn

variable (x0 : FVec Ideal S8x4096x1024 .f32) (x1 : FVec Ideal S1024 .f32) (x2 : FVec Ideal S1024x5632 .f32)
  (x3 : FVec Ideal S3x2816 .f32) (x4 : FVec Ideal S2816 .f32) (x5 : FVec Ideal S2816x1024 .f32) (x6 : FVec Ideal S1024 .f32)

/-- The normalised rows. -/
theorem norm_eq (i : S8x4096x1024.Idx) : val_main_v12 (F := Ideal) x0 x1 i
    = norm (at3 x0 (i 0).val (i 1).val) (at1 x1) (i 2).val := by
  simp only [val_main_v12_apply, val_main_v9_apply, val_main_v8_apply, val_main_v7_apply, val_main_v6_apply,
    val_main_v5_apply, val_main_v4_apply, val_main_v3_apply, val_main_v2_apply, val_main_v1_apply, val_main_v0_apply,
    val_main_v11_apply, val_main_v10_apply, val_main_cst_apply, val_main_cst_0_apply, val_main_cst_1_apply,
    Ideal.mulf_def, Ideal.addf_def, Ideal.hostDivf_def, Ideal.hostUnary_rsqrt_def, Ideal.ofBits_def,
    Ideal.ofBits_zero_f32, zero_add]
  simp only [norm, inv, fun j => eq_at3 x0 j rfl rfl rfl, fun j => eq_at1 x1 j rfl]

/-- The widened rows. -/
theorem up_eq (i : S8x4096x5632.Idx) : val_main_v13 (F := Ideal) x0 x1 x2 i
    = up (Inp.of x0 x1 x2 x3 x4 x5 x6) (i 0).val (i 1).val (i 2).val := by
  rw [val_main_v13_apply, up]
  refine Finset.sum_congr rfl fun k _ => ?_
  rw [norm_eq, eq_at2 x2 _ rfl rfl]
  rfl

/-- The first half with two rows of zeros before it. -/
theorem pad_eq (i : S8x4098x2816.Idx) : val_main_v16 (F := Ideal) x0 x1 x2 i
    = if (i 1).val < 2 then 0 else up (Inp.of x0 x1 x2 x3 x4 x5 x6) (i 0).val ((i 1).val - 2) (i 2).val := by
  have h1 : (i 1).val < 4098 := (i 1).isLt
  unfold val_main_v16
  by_cases h : (i 1).val < 2
  · rw [if_pos h, pad_apply_of_not_inside (a := 1)]
    · rw [val_main_call0_v0_apply, val_main_c_apply]
      simp [FloatOps.sitofp]
    · intro hin
      have : 2 ≤ (i 1).val := hin.1
      omega
  · rw [if_neg h, pad_apply_of_inside (k := (fun a => match a with
      | ⟨0, _⟩ => ⟨(i 0).val, (i 0).isLt⟩
      | ⟨1, _⟩ => ⟨(i 1).val - 2, by show (i 1).val - 2 < 4096; omega⟩
      | ⟨2, _⟩ => ⟨(i 2).val, (i 2).isLt⟩ : S8x4096x2816.Idx))]
    · rw [val_main_v14_apply, up_eq x0 x1 x2 x3 x4 x5 x6]
    · intro a
      match a with
      | ⟨0, _⟩ => show (i 0).val = 0 + (i 0).val * (0 + 1); omega
      | ⟨1, _⟩ => show (i 1).val = 2 + ((i 1).val - 2) * (0 + 1); omega
      | ⟨2, _⟩ => show (i 2).val = 0 + (i 2).val * (0 + 1); omega

/-- The convolution. -/
theorem conv_eq (i : S8x4096x2816.Idx) : val_main_v41 (F := Ideal) x0 x1 x2 x3 x4 i
    = conv (Inp.of x0 x1 x2 x3 x4 x5 x6) (i 0).val (i 1).val (i 2).val := by
  have h2 : (i 2).val < 2816 := (i 2).isLt
  simp only [val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_cst_2_apply, pad_eq x0 x1 x2 x3 x4 x5 x6,
    Ideal.mulf_def, Ideal.addf_def, Ideal.ofBits_def, Ideal.ofBits_zero_f32, zero_add]
  rw [eq_at2 x3 _ (a := 0) (b := (i 2).val) rfl (Nat.mod_eq_of_lt h2), eq_at2 x3 _ (a := 1) (b := (i 2).val) rfl (Nat.mod_eq_of_lt h2),
    eq_at2 x3 _ (a := 2) (b := (i 2).val) rfl (Nat.mod_eq_of_lt h2), eq_at1 x4 _ (a := (i 2).val) rfl, conv]
  have e2 : ∀ j : ℕ, j ≤ 2 → (if j + (i 1).val < 2 then (0 : EReal) else up (Inp.of x0 x1 x2 x3 x4 x5 x6) (i 0).val (j + (i 1).val - 2) (i 2).val)
      = back (Inp.of x0 x1 x2 x3 x4 x5 x6) (i 0).val (i 1).val (2 - j) (i 2).val := fun j hj => by
    rw [back]
    by_cases h : j + (i 1).val < 2
    · rw [if_pos h, if_pos (by omega)]
    · rw [if_neg h, if_neg (by omega), show j + (i 1).val - 2 = (i 1).val - (2 - j) by omega]
  have e := e2 0 (by omega)
  rw [zero_add] at e
  rw [← e2 1 (by omega), ← e2 2 (by omega)]
  exact congrArg₂ _ (congrArg₂ _ (congrArg₂ _ (congrArg₂ _ rfl e) rfl) rfl) rfl

/-- The gate. -/
theorem gate_eq (i : S8x4096x2816.Idx) : val_main_v43 (F := Ideal) x0 x1 x2 x3 x4 i
    = gate (Inp.of x0 x1 x2 x3 x4 x5 x6) (i 0).val (i 1).val (i 2).val := by
  simp only [val_main_v43_apply, val_main_v42_apply, val_main_call1_v5_apply, val_main_call1_v4_apply, val_main_call1_v3_apply,
    val_main_call1_v2_apply, val_main_call1_v1_apply, val_main_call1_v0_apply, val_main_call1_cst_apply,
    val_main_call1_cst_0_apply, val_main_v15_apply, conv_eq x0 x1 x2 x3 x4 x5 x6, up_eq x0 x1 x2 x3 x4 x5 x6,
    Ideal.mulf_def, Ideal.addf_def, Ideal.hostDivf_def, Ideal.hostUnary_exp_def, Ideal.hostNegf_def, Ideal.ofBits_def, ofBits_one, mul_one_div]
  rfl

/-- The row with the narrowed gate added. -/
theorem mix_eq (i : S8x4096x1024.Idx) : val_main_v45 (F := Ideal) x0 x1 x2 x3 x4 x5 i
    = mix (Inp.of x0 x1 x2 x3 x4 x5 x6) (i 0).val (i 1).val (i 2).val := by
  rw [val_main_v45_apply, val_main_v44_apply, mix, Ideal.addf_def, eq_at3 x0 i rfl rfl rfl]
  refine congrArg₂ _ rfl (Finset.sum_congr rfl fun k _ => ?_)
  rw [gate_eq x0 x1 x2 x3 x4 x5 x6, eq_at2 x5 _ rfl rfl]
  rfl

end Cert.Ffn.MidRef

end
-- ==== Proof.MidChunk.lean ====
/- One stretch of 256 columns of the inner layers' kernel body, named once, and read at an index. -/
module

public import proofs.«01_k».proof.Proof.FfnSpec
public import proofs.«01_k».proof.Proof.Gen.Kernel3Ideal.Skeleton
public import Idealize.ShloMosaic.Lib.Pipeline.ValueKit

@[expose] public section

set_option maxRecDepth 16384

noncomputable section

namespace Cert.Kernel3Ideal.Layer

open Cert.Kernel3Ideal Cert.Kernel3Ideal.Gen Idealize.ShloMosaic Idealize.ShloMosaic.TcCoe Idealize.SL.Sem Cert.Ffn

/-- The number of its row, at each place of a 256 by 256 block. -/
def rowNo : IVec S256x256 32 := iota Kind.tc S256x256 32 [0] iota_S256x256_d0_w32

/-- The block one row later, its first row the last of `q`. -/
def later (a : FVec Ideal S256x256 .f32) (q : FVec Ideal S8x256 .f32) : FVec Ideal S256x256 .f32 :=
  select (cmpi .eq rowNo (broadcast S256x256 0#32))
    (broadcastTo S256x256 (shapeCast S1x256 (k0_pay17 q) shapeCasts_S1x256_S1x256) broadcasts_S1x256_S256x256)
    (dynamicRotate 0 1#32 none a rotates_S256x256_d0)

/-- A stretch: the sum so far with the narrowed gate of these 256 columns added. -/
def stretch (acc : FVec Ideal S256x1024 .f32) (a b : FVec Ideal S256x256 .f32) (q : FVec Ideal S8x256 .f32)
    (cw : FVec Ideal S8x256 .f32) (cb : FVec Ideal S1x256 .f32) (wd : FVec Ideal S256x1024 .bf16) : FVec Ideal S256x1024 .f32 :=
  k0_pay20 rowNo acc a b (k0_pay17 q) (k0_pay18 q) (later a q) cw cb wd

theorem pick (r n : ℕ) (hr : r < 256) (hn : n < 256) (x y : EReal) :
    Scalar.select (IntOp.cmpi CmpIPredicate.eq (BitVec.ofNat 32 r) (BitVec.ofNat 32 n)) x y = if r = n then x else y := by
  have e : (BitVec.ofNat 32 r = BitVec.ofNat 32 n) ↔ r = n := by
    rw [← BitVec.toNat_inj, BitVec.toNat_ofNat, BitVec.toNat_ofNat]
    omega
  by_cases h : r = n
  · simp [Scalar.select, IntOp.cmpi, h]
  · have f : (BitVec.ofNat 32 r == BitVec.ofNat 32 n) = false := beq_eq_false_iff_ne.mpr fun q => h (e.mp q)
    simp [Scalar.select, IntOp.cmpi, f, h]

/-- A stretch at an index. -/
theorem stretch_apply (acc : FVec Ideal S256x1024 .f32) (a b : FVec Ideal S256x256 .f32) (q : FVec Ideal S8x256 .f32)
    (cw : FVec Ideal S8x256 .f32) (cb : FVec Ideal S1x256 .f32) (wd : FVec Ideal S256x1024 .bf16) (p : Inp) (n base o : ℕ)
    (ha : ∀ (r f : Fin 256), a (ix2 r f) = up p n (base + r.val) (o + f.val))
    (hb : ∀ (r f : Fin 256), b (ix2 r f) = up p n (base + r.val) (2816 + (o + f.val)))
    (hq1 : ∀ f : Fin 256, q (ix2 7 f) = back p n base 1 (o + f.val))
    (hq2 : ∀ f : Fin 256, q (ix2 6 f) = back p n base 2 (o + f.val))
    (h0 : ∀ f : Fin 256, cw (ix2 0 f) = p.cw 0 (o + f.val))
    (h1 : ∀ f : Fin 256, cw (ix2 1 f) = p.cw 1 (o + f.val))
    (h2 : ∀ f : Fin 256, cw (ix2 2 f) = p.cw 2 (o + f.val))
    (hc : ∀ f : Fin 256, cb (ix2 0 f) = p.cb (o + f.val))
    (hd : ∀ (f : Fin 256) (d : Fin 1024), wd (ix2 f d) = p.wd (o + f.val) d.val)
    (r : Fin 256) (d : Fin 1024) :
    stretch acc a b q cw cb wd (ix2 r d)
      = acc (ix2 r d) + ∑ k : Fin 256, gate p n (base + r.val) (o + k.val) * p.wd (o + k.val) d.val := by
  have hr := r.isLt
  have e1 : ∀ f : Fin 256, Scalar.select (IntOp.cmpi CmpIPredicate.eq (BitVec.ofNat 32 r.val) 0#32) (q (ix2 7 f))
      (a (ix2 ⟨(r.val + 256 - 1) % 256, Nat.mod_lt _ (by omega)⟩ f)) = back p n (base + r.val) 1 (o + f.val) := fun f => by
    rw [pick r.val 0 hr (by omega)]
    by_cases h : r.val = 0
    · rw [if_pos h, hq1, h, Nat.add_zero]
    · rw [if_neg h, ha, back, if_neg (by omega)]
      congr 1
      show base + (r.val + 256 - 1) % 256 = _
      omega
  have e2 : ∀ f : Fin 256, Scalar.select (IntOp.cmpi CmpIPredicate.eq (BitVec.ofNat 32 r.val) 0#32) (q (ix2 6 f))
      (Scalar.select (IntOp.cmpi CmpIPredicate.eq (BitVec.ofNat 32 r.val) 1#32) (q (ix2 7 f))
        (a (ix2 ⟨(r.val + 256 - 2) % 256, Nat.mod_lt _ (by omega)⟩ f))) = back p n (base + r.val) 2 (o + f.val) := fun f => by
    rw [pick r.val 0 hr (by omega), pick r.val 1 hr (by omega)]
    by_cases h : r.val = 0
    · rw [if_pos h, hq2, h, Nat.add_zero]
    · rw [if_neg h]
      by_cases h' : r.val = 1
      · rw [if_pos h', hq1, h']
        by_cases hb : base = 0
        · rw [back, back, if_pos (by omega), if_pos (by omega)]
        · rw [back, back, if_neg (by omega), if_neg (by omega)]
          congr 1
      · rw [if_neg h', ha, back, if_neg (by omega)]
        congr 1
        show base + (r.val + 256 - 2) % 256 = _
        omega
  pointwise [stretch, later, rowNo, k0_pay17, k0_pay18, k0_pay20]
  simp only [e1, e2]
  simp only [ha, hb, h0, h1, h2, hc, hd, gate, conv, back_zero, sub_eq_add_neg, zero_add]

/-- A block of the widened rows at an index. -/
theorem up_apply (n : FVec Ideal S256x1024 .bf16) (w : FVec Ideal S1024x256 .bf16) (p : Inp) (b base o : ℕ)
    (hn : ∀ (r : Fin 256) (d : Fin 1024), n (ix2 r d) = norm (p.x b (base + r.val)) p.g d.val)
    (hw : ∀ (d : Fin 1024) (f : Fin 256), w (ix2 d f) = p.wu d.val (o + f.val)) (r f : Fin 256) :
    k0_pay9 n w (ix2 r f) = up p b (base + r.val) (o + f.val) := by
  pointwise [k0_pay9]
  simp only [hn, hw, up]

/-- A block of normalised rows at an index. -/
theorem rms_apply (v : FVec Ideal S1x256x1024 .f32) (g : FVec Ideal S1x1024 .f32) (V s : ℕ → EReal) (r : Fin 256)
    (hv : ∀ d : Fin 1024, v (ix3 0 r d) = V d.val) (hg : ∀ d : Fin 1024, g (ix2 0 d) = s d.val) (d : Fin 1024) :
    k0_pay7 (F := Ideal) v g (ix2 r d) = norm V s d.val := by
  pointwise [k0_pay7, k0_pay5]
  simp only [hv, hg, Ffn.norm, Ffn.inv]

/-- The last step's block at an index. -/
theorem last_apply (v : FVec Ideal S256x1024 .f32) (r : Fin 256) (d : Fin 1024) :
    k0_pay2 (F := Ideal) v (ix3 0 r d) = v (ix2 r d) := by
  pointwise [k0_pay2]

/-- The carried block at an index. -/
theorem tail_apply (a : FVec Ideal S256x256 .f32) (r : Fin 8) (f : Fin 256) :
    k0_pay21 (F := Ideal) a (ix2 r f) = a (ix2 ⟨248 + r.val, by omega⟩ f) := by
  pointwise [k0_pay21]

end Cert.Kernel3Ideal.Layer

end
-- ==== Proof.MidSteps.lean ====
/- The inner layers' kernel body writes each stretch of 256 columns out again, cut at different places. Each of the 22 writings (11
   stretches, 2 halves of the rows) is the one stretch of MidChunk, and each of the 11 carried blocks the last rows of
   the second half. -/
module

public import proofs.«01_k».proof.Proof.MidChunk

@[expose] public section

set_option maxRecDepth 16384

noncomputable section

namespace Cert.Kernel3Ideal.Layer

open Cert.Kernel3Ideal Cert.Kernel3Ideal.Gen Idealize.ShloMosaic Idealize.ShloMosaic.TcCoe Idealize.SL.Sem

theorem rms_same (v : FVec Ideal S1x256x1024 .f32) (g : FVec Ideal S1x1024 .f32) :
    k0_pay8 (F := Ideal) v g = k0_pay7 v g := rfl

theorem rows_same (v : FVec Ideal S1x256x1024 .f32) : k0_pay6 (F := Ideal) v = k0_pay5 v := rfl

theorem step0_0 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay20 (iota Kind.tc S256x256 32 [0] iota_S256x256_d0_w32) acc (k0_pay9 n0 wa) (k0_pay10 n0 wb) (k0_pay17 q)
    (k0_pay18 q) (k0_pay19 (iota Kind.tc S256x256 32 [0] iota_S256x256_d0_w32) n0 wa q) cw cb wd
      = stretch acc (k0_pay9 n0 wa) (k0_pay9 n0 wb) q cw cb wd := rfl

theorem step0_1 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay37 (k0_pay13 n0 wa) (k0_pay14 n0 wb) acc (k0_pay34 (iota Kind.tc S256x256 32 [0] iota_S256x256_d0_w32)
    (k0_pay13 n0 wa) q) (k0_pay35 cw) (k0_pay36 (iota Kind.tc S256x256 32 [0] iota_S256x256_d0_w32) (k0_pay13 n0 wa)
    q cw) cb wd
      = stretch acc (k0_pay9 n0 wa) (k0_pay9 n0 wb) q cw cb wd := rfl

theorem step0_2 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay51 (k0_pay30 n0 wb) acc (k0_pay49 (iota Kind.tc S256x256 32 [0] iota_S256x256_d0_w32) (k0_pay29 n0 wa) q
    cw cb) (k0_pay50 (iota Kind.tc S256x256 32 [0] iota_S256x256_d0_w32) (k0_pay29 n0 wa) q cw cb) wd
      = stretch acc (k0_pay9 n0 wa) (k0_pay9 n0 wb) q cw cb wd := rfl

theorem step0_3 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay64 (iota Kind.tc S256x256 32 [0] iota_S256x256_d0_w32) (k0_pay45 n0 wa) (k0_pay46 n0 wb) acc (k0_pay60 q)
    (k0_pay61 q) (k0_pay62 (iota Kind.tc S256x256 32 [0] iota_S256x256_d0_w32) (k0_pay45 n0 wa) q) (k0_pay63 (iota
    Kind.tc S256x256 32 [0] iota_S256x256_d0_w32)) cw cb wd
      = stretch acc (k0_pay9 n0 wa) (k0_pay9 n0 wb) q cw cb wd := rfl

theorem step0_4 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay79 (k0_pay56 n0 wa) (k0_pay57 n0 wb) acc (k0_pay76 cw) (k0_pay77 (iota Kind.tc S256x256 32 [0]
    iota_S256x256_d0_w32) (k0_pay56 n0 wa) q cw) (k0_pay78 (iota Kind.tc S256x256 32 [0] iota_S256x256_d0_w32)
    (k0_pay56 n0 wa) q cw) cb wd
      = stretch acc (k0_pay9 n0 wa) (k0_pay9 n0 wb) q cw cb wd := rfl

theorem step0_5 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay93 acc (k0_pay92 (iota Kind.tc S256x256 32 [0] iota_S256x256_d0_w32) (k0_pay71 n0 wa) (k0_pay72 n0 wb) q
    cw cb) wd
      = stretch acc (k0_pay9 n0 wa) (k0_pay9 n0 wb) q cw cb wd := rfl

theorem step0_6 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay107 (k0_pay87 n0 wa) (k0_pay88 n0 wb) acc (k0_pay102 q) (k0_pay103 q) (k0_pay104 (iota Kind.tc S256x256 32
    [0] iota_S256x256_d0_w32) (k0_pay87 n0 wa) q) (k0_pay105 (iota Kind.tc S256x256 32 [0] iota_S256x256_d0_w32))
    (k0_pay106 (iota Kind.tc S256x256 32 [0] iota_S256x256_d0_w32)) cw cb wd
      = stretch acc (k0_pay9 n0 wa) (k0_pay9 n0 wb) q cw cb wd := rfl

theorem step0_7 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay123 (k0_pay98 n0 wa) (k0_pay99 n0 wb) acc (k0_pay121 (iota Kind.tc S256x256 32 [0] iota_S256x256_d0_w32)
    (k0_pay98 n0 wa) q cw) (k0_pay122 cw) cb wd
      = stretch acc (k0_pay9 n0 wa) (k0_pay9 n0 wb) q cw cb wd := rfl

theorem step0_8 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay136 acc (k0_pay135 (iota Kind.tc S256x256 32 [0] iota_S256x256_d0_w32) (k0_pay116 n0 (k0_pay115 wa))
    (k0_pay117 n0 wb) q cw cb) wd
      = stretch acc (k0_pay9 n0 wa) (k0_pay9 n0 wb) q cw cb wd := rfl

theorem step0_9 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay151 (k0_pay131 n0 wa) (k0_pay132 n0 wb) acc (k0_pay145 q) (k0_pay146 (iota Kind.tc S256x256 32 [0]
    iota_S256x256_d0_w32) (k0_pay131 n0 wa) q) (k0_pay147 (iota Kind.tc S256x256 32 [0] iota_S256x256_d0_w32))
    (k0_pay148 (iota Kind.tc S256x256 32 [0] iota_S256x256_d0_w32)) (k0_pay149 (k0_pay131 n0 wa)) (k0_pay150 q) cw
    cb wd
      = stretch acc (k0_pay9 n0 wa) (k0_pay9 n0 wb) q cw cb wd := rfl

theorem step0_10 (acc : FVec Ideal S256x1024 .f32) (n0 : FVec Ideal S256x1024 .bf16) (wa : FVec Ideal S1024x256 .bf16) (wb : FVec Ideal S1024x256 .bf16) (q : FVec Ideal S8x256 .f32) (cw : FVec Ideal S8x256 .f32) (cb : FVec Ideal S1x256 .f32) (wd : FVec Ideal S256x1024 .bf16) :
    k0_pay163 (iota Kind.tc S256x256 32 [0] iota_S256x256_d0_w32) (k0_pay140 n0 wa) (k0_pay141 n0 wb) acc (k0_pay160
    q) (k0_pay161 q) k0_pay162 cw cb wd
      = stretch acc (k0_pay9 n0 wa) (k0_pay9 n0 wb) q cw cb wd := rfl

theorem step1_0 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay26 (iota Kind.tc S256x256 32 [0] iota_S256x256_d0_w32) acc (k0_pay11 n1 wa) (k0_pay12 n1 wb) (k0_pay22
    (k0_pay9 n0 wa)) (k0_pay23 (k0_pay9 n0 wa)) (k0_pay24 (iota Kind.tc S256x256 32 [0] iota_S256x256_d0_w32))
    (k0_pay25 (k0_pay11 n1 wa)) cw cb wd
      = stretch acc (k0_pay9 n1 wa) (k0_pay9 n1 wb) (k0_pay21 (k0_pay9 n0 wa)) cw cb wd := rfl

theorem step1_1 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay43 (k0_pay15 n1 wa) (k0_pay16 n1 wb) acc (k0_pay40 (iota Kind.tc S256x256 32 [0] iota_S256x256_d0_w32)
    (k0_pay13 n0 wa) (k0_pay15 n1 wa)) (k0_pay41 (iota Kind.tc S256x256 32 [0] iota_S256x256_d0_w32) (k0_pay13 n0
    wa) (k0_pay15 n1 wa)) (k0_pay42 cw) cb wd
      = stretch acc (k0_pay9 n1 wa) (k0_pay9 n1 wb) (k0_pay21 (k0_pay9 n0 wa)) cw cb wd := rfl

theorem step1_2 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay54 (k0_pay32 n1 wb) acc (k0_pay52 (iota Kind.tc S256x256 32 [0] iota_S256x256_d0_w32) (k0_pay29 n0 wa)
    (k0_pay31 n1 wa) cw cb) (k0_pay53 (iota Kind.tc S256x256 32 [0] iota_S256x256_d0_w32) (k0_pay29 n0 wa) (k0_pay31
    n1 wa) cw cb) wd
      = stretch acc (k0_pay9 n1 wa) (k0_pay9 n1 wb) (k0_pay21 (k0_pay9 n0 wa)) cw cb wd := rfl

theorem step1_3 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay69 (iota Kind.tc S256x256 32 [0] iota_S256x256_d0_w32) (k0_pay47 n1 wa) (k0_pay48 n1 wb) acc (k0_pay66
    (k0_pay45 n0 wa)) (k0_pay67 (k0_pay45 n0 wa)) (k0_pay68 (iota Kind.tc S256x256 32 [0] iota_S256x256_d0_w32)
    (k0_pay45 n0 wa) (k0_pay47 n1 wa)) cw cb wd
      = stretch acc (k0_pay9 n1 wa) (k0_pay9 n1 wb) (k0_pay21 (k0_pay9 n0 wa)) cw cb wd := rfl

theorem step1_4 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay85 (k0_pay58 n1 wa) (k0_pay59 n1 wb) acc (k0_pay82 (iota Kind.tc S256x256 32 [0] iota_S256x256_d0_w32)
    (k0_pay56 n0 wa) (k0_pay58 n1 wa)) (k0_pay83 cw) (k0_pay84 (iota Kind.tc S256x256 32 [0] iota_S256x256_d0_w32)
    (k0_pay56 n0 wa) (k0_pay58 n1 wa) cw) cb wd
      = stretch acc (k0_pay9 n1 wa) (k0_pay9 n1 wb) (k0_pay21 (k0_pay9 n0 wa)) cw cb wd := rfl

theorem step1_5 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay96 (k0_pay74 n1 wb) acc (k0_pay94 (iota Kind.tc S256x256 32 [0] iota_S256x256_d0_w32) (k0_pay71 n0 wa)
    (k0_pay73 n1 wa) cw cb) (k0_pay95 (iota Kind.tc S256x256 32 [0] iota_S256x256_d0_w32) (k0_pay71 n0 wa) (k0_pay73
    n1 wa) cw cb) wd
      = stretch acc (k0_pay9 n1 wa) (k0_pay9 n1 wb) (k0_pay21 (k0_pay9 n0 wa)) cw cb wd := rfl

theorem step1_6 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay113 (iota Kind.tc S256x256 32 [0] iota_S256x256_d0_w32) (k0_pay89 n1 wa) (k0_pay91 n1 (k0_pay90 wb)) acc
    (k0_pay109 (k0_pay87 n0 wa)) (k0_pay110 (k0_pay87 n0 wa)) (k0_pay111 (iota Kind.tc S256x256 32 [0]
    iota_S256x256_d0_w32) (k0_pay87 n0 wa) (k0_pay89 n1 wa)) (k0_pay112 (iota Kind.tc S256x256 32 [0]
    iota_S256x256_d0_w32)) cw cb wd
      = stretch acc (k0_pay9 n1 wa) (k0_pay9 n1 wb) (k0_pay21 (k0_pay9 n0 wa)) cw cb wd := rfl

theorem step1_7 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay129 (k0_pay100 n1 wa) (k0_pay101 n1 wb) acc (k0_pay126 cw) (k0_pay127 (iota Kind.tc S256x256 32 [0]
    iota_S256x256_d0_w32) (k0_pay98 n0 wa) (k0_pay100 n1 wa) cw) (k0_pay128 (iota Kind.tc S256x256 32 [0]
    iota_S256x256_d0_w32) (k0_pay98 n0 wa) (k0_pay100 n1 wa) cw) cb wd
      = stretch acc (k0_pay9 n1 wa) (k0_pay9 n1 wb) (k0_pay21 (k0_pay9 n0 wa)) cw cb wd := rfl

theorem step1_8 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay138 acc (k0_pay137 (iota Kind.tc S256x256 32 [0] iota_S256x256_d0_w32) (k0_pay116 n0 (k0_pay115 wa))
    (k0_pay118 n1 wa) (k0_pay119 n1 wb) cw cb) wd
      = stretch acc (k0_pay9 n1 wa) (k0_pay9 n1 wb) (k0_pay21 (k0_pay9 n0 wa)) cw cb wd := rfl

theorem step1_9 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay158 (k0_pay133 n1 wa) (k0_pay134 n1 wb) acc (k0_pay153 (k0_pay131 n0 wa)) (k0_pay154 (k0_pay131 n0 wa))
    (k0_pay155 (iota Kind.tc S256x256 32 [0] iota_S256x256_d0_w32) (k0_pay131 n0 wa) (k0_pay133 n1 wa)) (k0_pay156
    (iota Kind.tc S256x256 32 [0] iota_S256x256_d0_w32)) (k0_pay157 (iota Kind.tc S256x256 32 [0]
    iota_S256x256_d0_w32)) cw cb wd
      = stretch acc (k0_pay9 n1 wa) (k0_pay9 n1 wb) (k0_pay21 (k0_pay9 n0 wa)) cw cb wd := rfl

theorem step1_10 (acc : FVec Ideal S256x1024 .f32) (n0 : FVec Ideal S256x1024 .bf16) (n1 : FVec Ideal S256x1024 .bf16) (wa : FVec Ideal S1024x256 .bf16) (wb : FVec Ideal S1024x256 .bf16) (cw : FVec Ideal S8x256 .f32) (cb : FVec Ideal S1x256 .f32) (wd : FVec Ideal S256x1024 .bf16) :
    k0_pay3 acc (k0_pay166 (iota Kind.tc S256x256 32 [0] iota_S256x256_d0_w32) (k0_pay142 n1 wa) (k0_pay143 n1 wb)
    (k0_pay164 (k0_pay140 n0 wa)) (k0_pay165 (k0_pay140 n0 wa)) cw cb wd)
      = k0_pay2 (stretch acc (k0_pay9 n1 wa) (k0_pay9 n1 wb) (k0_pay21 (k0_pay9 n0 wa)) cw cb wd) := rfl

theorem tail_0 (n1 : FVec Ideal S256x1024 .bf16) (wa : FVec Ideal S1024x256 .bf16) :
    k0_pay28 (k0_pay27 (k0_pay11 n1 wa))
      = k0_pay28 (k0_pay21 (k0_pay9 n1 wa)) := rfl

theorem tail_1 (n1 : FVec Ideal S256x1024 .bf16) (wa : FVec Ideal S1024x256 .bf16) :
    k0_pay44 (k0_pay15 n1 wa)
      = k0_pay28 (k0_pay21 (k0_pay9 n1 wa)) := rfl

theorem tail_2 (n1 : FVec Ideal S256x1024 .bf16) (wa : FVec Ideal S1024x256 .bf16) :
    k0_pay55 (k0_pay31 n1 wa)
      = k0_pay28 (k0_pay21 (k0_pay9 n1 wa)) := rfl

theorem tail_3 (n1 : FVec Ideal S256x1024 .bf16) (wa : FVec Ideal S1024x256 .bf16) :
    k0_pay70 (k0_pay47 n1 wa)
      = k0_pay28 (k0_pay21 (k0_pay9 n1 wa)) := rfl

theorem tail_4 (n1 : FVec Ideal S256x1024 .bf16) (wa : FVec Ideal S1024x256 .bf16) :
    k0_pay86 (k0_pay58 n1 wa)
      = k0_pay28 (k0_pay21 (k0_pay9 n1 wa)) := rfl

theorem tail_5 (n1 : FVec Ideal S256x1024 .bf16) (wa : FVec Ideal S1024x256 .bf16) :
    k0_pay97 (k0_pay73 n1 wa)
      = k0_pay28 (k0_pay21 (k0_pay9 n1 wa)) := rfl

theorem tail_6 (n1 : FVec Ideal S256x1024 .bf16) (wa : FVec Ideal S1024x256 .bf16) :
    k0_pay114 (k0_pay89 n1 wa)
      = k0_pay28 (k0_pay21 (k0_pay9 n1 wa)) := rfl

theorem tail_7 (n1 : FVec Ideal S256x1024 .bf16) (wa : FVec Ideal S1024x256 .bf16) :
    k0_pay130 (k0_pay100 n1 wa)
      = k0_pay28 (k0_pay21 (k0_pay9 n1 wa)) := rfl

theorem tail_8 (n1 : FVec Ideal S256x1024 .bf16) (wa : FVec Ideal S1024x256 .bf16) :
    k0_pay139 (k0_pay118 n1 wa)
      = k0_pay28 (k0_pay21 (k0_pay9 n1 wa)) := rfl

theorem tail_9 (n1 : FVec Ideal S256x1024 .bf16) (wa : FVec Ideal S1024x256 .bf16) :
    k0_pay159 (k0_pay133 n1 wa)
      = k0_pay28 (k0_pay21 (k0_pay9 n1 wa)) := rfl

theorem tail_10 (n1 : FVec Ideal S256x1024 .bf16) (wa : FVec Ideal S1024x256 .bf16) :
    k0_pay1 (k0_pay142 n1 wa)
      = k0_pay28 (k0_pay21 (k0_pay9 n1 wa)) := rfl

end Cert.Kernel3Ideal.Layer

end
-- ==== Proof.MidBody.lean ====
/- What one grid point of the inner layers' kernel computes, from blocks that hold the operands' rows: the two halves of 256 rows, each over the
   eleven stretches of columns, and the last eight widened rows carried to the point after. -/
module

public import proofs.«01_k».proof.Proof.MidSteps

@[expose] public section

set_option maxRecDepth 16384

noncomputable section

namespace Cert.Kernel3Ideal.Layer

open Cert.Kernel3Ideal Cert.Kernel3Ideal.Gen Idealize.ShloMosaic Idealize.ShloMosaic.TcCoe Idealize.SL.Sem Cert.Ffn

/-- The blocks of a point hold the operands `p`: of `x`, the 512 rows of batch `b` from row `s` on. -/
structure Fits (p : Inp) (b s : ℕ) (X : Vec Ideal S1x512x1024 .f32) (g : Vec Ideal S1x1024 .f32) (wu : Vec Ideal S1024x5632 .bf16)
    (cw : Vec Ideal S8x2816 .f32) (cb : Vec Ideal S1x2816 .f32) (wd : Vec Ideal S2816x1024 .bf16)
    (gf : Vec Ideal S1x1024 .f32) (C : Vec Ideal S8x2816 .f32) : Prop where
  x : ∀ i, X i = p.x b (s + (i 1).val) (i 2).val
  g : ∀ i, g i = p.g (i 1).val
  wu : ∀ i, wu i = p.wu (i 0).val (i 1).val
  cw : ∀ i, (i 0).val < 3 → cw i = p.cw (i 0).val (i 1).val
  cb : ∀ i, cb i = p.cb (i 1).val
  wd : ∀ i, wd i = p.wd (i 0).val (i 1).val
  gf : ∀ i, gf i = p.gf (i 1).val
  c1 : ∀ i, (i 0).val = 7 → C i = back p b s 1 (i 1).val
  c2 : ∀ i, (i 0).val = 6 → C i = back p b s 2 (i 1).val

/-- The normalised first 256 rows. -/
def half0 (X : Vec Ideal S1x512x1024 .f32) (g : Vec Ideal S1x1024 .f32) : FVec Ideal S256x1024 .bf16 :=
  k0_pay7 (View.ld X (Rect.unit (s := S1x512x1024) ![0, 0, 0] ![1, 256, 1024] inb_S1x512x1024_S1x256x1024_0_0_0)) g

/-- The normalised last 256 rows. -/
def half1 (X : Vec Ideal S1x512x1024 .f32) (g : Vec Ideal S1x1024 .f32) : FVec Ideal S256x1024 .bf16 :=
  k0_pay7 (View.ld X (Rect.unit (s := S1x512x1024) ![0, 256, 0] ![1, 256, 1024] inb_S1x512x1024_S1x256x1024_0_256_0)) g

/-- The first 256 rows with the narrowed gate added. -/
def mix0 (X : Vec Ideal S1x512x1024 .f32) (g : Vec Ideal S1x1024 .f32) (wu : Vec Ideal S1024x5632 .bf16)
    (cw : Vec Ideal S8x2816 .f32) (cb : Vec Ideal S1x2816 .f32) (wd : Vec Ideal S2816x1024 .bf16)
    (C : Vec Ideal S8x2816 .f32) : FVec Ideal S256x1024 .f32 :=
  stretch (stretch (stretch (stretch (stretch (stretch (stretch (stretch (stretch (stretch (stretch (k0_pay5 (View.ld X (Rect.unit (s := S1x512x1024) ![0, 0, 0] ![1, 256, 1024] inb_S1x512x1024_S1x256x1024_0_0_0)))
      (k0_pay9 (half0 X g) (View.ld wu (Rect.unit (s := S1024x5632) ![0, 0] ![1024, 256] inb_S1024x5632_S1024x256_0_0)))
      (k0_pay9 (half0 X g) (View.ld wu (Rect.unit (s := S1024x5632) ![0, 2816] ![1024, 256] inb_S1024x5632_S1024x256_0_2816))) (View.ld C (Rect.unit (s := S8x2816) ![0, 0] ![8, 256] inb_S8x2816_S8x256_0_0))
      (View.ld cw (Rect.unit (s := S8x2816) ![0, 0] ![8, 256] inb_S8x2816_S8x256_0_0))
      (View.ld cb (Rect.unit (s := S1x2816) ![0, 0] ![1, 256] inb_S1x2816_S1x256_0_0))
      (View.ld wd (Rect.unit (s := S2816x1024) ![0, 0] ![256, 1024] inb_S2816x1024_S256x1024_0_0)))
      (k0_pay9 (half0 X g) (View.ld wu (Rect.unit (s := S1024x5632) ![0, 256] ![1024, 256] inb_S1024x5632_S1024x256_0_256)))
      (k0_pay9 (half0 X g) (View.ld wu (Rect.unit (s := S1024x5632) ![0, 3072] ![1024, 256] inb_S1024x5632_S1024x256_0_3072))) (View.ld C (Rect.unit (s := S8x2816) ![0, 256] ![8, 256] inb_S8x2816_S8x256_0_256))
      (View.ld cw (Rect.unit (s := S8x2816) ![0, 256] ![8, 256] inb_S8x2816_S8x256_0_256))
      (View.ld cb (Rect.unit (s := S1x2816) ![0, 256] ![1, 256] inb_S1x2816_S1x256_0_256))
      (View.ld wd (Rect.unit (s := S2816x1024) ![256, 0] ![256, 1024] inb_S2816x1024_S256x1024_256_0)))
      (k0_pay9 (half0 X g) (View.ld wu (Rect.unit (s := S1024x5632) ![0, 512] ![1024, 256] inb_S1024x5632_S1024x256_0_512)))
      (k0_pay9 (half0 X g) (View.ld wu (Rect.unit (s := S1024x5632) ![0, 3328] ![1024, 256] inb_S1024x5632_S1024x256_0_3328))) (View.ld C (Rect.unit (s := S8x2816) ![0, 512] ![8, 256] inb_S8x2816_S8x256_0_512))
      (View.ld cw (Rect.unit (s := S8x2816) ![0, 512] ![8, 256] inb_S8x2816_S8x256_0_512))
      (View.ld cb (Rect.unit (s := S1x2816) ![0, 512] ![1, 256] inb_S1x2816_S1x256_0_512))
      (View.ld wd (Rect.unit (s := S2816x1024) ![512, 0] ![256, 1024] inb_S2816x1024_S256x1024_512_0)))
      (k0_pay9 (half0 X g) (View.ld wu (Rect.unit (s := S1024x5632) ![0, 768] ![1024, 256] inb_S1024x5632_S1024x256_0_768)))
      (k0_pay9 (half0 X g) (View.ld wu (Rect.unit (s := S1024x5632) ![0, 3584] ![1024, 256] inb_S1024x5632_S1024x256_0_3584))) (View.ld C (Rect.unit (s := S8x2816) ![0, 768] ![8, 256] inb_S8x2816_S8x256_0_768))
      (View.ld cw (Rect.unit (s := S8x2816) ![0, 768] ![8, 256] inb_S8x2816_S8x256_0_768))
      (View.ld cb (Rect.unit (s := S1x2816) ![0, 768] ![1, 256] inb_S1x2816_S1x256_0_768))
      (View.ld wd (Rect.unit (s := S2816x1024) ![768, 0] ![256, 1024] inb_S2816x1024_S256x1024_768_0)))
      (k0_pay9 (half0 X g) (View.ld wu (Rect.unit (s := S1024x5632) ![0, 1024] ![1024, 256] inb_S1024x5632_S1024x256_0_1024)))
      (k0_pay9 (half0 X g) (View.ld wu (Rect.unit (s := S1024x5632) ![0, 3840] ![1024, 256] inb_S1024x5632_S1024x256_0_3840))) (View.ld C (Rect.unit (s := S8x2816) ![0, 1024] ![8, 256] inb_S8x2816_S8x256_0_1024))
      (View.ld cw (Rect.unit (s := S8x2816) ![0, 1024] ![8, 256] inb_S8x2816_S8x256_0_1024))
      (View.ld cb (Rect.unit (s := S1x2816) ![0, 1024] ![1, 256] inb_S1x2816_S1x256_0_1024))
      (View.ld wd (Rect.unit (s := S2816x1024) ![1024, 0] ![256, 1024] inb_S2816x1024_S256x1024_1024_0)))
      (k0_pay9 (half0 X g) (View.ld wu (Rect.unit (s := S1024x5632) ![0, 1280] ![1024, 256] inb_S1024x5632_S1024x256_0_1280)))
      (k0_pay9 (half0 X g) (View.ld wu (Rect.unit (s := S1024x5632) ![0, 4096] ![1024, 256] inb_S1024x5632_S1024x256_0_4096))) (View.ld C (Rect.unit (s := S8x2816) ![0, 1280] ![8, 256] inb_S8x2816_S8x256_0_1280))
      (View.ld cw (Rect.unit (s := S8x2816) ![0, 1280] ![8, 256] inb_S8x2816_S8x256_0_1280))
      (View.ld cb (Rect.unit (s := S1x2816) ![0, 1280] ![1, 256] inb_S1x2816_S1x256_0_1280))
      (View.ld wd (Rect.unit (s := S2816x1024) ![1280, 0] ![256, 1024] inb_S2816x1024_S256x1024_1280_0)))
      (k0_pay9 (half0 X g) (View.ld wu (Rect.unit (s := S1024x5632) ![0, 1536] ![1024, 256] inb_S1024x5632_S1024x256_0_1536)))
      (k0_pay9 (half0 X g) (View.ld wu (Rect.unit (s := S1024x5632) ![0, 4352] ![1024, 256] inb_S1024x5632_S1024x256_0_4352))) (View.ld C (Rect.unit (s := S8x2816) ![0, 1536] ![8, 256] inb_S8x2816_S8x256_0_1536))
      (View.ld cw (Rect.unit (s := S8x2816) ![0, 1536] ![8, 256] inb_S8x2816_S8x256_0_1536))
      (View.ld cb (Rect.unit (s := S1x2816) ![0, 1536] ![1, 256] inb_S1x2816_S1x256_0_1536))
      (View.ld wd (Rect.unit (s := S2816x1024) ![1536, 0] ![256, 1024] inb_S2816x1024_S256x1024_1536_0)))
      (k0_pay9 (half0 X g) (View.ld wu (Rect.unit (s := S1024x5632) ![0, 1792] ![1024, 256] inb_S1024x5632_S1024x256_0_1792)))
      (k0_pay9 (half0 X g) (View.ld wu (Rect.unit (s := S1024x5632) ![0, 4608] ![1024, 256] inb_S1024x5632_S1024x256_0_4608))) (View.ld C (Rect.unit (s := S8x2816) ![0, 1792] ![8, 256] inb_S8x2816_S8x256_0_1792))
      (View.ld cw (Rect.unit (s := S8x2816) ![0, 1792] ![8, 256] inb_S8x2816_S8x256_0_1792))
      (View.ld cb (Rect.unit (s := S1x2816) ![0, 1792] ![1, 256] inb_S1x2816_S1x256_0_1792))
      (View.ld wd (Rect.unit (s := S2816x1024) ![1792, 0] ![256, 1024] inb_S2816x1024_S256x1024_1792_0)))
      (k0_pay9 (half0 X g) (View.ld wu (Rect.unit (s := S1024x5632) ![0, 2048] ![1024, 256] inb_S1024x5632_S1024x256_0_2048)))
      (k0_pay9 (half0 X g) (View.ld wu (Rect.unit (s := S1024x5632) ![0, 4864] ![1024, 256] inb_S1024x5632_S1024x256_0_4864))) (View.ld C (Rect.unit (s := S8x2816) ![0, 2048] ![8, 256] inb_S8x2816_S8x256_0_2048))
      (View.ld cw (Rect.unit (s := S8x2816) ![0, 2048] ![8, 256] inb_S8x2816_S8x256_0_2048))
      (View.ld cb (Rect.unit (s := S1x2816) ![0, 2048] ![1, 256] inb_S1x2816_S1x256_0_2048))
      (View.ld wd (Rect.unit (s := S2816x1024) ![2048, 0] ![256, 1024] inb_S2816x1024_S256x1024_2048_0)))
      (k0_pay9 (half0 X g) (View.ld wu (Rect.unit (s := S1024x5632) ![0, 2304] ![1024, 256] inb_S1024x5632_S1024x256_0_2304)))
      (k0_pay9 (half0 X g) (View.ld wu (Rect.unit (s := S1024x5632) ![0, 5120] ![1024, 256] inb_S1024x5632_S1024x256_0_5120))) (View.ld C (Rect.unit (s := S8x2816) ![0, 2304] ![8, 256] inb_S8x2816_S8x256_0_2304))
      (View.ld cw (Rect.unit (s := S8x2816) ![0, 2304] ![8, 256] inb_S8x2816_S8x256_0_2304))
      (View.ld cb (Rect.unit (s := S1x2816) ![0, 2304] ![1, 256] inb_S1x2816_S1x256_0_2304))
      (View.ld wd (Rect.unit (s := S2816x1024) ![2304, 0] ![256, 1024] inb_S2816x1024_S256x1024_2304_0)))
      (k0_pay9 (half0 X g) (View.ld wu (Rect.unit (s := S1024x5632) ![0, 2560] ![1024, 256] inb_S1024x5632_S1024x256_0_2560)))
      (k0_pay9 (half0 X g) (View.ld wu (Rect.unit (s := S1024x5632) ![0, 5376] ![1024, 256] inb_S1024x5632_S1024x256_0_5376))) (View.ld C (Rect.unit (s := S8x2816) ![0, 2560] ![8, 256] inb_S8x2816_S8x256_0_2560))
      (View.ld cw (Rect.unit (s := S8x2816) ![0, 2560] ![8, 256] inb_S8x2816_S8x256_0_2560))
      (View.ld cb (Rect.unit (s := S1x2816) ![0, 2560] ![1, 256] inb_S1x2816_S1x256_0_2560))
      (View.ld wd (Rect.unit (s := S2816x1024) ![2560, 0] ![256, 1024] inb_S2816x1024_S256x1024_2560_0))

/-- The last 256 rows with the narrowed gate added. -/
def mix1 (X : Vec Ideal S1x512x1024 .f32) (g : Vec Ideal S1x1024 .f32) (wu : Vec Ideal S1024x5632 .bf16)
    (cw : Vec Ideal S8x2816 .f32) (cb : Vec Ideal S1x2816 .f32) (wd : Vec Ideal S2816x1024 .bf16) :
    FVec Ideal S256x1024 .f32 :=
  stretch (stretch (stretch (stretch (stretch (stretch (stretch (stretch (stretch (stretch (stretch (k0_pay5 (View.ld X (Rect.unit (s := S1x512x1024) ![0, 256, 0] ![1, 256, 1024] inb_S1x512x1024_S1x256x1024_0_256_0)))
      (k0_pay9 (half1 X g) (View.ld wu (Rect.unit (s := S1024x5632) ![0, 0] ![1024, 256] inb_S1024x5632_S1024x256_0_0)))
      (k0_pay9 (half1 X g) (View.ld wu (Rect.unit (s := S1024x5632) ![0, 2816] ![1024, 256] inb_S1024x5632_S1024x256_0_2816))) (k0_pay21 (k0_pay9 (half0 X g) (View.ld wu (Rect.unit (s := S1024x5632) ![0, 0] ![1024, 256] inb_S1024x5632_S1024x256_0_0))))
      (View.ld cw (Rect.unit (s := S8x2816) ![0, 0] ![8, 256] inb_S8x2816_S8x256_0_0))
      (View.ld cb (Rect.unit (s := S1x2816) ![0, 0] ![1, 256] inb_S1x2816_S1x256_0_0))
      (View.ld wd (Rect.unit (s := S2816x1024) ![0, 0] ![256, 1024] inb_S2816x1024_S256x1024_0_0)))
      (k0_pay9 (half1 X g) (View.ld wu (Rect.unit (s := S1024x5632) ![0, 256] ![1024, 256] inb_S1024x5632_S1024x256_0_256)))
      (k0_pay9 (half1 X g) (View.ld wu (Rect.unit (s := S1024x5632) ![0, 3072] ![1024, 256] inb_S1024x5632_S1024x256_0_3072))) (k0_pay21 (k0_pay9 (half0 X g) (View.ld wu (Rect.unit (s := S1024x5632) ![0, 256] ![1024, 256] inb_S1024x5632_S1024x256_0_256))))
      (View.ld cw (Rect.unit (s := S8x2816) ![0, 256] ![8, 256] inb_S8x2816_S8x256_0_256))
      (View.ld cb (Rect.unit (s := S1x2816) ![0, 256] ![1, 256] inb_S1x2816_S1x256_0_256))
      (View.ld wd (Rect.unit (s := S2816x1024) ![256, 0] ![256, 1024] inb_S2816x1024_S256x1024_256_0)))
      (k0_pay9 (half1 X g) (View.ld wu (Rect.unit (s := S1024x5632) ![0, 512] ![1024, 256] inb_S1024x5632_S1024x256_0_512)))
      (k0_pay9 (half1 X g) (View.ld wu (Rect.unit (s := S1024x5632) ![0, 3328] ![1024, 256] inb_S1024x5632_S1024x256_0_3328))) (k0_pay21 (k0_pay9 (half0 X g) (View.ld wu (Rect.unit (s := S1024x5632) ![0, 512] ![1024, 256] inb_S1024x5632_S1024x256_0_512))))
      (View.ld cw (Rect.unit (s := S8x2816) ![0, 512] ![8, 256] inb_S8x2816_S8x256_0_512))
      (View.ld cb (Rect.unit (s := S1x2816) ![0, 512] ![1, 256] inb_S1x2816_S1x256_0_512))
      (View.ld wd (Rect.unit (s := S2816x1024) ![512, 0] ![256, 1024] inb_S2816x1024_S256x1024_512_0)))
      (k0_pay9 (half1 X g) (View.ld wu (Rect.unit (s := S1024x5632) ![0, 768] ![1024, 256] inb_S1024x5632_S1024x256_0_768)))
      (k0_pay9 (half1 X g) (View.ld wu (Rect.unit (s := S1024x5632) ![0, 3584] ![1024, 256] inb_S1024x5632_S1024x256_0_3584))) (k0_pay21 (k0_pay9 (half0 X g) (View.ld wu (Rect.unit (s := S1024x5632) ![0, 768] ![1024, 256] inb_S1024x5632_S1024x256_0_768))))
      (View.ld cw (Rect.unit (s := S8x2816) ![0, 768] ![8, 256] inb_S8x2816_S8x256_0_768))
      (View.ld cb (Rect.unit (s := S1x2816) ![0, 768] ![1, 256] inb_S1x2816_S1x256_0_768))
      (View.ld wd (Rect.unit (s := S2816x1024) ![768, 0] ![256, 1024] inb_S2816x1024_S256x1024_768_0)))
      (k0_pay9 (half1 X g) (View.ld wu (Rect.unit (s := S1024x5632) ![0, 1024] ![1024, 256] inb_S1024x5632_S1024x256_0_1024)))
      (k0_pay9 (half1 X g) (View.ld wu (Rect.unit (s := S1024x5632) ![0, 3840] ![1024, 256] inb_S1024x5632_S1024x256_0_3840))) (k0_pay21 (k0_pay9 (half0 X g) (View.ld wu (Rect.unit (s := S1024x5632) ![0, 1024] ![1024, 256] inb_S1024x5632_S1024x256_0_1024))))
      (View.ld cw (Rect.unit (s := S8x2816) ![0, 1024] ![8, 256] inb_S8x2816_S8x256_0_1024))
      (View.ld cb (Rect.unit (s := S1x2816) ![0, 1024] ![1, 256] inb_S1x2816_S1x256_0_1024))
      (View.ld wd (Rect.unit (s := S2816x1024) ![1024, 0] ![256, 1024] inb_S2816x1024_S256x1024_1024_0)))
      (k0_pay9 (half1 X g) (View.ld wu (Rect.unit (s := S1024x5632) ![0, 1280] ![1024, 256] inb_S1024x5632_S1024x256_0_1280)))
      (k0_pay9 (half1 X g) (View.ld wu (Rect.unit (s := S1024x5632) ![0, 4096] ![1024, 256] inb_S1024x5632_S1024x256_0_4096))) (k0_pay21 (k0_pay9 (half0 X g) (View.ld wu (Rect.unit (s := S1024x5632) ![0, 1280] ![1024, 256] inb_S1024x5632_S1024x256_0_1280))))
      (View.ld cw (Rect.unit (s := S8x2816) ![0, 1280] ![8, 256] inb_S8x2816_S8x256_0_1280))
      (View.ld cb (Rect.unit (s := S1x2816) ![0, 1280] ![1, 256] inb_S1x2816_S1x256_0_1280))
      (View.ld wd (Rect.unit (s := S2816x1024) ![1280, 0] ![256, 1024] inb_S2816x1024_S256x1024_1280_0)))
      (k0_pay9 (half1 X g) (View.ld wu (Rect.unit (s := S1024x5632) ![0, 1536] ![1024, 256] inb_S1024x5632_S1024x256_0_1536)))
      (k0_pay9 (half1 X g) (View.ld wu (Rect.unit (s := S1024x5632) ![0, 4352] ![1024, 256] inb_S1024x5632_S1024x256_0_4352))) (k0_pay21 (k0_pay9 (half0 X g) (View.ld wu (Rect.unit (s := S1024x5632) ![0, 1536] ![1024, 256] inb_S1024x5632_S1024x256_0_1536))))
      (View.ld cw (Rect.unit (s := S8x2816) ![0, 1536] ![8, 256] inb_S8x2816_S8x256_0_1536))
      (View.ld cb (Rect.unit (s := S1x2816) ![0, 1536] ![1, 256] inb_S1x2816_S1x256_0_1536))
      (View.ld wd (Rect.unit (s := S2816x1024) ![1536, 0] ![256, 1024] inb_S2816x1024_S256x1024_1536_0)))
      (k0_pay9 (half1 X g) (View.ld wu (Rect.unit (s := S1024x5632) ![0, 1792] ![1024, 256] inb_S1024x5632_S1024x256_0_1792)))
      (k0_pay9 (half1 X g) (View.ld wu (Rect.unit (s := S1024x5632) ![0, 4608] ![1024, 256] inb_S1024x5632_S1024x256_0_4608))) (k0_pay21 (k0_pay9 (half0 X g) (View.ld wu (Rect.unit (s := S1024x5632) ![0, 1792] ![1024, 256] inb_S1024x5632_S1024x256_0_1792))))
      (View.ld cw (Rect.unit (s := S8x2816) ![0, 1792] ![8, 256] inb_S8x2816_S8x256_0_1792))
      (View.ld cb (Rect.unit (s := S1x2816) ![0, 1792] ![1, 256] inb_S1x2816_S1x256_0_1792))
      (View.ld wd (Rect.unit (s := S2816x1024) ![1792, 0] ![256, 1024] inb_S2816x1024_S256x1024_1792_0)))
      (k0_pay9 (half1 X g) (View.ld wu (Rect.unit (s := S1024x5632) ![0, 2048] ![1024, 256] inb_S1024x5632_S1024x256_0_2048)))
      (k0_pay9 (half1 X g) (View.ld wu (Rect.unit (s := S1024x5632) ![0, 4864] ![1024, 256] inb_S1024x5632_S1024x256_0_4864))) (k0_pay21 (k0_pay9 (half0 X g) (View.ld wu (Rect.unit (s := S1024x5632) ![0, 2048] ![1024, 256] inb_S1024x5632_S1024x256_0_2048))))
      (View.ld cw (Rect.unit (s := S8x2816) ![0, 2048] ![8, 256] inb_S8x2816_S8x256_0_2048))
      (View.ld cb (Rect.unit (s := S1x2816) ![0, 2048] ![1, 256] inb_S1x2816_S1x256_0_2048))
      (View.ld wd (Rect.unit (s := S2816x1024) ![2048, 0] ![256, 1024] inb_S2816x1024_S256x1024_2048_0)))
      (k0_pay9 (half1 X g) (View.ld wu (Rect.unit (s := S1024x5632) ![0, 2304] ![1024, 256] inb_S1024x5632_S1024x256_0_2304)))
      (k0_pay9 (half1 X g) (View.ld wu (Rect.unit (s := S1024x5632) ![0, 5120] ![1024, 256] inb_S1024x5632_S1024x256_0_5120))) (k0_pay21 (k0_pay9 (half0 X g) (View.ld wu (Rect.unit (s := S1024x5632) ![0, 2304] ![1024, 256] inb_S1024x5632_S1024x256_0_2304))))
      (View.ld cw (Rect.unit (s := S8x2816) ![0, 2304] ![8, 256] inb_S8x2816_S8x256_0_2304))
      (View.ld cb (Rect.unit (s := S1x2816) ![0, 2304] ![1, 256] inb_S1x2816_S1x256_0_2304))
      (View.ld wd (Rect.unit (s := S2816x1024) ![2304, 0] ![256, 1024] inb_S2816x1024_S256x1024_2304_0)))
      (k0_pay9 (half1 X g) (View.ld wu (Rect.unit (s := S1024x5632) ![0, 2560] ![1024, 256] inb_S1024x5632_S1024x256_0_2560)))
      (k0_pay9 (half1 X g) (View.ld wu (Rect.unit (s := S1024x5632) ![0, 5376] ![1024, 256] inb_S1024x5632_S1024x256_0_5376))) (k0_pay21 (k0_pay9 (half0 X g) (View.ld wu (Rect.unit (s := S1024x5632) ![0, 2560] ![1024, 256] inb_S1024x5632_S1024x256_0_2560))))
      (View.ld cw (Rect.unit (s := S8x2816) ![0, 2560] ![8, 256] inb_S8x2816_S8x256_0_2560))
      (View.ld cb (Rect.unit (s := S1x2816) ![0, 2560] ![1, 256] inb_S1x2816_S1x256_0_2560))
      (View.ld wd (Rect.unit (s := S2816x1024) ![2560, 0] ![256, 1024] inb_S2816x1024_S256x1024_2560_0))

section
variable {p : Inp} {b s : ℕ} {X : Vec Ideal S1x512x1024 .f32} {g : Vec Ideal S1x1024 .f32} {wu : Vec Ideal S1024x5632 .bf16}
    {cw : Vec Ideal S8x2816 .f32} {cb : Vec Ideal S1x2816 .f32} {wd : Vec Ideal S2816x1024 .bf16}
  {gf : Vec Ideal S1x1024 .f32} {C : Vec Ideal S8x2816 .f32}
variable (F : Fits p b s X g wu cw cb wd gf C)
include F

theorem half0_apply (r : Fin 256) (d : Fin 1024) : half0 X g (ix2 r d) = norm (p.x b (s + r.val)) p.g d.val :=
  rms_apply _ _ _ _ r (fun d => (F.x _).trans (by
    show p.x b (s + (0 + 1 * r.val)) (0 + 1 * d.val) = _
    simp only [Nat.zero_add, Nat.one_mul])) (fun d => F.g _) d

theorem half1_apply (r : Fin 256) (d : Fin 1024) : half1 X g (ix2 r d) = norm (p.x b (s + 256 + r.val)) p.g d.val :=
  rms_apply _ _ _ _ r (fun d => (F.x _).trans (by
    show p.x b (s + (256 + 1 * r.val)) (0 + 1 * d.val) = _
    simp only [Nat.zero_add, Nat.one_mul, Nat.add_assoc])) (fun d => F.g _) d

/-- A block of 256 widened columns from column `o` on. -/
theorem widen (n : FVec Ideal S256x1024 .bf16) (base o : ℕ) (h : ∀ a, ![0, o] a + ![1024, 256] a ≤ S1024x5632.size a)
    (hn : ∀ (r : Fin 256) (d : Fin 1024), n (ix2 r d) = norm (p.x b (base + r.val)) p.g d.val) (r f : Fin 256) :
    k0_pay9 n (View.ld wu (Rect.unit (s := S1024x5632) ![0, o] ![1024, 256] h)) (ix2 r f)
      = up p b (base + r.val) (o + f.val) :=
  up_apply n _ p b base o hn (fun d f => (F.wu _).trans (by
    show p.wu (0 + 1 * d.val) (o + 1 * f.val) = _
    simp only [Nat.zero_add, Nat.one_mul])) r f

/-- One stretch of the body over blocks that hold the operands. -/
theorem stretch_fits (acc : FVec Ideal S256x1024 .f32) (n : FVec Ideal S256x1024 .bf16) (q : FVec Ideal S8x256 .f32)
    (base o o' : ℕ) (h1 : ∀ a, ![0, o] a + ![1024, 256] a ≤ S1024x5632.size a)
    (h2 : ∀ a, ![0, o'] a + ![1024, 256] a ≤ S1024x5632.size a) (h3 : ∀ a, ![0, o] a + ![8, 256] a ≤ S8x2816.size a)
    (h4 : ∀ a, ![0, o] a + ![1, 256] a ≤ S1x2816.size a) (h5 : ∀ a, ![o, 0] a + ![256, 1024] a ≤ S2816x1024.size a)
    (ho : o' = 2816 + o)
    (hn : ∀ (r : Fin 256) (d : Fin 1024), n (ix2 r d) = norm (p.x b (base + r.val)) p.g d.val)
    (hq1 : ∀ f : Fin 256, q (ix2 7 f) = back p b base 1 (o + f.val))
    (hq2 : ∀ f : Fin 256, q (ix2 6 f) = back p b base 2 (o + f.val)) (r : Fin 256) (d : Fin 1024) :
    stretch acc (k0_pay9 n (View.ld wu (Rect.unit (s := S1024x5632) ![0, o] ![1024, 256] h1)))
      (k0_pay9 n (View.ld wu (Rect.unit (s := S1024x5632) ![0, o'] ![1024, 256] h2))) q
      (View.ld cw (Rect.unit (s := S8x2816) ![0, o] ![8, 256] h3))
      (View.ld cb (Rect.unit (s := S1x2816) ![0, o] ![1, 256] h4))
      (View.ld wd (Rect.unit (s := S2816x1024) ![o, 0] ![256, 1024] h5)) (ix2 r d)
    = acc (ix2 r d) + ∑ k : Fin 256, gate p b (base + r.val) (o + k.val) * p.wd (o + k.val) d.val := by
  refine stretch_apply acc _ _ q _ _ _ p b base o (widen F n base o h1 hn) (fun r f => ?_) hq1 hq2 (fun f => ?_)
    (fun f => ?_) (fun f => ?_) (fun f => ?_) (fun f d => ?_) r d
  · rw [widen F n base o' h2 hn, ho, Nat.add_assoc]
  · refine (F.cw _ (by show 0 + 1 * 0 < 3; omega)).trans ?_
    show p.cw (0 + 1 * 0) (o + 1 * f.val) = _
    simp only [Nat.one_mul]
  · refine (F.cw _ (by show 0 + 1 * 1 < 3; omega)).trans ?_
    show p.cw (0 + 1 * 1) (o + 1 * f.val) = _
    simp only [Nat.one_mul]
  · refine (F.cw _ (by show 0 + 1 * 2 < 3; omega)).trans ?_
    show p.cw (0 + 1 * 2) (o + 1 * f.val) = _
    simp only [Nat.one_mul]
  · refine (F.cb _).trans ?_
    show p.cb (o + 1 * f.val) = _
    simp only [Nat.one_mul]
  · refine (F.wd _).trans ?_
    show p.wd (o + 1 * f.val) (0 + 1 * d.val) = _
    simp only [Nat.zero_add, Nat.one_mul]

/-- The carried rows read as the rows before the first half. -/
theorem carry1 (o : ℕ) (h : ∀ a, ![0, o] a + ![8, 256] a ≤ S8x2816.size a) (f : Fin 256) :
    View.ld C (Rect.unit (s := S8x2816) ![0, o] ![8, 256] h) (ix2 7 f) = back p b s 1 (o + f.val) := by
  refine (F.c1 _ (by show 0 + 1 * 7 = 7; omega)).trans ?_
  show back p b s 1 (o + 1 * f.val) = _
  rw [Nat.one_mul]

theorem carry2 (o : ℕ) (h : ∀ a, ![0, o] a + ![8, 256] a ≤ S8x2816.size a) (f : Fin 256) :
    View.ld C (Rect.unit (s := S8x2816) ![0, o] ![8, 256] h) (ix2 6 f) = back p b s 2 (o + f.val) := by
  refine (F.c2 _ (by show 0 + 1 * 6 = 6; omega)).trans ?_
  show back p b s 2 (o + 1 * f.val) = _
  rw [Nat.one_mul]

/-- The last rows of the first half read as the rows before the second. -/
theorem within1 (o : ℕ) (h : ∀ a, ![0, o] a + ![1024, 256] a ≤ S1024x5632.size a) (f : Fin 256) :
    k0_pay21 (k0_pay9 (half0 X g) (View.ld wu (Rect.unit (s := S1024x5632) ![0, o] ![1024, 256] h))) (ix2 7 f)
      = back p b (s + 256) 1 (o + f.val) := by
  rw [tail_apply, widen F _ s o h (half0_apply F), back, if_neg (by omega)]
  rfl

theorem within2 (o : ℕ) (h : ∀ a, ![0, o] a + ![1024, 256] a ≤ S1024x5632.size a) (f : Fin 256) :
    k0_pay21 (k0_pay9 (half0 X g) (View.ld wu (Rect.unit (s := S1024x5632) ![0, o] ![1024, 256] h))) (ix2 6 f)
      = back p b (s + 256) 2 (o + f.val) := by
  rw [tail_apply, widen F _ s o h (half0_apply F), back, if_neg (by omega)]
  rfl

theorem mix0_apply (r : Fin 256) (d : Fin 1024) :
    mix0 X g wu cw cb wd C (ix2 r d) = mix p b (s + r.val) d.val := by
  rw [mix0]
  iterate 11 rw [stretch_fits F _ _ _ s _ _ _ _ _ _ _ rfl (half0_apply F) (carry1 F _ _) (carry2 F _ _)]
  rw [sum_stretches _ (fun k => gate p b (s + r.val) k * p.wd k d.val), mix]
  refine congrArg (· + _) ?_
  pointwise [k0_pay5]
  exact F.x _

theorem mix1_apply (r : Fin 256) (d : Fin 1024) :
    mix1 X g wu cw cb wd (ix2 r d) = mix p b (s + 256 + r.val) d.val := by
  rw [mix1]
  iterate 11 rw [stretch_fits F _ _ _ (s + 256) _ _ _ _ _ _ _ rfl (half1_apply F) (within1 F _ _) (within2 F _ _)]
  rw [sum_stretches _ (fun k => gate p b (s + 256 + r.val) k * p.wd k d.val), mix]
  refine congrArg (· + _) ?_
  pointwise [k0_pay5]
  refine (F.x _).trans ?_
  show p.x b (s + (256 + r.val)) d.val = _
  rw [Nat.add_assoc]

/-- What a point stores into its block of the result. -/
theorem out_fits :
    View.canon (Val := Elt Ideal) (s := S1x512x1024) (e := .f32)
      [⟨Rect.unit (s := S1x512x1024) ![0, 256, 0] ![1, 256, 1024] inb_S1x512x1024_S1x256x1024_0_256_0,
          k0_pay2 (mix1 X g wu cw cb wd)⟩,
        ⟨Rect.unit (s := S1x512x1024) ![0, 0, 0] ![1, 256, 1024] inb_S1x512x1024_S1x256x1024_0_0_0,
          k0_pay2 (mix0 X g wu cw cb wd C)⟩]
    = fun i => mix p b (s + (i 1).val) (i 2).val := by
  funext y
  canon_tiles x h
  · have e : x = ix3 0 (x 1) (x 2) := by
      funext a
      match a with
      | ⟨0, _⟩ => exact Fin.ext (by have := (x 0).isLt; change _ < 1 at this; show (x 0).val = 0; omega)
      | ⟨1, _⟩ => rfl
      | ⟨2, _⟩ => rfl
    rw [e]
    refine (last_apply _ (x 1) (x 2)).trans ((mix1_apply F (x 1) (x 2)).trans ?_)
    rw [h1, h2]
    simp only [Nat.zero_add, Nat.add_assoc]
  · have e : x = ix3 0 (x 1) (x 2) := by
      funext a
      match a with
      | ⟨0, _⟩ => exact Fin.ext (by have := (x 0).isLt; change _ < 1 at this; show (x 0).val = 0; omega)
      | ⟨1, _⟩ => rfl
      | ⟨2, _⟩ => rfl
    rw [e]
    refine (last_apply _ (x 1) (x 2)).trans ((mix0_apply F (x 1) (x 2)).trans ?_)
    rw [h1, h2]

/-- A block of 256 carried columns stored after those before column `o`. -/
theorem carry_cons (o : ℕ) (h : ∀ a, ![0, o] a + ![8, 256] a ≤ S8x2816.size a)
    (h' : ∀ a, ![0, o] a + ![1024, 256] a ≤ S1024x5632.size a) (L : List (View.Piece (Elt Ideal) S8x2816 .f32))
    (hL : ∀ y : S8x2816.Idx, (y 1).val < o → View.canon L y = up p b (s + 504 + (y 0).val) (y 1).val)
    (y : S8x2816.Idx) (hy : (y 1).val < o + 256) :
    View.canon ((⟨Rect.unit (s := S8x2816) ![0, o] ![8, 256] h, k0_pay28 (k0_pay21 (k0_pay9 (half1 X g)
        (View.ld wu (Rect.unit (s := S1024x5632) ![0, o] ![1024, 256] h'))))⟩ : View.Piece (Elt Ideal) S8x2816 .f32) :: L) y
      = up p b (s + 504 + (y 0).val) (y 1).val := by
  by_cases hlt : (y 1).val < o
  · rw [View.canon_cons_of_not_mem, hL y hlt]
    intro hm
    have := ((Rect.mem_set_unit (inb := h)).mp hm 1).1
    change o ≤ (y 1).val at this
    omega
  · obtain ⟨r, hr⟩ : ∃ r : Fin 8, r.val = (y 0).val := ⟨⟨(y 0).val, (y 0).isLt⟩, rfl⟩
    have e : y = (Rect.unit (s := S8x2816) ![0, o] ![8, 256] h).emb
        (ix2 r ⟨(y 1).val - o, by omega⟩ : (⟨2, ![8, 256]⟩ : Shape).Idx) := by
      funext a
      match a with
      | ⟨0, _⟩ => exact Fin.ext (by show (y 0).val = 0 + 1 * r.val; omega)
      | ⟨1, _⟩ => exact Fin.ext (by show (y 1).val = o + 1 * ((y 1).val - o); omega)
    generalize hz : (ix2 r ⟨(y 1).val - o, by omega⟩ : (⟨2, ![8, 256]⟩ : Shape).Idx) = z at e
    rw [e, View.canon_cons_emb, ← e, ← hz]
    have e2 : ∀ (v : FVec Ideal S8x256 .f32) (i : S8x256.Idx), k0_pay28 v i = v i := fun v i => by
      obtain ⟨r, f, rfl⟩ : ∃ r f, i = ix2 r f := ⟨i 0, i 1, by funext a; match a with | ⟨0, _⟩ => rfl | ⟨1, _⟩ => rfl⟩
      pointwise [k0_pay28]
    rw [e2, tail_apply, widen F _ (s + 256) o h' (half1_apply F)]
    congr 1
    · show s + 256 + (248 + r.val) = _
      omega
    · show o + ((y 1).val - o) = _
      omega

/-- What a point leaves carried: the last eight widened rows, over whatever was there. -/
theorem tail_fits (L : List (View.Piece (Elt Ideal) S8x2816 .f32)) :
    View.canon (Val := Elt Ideal) (s := S8x2816) (e := .f32) (
    ⟨Rect.unit (s := S8x2816) ![0, 2560] ![8, 256] inb_S8x2816_S8x256_0_2560, k0_pay28 (k0_pay21 (k0_pay9 (half1 X g) (View.ld wu (Rect.unit (s := S1024x5632) ![0, 2560] ![1024, 256] inb_S1024x5632_S1024x256_0_2560))))⟩ ::
    ⟨Rect.unit (s := S8x2816) ![0, 2304] ![8, 256] inb_S8x2816_S8x256_0_2304, k0_pay28 (k0_pay21 (k0_pay9 (half1 X g) (View.ld wu (Rect.unit (s := S1024x5632) ![0, 2304] ![1024, 256] inb_S1024x5632_S1024x256_0_2304))))⟩ ::
    ⟨Rect.unit (s := S8x2816) ![0, 2048] ![8, 256] inb_S8x2816_S8x256_0_2048, k0_pay28 (k0_pay21 (k0_pay9 (half1 X g) (View.ld wu (Rect.unit (s := S1024x5632) ![0, 2048] ![1024, 256] inb_S1024x5632_S1024x256_0_2048))))⟩ ::
    ⟨Rect.unit (s := S8x2816) ![0, 1792] ![8, 256] inb_S8x2816_S8x256_0_1792, k0_pay28 (k0_pay21 (k0_pay9 (half1 X g) (View.ld wu (Rect.unit (s := S1024x5632) ![0, 1792] ![1024, 256] inb_S1024x5632_S1024x256_0_1792))))⟩ ::
    ⟨Rect.unit (s := S8x2816) ![0, 1536] ![8, 256] inb_S8x2816_S8x256_0_1536, k0_pay28 (k0_pay21 (k0_pay9 (half1 X g) (View.ld wu (Rect.unit (s := S1024x5632) ![0, 1536] ![1024, 256] inb_S1024x5632_S1024x256_0_1536))))⟩ ::
    ⟨Rect.unit (s := S8x2816) ![0, 1280] ![8, 256] inb_S8x2816_S8x256_0_1280, k0_pay28 (k0_pay21 (k0_pay9 (half1 X g) (View.ld wu (Rect.unit (s := S1024x5632) ![0, 1280] ![1024, 256] inb_S1024x5632_S1024x256_0_1280))))⟩ ::
    ⟨Rect.unit (s := S8x2816) ![0, 1024] ![8, 256] inb_S8x2816_S8x256_0_1024, k0_pay28 (k0_pay21 (k0_pay9 (half1 X g) (View.ld wu (Rect.unit (s := S1024x5632) ![0, 1024] ![1024, 256] inb_S1024x5632_S1024x256_0_1024))))⟩ ::
    ⟨Rect.unit (s := S8x2816) ![0, 768] ![8, 256] inb_S8x2816_S8x256_0_768, k0_pay28 (k0_pay21 (k0_pay9 (half1 X g) (View.ld wu (Rect.unit (s := S1024x5632) ![0, 768] ![1024, 256] inb_S1024x5632_S1024x256_0_768))))⟩ ::
    ⟨Rect.unit (s := S8x2816) ![0, 512] ![8, 256] inb_S8x2816_S8x256_0_512, k0_pay28 (k0_pay21 (k0_pay9 (half1 X g) (View.ld wu (Rect.unit (s := S1024x5632) ![0, 512] ![1024, 256] inb_S1024x5632_S1024x256_0_512))))⟩ ::
    ⟨Rect.unit (s := S8x2816) ![0, 256] ![8, 256] inb_S8x2816_S8x256_0_256, k0_pay28 (k0_pay21 (k0_pay9 (half1 X g) (View.ld wu (Rect.unit (s := S1024x5632) ![0, 256] ![1024, 256] inb_S1024x5632_S1024x256_0_256))))⟩ ::
    ⟨Rect.unit (s := S8x2816) ![0, 0] ![8, 256] inb_S8x2816_S8x256_0_0, k0_pay28 (k0_pay21 (k0_pay9 (half1 X g) (View.ld wu (Rect.unit (s := S1024x5632) ![0, 0] ![1024, 256] inb_S1024x5632_S1024x256_0_0))))⟩ :: L)
    = fun y => up p b (s + 504 + (y 0).val) (y 1).val := by
  funext y
  have hy : (y 1).val < 2560 + 256 := (y 1).isLt
  revert hy
  revert y
  refine carry_cons F 2560 _ _ _ ?_
  refine carry_cons F 2304 _ _ _ ?_
  refine carry_cons F 2048 _ _ _ ?_
  refine carry_cons F 1792 _ _ _ ?_
  refine carry_cons F 1536 _ _ _ ?_
  refine carry_cons F 1280 _ _ _ ?_
  refine carry_cons F 1024 _ _ _ ?_
  refine carry_cons F 768 _ _ _ ?_
  refine carry_cons F 512 _ _ _ ?_
  refine carry_cons F 256 _ _ _ ?_
  refine carry_cons F 0 _ _ _ ?_
  exact fun y h => absurd h (Nat.not_lt_zero _)

end

end Cert.Kernel3Ideal.Layer

end
-- ==== Proof.MidPoint.lean ====
/- Each inner-layer grid point's result and carried rows, from the operands its blocks hold. -/
module

public import proofs.«01_k».proof.Proof.MidBody
public import proofs.«01_k».proof.Proof.Gen.Kernel3Ideal.Value
public import Idealize.ShloMosaic.Lib.Pipeline.ReadBack

@[expose] public section

set_option maxRecDepth 16384

noncomputable section

namespace Cert.Kernel3Ideal.Layer

open Cert.Kernel3Ideal Cert.Kernel3Ideal.Gen Idealize.ShloMosaic Idealize.ShloMosaic.TcCoe Idealize.SL.Sem Cert.Ffn

variable (m : (ℓ : Loc nD τ sig) → Buf (Elt Ideal) ℓ)

/-- The blocks of point `t` over the carried rows `C` hold `p`, of batch `b` from row `s` on. -/
def Holds (c : Dev nD) (t : Fin cfg0.N) (p : Inp) (b s : ℕ) (C : Vec Ideal S8x2816 .f32) : Prop :=
  Fits p b s (iblk m c 0 t) (iblk m c 1 t) (iblk m c 2 t) (iblk m c 3 t) (iblk m c 4 t) (iblk m c 5 t) (iblk m c 6 t) C

set_option maxHeartbeats 3200000 in
theorem tail_A (c : Dev nD) (t : Fin cfg0.N) (h0 : t.val % 8 = 0) {p : Inp} {b s : ℕ} {C : Vec Ideal S8x2816 .f32}
    (F : Holds m c t p b s C) :
    (outsAt0 m c t.val t.isLt).2 = fun y => up p b (s + 504 + (y 0).val) (y 1).val := by
  rw [outsAt0_A m c t h0]
  frame_out
  simp only [rms_same, tail_0, tail_1, tail_2, tail_3, tail_4, tail_5, tail_6, tail_7, tail_8, tail_9, tail_10]
  exact tail_fits F _

set_option maxHeartbeats 3200000 in
theorem tail_B (c : Dev nD) (t : Fin cfg0.N) (h0 : ¬t.val % 8 = 0) {p : Inp} {b s : ℕ} {C : Vec Ideal S8x2816 .f32}
    (F : Holds m c t p b s C) :
    (outsAt0 m c t.val t.isLt).2 = fun y => up p b (s + 504 + (y 0).val) (y 1).val := by
  rw [outsAt0_B m c t h0]
  frame_out
  simp only [rms_same, tail_0, tail_1, tail_2, tail_3, tail_4, tail_5, tail_6, tail_7, tail_8, tail_9, tail_10]
  exact tail_fits F _

set_option maxHeartbeats 3200000 in
theorem out_A (c : Dev nD) (t : Fin cfg0.N) (h0 : t.val % 8 = 0) {p : Inp} {b s : ℕ}
    (F : Holds m c t p b s (k0_pay4 (F := Ideal))) :
    (outsAt0 m c t.val t.isLt).1 = fun i => mix p b (s + (i 1).val) (i 2).val := by
  rw [outsAt0_A m c t h0]
  frame_out
  simp (disch := decide) only [↓ View.readCov_skip, ↓ View.readCov_cons_toLoadRect, ↓ View.readCov_fill]
  simp only [rms_same, rows_same, step0_0, step0_1, step0_2, step0_3, step0_4, step0_5, step0_6, step0_7, step0_8, step0_9, step0_10,
    step1_0, step1_1, step1_2, step1_3, step1_4, step1_5, step1_6, step1_7, step1_8, step1_9, step1_10]
  exact out_fits F

set_option maxHeartbeats 3200000 in
theorem out_B (c : Dev nD) (t : Fin cfg0.N) (h0 : ¬t.val % 8 = 0) {p : Inp} {b s : ℕ}
    (F : Holds m c t p b s (outsAt0 m c (t.val - 1) (Nat.lt_of_le_of_lt (Nat.sub_le _ _) t.isLt)).2) :
    (outsAt0 m c t.val t.isLt).1 = fun i => mix p b (s + (i 1).val) (i 2).val := by
  rw [outsAt0_B m c t h0]
  frame_out
  simp only [read_unread_whole, rms_same, rows_same, step0_0, step0_1, step0_2, step0_3, step0_4, step0_5, step0_6, step0_7, step0_8, step0_9, step0_10,
    step1_0, step1_1, step1_2, step1_3, step1_4, step1_5, step1_6, step1_7, step1_8, step1_9, step1_10]
  exact out_fits F

end Cert.Kernel3Ideal.Layer

end
-- ==== Proof.MidBlocks.lean ====
/- The blocks of a grid point of the inner layers' kernel hold the operands. -/
module

public import proofs.«01_k».proof.Proof.MidPoint
public import Idealize.ShloMosaic.Lib.Pipeline.ValueKit
public import Idealize.ShloMosaic.Lib.Claim

@[expose] public section

set_option maxRecDepth 16384

noncomputable section

namespace Cert.Kernel3Ideal.Layer

open Cert.Kernel3Ideal Cert.Kernel3Ideal.Gen Idealize.ShloMosaic Idealize.ShloMosaic.TcCoe Idealize.SL.Sem Cert.Ffn

variable (m : (ℓ : Loc nD τ sig) → Buf (Elt Ideal) ℓ)

/-- The operands of the call, as a chip's memory holds them. -/
def ops (c : Dev nD) : Inp :=
  Inp.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] :=
  (by decide +kernel : ∀ t : Fin grid0.N, _)

theorem blk_x (c : Dev nD) (t : Fin cfg0.N) (i : S1x512x1024.Idx) :
    (iblk m c 0 t : Vec Ideal S1x512x1024 .f32) i = (ops m c).x (t.val / 8) (512 * (t.val % 8) + (i 1).val) (i 2).val := by
  have e : (i 0).val = 0 := by have := (i 0).isLt; change _ < 1 at this; omega
  refine eq_at3 (m ((c : Thread nD τ).loc main_arg0)) (((cfg0.win 0).blk t).view.emb i) ?_ ?_ ?_ <;>
    (blk_simp [idx t]; try omega)

/-! The operands the host line prepares. -/

theorem at_v1 (c : Dev nD) :
    V m c main_v1 = (shapeCast S1x1024 (m ((c : Thread nD τ).loc main_arg1)) shapeCasts_S1024_S1x1024 : Vec Ideal S1x1024 .f32) := by
  simp only [V, List.flatten_cons, List.flatten_nil, List.append_nil, List.cons_append, List.nil_append, hostOps0, hostOps0_1,
    hostOps0_2]
  after_results
  try rfl

theorem at_v0 (c : Dev nD) :
    V m c main_v0 = (pad S8x2816 ![0, 0] ![5, 0] ![0, 0] (m ((c : Thread nD τ).loc main_arg3) : Vec Ideal S3x2816 .f32)
      (sitofp (F := Ideal) .f32 (constantI S_ 32 0#32)) pads_S3x2816_S8x2816_050_000 h_S_ : Vec Ideal S8x2816 .f32) := by
  simp only [V, List.flatten_cons, List.flatten_nil, List.append_nil, List.cons_append, List.nil_append, hostOps0, hostOps0_1,
    hostOps0_2]
  after_results
  try rfl

theorem at_v2 (c : Dev nD) :
    V m c main_v2 = (truncf (F := Ideal) .bf16 (m ((c : Thread nD τ).loc main_arg2) : Vec Ideal S1024x5632 .f32) bitsLt_bf16_f32 : Vec Ideal S1024x5632 .bf16) := by
  simp only [V, List.flatten_cons, List.flatten_nil, List.append_nil, List.cons_append, List.nil_append, hostOps0, hostOps0_1,
    hostOps0_2]
  after_results
  try rfl

theorem at_v3 (c : Dev nD) :
    V m c main_v3 = (shapeCast S1x2816 (m ((c : Thread nD τ).loc main_arg4)) shapeCasts_S2816_S1x2816 : Vec Ideal S1x2816 .f32) := by
  simp only [V, List.flatten_cons, List.flatten_nil, List.append_nil, List.cons_append, List.nil_append, hostOps0, hostOps0_1,
    hostOps0_2]
  after_results
  try rfl

theorem at_v4 (c : Dev nD) :
    V m c main_v4 = (truncf (F := Ideal) .bf16 (m ((c : Thread nD τ).loc main_arg5) : Vec Ideal S2816x1024 .f32) bitsLt_bf16_f32 : Vec Ideal S2816x1024 .bf16) := by
  simp only [V, List.flatten_cons, List.flatten_nil, List.append_nil, List.cons_append, List.nil_append, hostOps0, hostOps0_1,
    hostOps0_2]
  after_results
  try rfl

theorem at_v5 (c : Dev nD) :
    V m c main_v5 = (shapeCast S1x1024 (m ((c : Thread nD τ).loc main_arg6)) shapeCasts_S1024_S1x1024 : Vec Ideal S1x1024 .f32) := by
  simp only [V, List.flatten_cons, List.flatten_nil, List.append_nil, List.cons_append, List.nil_append, hostOps0, hostOps0_1,
    hostOps0_2]
  after_results
  try rfl

theorem row1024 (v : FVec Ideal S1024 .f32) (j : S1x1024.Idx) {a : ℕ} (h : (j 1).val = a) :
    shapeCast S1x1024 v shapeCasts_S1024_S1x1024 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem row2816 (v : FVec Ideal S2816 .f32) (j : S1x2816.Idx) {a : ℕ} (h : (j 1).val = a) :
    shapeCast S1x2816 v shapeCasts_S2816_S1x2816 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem taps (v : FVec Ideal S3x2816 .f32) (z : FVec Ideal S_ .f32) (j : S8x2816.Idx) {a b : ℕ} (h : (j 0).val = a)
    (h' : (j 1).val = b) (h3 : a < 3) :
    pad S8x2816 ![0, 0] ![5, 0] ![0, 0] v z pads_S3x2816_S8x2816_050_000 h_S_ j = at2 v a b := by
  obtain ⟨r, f, rfl⟩ : ∃ r f, j = ix2 r f := ⟨j 0, j 1, by funext a; match a with | ⟨0, _⟩ => rfl | ⟨1, _⟩ => rfl⟩
  have hr : r.val < 3 := h ▸ h3
  pointwise
  rw [dif_pos hr]
  exact eq_at2 v _ h h'

theorem blk_g (c : Dev nD) (t : Fin cfg0.N) (i : S1x1024.Idx) :
    (iblk m c 1 t : Vec Ideal S1x1024 .f32) i = (ops m c).g (i 1).val := by
  show V m c main_v1 (((cfg0.win 1).blk t).view.emb i) = _
  rw [at_v1]
  exact row1024 _ _ (by blk_simp [idx t]; try omega)

theorem blk_gf (c : Dev nD) (t : Fin cfg0.N) (i : S1x1024.Idx) :
    (iblk m c 6 t : Vec Ideal S1x1024 .f32) i = (ops m c).gf (i 1).val := by
  show V m c main_v5 (((cfg0.win 6).blk t).view.emb i) = _
  rw [at_v5]
  exact row1024 _ _ (by blk_simp [idx t]; try omega)

theorem blk_cb (c : Dev nD) (t : Fin cfg0.N) (i : S1x2816.Idx) :
    (iblk m c 4 t : Vec Ideal S1x2816 .f32) i = (ops m c).cb (i 1).val := by
  show V m c main_v3 (((cfg0.win 4).blk t).view.emb i) = _
  rw [at_v3]
  exact row2816 _ _ (by blk_simp [idx t]; try omega)

theorem blk_wu (c : Dev nD) (t : Fin cfg0.N) (i : S1024x5632.Idx) :
    (iblk m c 2 t : Vec Ideal S1024x5632 .bf16) i = (ops m c).wu (i 0).val (i 1).val := by
  show V m c main_v2 (((cfg0.win 2).blk t).view.emb i) = _
  rw [at_v2]
  refine eq_at2 (m ((c : Thread nD τ).loc main_arg2)) (((cfg0.win 2).blk t).view.emb i) ?_ ?_ <;> (blk_simp [idx t]; try omega)

theorem blk_wd (c : Dev nD) (t : Fin cfg0.N) (i : S2816x1024.Idx) :
    (iblk m c 5 t : Vec Ideal S2816x1024 .bf16) i = (ops m c).wd (i 0).val (i 1).val := by
  show V m c main_v4 (((cfg0.win 5).blk t).view.emb i) = _
  rw [at_v4]
  refine eq_at2 (m ((c : Thread nD τ).loc main_arg5)) (((cfg0.win 5).blk t).view.emb i) ?_ ?_ <;> (blk_simp [idx t]; try omega)

theorem blk_cw (c : Dev nD) (t : Fin cfg0.N) (i : S8x2816.Idx) (h : (i 0).val < 3) :
    (iblk m c 3 t : Vec Ideal S8x2816 .f32) i = (ops m c).cw (i 0).val (i 1).val := by
  show V m c main_v0 (((cfg0.win 3).blk t).view.emb i) = _
  rw [at_v0]
  exact taps _ _ _ (by blk_simp [idx t]; try omega) (by blk_simp [idx t]; try omega) h

/-- A point's blocks hold the operands, whatever agrees with the two rows before them. -/
theorem holds (c : Dev nD) (t : Fin cfg0.N) (C : Vec Ideal S8x2816 .f32)
    (c1 : ∀ i, (i 0).val = 7 → C i = back (ops m c) (t.val / 8) (512 * (t.val % 8)) 1 (i 1).val)
    (c2 : ∀ i, (i 0).val = 6 → C i = back (ops m c) (t.val / 8) (512 * (t.val % 8)) 2 (i 1).val) :
    Holds m c t (ops m c) (t.val / 8) (512 * (t.val % 8)) C :=
  ⟨blk_x m c t, blk_g m c t, blk_wu m c t, blk_cw m c t, blk_cb m c t, blk_wd m c t, blk_gf m c t, c1, c2⟩

/-- What is carried after a point: the last eight widened rows of its block. -/
theorem carried (c : Dev nD) (t : Fin cfg0.N) : (outsAt0 m c t.val t.isLt).2
    = fun y => up (ops m c) (t.val / 8) (512 * (t.val % 8) + 504 + (y 0).val) (y 1).val := by
  have F := holds m c t (fun i => back (ops m c) (t.val / 8) (512 * (t.val % 8)) (8 - (i 0).val) (i 1).val)
    (fun i h => by rw [h]) (fun i h => by rw [h])
  by_cases h0 : t.val % 8 = 0
  · exact tail_A m c t h0 F
  · exact tail_B m c t h0 F

theorem zeros (i : S8x2816.Idx) : k0_pay4 (F := Ideal) i = 0 := by
  obtain ⟨r, f, rfl⟩ : ∃ r f, i = ix2 r f := ⟨i 0, i 1, by funext a; match a with | ⟨0, _⟩ => rfl | ⟨1, _⟩ => rfl⟩
  pointwise [k0_pay4]

/-- What a point leaves in its block of the result. -/
theorem produced (c : Dev nD) (t : Fin cfg0.N) : (outsAt0 m c t.val t.isLt).1
    = fun i => mix (ops m c) (t.val / 8) (512 * (t.val % 8) + (i 1).val) (i 2).val := by
  have ht := t.isLt
  by_cases h0 : t.val % 8 = 0
  · refine out_A m c t h0 (holds m c t _ (fun i _ => ?_) (fun i _ => ?_)) <;> rw [zeros, back, if_pos (by omega)]
  · have e := carried m c ⟨t.val - 1, by omega⟩
    refine out_B m c t h0 (holds m c t _ (fun i h => ?_) (fun i h => ?_))
    · rw [back, if_neg (by omega)]
      refine (congrFun e i).trans ?_
      show up (ops m c) ((t.val - 1) / 8) (512 * ((t.val - 1) % 8) + 504 + (i 0).val) (i 1).val = _
      rw [show (t.val - 1) / 8 = t.val / 8 by omega,
        show 512 * ((t.val - 1) % 8) + 504 + (i 0).val = 512 * (t.val % 8) - 1 by omega]
    · rw [back, if_neg (by omega)]
      refine (congrFun e i).trans ?_
      show up (ops m c) ((t.val - 1) / 8) (512 * ((t.val - 1) % 8) + 504 + (i 0).val) (i 1).val = _
      rw [show (t.val - 1) / 8 = t.val / 8 by omega,
        show 512 * ((t.val - 1) % 8) + 504 + (i 0).val = 512 * (t.val % 8) - 2 by omega]

/-- The result array after the run. -/
theorem final (c : Dev nD) : (dats m 0 c).arrAt 7 cfg0.N
    = fun i => mix (ops m c) (i 0).val (i 1).val (i 2).val := by
  refine (dats m 0 c).arrAt_eq_of_covers 7 (fun i => mix (ops m c) (i 0).val (i 1).val (i 2).val) (by decide +kernel)
    fun t _ y => ?_
  blk_simp
  rw [after0_7, produced]
  blk_simp [idx t]
  rw [Nat.mul_comm 512]

/-- The same, of the array the run names. -/
theorem result (c : Dev nD) : Value.G7 m c = fun i => mix (ops m c) (i 0).val (i 1).val (i 2).val :=
  (Value.final7 m c).symm.trans (final m c)

end Cert.Kernel3Ideal.Layer

end
-- ==== Proof.OutSpec.lean ====
/- The output projection with the attention over the memory, as plain functions of whole-number coordinates. Both programs
   are compared with these. -/
module

public import proofs.«01_k».proof.Proof.FfnSpec

@[expose] public section

noncomputable section

namespace Cert.Out

open Idealize.ShloMosaic Cert.Ffn

/-- The call's operands: the rows added to, the mixed heads, the memory queries (two blocks of 128 columns), the memory keys
    and values (four blocks of 128 columns, two for each block of queries), the projection. -/
structure Inp where
  x : ℕ → ℕ → ℕ → EReal
  a : ℕ → ℕ → ℕ → EReal
  q : ℕ → ℕ → ℕ → EReal
  k : ℕ → ℕ → ℕ → EReal
  v : ℕ → ℕ → ℕ → EReal
  w : ℕ → ℕ → EReal

/-- The operands taken from the six argument arrays. -/
def Inp.of (x0 : (⟨3, ![8, 4096, 1024]⟩ : Shape).Idx → EReal) (x1 : (⟨3, ![8, 4096, 1024]⟩ : Shape).Idx → EReal)
    (x2 : (⟨3, ![8, 4096, 256]⟩ : Shape).Idx → EReal) (x3 : (⟨3, ![8, 256, 512]⟩ : Shape).Idx → EReal)
    (x4 : (⟨3, ![8, 256, 512]⟩ : Shape).Idx → EReal) (x5 : (⟨2, ![1280, 1024]⟩ : Shape).Idx → EReal) : Inp :=
  ⟨at3 x0, at3 x1, at3 x2, at3 x3, at3 x4, at2 x5⟩

/-- Row `r` of batch `b` against memory row `m`, for head `u` of block `t`. -/
def score (p : Inp) (b r t u m : ℕ) : EReal := ∑ d : Fin 128, p.q b r (128 * t + d.val) * p.k b m (256 * t + 128 * u + d.val)

/-- The largest of 256 scores. -/
def top (s : ℕ → EReal) : EReal := (Finset.univ : Finset (Fin 256)).fold max (Ideal.ofBits .f32 0xFF800000#32) fun m => s m.val

/-- The weight of a score before the division: two to the power of its distance from the largest. -/
def wt (s : ℕ → EReal) (m : ℕ) : EReal := Ideal.exp2 (s m - top s)

/-- The values weighted by the scores, over the sum of the weights. -/
def soft (s v : ℕ → EReal) : EReal := Ideal.div (∑ m : Fin 256, wt s m.val * v m.val) (∑ m : Fin 256, wt s m.val)

/-- What one head reads of the memory. -/
def head (p : Inp) (b r t u d : ℕ) : EReal := soft (score p b r t u) fun m => p.v b m (256 * t + 128 * u + d)

/-- The two heads of a block together, at a column of the 256. -/
def memo (p : Inp) (b r e : ℕ) : EReal := head p b r (e / 128) 0 (e % 128) + head p b r (e / 128) 1 (e % 128)

/-- What the call returns. -/
def out (p : Inp) (b r c : ℕ) : EReal :=
  p.x b r c + (∑ k : Fin 1024, p.a b r k.val * p.w k.val c) + ∑ k : Fin 256, memo p b r k.val * p.w (1024 + k.val) c

/-! ### Small facts -/

/-- The pattern of two denotes two. -/
theorem ofBits_two : Ideal.ofBits .f32 0x40000000#32 = ((2 : ℝ) : EReal) := by
  have h : ((8388608 : ℝ) : EReal) * (((2 ^ 22 : ℝ)⁻¹ : ℝ) : EReal) = ((2 : ℝ) : EReal) := by
    rw [← EReal.coe_mul]; norm_num
  simpa [Ideal.ofBits, Ideal.ieee] using h

/-- A power of two is the power with base two. -/
theorem pow_two_eq (y : EReal) : Ideal.pow ((2 : ℝ) : EReal) y = Ideal.exp2 y := by
  induction y with
  | bot => rw [Ideal.pow_coe_bot, if_neg (by norm_num), if_pos (by norm_num)]; rfl
  | top => rw [Ideal.pow_coe_top, if_neg (by norm_num), if_pos (by norm_num)]; rfl
  | coe r => rfl

/-- A sum over 1280 is the sum over the first 1024 and the sum over the last 256. -/
theorem sum_split (h : ℕ → EReal) :
    ∑ k : Fin 1280, h k.val = (∑ k : Fin 1024, h k.val) + ∑ k : Fin 256, h (1024 + k.val) := by
  rw [← Finset.sum_range (fun k => h k), show (1280 : ℕ) = 1024 + 256 from rfl, Finset.sum_range_add, Finset.sum_range,
    Finset.sum_range]

end Cert.Out

end
-- ==== Proof.OutRef.lean ====
/- The reference of the output projection at an index: its operations read one after the other give the functions of OutSpec. -/
module

public import proofs.«01_k».proof.Proof.OutSpec
public import proofs.«01_k».proof.Proof.Gen.Reference4Ideal.Read
public import Idealize.ShloMosaic.Lib.KernelVsHost
public import Idealize.ShloMosaic.Lib.Pipeline.Value

@[expose] public section

set_option maxRecDepth 16384

noncomputable section

namespace Cert.Out.Ref

open Cert.Reference4Ideal Cert.Reference4Ideal.Gen Cert.Reference4Ideal.Read Idealize.ShloMosaic Cert.Ffn Cert.Out

variable (x0 : FVec Ideal S8x4096x1024 .f32) (x1 : FVec Ideal S8x4096x1024 .bf16) (x2 : FVec Ideal S8x4096x256 .bf16)
  (x3 x4 : FVec Ideal S8x256x512 .bf16) (x5 : FVec Ideal S1280x1024 .f32)

/-- The queries by block. -/
theorem query_eq (j : S8x4096x2x128.Idx) : val_main_v1 (F := Ideal) x2 j
    = at3 x2 (j 0).val (j 1).val (128 * (j 2).val + (j 3).val) := by
  have h0 : (j 0).val < 8 := (j 0).isLt
  have h1 : (j 1).val < 4096 := (j 1).isLt
  have h2 : (j 2).val < 2 := (j 2).isLt
  have h3 : (j 3).val < 128 := (j 3).isLt
  rw [val_main_v1_apply, val_main_v0_apply]
  refine eq_at3 x2 (idx_main_v1 j) ?_ ?_ ?_
  · show ((((j 0).val * 4096 + (j 1).val) * 2 + (j 2).val) * 128 + (j 3).val) / 1048576 = _; omega
  · show ((((j 0).val * 4096 + (j 1).val) * 2 + (j 2).val) * 128 + (j 3).val) / 256 % 4096 = _; omega
  · show ((((j 0).val * 4096 + (j 1).val) * 2 + (j 2).val) * 128 + (j 3).val) % 256 = _; omega

/-- The keys by block and head. -/
theorem key_eq (j : S8x256x2x2x128.Idx) : val_main_v3 (F := Ideal) x3 j
    = at3 x3 (j 0).val (j 1).val (256 * (j 2).val + 128 * (j 3).val + (j 4).val) := by
  have h0 : (j 0).val < 8 := (j 0).isLt
  have h1 : (j 1).val < 256 := (j 1).isLt
  have h2 : (j 2).val < 2 := (j 2).isLt
  have h3 : (j 3).val < 2 := (j 3).isLt
  have h4 : (j 4).val < 128 := (j 4).isLt
  rw [val_main_v3_apply, val_main_v2_apply]
  refine eq_at3 x3 (idx_main_v3 j) ?_ ?_ ?_
  · show (((((j 0).val * 256 + (j 1).val) * 2 + (j 2).val) * 2 + (j 3).val) * 128 + (j 4).val) / 131072 = _; omega
  · show (((((j 0).val * 256 + (j 1).val) * 2 + (j 2).val) * 2 + (j 3).val) * 128 + (j 4).val) / 512 % 256 = _; omega
  · show (((((j 0).val * 256 + (j 1).val) * 2 + (j 2).val) * 2 + (j 3).val) * 128 + (j 4).val) % 512 = _; omega

/-- The values by block and head. -/
theorem value_eq (j : S8x256x2x2x128.Idx) : val_main_v5 (F := Ideal) x4 j
    = at3 x4 (j 0).val (j 1).val (256 * (j 2).val + 128 * (j 3).val + (j 4).val) := key_eq x4 j

/-- The scores. -/
theorem score_eq (i : S8x2x2x4096x256.Idx) : val_main_v7 (F := Ideal) x2 x3 i
    = score (Inp.of x0 x1 x2 x3 x4 x5) (i 0).val (i 3).val (i 1).val (i 2).val (i 4).val := by
  rw [val_main_v7_apply, val_main_v6_apply, score]
  refine Finset.sum_congr rfl fun k _ => ?_
  rw [key_eq, query_eq, mul_comm]
  rfl

/-- The row maxima. -/
theorem top_eq (i : S8x2x2x4096.Idx) : val_main_v9 (F := Ideal) x2 x3 i
    = top (score (Inp.of x0 x1 x2 x3 x4 x5) (i 0).val (i 3).val (i 1).val (i 2).val) := by
  have hr : S8x2x2x4096x256.Reduces [4] S8x2x2x4096 := by decide
  unfold val_main_v9 val_main_cst_0
  rw [hostReduce_maximumf_eq_multiReduction (b := 0xFF800000#32) _ _ _ hr (.inl rfl) rfl]
  generalize hz : val_main_v7 (F := Ideal) x2 x3 = z
  refine (Ideal.multiReduction_maximumf_single z _ hr (.inl rfl) rfl i).trans ?_
  subst hz
  refine congrArg (fun f => Finset.fold max _ f _) (funext fun k => ?_)
  exact score_eq x0 x1 x2 x3 x4 x5 _

/-- The weights. -/
theorem wt_eq (i : S8x2x2x4096x256.Idx) : val_main_v13 (F := Ideal) x2 x3 i
    = wt (score (Inp.of x0 x1 x2 x3 x4 x5) (i 0).val (i 3).val (i 1).val (i 2).val) (i 4).val := by
  rw [val_main_v13_apply, val_main_v8_apply, val_main_cst_apply, val_main_v12_apply, val_main_v11_apply, val_main_v10_apply,
    score_eq x0 x1 x2 x3 x4 x5, top_eq x0 x1 x2 x3 x4 x5, Ideal.hostPowf_def, Ideal.ofBits_def, ofBits_two, pow_two_eq]
  rfl

/-- A head's read. -/
theorem head_eq (i : S8x2x2x4096x128.Idx) : val_main_v18 (F := Ideal) x2 x3 x4 i
    = head (Inp.of x0 x1 x2 x3 x4 x5) (i 0).val (i 3).val (i 1).val (i 2).val (i 4).val := by
  rw [val_main_v18_apply, val_main_v17_apply, val_main_v16_apply, val_main_v15_apply, val_main_v14_apply, val_main_cst_1_apply,
    Ideal.hostDivf_def, Ideal.ofBits_def, Ideal.ofBits_zero_f32, zero_add, head, soft]
  refine congrArg₂ _ (Finset.sum_congr rfl fun k _ => ?_) (Finset.sum_congr rfl fun k _ => ?_)
  · rw [wt_eq x0 x1 x2 x3 x4 x5, value_eq]
    rfl
  · rw [wt_eq x0 x1 x2 x3 x4 x5]

/-- The two heads of a block together. -/
theorem memo_eq (i : S8x4096x256.Idx) : val_main_v21 (F := Ideal) x2 x3 x4 i
    = memo (Inp.of x0 x1 x2 x3 x4 x5) (i 0).val (i 1).val (i 2).val := by
  have h0 : (i 0).val < 8 := (i 0).isLt
  have h1 : (i 1).val < 4096 := (i 1).isLt
  have h2 : (i 2).val < 256 := (i 2).isLt
  rw [val_main_v21_apply, val_main_v20_apply, val_main_v19_apply, val_main_cst_2_apply, Ideal.ofBits_def,
    Ideal.ofBits_zero_f32, zero_add, Fin.sum_univ_two, head_eq x0 x1 x2 x3 x4 x5, head_eq x0 x1 x2 x3 x4 x5, memo]
  have e0 : ((idx_main_v21 i) 0).val = (i 0).val := by
    show (((i 0).val * 4096 + (i 1).val) * 256 + (i 2).val) / 1048576 = _; omega
  have e1 : ((idx_main_v21 i) 1).val = (i 1).val := by
    show (((i 0).val * 4096 + (i 1).val) * 256 + (i 2).val) / 256 % 4096 = _; omega
  have e2 : ((idx_main_v21 i) 2).val = (i 2).val / 128 := by
    show (((i 0).val * 4096 + (i 1).val) * 256 + (i 2).val) / 128 % 2 = _; omega
  have e3 : ((idx_main_v21 i) 3).val = (i 2).val % 128 := by
    show (((i 0).val * 4096 + (i 1).val) * 256 + (i 2).val) % 128 = _; omega
  rw [← e0, ← e1, ← e2, ← e3]
  rfl

/-- The mixed heads and the memory side by side. -/
theorem cat_eq (i : S8x4096x1280.Idx) : val_main_v23 (F := Ideal) x1 x2 x3 x4 i
    = if (i 2).val < 1024 then at3 x1 (i 0).val (i 1).val (i 2).val
      else memo (Inp.of x0 x1 x2 x3 x4 x5) (i 0).val (i 1).val ((i 2).val - 1024) := by
  have h2 : (i 2).val < 1280 := (i 2).isLt
  unfold val_main_v23
  by_cases h : (i 2).val < 1024
  · rw [if_pos h, concatenate_pair_apply_left (t := S8x4096x1280) (s₁ := S8x4096x1024) (s₂ := S8x4096x256) 2 _ _ _ i rfl
      (ix3 ⟨(i 0).val, (i 0).isLt⟩ ⟨(i 1).val, (i 1).isLt⟩ ⟨(i 2).val, h⟩)
      (fun b => match b with | ⟨0, _⟩ => rfl | ⟨1, _⟩ => rfl | ⟨2, _⟩ => rfl)]
    exact eq_at3 x1 _ rfl rfl rfl
  · rw [if_neg h, concatenate_pair_apply_right (t := S8x4096x1280) (s₁ := S8x4096x1024) (s₂ := S8x4096x256) 2 _ _ _ i rfl rfl
      (ix3 ⟨(i 0).val, (i 0).isLt⟩ ⟨(i 1).val, (i 1).isLt⟩ ⟨(i 2).val - 1024, by omega⟩)
      (fun b hb => match b, hb with | ⟨0, _⟩, _ => rfl | ⟨1, _⟩, _ => rfl | ⟨2, _⟩, hb => absurd rfl hb)
      (by show (i 2).val - 1024 + 1024 = (i 2).val; omega)]
    exact memo_eq x0 x1 x2 x3 x4 x5 _

/-- The reference's result. -/
theorem out_eq (i : S8x4096x1024.Idx) : val_main_v25 (F := Ideal) x0 x1 x2 x3 x4 x5 i
    = out (Inp.of x0 x1 x2 x3 x4 x5) (i 0).val (i 1).val (i 2).val := by
  rw [val_main_v25_apply, val_main_v24_apply, Ideal.addf_def, eq_at3 x0 i rfl rfl rfl, out, add_assoc]
  obtain ⟨G, hG⟩ : ∃ G : ℕ → EReal, ∀ n, G n = (if n < 1024 then at3 x1 (i 0).val (i 1).val n
      else memo (Inp.of x0 x1 x2 x3 x4 x5) (i 0).val (i 1).val (n - 1024)) * at2 x5 n (i 2).val := ⟨_, fun _ => rfl⟩
  have e : ∀ k : Fin 1280, val_main_v23 (F := Ideal) x1 x2 x3 x4 (lidx_main_v24 i k) * x5 (ridx_main_v24 i k)
      = G k.val := fun k => by
    rw [hG, cat_eq x0 x1 x2 x3 x4 x5, eq_at2 x5 (ridx_main_v24 i k) rfl rfl]
  rw [Finset.sum_congr rfl fun k _ => e k, sum_split]
  refine congrArg₂ _ rfl (congrArg₂ _ (Finset.sum_congr rfl fun k _ => ?_) (Finset.sum_congr rfl fun k _ => ?_))
  · rw [hG, if_pos k.isLt]
    rfl
  · rw [hG, if_neg (by omega), Nat.add_sub_cancel_left]
    rfl

end Cert.Out.Ref

end
-- ==== Proof.OutBody.lean ====
/- The body of the output projection at an index: its pieces read give the functions of OutSpec. -/
module

public import proofs.«01_k».proof.Proof.OutSpec
public import proofs.«01_k».proof.Proof.Gen.Kernel4Ideal.Skeleton
public import Idealize.ShloMosaic.Lib.Pipeline.ValueKit

@[expose] public section

set_option maxRecDepth 16384

noncomputable section

namespace Cert.Kernel4Ideal.Layer

open Cert.Kernel4Ideal Cert.Kernel4Ideal.Gen Idealize.ShloMosaic Idealize.ShloMosaic.TcCoe Idealize.SL.Sem Cert.Out

/-- A block of scores at an index. -/
theorem score_apply (q : FVec Ideal S1x512x128 .bf16) (k : FVec Ideal S1x256x128 .bf16) (p : Inp) (b base t u : ℕ)
    (hq : ∀ (r : Fin 512) (d : Fin 128), q (ix3 0 r d) = p.q b (base + r.val) (128 * t + d.val))
    (hk : ∀ (n : Fin 256) (d : Fin 128), k (ix3 0 n d) = p.k b n.val (256 * t + 128 * u + d.val))
    (r : Fin 512) (n : Fin 256) : k0_pay2 (F := Ideal) q k (ix2 r n) = score p b (base + r.val) t u n.val := by
  pointwise [k0_pay2]
  simp only [hq, hk, score]

/-- A block of weights at an index. -/
theorem wt_apply (s : FVec Ideal S512x256 .f32) (r : Fin 512) (S : ℕ → EReal) (hs : ∀ n : Fin 256, s (ix2 r n) = S n.val)
    (n : Fin 256) : k0_pay10 (F := Ideal) s (ix2 r n) = wt S n.val := by
  pointwise [k0_pay10]
  simp only [hs, wt, top]
  rfl

/-- One head's read of a block of values. -/
def attend (s : FVec Ideal S512x256 .f32) (v : FVec Ideal S1x256x128 .bf16) : FVec Ideal S512x128 .f32 :=
  divf (matmul dot_S512x256_S256x128_S512x128_1_0_0_1_n_n none (truncf .bf16 (k0_pay10 s) bitsLt_bf16_f32)
      (shapeCast S256x128 v shapeCasts_S1x256x128_S256x128) (constant S512x128 .f32 0x00000000#32))
    (broadcastTo S512x128 (k0_pay11 s) broadcasts_S512x1_S512x128)

/-- The same at an index. -/
theorem attend_apply (s : FVec Ideal S512x256 .f32) (v : FVec Ideal S1x256x128 .bf16) (r : Fin 512) (S W : ℕ → EReal)
    (hs : ∀ n : Fin 256, s (ix2 r n) = S n.val) (d : Fin 128) (hv : ∀ n : Fin 256, v (ix3 0 n d) = W n.val) :
    attend s v (ix2 r d) = soft S W := by
  pointwise [attend, k0_pay11]
  simp only [wt_apply s r S hs, hv, soft]

/-- The first block's two heads. -/
theorem pair_eq (s0 s1 : FVec Ideal S512x256 .f32) (v0 v1 : FVec Ideal S1x256x128 .bf16) :
    k0_pay9 (F := Ideal) s0 s1 v0 v1 = addf (attend s0 v0) (attend s1 v1) := rfl

/-- The rows with the first projection added, at an index. -/
theorem mix_apply (x : FVec Ideal S1x512x1024 .f32) (a : FVec Ideal S1x512x1024 .bf16) (w : FVec Ideal S1024x1024 .bf16)
    (r : Fin 512) (c : Fin 1024) : k0_pay8 (F := Ideal) (k0_pay6 x) (k0_pay7 a) w (ix2 r c)
      = x (ix3 0 r c) + ∑ k : Fin 1024, a (ix3 0 r k) * w (ix2 k c) := by
  pointwise [k0_pay6, k0_pay7, k0_pay8]

/-- The whole block. -/
theorem last_eq (s2 s3 : FVec Ideal S512x256 .f32) (y : FVec Ideal S512x1024 .f32) (m0 : FVec Ideal S512x128 .bf16)
    (v2 v3 : FVec Ideal S1x256x128 .bf16) (w : FVec Ideal S256x1024 .bf16) :
    k0_pay1 (F := Ideal) s3 y m0 (k0_pay11 s2) (k0_pay12 s2) v2 v3 w
      = shapeCast S1x512x1024 (addf y (matmul (φ₁ := .bf16) (φ₂ := .bf16) dot_S512x256_S256x1024_S512x1024_1_0_0_1_n_n none
          (concatenate S512x256 1 [⟨S512x128, m0⟩, ⟨S512x128, (addf (attend s2 v2) (attend s3 v3) : FVec Ideal S512x128 .f32)⟩]
            concatenates_S512x128_S512x128_S512x256_d1)
          (shapeCast S256x1024 w shapeCasts_S256x1024_S256x1024) (constant S512x1024 .f32 0x00000000#32)))
          shapeCasts_S512x1024_S1x512x1024 := rfl

/-- The two blocks side by side, at an index. -/
theorem cat_apply (m0 m1 : FVec Ideal S512x128 .bf16) (r : Fin 512) (G : ℕ → EReal)
    (h0 : ∀ d : Fin 128, m0 (ix2 r d) = G d.val) (h1 : ∀ d : Fin 128, m1 (ix2 r d) = G (128 + d.val)) (e : Fin 256) :
    (concatenate S512x256 1 [⟨S512x128, m0⟩, ⟨S512x128, m1⟩] concatenates_S512x128_S512x128_S512x256_d1
      : FVec Ideal S512x256 .bf16) (ix2 r e) = G e.val := by
  by_cases h : e.val < 128
  · refine (concatenate_pair_apply_left (t := S512x256) (s₁ := S512x128) (s₂ := S512x128) 1 m0 m1 _ (ix2 r e) rfl
      (ix2 r ⟨e.val, h⟩) (fun b => match b with | ⟨0, _⟩ => rfl | ⟨1, _⟩ => rfl)).trans (h0 ⟨e.val, h⟩)
  · refine (concatenate_pair_apply_right (t := S512x256) (s₁ := S512x128) (s₂ := S512x128) 1 m0 m1 _ (ix2 r e) rfl rfl
      (ix2 r ⟨e.val - 128, by omega⟩) (fun b hb => match b, hb with | ⟨0, _⟩, _ => rfl | ⟨1, _⟩, hb => absurd rfl hb)
      (by show e.val - 128 + 128 = e.val; omega)).trans ((h1 ⟨e.val - 128, by omega⟩).trans ?_)
    show G (128 + (e.val - 128)) = _
    rw [Nat.add_sub_cancel' (by omega)]

/-- The whole block at an index. -/
theorem last_apply (s2 s3 : FVec Ideal S512x256 .f32) (y : FVec Ideal S512x1024 .f32) (m0 : FVec Ideal S512x128 .bf16)
    (v2 v3 : FVec Ideal S1x256x128 .bf16) (w : FVec Ideal S256x1024 .bf16) (r : Fin 512) (c : Fin 1024) (G : ℕ → EReal)
    (h0 : ∀ d : Fin 128, m0 (ix2 r d) = G d.val)
    (h1 : ∀ d : Fin 128, attend s2 v2 (ix2 r d) + attend s3 v3 (ix2 r d) = G (128 + d.val)) :
    k0_pay1 (F := Ideal) s3 y m0 (k0_pay11 s2) (k0_pay12 s2) v2 v3 w (ix3 0 r c)
      = y (ix2 r c) + ∑ k : Fin 256, G k.val * w (ix2 k c) := by
  rw [last_eq]
  have hc := cat_apply m0 (addf (attend s2 v2) (attend s3 v3) : FVec Ideal S512x128 .f32) r G h0 h1
  generalize (concatenate S512x256 1 [⟨S512x128, m0⟩, ⟨S512x128, (addf (attend s2 v2) (attend s3 v3) : FVec Ideal S512x128 .f32)⟩]
    concatenates_S512x128_S512x128_S512x256_d1) = z at hc
  pointwise
  simp only [hc]

end Cert.Kernel4Ideal.Layer

end
-- ==== Proof.OutBlocks.lean ====
/- The blocks of a grid point hold the operands, and what each point writes is the call's result. -/
module

public import proofs.«01_k».proof.Proof.OutBody
public import proofs.«01_k».proof.Proof.Gen.Kernel4Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.Layer

open Cert.Kernel4Ideal Cert.Kernel4Ideal.Gen Idealize.ShloMosaic Idealize.ShloMosaic.TcCoe Idealize.SL.Sem Cert.Out

variable (m : (ℓ : Loc nD τ sig) → Buf (Elt Ideal) ℓ)

/-- The operands of the call, as a chip's memory holds them. -/
def ops (c : Dev nD) : Inp :=
  Inp.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0] ∧ win0_4.index t = ![t.val / 8, 0, 0]
    ∧ win0_5.index t = ![0, 0] ∧ win0_6.index t = ![t.val / 8, t.val % 8, 0] :=
  (by decide +kernel : ∀ t : Fin grid0.N, _)

theorem blk_x (c : Dev nD) (t : Fin cfg0.N) (i : S1x512x1024.Idx) :
    (iblk m c 0 t : Vec Ideal S1x512x1024 .f32) i = (ops m c).x (t.val / 8) (512 * (t.val % 8) + (i 1).val) (i 2).val := by
  have e : (i 0).val = 0 := by have := (i 0).isLt; change _ < 1 at this; omega
  refine Ffn.eq_at3 (m ((c : Thread nD τ).loc main_arg0)) (((cfg0.win 0).blk t).view.emb i) ?_ ?_ ?_ <;>
    (blk_simp [idx t]; try omega)

theorem blk_a (c : Dev nD) (t : Fin cfg0.N) (i : S1x512x1024.Idx) :
    (iblk m c 1 t : Vec Ideal S1x512x1024 .bf16) i = (ops m c).a (t.val / 8) (512 * (t.val % 8) + (i 1).val) (i 2).val := by
  have e : (i 0).val = 0 := by have := (i 0).isLt; change _ < 1 at this; omega
  refine Ffn.eq_at3 (m ((c : Thread nD τ).loc main_arg1)) (((cfg0.win 1).blk t).view.emb i) ?_ ?_ ?_ <;>
    (blk_simp [idx t]; try omega)

theorem blk_q (c : Dev nD) (t : Fin cfg0.N) (i : S1x512x256.Idx) :
    (iblk m c 2 t : Vec Ideal S1x512x256 .bf16) i = (ops m c).q (t.val / 8) (512 * (t.val % 8) + (i 1).val) (i 2).val := by
  have e : (i 0).val = 0 := by have := (i 0).isLt; change _ < 1 at this; omega
  refine Ffn.eq_at3 (m ((c : Thread nD τ).loc main_arg2)) (((cfg0.win 2).blk t).view.emb i) ?_ ?_ ?_ <;>
    (blk_simp [idx t]; try omega)

theorem blk_k (c : Dev nD) (t : Fin cfg0.N) (i : S1x256x512.Idx) :
    (iblk m c 3 t : Vec Ideal S1x256x512 .bf16) i = (ops m c).k (t.val / 8) (i 1).val (i 2).val := by
  have e : (i 0).val = 0 := by have := (i 0).isLt; change _ < 1 at this; omega
  refine Ffn.eq_at3 (m ((c : Thread nD τ).loc main_arg3)) (((cfg0.win 3).blk t).view.emb i) ?_ ?_ ?_ <;>
    (blk_simp [idx t]; try omega)

theorem blk_v (c : Dev nD) (t : Fin cfg0.N) (i : S1x256x512.Idx) :
    (iblk m c 4 t : Vec Ideal S1x256x512 .bf16) i = (ops m c).v (t.val / 8) (i 1).val (i 2).val := by
  have e : (i 0).val = 0 := by have := (i 0).isLt; change _ < 1 at this; omega
  refine Ffn.eq_at3 (m ((c : Thread nD τ).loc main_arg4)) (((cfg0.win 4).blk t).view.emb i) ?_ ?_ ?_ <;>
    (blk_simp [idx t]; try omega)

/-- The projection in its narrower format, as the host line prepares it. -/
theorem at_v0 (c : Dev nD) :
    V m c main_v0 = (truncf (F := Ideal) .bf16 (m ((c : Thread nD τ).loc main_arg5) : Vec Ideal S1280x1024 .f32) bitsLt_bf16_f32
      : Vec Ideal S1280x1024 .bf16) := by
  simp only [V, List.flatten_cons, List.flatten_nil, List.append_nil, List.cons_append, List.nil_append, hostOps0]
  after_results
  try rfl

theorem blk_w (c : Dev nD) (t : Fin cfg0.N) (i : S1280x1024.Idx) :
    (iblk m c 5 t : Vec Ideal S1280x1024 .bf16) i = (ops m c).w (i 0).val (i 1).val := by
  show V m c main_v0 (((cfg0.win 5).blk t).view.emb i) = _
  rw [at_v0]
  refine Ffn.eq_at2 (m ((c : Thread nD τ).loc main_arg5)) (((cfg0.win 5).blk t).view.emb i) ?_ ?_ <;> (blk_simp [idx t]; try omega)

/-- A block that loads hold: batch `b`, rows from `base` on. -/
theorem body_eq (p : Inp) (b base : ℕ) (x0 : Vec Ideal S1x512x1024 .f32) (x1 : Vec Ideal S1x512x1024 .bf16)
    (x2 : Vec Ideal S1x512x256 .bf16) (x3 x4 : Vec Ideal S1x256x512 .bf16) (x5 : Vec Ideal S1280x1024 .bf16)
    (h0 : ∀ i, x0 i = p.x b (base + (i 1).val) (i 2).val) (h1 : ∀ i, x1 i = p.a b (base + (i 1).val) (i 2).val)
    (h2 : ∀ i, x2 i = p.q b (base + (i 1).val) (i 2).val) (h3 : ∀ i, x3 i = p.k b (i 1).val (i 2).val)
    (h4 : ∀ i, x4 i = p.v b (i 1).val (i 2).val) (h5 : ∀ i, x5 i = p.w (i 0).val (i 1).val) :
    out0_6 x0 x1 x2 x3 x4 x5 = fun i => out p b (base + (i 1).val) (i 2).val := by
  have q0 : ∀ (r : Fin 512) (d : Fin 128), (View.ld x2 r0_0 : FVec Ideal S1x512x128 .bf16) (ix3 0 r d)
      = p.q b (base + r.val) (128 * 0 + d.val) := fun r d =>
    (h2 _).trans (congrArg₂ (p.q b) (by show base + (0 + 1 * r.val) = _; omega) (by show 0 + 1 * d.val = _; omega))
  have q1 : ∀ (r : Fin 512) (d : Fin 128), (View.ld x2 r0_3 : FVec Ideal S1x512x128 .bf16) (ix3 0 r d)
      = p.q b (base + r.val) (128 * 1 + d.val) := fun r d =>
    (h2 _).trans (congrArg₂ (p.q b) (by show base + (0 + 1 * r.val) = _; omega) (by show 128 + 1 * d.val = _; omega))
  have k0 : ∀ (n : Fin 256) (d : Fin 128), (View.ld x3 r0_1 : FVec Ideal S1x256x128 .bf16) (ix3 0 n d)
      = p.k b n.val (256 * 0 + 128 * 0 + d.val) := fun n d =>
    (h3 _).trans (congrArg₂ (p.k b) (by show 0 + 1 * n.val = _; omega) (by show 0 + 1 * d.val = _; omega))
  have k1 : ∀ (n : Fin 256) (d : Fin 128), (View.ld x3 r0_2 : FVec Ideal S1x256x128 .bf16) (ix3 0 n d)
      = p.k b n.val (256 * 0 + 128 * 1 + d.val) := fun n d =>
    (h3 _).trans (congrArg₂ (p.k b) (by show 0 + 1 * n.val = _; omega) (by show 128 + 1 * d.val = _; omega))
  have k2 : ∀ (n : Fin 256) (d : Fin 128), (View.ld x3 r0_4 : FVec Ideal S1x256x128 .bf16) (ix3 0 n d)
      = p.k b n.val (256 * 1 + 128 * 0 + d.val) := fun n d =>
    (h3 _).trans (congrArg₂ (p.k b) (by show 0 + 1 * n.val = _; omega) (by show 256 + 1 * d.val = _; omega))
  have k3 : ∀ (n : Fin 256) (d : Fin 128), (View.ld x3 r0_5 : FVec Ideal S1x256x128 .bf16) (ix3 0 n d)
      = p.k b n.val (256 * 1 + 128 * 1 + d.val) := fun n d =>
    (h3 _).trans (congrArg₂ (p.k b) (by show 0 + 1 * n.val = _; omega) (by show 384 + 1 * d.val = _; omega))
  have v0 : ∀ (n : Fin 256) (d : Fin 128), (View.ld x4 r0_1 : FVec Ideal S1x256x128 .bf16) (ix3 0 n d)
      = p.v b n.val (256 * 0 + 128 * 0 + d.val) := fun n d =>
    (h4 _).trans (congrArg₂ (p.v b) (by show 0 + 1 * n.val = _; omega) (by show 0 + 1 * d.val = _; omega))
  have v1 : ∀ (n : Fin 256) (d : Fin 128), (View.ld x4 r0_2 : FVec Ideal S1x256x128 .bf16) (ix3 0 n d)
      = p.v b n.val (256 * 0 + 128 * 1 + d.val) := fun n d =>
    (h4 _).trans (congrArg₂ (p.v b) (by show 0 + 1 * n.val = _; omega) (by show 128 + 1 * d.val = _; omega))
  have v2 : ∀ (n : Fin 256) (d : Fin 128), (View.ld x4 r0_4 : FVec Ideal S1x256x128 .bf16) (ix3 0 n d)
      = p.v b n.val (256 * 1 + 128 * 0 + d.val) := fun n d =>
    (h4 _).trans (congrArg₂ (p.v b) (by show 0 + 1 * n.val = _; omega) (by show 256 + 1 * d.val = _; omega))
  have v3 : ∀ (n : Fin 256) (d : Fin 128), (View.ld x4 r0_5 : FVec Ideal S1x256x128 .bf16) (ix3 0 n d)
      = p.v b n.val (256 * 1 + 128 * 1 + d.val) := fun n d =>
    (h4 _).trans (congrArg₂ (p.v b) (by show 0 + 1 * n.val = _; omega) (by show 384 + 1 * d.val = _; omega))
  have s0 := score_apply (View.ld x2 r0_0) (View.ld x3 r0_1) p b base 0 0 q0 k0
  have s1 := score_apply (View.ld x2 r0_0) (View.ld x3 r0_2) p b base 0 1 q0 k1
  have s2 := score_apply (View.ld x2 r0_3) (View.ld x3 r0_4) p b base 1 0 q1 k2
  have s3 := score_apply (View.ld x2 r0_3) (View.ld x3 r0_5) p b base 1 1 q1 k3
  have o0 : ∀ (r : Fin 512) (d : Fin 128), attend (k0_pay2 (View.ld x2 r0_0) (View.ld x3 r0_1)) (View.ld x4 r0_1) (ix2 r d)
      = head p b (base + r.val) 0 0 d.val := fun r d => attend_apply _ _ r _ _ (s0 r) d fun n => v0 n d
  have o1 : ∀ (r : Fin 512) (d : Fin 128), attend (k0_pay2 (View.ld x2 r0_0) (View.ld x3 r0_2)) (View.ld x4 r0_2) (ix2 r d)
      = head p b (base + r.val) 0 1 d.val := fun r d => attend_apply _ _ r _ _ (s1 r) d fun n => v1 n d
  have o2 : ∀ (r : Fin 512) (d : Fin 128), attend (k0_pay2 (View.ld x2 r0_3) (View.ld x3 r0_4)) (View.ld x4 r0_4) (ix2 r d)
      = head p b (base + r.val) 1 0 d.val := fun r d => attend_apply _ _ r _ _ (s2 r) d fun n => v2 n d
  have o3 : ∀ (r : Fin 512) (d : Fin 128), attend (k0_pay2 (View.ld x2 r0_3) (View.ld x3 r0_5)) (View.ld x4 r0_5) (ix2 r d)
      = head p b (base + r.val) 1 1 d.val := fun r d => attend_apply _ _ r _ _ (s3 r) d fun n => v3 n d
  have w0 : ∀ k c : Fin 1024, (View.ld x5 r0_7 : FVec Ideal S1024x1024 .bf16) (ix2 k c) = p.w k.val c.val := fun k c =>
    (h5 _).trans (congrArg₂ p.w (by show 0 + 1 * k.val = _; omega) (by show 0 + 1 * c.val = _; omega))
  have w1 : ∀ (k : Fin 256) (c : Fin 1024), (View.ld x5 r0_8 : FVec Ideal S256x1024 .bf16) (ix2 k c) = p.w (1024 + k.val) c.val :=
    fun k c => (h5 _).trans (congrArg₂ p.w (by show 1024 + 1 * k.val = _; omega) (by show 0 + 1 * c.val = _; omega))
  have l0 : ∀ (r : Fin 512) (c : Fin 1024), (View.ld x0 r0_6 : FVec Ideal S1x512x1024 .f32) (ix3 0 r c) = p.x b (base + r.val) c.val :=
    fun r c => (h0 _).trans (congrArg₂ (p.x b) (by show base + (0 + 1 * r.val) = _; omega) (by show 0 + 1 * c.val = _; omega))
  have l1 : ∀ (r : Fin 512) (c : Fin 1024), (View.ld x1 r0_6 : FVec Ideal S1x512x1024 .bf16) (ix3 0 r c) = p.a b (base + r.val) c.val :=
    fun r c => (h1 _).trans (congrArg₂ (p.a b) (by show base + (0 + 1 * r.val) = _; omega) (by show 0 + 1 * c.val = _; omega))
  unfold out0_6 k0_pay13
  rw [View.canon_cons_unit_lit _ _ _ (by decide)]
  funext i
  obtain ⟨r, c, rfl⟩ : ∃ (r : Fin 512) (c : Fin 1024), i = ix3 0 r c := ⟨i 1, i 2, by
    funext a
    match a with
    | ⟨0, _⟩ => exact Fin.ext (by have := (i 0).isLt; change _ < 1 at this; show (i 0).val = 0; omega)
    | ⟨1, _⟩ => rfl
    | ⟨2, _⟩ => rfl⟩
  refine (last_apply (k0_pay2 (View.ld x2 r0_3) (View.ld x3 r0_4)) (k0_pay2 (View.ld x2 r0_3) (View.ld x3 r0_5)) _ _ _ _ _ r c
    (memo p b (base + r.val)) (fun d => ?_) (fun d => ?_)).trans ?_
  · show addf (attend (k0_pay2 (View.ld x2 r0_0) (View.ld x3 r0_1)) (View.ld x4 r0_1))
      (attend (k0_pay2 (View.ld x2 r0_0) (View.ld x3 r0_2)) (View.ld x4 r0_2)) (ix2 r d) = _
    refine (congrArg₂ _ (o0 r d) (o1 r d)).trans ?_
    rw [memo, Nat.div_eq_of_lt d.isLt, Nat.mod_eq_of_lt d.isLt]
    rfl
  · refine (congrArg₂ _ (o2 r d) (o3 r d)).trans ?_
    rw [memo, show (128 + d.val) / 128 = 1 by omega, show (128 + d.val) % 128 = d.val by omega]
  · rw [mix_apply]
    simp only [l0, l1, w0, w1]
    rfl

/-- What a point leaves in its block of the result. -/
theorem produced (c : Dev nD) (t : Fin cfg0.N) :
    out0_6 (iblk m c 0 t) (iblk m c 1 t) (iblk m c 2 t) (iblk m c 3 t) (iblk m c 4 t) (iblk m c 5 t)
      = fun i => out (ops m c) (t.val / 8) (512 * (t.val % 8) + (i 1).val) (i 2).val :=
  body_eq (ops m c) _ _ _ _ _ _ _ _ (blk_x m c t) (blk_a m c t) (blk_q m c t) (blk_k m c t) (blk_v m c t) (blk_w m c t)

/-- The result array after the run. -/
theorem final (c : Dev nD) : (dats m 0 c).arrAt 6 cfg0.N = fun i => out (ops m c) (i 0).val (i 1).val (i 2).val := by
  refine (dats m 0 c).arrAt_eq_of_covers 6 (fun i => out (ops m c) (i 0).val (i 1).val (i 2).val) (by decide +kernel)
    fun t _ y => ?_
  blk_simp
  rw [after0_6, produced]
  blk_simp [idx t]
  rw [Nat.mul_comm 512]

end Cert.Kernel4Ideal.Layer

end
-- ==== Proof.MemSpec.lean ====
/- The memory's keys and values, as plain functions of whole-number coordinates. Both programs are compared with these. -/
module

public import proofs.«01_k».proof.Proof.FfnSpec

@[expose] public section

noncomputable section

namespace Cert.Mem

open Idealize.ShloMosaic Cert.Ffn

/-- Memory row `m` of batch `b`, normalised and taken through layer `l`'s matrix, at column `e` of the keys and values together. -/
def prod (x : ℕ → ℕ → ℕ → EReal) (g : ℕ → EReal) (w : ℕ → ℕ → ℕ → EReal) (l b m e : ℕ) : EReal :=
  ∑ k : Fin 1024, norm (x b m) g k.val * w l k.val e

/-- Four heads of 64 columns laid in four blocks of 128: an even head in the first half of its block, an odd one in the
    second, zero elsewhere. -/
def lay (y : ℕ → EReal) (c : ℕ) : EReal := if c % 128 / 64 = c / 128 % 2 then y (128 * (c / 256) + c % 128) else 0

/-- The laid keys. -/
def keys (x : ℕ → ℕ → ℕ → EReal) (g : ℕ → EReal) (w : ℕ → ℕ → ℕ → EReal) (l b m c : ℕ) : EReal := lay (prod x g w l b m) c

/-- The laid values, whose columns come after the 256 of the keys. -/
def vals (x : ℕ → ℕ → ℕ → EReal) (g : ℕ → EReal) (w : ℕ → ℕ → ℕ → EReal) (l b m c : ℕ) : EReal :=
  lay (fun e => prod x g w l b m (256 + e)) c

end Cert.Mem

end
-- ==== Proof.MemRef.lean ====
/- The reference of the memory's keys and values at an index: its operations read one after the other. -/
module

public import proofs.«01_k».proof.Proof.MemSpec
public import proofs.«01_k».proof.Proof.Gen.Reference5Ideal.Read
public import Idealize.ShloMosaic.Lib.KernelVsHost
public import Idealize.ShloMosaic.Lib.Pipeline.Value

@[expose] public section

set_option maxRecDepth 16384

noncomputable section

namespace Cert.Mem.Ref

open Cert.Reference5Ideal Cert.Reference5Ideal.Gen Cert.Reference5Ideal.Read Idealize.ShloMosaic Cert.Ffn Cert.Mem

variable (x0 : FVec Ideal S8x256x1024 .f32) (x1 : FVec Ideal S1024 .f32) (x2 : FVec Ideal S4x1024x512 .f32)

/-- The normalised rows. -/
theorem norm_eq (i : S8x256x1024.Idx) : val_main_v12 (F := Ideal) x0 x1 i
    = norm (at3 x0 (i 0).val (i 1).val) (at1 x1) (i 2).val := by
  simp only [val_main_v12_apply, val_main_v9_apply, val_main_v8_apply, val_main_v7_apply, val_main_v6_apply,
    val_main_v5_apply, val_main_v4_apply, val_main_v3_apply, val_main_v2_apply, val_main_v1_apply, val_main_v0_apply,
    val_main_v11_apply, val_main_v10_apply, val_main_cst_apply, val_main_cst_0_apply, val_main_cst_1_apply,
    Ideal.mulf_def, Ideal.addf_def, Ideal.hostDivf_def, Ideal.hostUnary_rsqrt_def, Ideal.ofBits_def,
    Ideal.ofBits_zero_f32, zero_add]
  simp only [Ffn.norm, Ffn.inv, fun j => eq_at3 x0 j rfl rfl rfl, fun j => eq_at1 x1 j rfl]

/-- The product, the rows of all batches numbered through. -/
theorem prod_eq (i : S4x2048x512.Idx) : val_main_v15 (F := Ideal) x0 x1 x2 i
    = prod (at3 x0) (at1 x1) (at3 x2) (i 0).val ((i 1).val / 256) ((i 1).val % 256) (i 2).val := by
  have h1 : (i 1).val < 2048 := (i 1).isLt
  rw [val_main_v15_apply, val_main_v14_apply, prod]
  refine Finset.sum_congr rfl fun k _ => ?_
  have hk : k.val < 1024 := k.isLt
  have e0 : ((idx_main_v13 (ridx_main_v14 (idx_main_v15 i) k)) 0).val = (i 1).val / 256 := by
    show ((i 1).val * 1024 + k.val) / 262144 = _; omega
  have e1 : ((idx_main_v13 (ridx_main_v14 (idx_main_v15 i) k)) 1).val = (i 1).val % 256 := by
    show ((i 1).val * 1024 + k.val) / 1024 % 256 = _; omega
  have e2 : ((idx_main_v13 (ridx_main_v14 (idx_main_v15 i) k)) 2).val = k.val := by
    show ((i 1).val * 1024 + k.val) % 1024 = _; omega
  rw [val_main_v13_apply, norm_eq, e0, e1, e2, mul_comm, eq_at3 x2 (lidx_main_v14 (idx_main_v15 i) k) rfl rfl rfl]

/-! ### The keys -/

/-- The keys' columns. -/
theorem keys_cols (i : S4x2048x256.Idx) : val_main_v16 (F := Ideal) x0 x1 x2 i
    = prod (at3 x0) (at1 x1) (at3 x2) (i 0).val ((i 1).val / 256) ((i 1).val % 256) ((i 2).val) := by
  rw [val_main_v16_apply, prod_eq]

/-- The columns by pair of heads, head and column of the head. -/
theorem keys_pairs (i : S4x2048x2x2x64.Idx) : val_main_v18 (F := Ideal) x0 x1 x2 i
    = prod (at3 x0) (at1 x1) (at3 x2) (i 0).val ((i 1).val / 256) ((i 1).val % 256)
        ((128 * (i 2).val + 64 * (i 3).val + (i 4).val)) := by
  have h0 : (i 0).val < 4 := (i 0).isLt
  have h1 : (i 1).val < 2048 := (i 1).isLt
  have h2 : (i 2).val < 2 := (i 2).isLt
  have h3 : (i 3).val < 2 := (i 3).isLt
  have h4 : (i 4).val < 64 := (i 4).isLt
  have e0 : ((idx_main_v18 i) 0).val = (i 0).val := by
    show (((((i 0).val * 2048 + (i 1).val) * 2 + (i 2).val) * 2 + (i 3).val) * 64 + (i 4).val) / 524288 = _; omega
  have e1 : ((idx_main_v18 i) 1).val = (i 1).val := by
    show (((((i 0).val * 2048 + (i 1).val) * 2 + (i 2).val) * 2 + (i 3).val) * 64 + (i 4).val) / 256 % 2048 = _; omega
  have e2 : ((idx_main_v18 i) 2).val = 128 * (i 2).val + 64 * (i 3).val + (i 4).val := by
    show (((((i 0).val * 2048 + (i 1).val) * 2 + (i 2).val) * 2 + (i 3).val) * 64 + (i 4).val) % 256 = _; omega
  rw [val_main_v18_apply, keys_cols, e0, e1, e2]

/-- The even heads. -/
theorem keys_even (i : S4x2048x2x64.Idx) : val_main_v20 (F := Ideal) x0 x1 x2 i
    = prod (at3 x0) (at1 x1) (at3 x2) (i 0).val ((i 1).val / 256) ((i 1).val % 256) ((128 * (i 2).val + (i 3).val)) := by
  have h0 : (i 0).val < 4 := (i 0).isLt
  have h1 : (i 1).val < 2048 := (i 1).isLt
  have h2 : (i 2).val < 2 := (i 2).isLt
  have h3 : (i 3).val < 64 := (i 3).isLt
  have e0 : ((idx_main_v19 (idx_main_v20 i)) 0).val = (i 0).val := by
    show ((((i 0).val * 2048 + (i 1).val) * 2 + (i 2).val) * 64 + (i 3).val) / 262144 = _; omega
  have e1 : ((idx_main_v19 (idx_main_v20 i)) 1).val = (i 1).val := by
    show ((((i 0).val * 2048 + (i 1).val) * 2 + (i 2).val) * 64 + (i 3).val) / 128 % 2048 = _; omega
  have e2 : ((idx_main_v19 (idx_main_v20 i)) 2).val = (i 2).val := by
    show ((((i 0).val * 2048 + (i 1).val) * 2 + (i 2).val) * 64 + (i 3).val) / 64 % 2 = _; omega
  have e3 : ((idx_main_v19 (idx_main_v20 i)) 3).val = 0 := rfl
  have e4 : ((idx_main_v19 (idx_main_v20 i)) 4).val = (i 3).val := by
    show ((((i 0).val * 2048 + (i 1).val) * 2 + (i 2).val) * 64 + (i 3).val) % 64 = _; omega
  rw [val_main_v20_apply, val_main_v19_apply, keys_pairs, e0, e1, e2, e3, e4, Nat.mul_zero, Nat.add_zero]

/-- The odd heads. -/
theorem keys_odd (i : S4x2048x2x64.Idx) : val_main_v23 (F := Ideal) x0 x1 x2 i
    = prod (at3 x0) (at1 x1) (at3 x2) (i 0).val ((i 1).val / 256) ((i 1).val % 256) ((128 * (i 2).val + 64 + (i 3).val)) := by
  have h0 : (i 0).val < 4 := (i 0).isLt
  have h1 : (i 1).val < 2048 := (i 1).isLt
  have h2 : (i 2).val < 2 := (i 2).isLt
  have h3 : (i 3).val < 64 := (i 3).isLt
  have e0 : ((idx_main_v22 (idx_main_v23 i)) 0).val = (i 0).val := by
    show ((((i 0).val * 2048 + (i 1).val) * 2 + (i 2).val) * 64 + (i 3).val) / 262144 = _; omega
  have e1 : ((idx_main_v22 (idx_main_v23 i)) 1).val = (i 1).val := by
    show ((((i 0).val * 2048 + (i 1).val) * 2 + (i 2).val) * 64 + (i 3).val) / 128 % 2048 = _; omega
  have e2 : ((idx_main_v22 (idx_main_v23 i)) 2).val = (i 2).val := by
    show ((((i 0).val * 2048 + (i 1).val) * 2 + (i 2).val) * 64 + (i 3).val) / 64 % 2 = _; omega
  have e3 : ((idx_main_v22 (idx_main_v23 i)) 3).val = 1 := rfl
  have e4 : ((idx_main_v22 (idx_main_v23 i)) 4).val = (i 3).val := by
    show ((((i 0).val * 2048 + (i 1).val) * 2 + (i 2).val) * 64 + (i 3).val) % 64 = _; omega
  rw [val_main_v23_apply, val_main_v22_apply, keys_pairs, e0, e1, e2, e3, e4, Nat.mul_one]

/-- The even heads with zeros after them. -/
theorem keys_even_pad (i : S4x2048x2x128.Idx) : val_main_v21 (F := Ideal) x0 x1 x2 i
    = if (i 3).val < 64 then prod (at3 x0) (at1 x1) (at3 x2) (i 0).val ((i 1).val / 256) ((i 1).val % 256)
        ((128 * (i 2).val + (i 3).val)) else 0 := by
  unfold val_main_v21
  by_cases h : (i 3).val < 64
  · rw [if_pos h, pad_apply_of_inside (k := (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 3).val, h⟩ : S4x2048x2x64.Idx))]
    · rw [keys_even]
    · intro a
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
  · rw [if_neg h, pad_apply_of_not_inside (a := 3)]
    · rw [val_main_call0_v0_apply, val_main_c_apply]
      simp [FloatOps.sitofp]
    · intro hin
      have : ((i 3).val - 0) / (0 + 1) < 64 := hin.2.2
      omega

/-- The odd heads with zeros before them. -/
theorem keys_odd_pad (i : S4x2048x2x128.Idx) : val_main_v24 (F := Ideal) x0 x1 x2 i
    = if (i 3).val < 64 then 0 else prod (at3 x0) (at1 x1) (at3 x2) (i 0).val ((i 1).val / 256) ((i 1).val % 256)
        ((128 * (i 2).val + (i 3).val)) := by
  have h3 : (i 3).val < 128 := (i 3).isLt
  unfold val_main_v24
  by_cases h : (i 3).val < 64
  · rw [if_pos h, pad_apply_of_not_inside (a := 3)]
    · rw [val_main_call1_v0_apply, val_main_c_2_apply]
      simp [FloatOps.sitofp]
    · intro hin
      have : 64 ≤ (i 3).val := hin.1
      omega
  · rw [if_neg h, pad_apply_of_inside (k := (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 3).val - 64, by show (i 3).val - 64 < 64; omega⟩ : S4x2048x2x64.Idx))]
    · rw [keys_odd]
      show prod _ _ _ _ _ _ ((128 * (i 2).val + 64 + ((i 3).val - 64))) = _
      rw [show 128 * (i 2).val + 64 + ((i 3).val - 64) = 128 * (i 2).val + (i 3).val by omega]
    · intro a
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 64 + ((i 3).val - 64) * (0 + 1); omega

/-- The heads of a pair one after the other. -/
theorem keys_stack (i : S4x2048x2x2x128.Idx) : val_main_v27 (F := Ideal) x0 x1 x2 i
    = if (i 4).val / 64 = (i 3).val then prod (at3 x0) (at1 x1) (at3 x2) (i 0).val ((i 1).val / 256) ((i 1).val % 256)
        ((128 * (i 2).val + (i 4).val)) else 0 := by
  have h3 : (i 3).val < 2 := (i 3).isLt
  have h4 : (i 4).val < 128 := (i 4).isLt
  unfold val_main_v27
  by_cases h : (i 3).val < 1
  · rw [concatenate_pair_apply_left (t := S4x2048x2x2x128) (s₁ := S4x2048x2x1x128) (s₂ := S4x2048x2x1x128) 3 _ _ _ i rfl
      (fun a => match a with
        | ⟨0, _⟩ => ⟨(i 0).val, (i 0).isLt⟩
        | ⟨1, _⟩ => ⟨(i 1).val, (i 1).isLt⟩
        | ⟨2, _⟩ => ⟨(i 2).val, (i 2).isLt⟩
        | ⟨3, _⟩ => ⟨(i 3).val, h⟩
        | ⟨4, _⟩ => ⟨(i 4).val, (i 4).isLt⟩)
      (fun b => match b with | ⟨0, _⟩ => rfl | ⟨1, _⟩ => rfl | ⟨2, _⟩ => rfl | ⟨3, _⟩ => rfl | ⟨4, _⟩ => rfl),
      val_main_v25_apply, keys_even_pad]
    refine if_congr ?_ rfl rfl
    show (i 4).val < 64 ↔ _
    omega
  · rw [concatenate_pair_apply_right (t := S4x2048x2x2x128) (s₁ := S4x2048x2x1x128) (s₂ := S4x2048x2x1x128) 3 _ _ _ i rfl rfl
      (fun a => match a with
        | ⟨0, _⟩ => ⟨(i 0).val, (i 0).isLt⟩
        | ⟨1, _⟩ => ⟨(i 1).val, (i 1).isLt⟩
        | ⟨2, _⟩ => ⟨(i 2).val, (i 2).isLt⟩
        | ⟨3, _⟩ => ⟨(i 3).val - 1, by show (i 3).val - 1 < 1; omega⟩
        | ⟨4, _⟩ => ⟨(i 4).val, (i 4).isLt⟩)
      (fun b hb => match b, hb with
        | ⟨0, _⟩, _ => rfl | ⟨1, _⟩, _ => rfl | ⟨2, _⟩, _ => rfl | ⟨3, _⟩, hb => absurd rfl hb | ⟨4, _⟩, _ => rfl)
      (by show (i 3).val - 1 + 1 = (i 3).val; omega),
      val_main_v26_apply, keys_odd_pad]
    by_cases g : (i 4).val < 64
    · exact (if_pos g).trans (if_neg (by omega)).symm
    · exact (if_neg g).trans (if_pos (by omega)).symm

/-- The keys the reference returns. -/
theorem keys_eq (i : S4x8x256x512.Idx) : val_main_v29 (F := Ideal) x0 x1 x2 i
    = keys (at3 x0) (at1 x1) (at3 x2) (i 0).val (i 1).val (i 2).val (i 3).val := by
  have h0 : (i 0).val < 4 := (i 0).isLt
  have h1 : (i 1).val < 8 := (i 1).isLt
  have h2 : (i 2).val < 256 := (i 2).isLt
  have h3 : (i 3).val < 512 := (i 3).isLt
  have e0 : ((idx_main_v28 i) 0).val = (i 0).val := by
    show ((((i 0).val * 8 + (i 1).val) * 256 + (i 2).val) * 512 + (i 3).val) / 1048576 = _; omega
  have e1 : ((idx_main_v28 i) 1).val = 256 * (i 1).val + (i 2).val := by
    show ((((i 0).val * 8 + (i 1).val) * 256 + (i 2).val) * 512 + (i 3).val) / 512 % 2048 = _; omega
  have e2 : ((idx_main_v28 i) 2).val = (i 3).val / 256 := by
    show ((((i 0).val * 8 + (i 1).val) * 256 + (i 2).val) * 512 + (i 3).val) / 256 % 2 = _; omega
  have e3 : ((idx_main_v28 i) 3).val = (i 3).val / 128 % 2 := by
    show ((((i 0).val * 8 + (i 1).val) * 256 + (i 2).val) * 512 + (i 3).val) / 128 % 2 = _; omega
  have e4 : ((idx_main_v28 i) 4).val = (i 3).val % 128 := by
    show ((((i 0).val * 8 + (i 1).val) * 256 + (i 2).val) * 512 + (i 3).val) % 128 = _; omega
  rw [val_main_v29_apply, val_main_v28_apply, keys_stack, e0, e1, e2, e3, e4,
    show (256 * (i 1).val + (i 2).val) / 256 = (i 1).val by omega, show (256 * (i 1).val + (i 2).val) % 256 = (i 2).val by omega]
  rfl

/-! ### The values -/

/-- The values' columns. -/
theorem vals_cols (i : S4x2048x256.Idx) : val_main_v17 (F := Ideal) x0 x1 x2 i
    = prod (at3 x0) (at1 x1) (at3 x2) (i 0).val ((i 1).val / 256) ((i 1).val % 256) (256 + (i 2).val) := by
  rw [val_main_v17_apply, prod_eq]

/-- The columns by pair of heads, head and column of the head. -/
theorem vals_pairs (i : S4x2048x2x2x64.Idx) : val_main_v30 (F := Ideal) x0 x1 x2 i
    = prod (at3 x0) (at1 x1) (at3 x2) (i 0).val ((i 1).val / 256) ((i 1).val % 256)
        (256 + (128 * (i 2).val + 64 * (i 3).val + (i 4).val)) := by
  have h0 : (i 0).val < 4 := (i 0).isLt
  have h1 : (i 1).val < 2048 := (i 1).isLt
  have h2 : (i 2).val < 2 := (i 2).isLt
  have h3 : (i 3).val < 2 := (i 3).isLt
  have h4 : (i 4).val < 64 := (i 4).isLt
  have e0 : ((idx_main_v30 i) 0).val = (i 0).val := by
    show (((((i 0).val * 2048 + (i 1).val) * 2 + (i 2).val) * 2 + (i 3).val) * 64 + (i 4).val) / 524288 = _; omega
  have e1 : ((idx_main_v30 i) 1).val = (i 1).val := by
    show (((((i 0).val * 2048 + (i 1).val) * 2 + (i 2).val) * 2 + (i 3).val) * 64 + (i 4).val) / 256 % 2048 = _; omega
  have e2 : ((idx_main_v30 i) 2).val = 128 * (i 2).val + 64 * (i 3).val + (i 4).val := by
    show (((((i 0).val * 2048 + (i 1).val) * 2 + (i 2).val) * 2 + (i 3).val) * 64 + (i 4).val) % 256 = _; omega
  rw [val_main_v30_apply, vals_cols, e0, e1, e2]

/-- The even heads. -/
theorem vals_even (i : S4x2048x2x64.Idx) : val_main_v32 (F := Ideal) x0 x1 x2 i
    = prod (at3 x0) (at1 x1) (at3 x2) (i 0).val ((i 1).val / 256) ((i 1).val % 256) (256 + (128 * (i 2).val + (i 3).val)) := by
  have h0 : (i 0).val < 4 := (i 0).isLt
  have h1 : (i 1).val < 2048 := (i 1).isLt
  have h2 : (i 2).val < 2 := (i 2).isLt
  have h3 : (i 3).val < 64 := (i 3).isLt
  have e0 : ((idx_main_v31 (idx_main_v32 i)) 0).val = (i 0).val := by
    show ((((i 0).val * 2048 + (i 1).val) * 2 + (i 2).val) * 64 + (i 3).val) / 262144 = _; omega
  have e1 : ((idx_main_v31 (idx_main_v32 i)) 1).val = (i 1).val := by
    show ((((i 0).val * 2048 + (i 1).val) * 2 + (i 2).val) * 64 + (i 3).val) / 128 % 2048 = _; omega
  have e2 : ((idx_main_v31 (idx_main_v32 i)) 2).val = (i 2).val := by
    show ((((i 0).val * 2048 + (i 1).val) * 2 + (i 2).val) * 64 + (i 3).val) / 64 % 2 = _; omega
  have e3 : ((idx_main_v31 (idx_main_v32 i)) 3).val = 0 := rfl
  have e4 : ((idx_main_v31 (idx_main_v32 i)) 4).val = (i 3).val := by
    show ((((i 0).val * 2048 + (i 1).val) * 2 + (i 2).val) * 64 + (i 3).val) % 64 = _; omega
  rw [val_main_v32_apply, val_main_v31_apply, vals_pairs, e0, e1, e2, e3, e4, Nat.mul_zero, Nat.add_zero]

/-- The odd heads. -/
theorem vals_odd (i : S4x2048x2x64.Idx) : val_main_v35 (F := Ideal) x0 x1 x2 i
    = prod (at3 x0) (at1 x1) (at3 x2) (i 0).val ((i 1).val / 256) ((i 1).val % 256) (256 + (128 * (i 2).val + 64 + (i 3).val)) := by
  have h0 : (i 0).val < 4 := (i 0).isLt
  have h1 : (i 1).val < 2048 := (i 1).isLt
  have h2 : (i 2).val < 2 := (i 2).isLt
  have h3 : (i 3).val < 64 := (i 3).isLt
  have e0 : ((idx_main_v34 (idx_main_v35 i)) 0).val = (i 0).val := by
    show ((((i 0).val * 2048 + (i 1).val) * 2 + (i 2).val) * 64 + (i 3).val) / 262144 = _; omega
  have e1 : ((idx_main_v34 (idx_main_v35 i)) 1).val = (i 1).val := by
    show ((((i 0).val * 2048 + (i 1).val) * 2 + (i 2).val) * 64 + (i 3).val) / 128 % 2048 = _; omega
  have e2 : ((idx_main_v34 (idx_main_v35 i)) 2).val = (i 2).val := by
    show ((((i 0).val * 2048 + (i 1).val) * 2 + (i 2).val) * 64 + (i 3).val) / 64 % 2 = _; omega
  have e3 : ((idx_main_v34 (idx_main_v35 i)) 3).val = 1 := rfl
  have e4 : ((idx_main_v34 (idx_main_v35 i)) 4).val = (i 3).val := by
    show ((((i 0).val * 2048 + (i 1).val) * 2 + (i 2).val) * 64 + (i 3).val) % 64 = _; omega
  rw [val_main_v35_apply, val_main_v34_apply, vals_pairs, e0, e1, e2, e3, e4, Nat.mul_one]

/-- The even heads with zeros after them. -/
theorem vals_even_pad (i : S4x2048x2x128.Idx) : val_main_v33 (F := Ideal) x0 x1 x2 i
    = if (i 3).val < 64 then prod (at3 x0) (at1 x1) (at3 x2) (i 0).val ((i 1).val / 256) ((i 1).val % 256)
        (256 + (128 * (i 2).val + (i 3).val)) else 0 := by
  unfold val_main_v33
  by_cases h : (i 3).val < 64
  · rw [if_pos h, pad_apply_of_inside (k := (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 3).val, h⟩ : S4x2048x2x64.Idx))]
    · rw [vals_even]
    · intro a
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
  · rw [if_neg h, pad_apply_of_not_inside (a := 3)]
    · rw [val_main_call2_v0_apply, val_main_c_3_apply]
      simp [FloatOps.sitofp]
    · intro hin
      have : ((i 3).val - 0) / (0 + 1) < 64 := hin.2.2
      omega

/-- The odd heads with zeros before them. -/
theorem vals_odd_pad (i : S4x2048x2x128.Idx) : val_main_v36 (F := Ideal) x0 x1 x2 i
    = if (i 3).val < 64 then 0 else prod (at3 x0) (at1 x1) (at3 x2) (i 0).val ((i 1).val / 256) ((i 1).val % 256)
        (256 + (128 * (i 2).val + (i 3).val)) := by
  have h3 : (i 3).val < 128 := (i 3).isLt
  unfold val_main_v36
  by_cases h : (i 3).val < 64
  · rw [if_pos h, pad_apply_of_not_inside (a := 3)]
    · rw [val_main_call3_v0_apply, val_main_c_4_apply]
      simp [FloatOps.sitofp]
    · intro hin
      have : 64 ≤ (i 3).val := hin.1
      omega
  · rw [if_neg h, pad_apply_of_inside (k := (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 3).val - 64, by show (i 3).val - 64 < 64; omega⟩ : S4x2048x2x64.Idx))]
    · rw [vals_odd]
      show prod _ _ _ _ _ _ (256 + (128 * (i 2).val + 64 + ((i 3).val - 64))) = _
      rw [show 128 * (i 2).val + 64 + ((i 3).val - 64) = 128 * (i 2).val + (i 3).val by omega]
    · intro a
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 64 + ((i 3).val - 64) * (0 + 1); omega

/-- The heads of a pair one after the other. -/
theorem vals_stack (i : S4x2048x2x2x128.Idx) : val_main_v39 (F := Ideal) x0 x1 x2 i
    = if (i 4).val / 64 = (i 3).val then prod (at3 x0) (at1 x1) (at3 x2) (i 0).val ((i 1).val / 256) ((i 1).val % 256)
        (256 + (128 * (i 2).val + (i 4).val)) else 0 := by
  have h3 : (i 3).val < 2 := (i 3).isLt
  have h4 : (i 4).val < 128 := (i 4).isLt
  unfold val_main_v39
  by_cases h : (i 3).val < 1
  · rw [concatenate_pair_apply_left (t := S4x2048x2x2x128) (s₁ := S4x2048x2x1x128) (s₂ := S4x2048x2x1x128) 3 _ _ _ i rfl
      (fun a => match a with
        | ⟨0, _⟩ => ⟨(i 0).val, (i 0).isLt⟩
        | ⟨1, _⟩ => ⟨(i 1).val, (i 1).isLt⟩
        | ⟨2, _⟩ => ⟨(i 2).val, (i 2).isLt⟩
        | ⟨3, _⟩ => ⟨(i 3).val, h⟩
        | ⟨4, _⟩ => ⟨(i 4).val, (i 4).isLt⟩)
      (fun b => match b with | ⟨0, _⟩ => rfl | ⟨1, _⟩ => rfl | ⟨2, _⟩ => rfl | ⟨3, _⟩ => rfl | ⟨4, _⟩ => rfl),
      val_main_v37_apply, vals_even_pad]
    refine if_congr ?_ rfl rfl
    show (i 4).val < 64 ↔ _
    omega
  · rw [concatenate_pair_apply_right (t := S4x2048x2x2x128) (s₁ := S4x2048x2x1x128) (s₂ := S4x2048x2x1x128) 3 _ _ _ i rfl rfl
      (fun a => match a with
        | ⟨0, _⟩ => ⟨(i 0).val, (i 0).isLt⟩
        | ⟨1, _⟩ => ⟨(i 1).val, (i 1).isLt⟩
        | ⟨2, _⟩ => ⟨(i 2).val, (i 2).isLt⟩
        | ⟨3, _⟩ => ⟨(i 3).val - 1, by show (i 3).val - 1 < 1; omega⟩
        | ⟨4, _⟩ => ⟨(i 4).val, (i 4).isLt⟩)
      (fun b hb => match b, hb with
        | ⟨0, _⟩, _ => rfl | ⟨1, _⟩, _ => rfl | ⟨2, _⟩, _ => rfl | ⟨3, _⟩, hb => absurd rfl hb | ⟨4, _⟩, _ => rfl)
      (by show (i 3).val - 1 + 1 = (i 3).val; omega),
      val_main_v38_apply, vals_odd_pad]
    by_cases g : (i 4).val < 64
    · exact (if_pos g).trans (if_neg (by omega)).symm
    · exact (if_neg g).trans (if_pos (by omega)).symm

/-- The values the reference returns. -/
theorem vals_eq (i : S4x8x256x512.Idx) : val_main_v41 (F := Ideal) x0 x1 x2 i
    = vals (at3 x0) (at1 x1) (at3 x2) (i 0).val (i 1).val (i 2).val (i 3).val := by
  have h0 : (i 0).val < 4 := (i 0).isLt
  have h1 : (i 1).val < 8 := (i 1).isLt
  have h2 : (i 2).val < 256 := (i 2).isLt
  have h3 : (i 3).val < 512 := (i 3).isLt
  have e0 : ((idx_main_v40 i) 0).val = (i 0).val := by
    show ((((i 0).val * 8 + (i 1).val) * 256 + (i 2).val) * 512 + (i 3).val) / 1048576 = _; omega
  have e1 : ((idx_main_v40 i) 1).val = 256 * (i 1).val + (i 2).val := by
    show ((((i 0).val * 8 + (i 1).val) * 256 + (i 2).val) * 512 + (i 3).val) / 512 % 2048 = _; omega
  have e2 : ((idx_main_v40 i) 2).val = (i 3).val / 256 := by
    show ((((i 0).val * 8 + (i 1).val) * 256 + (i 2).val) * 512 + (i 3).val) / 256 % 2 = _; omega
  have e3 : ((idx_main_v40 i) 3).val = (i 3).val / 128 % 2 := by
    show ((((i 0).val * 8 + (i 1).val) * 256 + (i 2).val) * 512 + (i 3).val) / 128 % 2 = _; omega
  have e4 : ((idx_main_v40 i) 4).val = (i 3).val % 128 := by
    show ((((i 0).val * 8 + (i 1).val) * 256 + (i 2).val) * 512 + (i 3).val) % 128 = _; omega
  rw [val_main_v41_apply, val_main_v40_apply, vals_stack, e0, e1, e2, e3, e4,
    show (256 * (i 1).val + (i 2).val) / 256 = (i 1).val by omega, show (256 * (i 1).val + (i 2).val) % 256 = (i 2).val by omega]
  rfl

end Cert.Mem.Ref

end
-- ==== Proof.MemBody.lean ====
/- The body of the call that makes the memory's keys and values, at an index. -/
module

public import proofs.«01_k».proof.Proof.MemSpec
public import proofs.«01_k».proof.Proof.Gen.Kernel5Ideal.Frame
public import Idealize.ShloMosaic.Lib.Pipeline.ValueKit

@[expose] public section

set_option maxRecDepth 16384

noncomputable section

namespace Cert.Kernel5Ideal.Layer

open Cert.Kernel5Ideal Cert.Kernel5Ideal.Gen Idealize.ShloMosaic Idealize.ShloMosaic.TcCoe Idealize.SL.Sem Cert.Mem

/-- The product at an index. -/
theorem prod_apply (v : FVec Ideal S1x256x1024 .f32) (g : FVec Ideal S1x1024 .f32) (w : FVec Ideal S1x1024x512 .bf16)
    (V s : ℕ → EReal) (W : ℕ → ℕ → EReal) (r : Fin 256) (hv : ∀ d : Fin 1024, v (ix3 0 r d) = V d.val)
    (hg : ∀ d : Fin 1024, g (ix2 0 d) = s d.val) (hw : ∀ (k : Fin 1024) (e : Fin 512), w (ix3 0 k e) = W k.val e.val) (e : Fin 512) :
    k0_pay5 (F := Ideal) v g w (ix2 r e) = ∑ k : Fin 1024, Ffn.norm V s k.val * W k.val e.val := by
  pointwise [k0_pay5]
  simp only [hv, hg, hw, Ffn.norm, Ffn.inv]

/-- The column numbers. -/
def colNo : IVec S256x128 32 := iota Kind.tc S256x128 32 [1] iota_S256x128_d1_w32

theorem below : ∀ d : Fin 128, IntOp.cmpi CmpIPredicate.slt (BitVec.ofNat 32 d.val) 64#32 = if d.val < 64 then 1#1 else 0#1 := by
  decide +kernel

theorem above : ∀ d : Fin 128, IntOp.cmpi CmpIPredicate.sge (BitVec.ofNat 32 d.val) 64#32 = if d.val < 64 then 0#1 else 1#1 := by
  decide +kernel

theorem pick_low {α : Type} (d : Fin 128) (x y : α) :
    Scalar.select (IntOp.cmpi CmpIPredicate.slt (BitVec.ofNat 32 d.val) 64#32) x y = if d.val < 64 then x else y := by
  rw [below]
  by_cases h : d.val < 64 <;> simp [h, Scalar.select]

theorem pick_high {α : Type} (d : Fin 128) (x y : α) :
    Scalar.select (IntOp.cmpi CmpIPredicate.sge (BitVec.ofNat 32 d.val) 64#32) x y = if d.val < 64 then y else x := by
  rw [above]
  by_cases h : d.val < 64 <;> simp [h, Scalar.select]

/-! A block of 128 columns of the product, its first or its second half kept. -/

theorem v_even0 (y : FVec Ideal S256x512 .f32) (r : Fin 256) (d : Fin 128) :
    k0_pay11 (F := Ideal) y colNo (ix4 0 0 r d) = if d.val < 64 then y (ix2 r ⟨256 + d.val, by omega⟩) else 0 := by
  pointwise [k0_pay11, k0_pay10, colNo]
  rw [pick_low]
  try simp only [Nat.zero_add]

theorem v_odd0 (y : FVec Ideal S256x512 .f32) (r : Fin 256) (d : Fin 128) :
    k0_pay12 (F := Ideal) y colNo (ix4 0 0 r d) = if d.val < 64 then 0 else y (ix2 r ⟨256 + d.val, by omega⟩) := by
  pointwise [k0_pay12, k0_pay10, colNo]
  rw [pick_high]
  try simp only [Nat.zero_add]

theorem v_even1 (y : FVec Ideal S256x512 .f32) (r : Fin 256) (d : Fin 128) :
    k0_pay3 (F := Ideal) y colNo (ix4 0 0 r d) = if d.val < 64 then y (ix2 r ⟨384 + d.val, by omega⟩) else 0 := by
  pointwise [k0_pay3, k0_pay2, colNo]
  rw [pick_low]
  try simp only [Nat.zero_add]

theorem v_odd1 (y : FVec Ideal S256x512 .f32) (r : Fin 256) (d : Fin 128) :
    k0_pay4 (F := Ideal) y colNo (ix4 0 0 r d) = if d.val < 64 then 0 else y (ix2 r ⟨384 + d.val, by omega⟩) := by
  pointwise [k0_pay4, k0_pay2, colNo]
  rw [pick_high]
  try simp only [Nat.zero_add]

theorem k_even1 (y : FVec Ideal S256x512 .f32) (r : Fin 256) (d : Fin 128) :
    k0_pay14 (F := Ideal) y colNo (ix4 0 0 r d) = if d.val < 64 then y (ix2 r ⟨128 + d.val, by omega⟩) else 0 := by
  pointwise [k0_pay14, k0_pay13, colNo]
  rw [pick_low]
  try simp only [Nat.zero_add]

theorem k_odd1 (y : FVec Ideal S256x512 .f32) (r : Fin 256) (d : Fin 128) :
    k0_pay1 (F := Ideal) (k0_pay15 y colNo) (ix4 0 0 r d) = if d.val < 64 then 0 else y (ix2 r ⟨128 + d.val, by omega⟩) := by
  pointwise [k0_pay1, k0_pay15, k0_pay13, colNo]
  rw [pick_high]
  try simp only [Nat.zero_add]

theorem k_even0 (v : FVec Ideal S1x256x1024 .f32) (g : FVec Ideal S1x1024 .f32) (w : FVec Ideal S1x1024x512 .bf16)
    (r : Fin 256) (d : Fin 128) : k0_pay7 (F := Ideal) v g w (ix4 0 0 r d)
      = if d.val < 64 then k0_pay5 (F := Ideal) v g w (ix2 r ⟨0 + d.val, by omega⟩) else 0 := by
  unfold k0_pay7 k0_pay6
  generalize k0_pay5 (F := Ideal) v g w = y
  pointwise
  rw [pick_low]
  try simp only [Nat.zero_add]

theorem k_odd0 (v : FVec Ideal S1x256x1024 .f32) (g : FVec Ideal S1x1024 .f32) (w : FVec Ideal S1x1024x512 .bf16)
    (r : Fin 256) (d : Fin 128) : k0_pay9 (F := Ideal) (k0_pay8 v g w) (ix4 0 0 r d)
      = if d.val < 64 then 0 else k0_pay5 (F := Ideal) v g w (ix2 r ⟨0 + d.val, by omega⟩) := by
  unfold k0_pay9 k0_pay8 k0_pay6
  generalize k0_pay5 (F := Ideal) v g w = y
  pointwise
  rw [pick_high]
  try simp only [Nat.zero_add]

/-- An even head's block against the laid columns. -/
theorem lay_even (P : ℕ → EReal) (t d : ℕ) (hd : d < 128) :
    lay P (256 * t + d) = if d < 64 then P (128 * t + d) else 0 := by
  rw [lay, show (256 * t + d) % 128 = d by omega, show (256 * t + d) / 128 % 2 = 0 by omega, show (256 * t + d) / 256 = t by omega]
  by_cases h : d < 64
  · rw [if_pos h, if_pos (by omega)]
  · rw [if_neg h, if_neg (by omega)]

/-- An odd head's block against the laid columns. -/
theorem lay_odd (P : ℕ → EReal) (t d : ℕ) (hd : d < 128) :
    lay P (256 * t + 128 + d) = if d < 64 then 0 else P (128 * t + d) := by
  rw [lay, show (256 * t + 128 + d) % 128 = d by omega, show (256 * t + 128 + d) / 128 % 2 = 1 by omega,
    show (256 * t + 128 + d) / 256 = t by omega]
  by_cases h : d < 64
  · rw [if_pos h, if_neg (by omega)]
  · rw [if_neg h, if_pos (by omega)]

/-- An index of a stored block by its row and column. -/
theorem piece_idx (x : S1x1x256x128.Idx) : ∃ (r : Fin 256) (d : Fin 128), x = ix4 0 0 r d :=
  ⟨x 2, x 3, by
    funext a
    match a with
    | ⟨0, _⟩ => exact Fin.ext (by have := (x 0).isLt; change _ < 1 at this; show (x 0).val = 0; omega)
    | ⟨1, _⟩ => exact Fin.ext (by have := (x 1).isLt; change _ < 1 at this; show (x 1).val = 0; omega)
    | ⟨2, _⟩ => rfl
    | ⟨3, _⟩ => rfl⟩

section Blocks

variable (x0 : Vec Ideal S1x256x1024 .f32) (x1 : Vec Ideal S1x1024 .f32) (x2 : Vec Ideal S1x1024x512 .bf16)
  (X : ℕ → ℕ → ℕ → EReal) (g : ℕ → EReal) (W : ℕ → ℕ → ℕ → EReal) (l b : ℕ)
  (h0 : ∀ i, x0 i = X b (i 1).val (i 2).val) (h1 : ∀ i, x1 i = g (i 1).val) (h2 : ∀ i, x2 i = W l (i 1).val (i 2).val)

include h0 h1 h2

/-- The product over the loaded blocks. -/
theorem prod_eq (r : Fin 256) (e : Fin 512) :
    k0_pay5 (F := Ideal) (View.ld x0 r0_0) (View.ld x1 r0_1) (View.ld x2 r0_2) (ix2 r e) = prod X g W l b r.val e.val :=
  prod_apply (View.ld x0 r0_0) (View.ld x1 r0_1) (View.ld x2 r0_2) (X b r.val) g (W l) r
    (fun d => (h0 _).trans (congrArg₂ (X b) (by show 0 + 1 * r.val = _; omega) (by show 0 + 1 * d.val = _; omega)))
    (fun d => (h1 _).trans (congrArg g (by show 0 + 1 * d.val = _; omega)))
    (fun k e => (h2 _).trans (congrArg₂ (W l) (by show 0 + 1 * k.val = _; omega) (by show 0 + 1 * e.val = _; omega))) e

/-- What the body leaves in the keys' block. -/
theorem keys_body : out0_3 x0 x1 x2 = fun i => keys X g W l b (i 2).val (i 3).val := by
  have hp := prod_eq x0 x1 x2 X g W l b h0 h1 h2
  funext i
  refine (View.canon_apply_of_pieces (fun i : S1x1x256x512.Idx => (keys X g W l b (i 2).val (i 3).val : EReal)) _ ?_ i
    (cover0_3 _ _ _ _ i)).trans rfl
  intro p hm x
  simp only [List.mem_cons, List.not_mem_nil, or_false] at hm
  rcases hm with rfl | rfl | rfl | rfl
  · obtain ⟨r, d, rfl⟩ := piece_idx x
    refine (k_odd1 _ r d).trans ?_
    show _ = lay (prod X g W l b (0 + 1 * r.val)) (384 + 1 * d.val)
    rw [show 384 + 1 * d.val = 256 * 1 + 128 + d.val by omega, lay_odd _ _ _ d.isLt, show 0 + 1 * r.val = r.val by omega]
    unfold k0_pay17
    rw [hp]
  · obtain ⟨r, d, rfl⟩ := piece_idx x
    refine (k_even1 _ r d).trans ?_
    show _ = lay (prod X g W l b (0 + 1 * r.val)) (256 + 1 * d.val)
    rw [show 256 + 1 * d.val = 256 * 1 + d.val by omega, lay_even _ _ _ d.isLt, show 0 + 1 * r.val = r.val by omega]
    unfold k0_pay17
    rw [hp]
  · obtain ⟨r, d, rfl⟩ := piece_idx x
    refine (k_odd0 _ _ _ r d).trans ?_
    show _ = lay (prod X g W l b (0 + 1 * r.val)) (128 + 1 * d.val)
    rw [show 128 + 1 * d.val = 256 * 0 + 128 + d.val by omega, lay_odd _ _ _ d.isLt, show 0 + 1 * r.val = r.val by omega, hp]
  · obtain ⟨r, d, rfl⟩ := piece_idx x
    refine (k_even0 _ _ _ r d).trans ?_
    show _ = lay (prod X g W l b (0 + 1 * r.val)) (0 + 1 * d.val)
    rw [show 0 + 1 * d.val = 256 * 0 + d.val by omega, lay_even _ _ _ d.isLt, show 0 + 1 * r.val = r.val by omega, hp]

/-- What the body leaves in the values' block. -/
theorem vals_body : out0_4 x0 x1 x2 = fun i => vals X g W l b (i 2).val (i 3).val := by
  have hp := prod_eq x0 x1 x2 X g W l b h0 h1 h2
  funext i
  refine (View.canon_apply_of_pieces (fun i : S1x1x256x512.Idx => (vals X g W l b (i 2).val (i 3).val : EReal)) _ ?_ i
    (cover0_4 _ _ _ _ i)).trans rfl
  intro p hm x
  simp only [List.mem_cons, List.not_mem_nil, or_false] at hm
  rcases hm with rfl | rfl | rfl | rfl
  · obtain ⟨r, d, rfl⟩ := piece_idx x
    refine (v_odd1 _ r d).trans ?_
    show _ = lay (fun e => prod X g W l b (0 + 1 * r.val) (256 + e)) (384 + 1 * d.val)
    rw [show 384 + 1 * d.val = 256 * 1 + 128 + d.val by omega, lay_odd _ _ _ d.isLt, show 0 + 1 * r.val = r.val by omega]
    unfold k0_pay17
    rw [hp]
    rw [← Nat.add_assoc]
  · obtain ⟨r, d, rfl⟩ := piece_idx x
    refine (v_even1 _ r d).trans ?_
    show _ = lay (fun e => prod X g W l b (0 + 1 * r.val) (256 + e)) (256 + 1 * d.val)
    rw [show 256 + 1 * d.val = 256 * 1 + d.val by omega, lay_even _ _ _ d.isLt, show 0 + 1 * r.val = r.val by omega]
    unfold k0_pay17
    rw [hp]
    rw [← Nat.add_assoc]
  · obtain ⟨r, d, rfl⟩ := piece_idx x
    refine (v_odd0 _ r d).trans ?_
    show _ = lay (fun e => prod X g W l b (0 + 1 * r.val) (256 + e)) (128 + 1 * d.val)
    rw [show 128 + 1 * d.val = 256 * 0 + 128 + d.val by omega, lay_odd _ _ _ d.isLt, show 0 + 1 * r.val = r.val by omega]
    unfold k0_pay17
    rw [hp]
    rw [Nat.mul_zero, Nat.zero_add]
  · obtain ⟨r, d, rfl⟩ := piece_idx x
    refine (v_even0 _ r d).trans ?_
    show _ = lay (fun e => prod X g W l b (0 + 1 * r.val) (256 + e)) (0 + 1 * d.val)
    rw [show 0 + 1 * d.val = 256 * 0 + d.val by omega, lay_even _ _ _ d.isLt, show 0 + 1 * r.val = r.val by omega]
    unfold k0_pay17
    rw [hp]
    rw [Nat.mul_zero, Nat.zero_add]

end Blocks

end Cert.Kernel5Ideal.Layer

end
-- ==== Proof.MemBlocks.lean ====
/- The blocks of a grid point hold the operands, and what each point writes is the laid keys and values. -/
module

public import proofs.«01_k».proof.Proof.MemBody
public import proofs.«01_k».proof.Proof.Gen.Kernel5Ideal.Value
public import Idealize.ShloMosaic.Lib.Pipeline.ReadBack
public import Idealize.ShloMosaic.Lib.Claim

@[expose] public section

set_option maxRecDepth 16384

noncomputable section

namespace Cert.Kernel5Ideal.Layer

open Cert.Kernel5Ideal Cert.Kernel5Ideal.Gen Idealize.ShloMosaic Idealize.ShloMosaic.TcCoe Idealize.SL.Sem Cert.Ffn Cert.Mem

variable (m : (ℓ : Loc nD τ sig) → Buf (Elt Ideal) ℓ)

theorem idx : ∀ t : Fin cfg0.N, win0_0.index t = ![t.val % 8, 0, 0] ∧ win0_1.index t = ![0, 0]
    ∧ win0_2.index t = ![t.val / 8, 0, 0] ∧ win0_3.index t = ![t.val / 8, t.val % 8, 0, 0]
    ∧ win0_4.index t = ![t.val / 8, t.val % 8, 0, 0] :=
  (by decide +kernel : ∀ t : Fin grid0.N, _)

theorem blk_x (c : Dev nD) (t : Fin cfg0.N) (i : S1x256x1024.Idx) :
    (iblk m c 0 t : Vec Ideal S1x256x1024 .f32) i = at3 (m ((c : Thread nD τ).loc main_arg0)) (t.val % 8) (i 1).val (i 2).val := by
  have e : (i 0).val = 0 := by have := (i 0).isLt; change _ < 1 at this; omega
  refine eq_at3 (m ((c : Thread nD τ).loc main_arg0)) (((cfg0.win 0).blk t).view.emb i) ?_ ?_ ?_ <;>
    (blk_simp [idx t]; try omega)

/-- The gains as a row, as the host line prepares them. -/
theorem at_v0 (c : Dev nD) :
    V m c main_v0 = (shapeCast S1x1024 (m ((c : Thread nD τ).loc main_arg1)) shapeCasts_S1024_S1x1024 : Vec Ideal S1x1024 .f32) := by
  simp only [V, List.flatten_cons, List.flatten_nil, List.append_nil, List.cons_append, List.nil_append, hostOps0]
  after_results
  try rfl

/-- The weights in their narrower format, as the host line prepares them. -/
theorem at_v1 (c : Dev nD) :
    V m c main_v1 = (truncf (F := Ideal) .bf16 (m ((c : Thread nD τ).loc main_arg2) : Vec Ideal S4x1024x512 .f32) bitsLt_bf16_f32
      : Vec Ideal S4x1024x512 .bf16) := by
  simp only [V, List.flatten_cons, List.flatten_nil, List.append_nil, List.cons_append, List.nil_append, hostOps0]
  after_results
  try rfl

theorem row1024 (v : FVec Ideal S1024 .f32) (j : S1x1024.Idx) {a : ℕ} (h : (j 1).val = a) :
    shapeCast S1x1024 v shapeCasts_S1024_S1x1024 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem blk_g (c : Dev nD) (t : Fin cfg0.N) (i : S1x1024.Idx) :
    (iblk m c 1 t : Vec Ideal S1x1024 .f32) i = at1 (m ((c : Thread nD τ).loc main_arg1)) (i 1).val := by
  show V m c main_v0 (((cfg0.win 1).blk t).view.emb i) = _
  rw [at_v0]
  exact row1024 _ _ (by blk_simp [idx t]; try omega)

theorem blk_w (c : Dev nD) (t : Fin cfg0.N) (i : S1x1024x512.Idx) :
    (iblk m c 2 t : Vec Ideal S1x1024x512 .bf16) i = at3 (m ((c : Thread nD τ).loc main_arg2)) (t.val / 8) (i 1).val (i 2).val := by
  have e : (i 0).val = 0 := by have := (i 0).isLt; change _ < 1 at this; omega
  show V m c main_v1 (((cfg0.win 2).blk t).view.emb i) = _
  rw [at_v1]
  refine eq_at3 (m ((c : Thread nD τ).loc main_arg2)) (((cfg0.win 2).blk t).view.emb i) ?_ ?_ ?_ <;> (blk_simp [idx t]; try omega)

/-- The keys after the run. -/
theorem final_keys (c : Dev nD) : (dats m 0 c).arrAt 3 cfg0.N = fun i => keys (at3 (m ((c : Thread nD τ).loc main_arg0)))
    (at1 (m ((c : Thread nD τ).loc main_arg1))) (at3 (m ((c : Thread nD τ).loc main_arg2)))
    (i 0).val (i 1).val (i 2).val (i 3).val := by
  refine (dats m 0 c).arrAt_eq_of_covers 3 (fun i => keys (at3 (m ((c : Thread nD τ).loc main_arg0)))
    (at1 (m ((c : Thread nD τ).loc main_arg1))) (at3 (m ((c : Thread nD τ).loc main_arg2)))
    (i 0).val (i 1).val (i 2).val (i 3).val) (by decide +kernel) fun t _ y => ?_
  blk_simp
  rw [after0_3, keys_body _ _ _ _ _ _ _ _ (blk_x m c t) (blk_g m c t) (blk_w m c t)]
  blk_simp [idx t]

/-- The values after the run. -/
theorem final_vals (c : Dev nD) : (dats m 0 c).arrAt 4 cfg0.N = fun i => vals (at3 (m ((c : Thread nD τ).loc main_arg0)))
    (at1 (m ((c : Thread nD τ).loc main_arg1))) (at3 (m ((c : Thread nD τ).loc main_arg2)))
    (i 0).val (i 1).val (i 2).val (i 3).val := by
  refine (dats m 0 c).arrAt_eq_of_covers 4 (fun i => vals (at3 (m ((c : Thread nD τ).loc main_arg0)))
    (at1 (m ((c : Thread nD τ).loc main_arg1))) (at3 (m ((c : Thread nD τ).loc main_arg2)))
    (i 0).val (i 1).val (i 2).val (i 3).val) (by decide +kernel) fun t _ y => ?_
  blk_simp
  rw [after0_4, vals_body _ _ _ _ _ _ _ _ (blk_x m c t) (blk_g m c t) (blk_w m c t)]
  blk_simp [idx t]

end Cert.Kernel5Ideal.Layer

end
-- ==== Proof.ProjSpec.lean ====
/- The four results of the dilated mixer's input projection, as plain functions of whole-number coordinates. Both
   programs are compared with these. -/
module

public import proofs.«01_k».proof.Proof.FfnSpec

@[expose] public section

noncomputable section

namespace Cert.Proj

open Idealize.ShloMosaic Cert.Ffn

/-- Row `s` of batch `b`, normalised and taken through the matrix, at column `e`. -/
def prod (x : ℕ → ℕ → ℕ → EReal) (g : ℕ → EReal) (w : ℕ → ℕ → EReal) (b s e : ℕ) : EReal :=
  ∑ k : Fin 1024, norm (x b s) g k.val * w k.val e

/-- The values: column `e` of row `d` of the stretch `c` of 256 rows. Their columns come after 1024 of the queries and 1024 of
    the keys. -/
def vals (x : ℕ → ℕ → ℕ → EReal) (g : ℕ → EReal) (w : ℕ → ℕ → EReal) (b c e d : ℕ) : EReal :=
  prod x g w b (256 * c + d) (2048 + e)

/-- The memory queries, which come last, scaled. -/
def memq (x : ℕ → ℕ → ℕ → EReal) (g : ℕ → EReal) (w : ℕ → ℕ → EReal) (b s e : ℕ) : EReal :=
  prod x g w b s (3072 + e) * Ideal.ofBits .f32 0x3E38AA3B#32

/-- Lane `l` of a head after the turn: the first 16 lanes and the next 16 are turned against each other, the others stay. -/
def rope (t c s : ℕ → EReal) (l : ℕ) : EReal :=
  if l < 16 then t l * c l - t (l + 16) * s l
  else if l < 32 then t l * c (l - 16) + t (l - 16) * s (l - 16)
  else t l

/-- The queries: heads of 128 lanes, turned and scaled. -/
def queries (x : ℕ → ℕ → ℕ → EReal) (g : ℕ → EReal) (w : ℕ → ℕ → EReal) (C S : ℕ → ℕ → ℕ → EReal) (b s e : ℕ) : EReal :=
  rope (fun l => prod x g w b s (128 * (e / 128) + l)) (C b s) (S b s) (e % 128) * Ideal.ofBits .f32 0x3E0293EE#32

/-- The keys: heads of 128 lanes after the queries' columns, turned. -/
def keys (x : ℕ → ℕ → ℕ → EReal) (g : ℕ → EReal) (w : ℕ → ℕ → EReal) (C S : ℕ → ℕ → ℕ → EReal) (b s e : ℕ) : EReal :=
  rope (fun l => prod x g w b s (1024 + 128 * (e / 128) + l)) (C b s) (S b s) (e % 128)

/-- Lane `j` of a row of the three tables side by side: what multiplies a lane, its neighbour 16 before and its neighbour 16
    after. -/
def table (c s : ℕ → EReal) (j : ℕ) : EReal :=
  if j < 16 then c j else if j < 32 then c (j - 16) else if j < 144 then (if j < 128 then 1 else 0)
  else if j < 160 then s (j - 144) else if j < 256 then 0 else if j < 272 then -s (j - 256) else 0

/-- A lane and its two neighbours, going round, each times its table, are the turn. -/
theorem turn (t c s : ℕ → EReal) (l : ℕ) (h : l < 128) :
    t l * table c s l + t ((l + 112) % 128) * table c s (128 + l) + t ((l + 16) % 128) * table c s (256 + l) = rope t c s l := by
  by_cases h1 : l < 16
  · rw [show (l + 16) % 128 = l + 16 by omega]
    simp only [table, rope, if_pos h1, if_neg (show ¬ 128 + l < 16 by omega), if_neg (show ¬ 128 + l < 32 by omega),
      if_pos (show 128 + l < 144 by omega), if_neg (show ¬ 128 + l < 128 by omega), if_neg (show ¬ 256 + l < 16 by omega),
      if_neg (show ¬ 256 + l < 32 by omega), if_neg (show ¬ 256 + l < 144 by omega), if_neg (show ¬ 256 + l < 160 by omega),
      if_neg (show ¬ 256 + l < 256 by omega), if_pos (show 256 + l < 272 by omega), show 256 + l - 256 = l by omega]
    rw [mul_zero, add_zero, mul_neg, sub_eq_add_neg]
  · by_cases h2 : l < 32
    · rw [show (l + 112) % 128 = l - 16 by omega]
      simp only [table, rope, if_neg h1, if_pos h2, if_neg (show ¬ 128 + l < 16 by omega), if_neg (show ¬ 128 + l < 32 by omega),
        if_neg (show ¬ 128 + l < 144 by omega), if_pos (show 128 + l < 160 by omega), if_neg (show ¬ 256 + l < 16 by omega),
        if_neg (show ¬ 256 + l < 32 by omega), if_neg (show ¬ 256 + l < 144 by omega), if_neg (show ¬ 256 + l < 160 by omega),
        if_neg (show ¬ 256 + l < 256 by omega), if_neg (show ¬ 256 + l < 272 by omega), show 128 + l - 144 = l - 16 by omega]
      rw [mul_zero, add_zero]
    · simp only [table, rope, if_neg h1, if_neg h2, if_pos h, if_pos (show l < 144 by omega), if_neg (show ¬ 128 + l < 16 by omega),
        if_neg (show ¬ 128 + l < 32 by omega), if_neg (show ¬ 128 + l < 144 by omega), if_neg (show ¬ 128 + l < 160 by omega),
        if_pos (show 128 + l < 256 by omega), if_neg (show ¬ 256 + l < 16 by omega),
        if_neg (show ¬ 256 + l < 32 by omega), if_neg (show ¬ 256 + l < 144 by omega), if_neg (show ¬ 256 + l < 160 by omega),
        if_neg (show ¬ 256 + l < 256 by omega), if_neg (show ¬ 256 + l < 272 by omega)]
      rw [mul_zero, mul_zero, add_zero, add_zero, mul_one]

end Cert.Proj

end
-- ==== Proof.ProjRef.lean ====
/- The reference of the dilated mixer's input projection at an index: its operations read one after the other. -/
module

public import proofs.«01_k».proof.Proof.ProjSpec
public import proofs.«01_k».proof.Proof.Gen.Reference6Ideal.Read
public import Idealize.ShloMosaic.Lib.KernelVsHost
public import Idealize.ShloMosaic.Lib.Pipeline.Value

@[expose] public section

set_option maxRecDepth 16384

noncomputable section

namespace Cert.Proj.Ref

open Cert.Reference6Ideal Cert.Reference6Ideal.Gen Cert.Reference6Ideal.Read Idealize.ShloMosaic Cert.Ffn Cert.Proj

variable (x0 : FVec Ideal S8x4096x1024 .f32) (x1 : FVec Ideal S1024 .f32) (x2 : FVec Ideal S1024x3328 .f32)

/-- The normalised rows. -/
theorem norm_eq (i : S8x4096x1024.Idx) : val_main_v12 (F := Ideal) x0 x1 i
    = norm (at3 x0 (i 0).val (i 1).val) (at1 x1) (i 2).val := by
  simp only [val_main_v12_apply, val_main_v9_apply, val_main_v8_apply, val_main_v7_apply, val_main_v6_apply,
    val_main_v5_apply, val_main_v4_apply, val_main_v3_apply, val_main_v2_apply, val_main_v1_apply, val_main_v0_apply,
    val_main_v11_apply, val_main_v10_apply, val_main_cst_apply, val_main_cst_0_apply, val_main_cst_1_apply,
    Ideal.mulf_def, Ideal.addf_def, Ideal.hostDivf_def, Ideal.hostUnary_rsqrt_def, Ideal.ofBits_def,
    Ideal.ofBits_zero_f32, zero_add]
  simp only [Ffn.norm, Ffn.inv, fun j => eq_at3 x0 j rfl rfl rfl, fun j => eq_at1 x1 j rfl]

/-- The product. -/
theorem prod_eq (i : S8x4096x3328.Idx) : val_main_v13 (F := Ideal) x0 x1 x2 i
    = prod (at3 x0) (at1 x1) (at2 x2) (i 0).val (i 1).val (i 2).val := by
  rw [val_main_v13_apply, prod]
  refine Finset.sum_congr rfl fun k _ => ?_
  rw [norm_eq, eq_at2 x2 (ridx_main_v13 i k) rfl rfl]

/-- The values the reference returns. -/
theorem vals_eq (i : S8x16x1024x256.Idx) : val_main_v64 (F := Ideal) x0 x1 x2 i
    = vals (at3 x0) (at1 x1) (at2 x2) (i 0).val (i 1).val (i 2).val (i 3).val := by
  have h0 : (i 0).val < 8 := (i 0).isLt
  have h1 : (i 1).val < 16 := (i 1).isLt
  have h2 : (i 2).val < 1024 := (i 2).isLt
  have h3 : (i 3).val < 256 := (i 3).isLt
  have e0 : ((idx_main_v16 (idx_main_v58 (idx_main_v59 i))) 0).val = (i 0).val := by
    show ((((i 0).val * 16 + (i 1).val) * 256 + (i 3).val) * 1024 + (i 2).val) / 4194304 = _; omega
  have e1 : ((idx_main_v16 (idx_main_v58 (idx_main_v59 i))) 1).val = 256 * (i 1).val + (i 3).val := by
    show ((((i 0).val * 16 + (i 1).val) * 256 + (i 3).val) * 1024 + (i 2).val) / 1024 % 4096 = _; omega
  have e2 : ((idx_main_v16 (idx_main_v58 (idx_main_v59 i))) 2).val = 2048 + (i 2).val := by
    show 2048 + ((((i 0).val * 16 + (i 1).val) * 256 + (i 3).val) * 1024 + (i 2).val) % 1024 = _; omega
  rw [val_main_v64_apply, val_main_v59_apply, val_main_v58_apply, val_main_v16_apply, prod_eq, e0, e1, e2]
  rfl

/-- The memory queries the reference returns. -/
theorem memq_eq (i : S8x4096x256.Idx) : val_main_v67 (F := Ideal) x0 x1 x2 i
    = memq (at3 x0) (at1 x1) (at2 x2) (i 0).val (i 1).val (i 2).val := by
  rw [val_main_v67_apply, val_main_v66_apply, val_main_v17_apply, prod_eq, val_main_v65_apply, val_main_cst_3_apply]
  rfl

/-- The reference's turn of all heads. -/
def heads (y : FVec Ideal S8x4096x8x128 .f32) (c s : FVec Ideal S8x4096x16 .f32) : FVec Ideal S8x4096x8x128 .f32 :=
  have t : FVec Ideal S8x4096x8x32 .f32 := extractStridedSlice S8x4096x8x32 ![0, 0, 0, 0] y slices_S8x4096x8x128_S8x4096x8x32_0_0_0_0
  have t1 : FVec Ideal S8x4096x8x16 .f32 := extractStridedSlice S8x4096x8x16 ![0, 0, 0, 0] t slices_S8x4096x8x32_S8x4096x8x16_0_0_0_0
  have t2 : FVec Ideal S8x4096x8x16 .f32 := extractStridedSlice S8x4096x8x16 ![0, 0, 0, 16] t slices_S8x4096x8x32_S8x4096x8x16_0_0_0_16
  have C : FVec Ideal S8x4096x8x16 .f32 := broadcastInDim S8x4096x8x16 ![0, 1, 2, 3] bcast_S8x4096x1x16_S8x4096x8x16_0_1_2_3
    (broadcastInDim S8x4096x1x16 ![0, 1, 3] bcast_S8x4096x16_S8x4096x1x16_0_1_3 c)
  have S : FVec Ideal S8x4096x8x16 .f32 := broadcastInDim S8x4096x8x16 ![0, 1, 2, 3] bcast_S8x4096x1x16_S8x4096x8x16_0_1_2_3
    (broadcastInDim S8x4096x1x16 ![0, 1, 3] bcast_S8x4096x16_S8x4096x1x16_0_1_3 s)
  concatenate S8x4096x8x128 3
    [⟨S8x4096x8x32, (concatenate S8x4096x8x32 3
        [⟨S8x4096x8x16, subf (mulf t1 C) (mulf t2 S)⟩, ⟨S8x4096x8x16, addf (mulf t2 C) (mulf t1 S)⟩]
        concatenates_S8x4096x8x16_S8x4096x8x16_S8x4096x8x32_d3 : FVec Ideal S8x4096x8x32 .f32)⟩,
     ⟨S8x4096x8x96, extractStridedSlice S8x4096x8x96 ![0, 0, 0, 32] y slices_S8x4096x8x128_S8x4096x8x96_0_0_0_32⟩]
    concatenates_S8x4096x8x32_S8x4096x8x96_S8x4096x8x128_d3

/-- The turn at an index. -/
theorem heads_eq (y : FVec Ideal S8x4096x8x128 .f32) (c s : FVec Ideal S8x4096x16 .f32) (T : ℕ → EReal)
    (b : Fin 8) (q : Fin 4096) (h : Fin 8) (l : Fin 128) (hy : ∀ l : Fin 128, y (ix4 b q h l) = T l.val) :
    heads y c s (ix4 b q h l) = rope T (at3 c b.val q.val) (at3 s b.val q.val) l.val := by
  have hc : ∀ k : Fin 16, c (ix3 b q k) = at3 c b.val q.val k.val := fun k => eq_at3 c _ rfl rfl rfl
  have hs : ∀ k : Fin 16, s (ix3 b q k) = at3 s b.val q.val k.val := fun k => eq_at3 s _ rfl rfl rfl
  pointwise [heads]
  simp only [hy, hc, hs, rope]
  split_ifs with h1 h2 <;> first
    | omega
    | rw [show 16 + l.val = l.val + 16 by omega]
    | rw [show 16 + (l.val - 16) = l.val by omega]
    | rw [show 32 + (l.val - 32) = l.val by omega]

/-- The queries' columns in heads. -/
theorem q_heads (b : Fin 8) (q : Fin 4096) (h : Fin 8) (l : Fin 128) : val_main_v18 (F := Ideal) x0 x1 x2 (ix4 b q h l)
    = prod (at3 x0) (at1 x1) (at2 x2) b.val q.val (128 * h.val + l.val) := by
  have hb := b.isLt
  have hq := q.isLt
  have hh := h.isLt
  have hl := l.isLt
  have e0 : ((idx_main_v14 (idx_main_v18 (ix4 b q h l))) 0).val = b.val := by
    show (((b.val * 4096 + q.val) * 8 + h.val) * 128 + l.val) / 4194304 = _; omega
  have e1 : ((idx_main_v14 (idx_main_v18 (ix4 b q h l))) 1).val = q.val := by
    show (((b.val * 4096 + q.val) * 8 + h.val) * 128 + l.val) / 1024 % 4096 = _; omega
  have e2 : ((idx_main_v14 (idx_main_v18 (ix4 b q h l))) 2).val = 128 * h.val + l.val := by
    show (((b.val * 4096 + q.val) * 8 + h.val) * 128 + l.val) % 1024 = _; omega
  rw [val_main_v18_apply, val_main_v14_apply, prod_eq, e0, e1, e2]

/-- The keys' columns in heads. -/
theorem k_heads (b : Fin 8) (q : Fin 4096) (h : Fin 8) (l : Fin 128) : val_main_v38 (F := Ideal) x0 x1 x2 (ix4 b q h l)
    = prod (at3 x0) (at1 x1) (at2 x2) b.val q.val (1024 + 128 * h.val + l.val) := by
  have hb := b.isLt
  have hq := q.isLt
  have hh := h.isLt
  have hl := l.isLt
  have e0 : ((idx_main_v15 (idx_main_v38 (ix4 b q h l))) 0).val = b.val := by
    show (((b.val * 4096 + q.val) * 8 + h.val) * 128 + l.val) / 4194304 = _; omega
  have e1 : ((idx_main_v15 (idx_main_v38 (ix4 b q h l))) 1).val = q.val := by
    show (((b.val * 4096 + q.val) * 8 + h.val) * 128 + l.val) / 1024 % 4096 = _; omega
  have e2 : ((idx_main_v15 (idx_main_v38 (ix4 b q h l))) 2).val = 1024 + 128 * h.val + l.val := by
    show 1024 + (((b.val * 4096 + q.val) * 8 + h.val) * 128 + l.val) % 1024 = _; omega
  rw [val_main_v38_apply, val_main_v15_apply, prod_eq, e0, e1, e2]

variable (x3 x4 : FVec Ideal S8x4096x16 .f32)

/-- Where an element of a row lies among the heads. -/
theorem spread (i : S8x4096x1024.Idx) : idx_main_v37 i = ix4 (⟨(i 0).val, (i 0).isLt⟩ : Fin 8) (⟨(i 1).val, (i 1).isLt⟩ : Fin 4096)
    (⟨(i 2).val / 128, by have h2 : (i 2).val < 1024 := (i 2).isLt; omega⟩ : Fin 8)
    (⟨(i 2).val % 128, by omega⟩ : Fin 128) := by
  have h0 : (i 0).val < 8 := (i 0).isLt
  have h1 : (i 1).val < 4096 := (i 1).isLt
  have h2 : (i 2).val < 1024 := (i 2).isLt
  funext a
  match a with
  | ⟨0, _⟩ => exact Fin.ext (by show (((i 0).val * 4096 + (i 1).val) * 1024 + (i 2).val) / 4194304 = (i 0).val; omega)
  | ⟨1, _⟩ => exact Fin.ext (by show (((i 0).val * 4096 + (i 1).val) * 1024 + (i 2).val) / 1024 % 4096 = (i 1).val; omega)
  | ⟨2, _⟩ => exact Fin.ext (by show (((i 0).val * 4096 + (i 1).val) * 1024 + (i 2).val) / 128 % 8 = (i 2).val / 128; omega)
  | ⟨3, _⟩ => exact Fin.ext (by show (((i 0).val * 4096 + (i 1).val) * 1024 + (i 2).val) % 128 = (i 2).val % 128; omega)

/-- The queries the reference returns. -/
theorem queries_eq (i : S8x4096x1024.Idx) : val_main_v62 (F := Ideal) x0 x1 x2 x3 x4 i
    = queries (at3 x0) (at1 x1) (at2 x2) (at3 x3) (at3 x4) (i 0).val (i 1).val (i 2).val := by
  rw [val_main_v62_apply, val_main_v61_apply, val_main_v60_apply, val_main_cst_2_apply, val_main_v37_apply, spread]
  exact congrArg (fun p : EReal => p * Ideal.ofBits .f32 0x3E0293EE#32)
    (heads_eq (val_main_v18 (F := Ideal) x0 x1 x2) x3 x4 _ _ _ _ _ (q_heads x0 x1 x2 _ _ _))

/-- The keys the reference returns. -/
theorem keys_eq (i : S8x4096x1024.Idx) : val_main_v63 (F := Ideal) x0 x1 x2 x3 x4 i
    = keys (at3 x0) (at1 x1) (at2 x2) (at3 x3) (at3 x4) (i 0).val (i 1).val (i 2).val := by
  rw [val_main_v63_apply, val_main_v57_apply, show idx_main_v57 i = idx_main_v37 i from rfl, spread]
  exact heads_eq (val_main_v38 (F := Ideal) x0 x1 x2) x3 x4 _ _ _ _ _ (k_heads x0 x1 x2 _ _ _)

end Cert.Proj.Ref

end
-- ==== Proof.ProjBody.lean ====
/- The body of the dilated mixer's input projection at an index: the values and the memory queries. -/
module

public import proofs.«01_k».proof.Proof.ProjSpec
public import proofs.«01_k».proof.Proof.Gen.Kernel6Ideal.Frame
public import Idealize.ShloMosaic.Lib.Pipeline.ValueKit

@[expose] public section

set_option maxRecDepth 16384

noncomputable section

namespace Cert.Kernel6Ideal.Layer

open Cert.Kernel6Ideal Cert.Kernel6Ideal.Gen Idealize.ShloMosaic Idealize.ShloMosaic.TcCoe Idealize.SL.Sem Cert.Proj

/-- A normalised row at an index. -/
theorem norm_apply (v : FVec Ideal S1x256x1024 .f32) (g : FVec Ideal S1x1024 .f32) (V s : ℕ → EReal) (r : Fin 256)
    (hv : ∀ d : Fin 1024, v (ix3 0 r d) = V d.val) (hg : ∀ d : Fin 1024, g (ix2 0 d) = s d.val) (k : Fin 1024) :
    k0_pay2 (F := Ideal) v g (ix2 r k) = Ffn.norm V s k.val := by
  pointwise [k0_pay2]
  simp only [hv, hg, Ffn.norm, Ffn.inv]

/-- A product at an index. -/
theorem dot_apply (h : FVec Ideal S256x1024 .bf16) (w : FVec Ideal S1024x256 .bf16) (r e : Fin 256) :
    k0_pay77 (F := Ideal) h w (ix2 r e) = ∑ k : Fin 1024, (h (ix2 r k) : EReal) * w (ix2 k e) := by
  pointwise [k0_pay77]

/-- A product stored with its rows as columns. -/
theorem turned (y : FVec Ideal S256x256 .f32) (e d : Fin 256) :
    k0_pay90 (F := Ideal) y (ix4 0 0 e d) = y (ix2 d e) := by
  pointwise [k0_pay90]

/-- A product stored scaled. -/
theorem scaled (y : FVec Ideal S256x256 .f32) (r e : Fin 256) :
    k0_pay104 (F := Ideal) y (ix3 0 r e) = (y (ix2 r e) : EReal) * Ideal.ofBits .f32 0x3E38AA3B#32 := by
  pointwise [k0_pay104]

/-- An index of a stored block of values. -/
theorem piece_v (x : S1x1x256x256.Idx) : ∃ (e d : Fin 256), x = ix4 0 0 e d :=
  ⟨x 2, x 3, by
    funext a
    match a with
    | ⟨0, _⟩ => exact Fin.ext (by have := (x 0).isLt; change _ < 1 at this; show (x 0).val = 0; omega)
    | ⟨1, _⟩ => exact Fin.ext (by have := (x 1).isLt; change _ < 1 at this; show (x 1).val = 0; omega)
    | ⟨2, _⟩ => rfl
    | ⟨3, _⟩ => rfl⟩

/-- An index of a stored block of memory queries. -/
theorem piece_q (x : S1x256x256.Idx) : ∃ (r e : Fin 256), x = ix3 0 r e :=
  ⟨x 1, x 2, by
    funext a
    match a with
    | ⟨0, _⟩ => exact Fin.ext (by have := (x 0).isLt; change _ < 1 at this; show (x 0).val = 0; omega)
    | ⟨1, _⟩ => rfl
    | ⟨2, _⟩ => rfl⟩

section Blocks

variable (x0 : Vec Ideal S1x512x1024 .f32) (x1 : Vec Ideal S1x1024 .f32) (x2 : Vec Ideal S1024x3328 .bf16) (x3 : Vec Ideal S1x512x384 .f32)
  (X : ℕ → ℕ → ℕ → EReal) (g : ℕ → EReal) (W : ℕ → ℕ → EReal) (b n : ℕ)
  (h0 : ∀ i, x0 i = X b (512 * n + (i 1).val) (i 2).val) (h1 : ∀ i, x1 i = g (i 1).val) (h2 : ∀ i, x2 i = W (i 0).val (i 1).val)

include h0 h1

/-- The products of the first half of the rows. -/
theorem first (w : FVec Ideal S1024x256 .bf16) (o : ℕ) (hw : ∀ (k : Fin 1024) (e : Fin 256), w (ix2 k e) = W k.val (o + e.val))
    (r e : Fin 256) : k0_pay77 (F := Ideal) (k0_pay106 x0 x1 x2 x3) w (ix2 r e) = prod X g W b (512 * n + r.val) (o + e.val) := by
  rw [dot_apply]
  refine Finset.sum_congr rfl fun k _ => congrArg₂ (fun p q : EReal => p * q) ?_ (hw k e)
  exact norm_apply (View.ld x0 r0_0) (View.ld x1 r0_1) (X b (512 * n + r.val)) g r
    (fun d => (h0 _).trans (congrArg₂ (X b) (by show 512 * n + (0 + 1 * r.val) = _; omega) (by show 0 + 1 * d.val = _; omega)))
    (fun d => (h1 _).trans (congrArg g (by show 0 + 1 * d.val = _; omega))) k

/-- The products of the second half of the rows. -/
theorem second (w : FVec Ideal S1024x256 .bf16) (o : ℕ) (hw : ∀ (k : Fin 1024) (e : Fin 256), w (ix2 k e) = W k.val (o + e.val))
    (r e : Fin 256) : k0_pay77 (F := Ideal) (k0_pay107 x0 x1 x2 x3) w (ix2 r e) = prod X g W b (512 * n + 256 + r.val) (o + e.val) := by
  rw [dot_apply]
  refine Finset.sum_congr rfl fun k _ => congrArg₂ (fun p q : EReal => p * q) ?_ (hw k e)
  exact norm_apply (View.ld x0 r0_2) (View.ld x1 r0_1) (X b (512 * n + 256 + r.val)) g r
    (fun d => (h0 _).trans (congrArg₂ (X b) (by show 512 * n + (256 + 1 * r.val) = _; omega) (by show 0 + 1 * d.val = _; omega)))
    (fun d => (h1 _).trans (congrArg g (by show 0 + 1 * d.val = _; omega))) k

include h2

/-- What the body leaves in the values' block. -/
theorem vals_body : out0_6 x0 x1 x2 x3 = fun i => vals X g W b (2 * n + (i 1).val) (i 2).val (i 3).val := by
  funext i
  refine (View.canon_apply_of_pieces (fun i : S1x2x1024x256.Idx => (vals X g W b (2 * n + (i 1).val) (i 2).val (i 3).val : EReal)) _ ?_ i
    (cover0_6 _ _ _ _ _ _ _ _ i)).trans rfl
  intro p hm x
  simp only [List.mem_cons, List.not_mem_nil, or_false] at hm
  rcases hm with rfl | rfl | rfl | rfl | rfl | rfl | rfl | rfl
  · obtain ⟨e, d, rfl⟩ := piece_v x
    refine (turned (k0_pay77 (F := Ideal) (k0_pay107 x0 x1 x2 x3) (View.ld x2 r0_36)) e d).trans ?_
    refine (second x0 x1 x2 x3 X g W b n h0 h1 (View.ld x2 r0_36) 2816 (fun k e => (h2 _).trans
      (congrArg₂ W (by show 0 + 1 * k.val = _; omega) (by show 2816 + 1 * e.val = _; omega))) d e).trans ?_
    show _ = prod X g W b (256 * (2 * n + (1 + 1 * 0)) + (0 + 1 * d.val)) (2048 + (768 + 1 * e.val))
    exact congrArg₂ (prod X g W b) (by omega) (by omega)
  · obtain ⟨e, d, rfl⟩ := piece_v x
    refine (turned (k0_pay77 (F := Ideal) (k0_pay106 x0 x1 x2 x3) (View.ld x2 r0_36)) e d).trans ?_
    refine (first x0 x1 x2 x3 X g W b n h0 h1 (View.ld x2 r0_36) 2816 (fun k e => (h2 _).trans
      (congrArg₂ W (by show 0 + 1 * k.val = _; omega) (by show 2816 + 1 * e.val = _; omega))) d e).trans ?_
    show _ = prod X g W b (256 * (2 * n + (0 + 1 * 0)) + (0 + 1 * d.val)) (2048 + (768 + 1 * e.val))
    exact congrArg₂ (prod X g W b) (by omega) (by omega)
  · obtain ⟨e, d, rfl⟩ := piece_v x
    refine (turned (k0_pay77 (F := Ideal) (k0_pay107 x0 x1 x2 x3) (View.ld x2 r0_33)) e d).trans ?_
    refine (second x0 x1 x2 x3 X g W b n h0 h1 (View.ld x2 r0_33) 2560 (fun k e => (h2 _).trans
      (congrArg₂ W (by show 0 + 1 * k.val = _; omega) (by show 2560 + 1 * e.val = _; omega))) d e).trans ?_
    show _ = prod X g W b (256 * (2 * n + (1 + 1 * 0)) + (0 + 1 * d.val)) (2048 + (512 + 1 * e.val))
    exact congrArg₂ (prod X g W b) (by omega) (by omega)
  · obtain ⟨e, d, rfl⟩ := piece_v x
    refine (turned (k0_pay77 (F := Ideal) (k0_pay106 x0 x1 x2 x3) (View.ld x2 r0_33)) e d).trans ?_
    refine (first x0 x1 x2 x3 X g W b n h0 h1 (View.ld x2 r0_33) 2560 (fun k e => (h2 _).trans
      (congrArg₂ W (by show 0 + 1 * k.val = _; omega) (by show 2560 + 1 * e.val = _; omega))) d e).trans ?_
    show _ = prod X g W b (256 * (2 * n + (0 + 1 * 0)) + (0 + 1 * d.val)) (2048 + (512 + 1 * e.val))
    exact congrArg₂ (prod X g W b) (by omega) (by omega)
  · obtain ⟨e, d, rfl⟩ := piece_v x
    refine (turned (k0_pay77 (F := Ideal) (k0_pay107 x0 x1 x2 x3) (View.ld x2 r0_30)) e d).trans ?_
    refine (second x0 x1 x2 x3 X g W b n h0 h1 (View.ld x2 r0_30) 2304 (fun k e => (h2 _).trans
      (congrArg₂ W (by show 0 + 1 * k.val = _; omega) (by show 2304 + 1 * e.val = _; omega))) d e).trans ?_
    show _ = prod X g W b (256 * (2 * n + (1 + 1 * 0)) + (0 + 1 * d.val)) (2048 + (256 + 1 * e.val))
    exact congrArg₂ (prod X g W b) (by omega) (by omega)
  · obtain ⟨e, d, rfl⟩ := piece_v x
    refine (turned (k0_pay77 (F := Ideal) (k0_pay106 x0 x1 x2 x3) (View.ld x2 r0_30)) e d).trans ?_
    refine (first x0 x1 x2 x3 X g W b n h0 h1 (View.ld x2 r0_30) 2304 (fun k e => (h2 _).trans
      (congrArg₂ W (by show 0 + 1 * k.val = _; omega) (by show 2304 + 1 * e.val = _; omega))) d e).trans ?_
    show _ = prod X g W b (256 * (2 * n + (0 + 1 * 0)) + (0 + 1 * d.val)) (2048 + (256 + 1 * e.val))
    exact congrArg₂ (prod X g W b) (by omega) (by omega)
  · obtain ⟨e, d, rfl⟩ := piece_v x
    refine (turned (k0_pay77 (F := Ideal) (k0_pay107 x0 x1 x2 x3) (View.ld x2 r0_29)) e d).trans ?_
    refine (second x0 x1 x2 x3 X g W b n h0 h1 (View.ld x2 r0_29) 2048 (fun k e => (h2 _).trans
      (congrArg₂ W (by show 0 + 1 * k.val = _; omega) (by show 2048 + 1 * e.val = _; omega))) d e).trans ?_
    show _ = prod X g W b (256 * (2 * n + (1 + 1 * 0)) + (0 + 1 * d.val)) (2048 + (0 + 1 * e.val))
    exact congrArg₂ (prod X g W b) (by omega) (by omega)
  · obtain ⟨e, d, rfl⟩ := piece_v x
    refine (turned (k0_pay77 (F := Ideal) (k0_pay106 x0 x1 x2 x3) (View.ld x2 r0_29)) e d).trans ?_
    refine (first x0 x1 x2 x3 X g W b n h0 h1 (View.ld x2 r0_29) 2048 (fun k e => (h2 _).trans
      (congrArg₂ W (by show 0 + 1 * k.val = _; omega) (by show 2048 + 1 * e.val = _; omega))) d e).trans ?_
    show _ = prod X g W b (256 * (2 * n + (0 + 1 * 0)) + (0 + 1 * d.val)) (2048 + (0 + 1 * e.val))
    exact congrArg₂ (prod X g W b) (by omega) (by omega)

/-- What the body leaves in the memory queries' block. -/
theorem memq_body : out0_7 x0 x1 x2 x3 = fun i => memq X g W b (512 * n + (i 1).val) (i 2).val := by
  funext i
  refine (View.canon_apply_of_pieces (fun i : S1x512x256.Idx => (memq X g W b (512 * n + (i 1).val) (i 2).val : EReal)) _ ?_ i
    (cover0_7 _ _ i)).trans rfl
  intro p hm x
  simp only [List.mem_cons, List.not_mem_nil, or_false] at hm
  rcases hm with rfl | rfl
  · obtain ⟨r, e, rfl⟩ := piece_q x
    refine (scaled (k0_pay77 (F := Ideal) (k0_pay107 x0 x1 x2 x3) (View.ld x2 r0_39)) r e).trans ?_
    refine (congrArg (fun p : EReal => p * Ideal.ofBits .f32 0x3E38AA3B#32)
      (second x0 x1 x2 x3 X g W b n h0 h1 (View.ld x2 r0_39) 3072 (fun k e => (h2 _).trans
      (congrArg₂ W (by show 0 + 1 * k.val = _; omega) (by show 3072 + 1 * e.val = _; omega))) r e)).trans ?_
    show _ = prod X g W b (512 * n + (256 + 1 * r.val)) (3072 + (0 + 1 * e.val)) * Ideal.ofBits .f32 0x3E38AA3B#32
    exact congrArg (fun p : EReal => p * Ideal.ofBits .f32 0x3E38AA3B#32) (congrArg₂ (prod X g W b) (by omega) (by omega))
  · obtain ⟨r, e, rfl⟩ := piece_q x
    refine (scaled (k0_pay77 (F := Ideal) (k0_pay106 x0 x1 x2 x3) (View.ld x2 r0_39)) r e).trans ?_
    refine (congrArg (fun p : EReal => p * Ideal.ofBits .f32 0x3E38AA3B#32)
      (first x0 x1 x2 x3 X g W b n h0 h1 (View.ld x2 r0_39) 3072 (fun k e => (h2 _).trans
      (congrArg₂ W (by show 0 + 1 * k.val = _; omega) (by show 3072 + 1 * e.val = _; omega))) r e)).trans ?_
    show _ = prod X g W b (512 * n + (0 + 1 * r.val)) (3072 + (0 + 1 * e.val)) * Ideal.ofBits .f32 0x3E38AA3B#32
    exact congrArg (fun p : EReal => p * Ideal.ofBits .f32 0x3E38AA3B#32) (congrArg₂ (prod X g W b) (by omega) (by omega))

end Blocks

end Cert.Kernel6Ideal.Layer

end
-- ==== Proof.ProjRope.lean ====
/- The turn of one head in the body of the dilated mixer's input projection, at an index. -/
module

public import proofs.«01_k».proof.Proof.ProjSpec
public import proofs.«01_k».proof.Proof.Gen.Kernel6Ideal.Skeleton
public import Idealize.ShloMosaic.Lib.Pipeline.ValueKit

@[expose] public section

set_option maxRecDepth 16384

noncomputable section

namespace Cert.Kernel6Ideal.Layer

open Cert.Kernel6Ideal Cert.Kernel6Ideal.Gen Idealize.ShloMosaic Idealize.ShloMosaic.TcCoe Idealize.SL.Sem Cert.Proj

variable (y : FVec Ideal S256x256 .f32) (tb : FVec Ideal S1x256x384 .f32) (Y c s : ℕ → EReal) (r : Fin 256)
  (hy : ∀ j : Fin 256, y (ix2 r j) = Y j.val) (ht : ∀ j : Fin 384, tb (ix3 0 r j) = table c s j.val)

include hy ht

/-- A key head in the first 128 columns of a product. -/
theorem key_low (l : Fin 128) : k0_pay48 (F := Ideal) y tb (ix3 0 r l) = rope Y c s l.val := by
  pointwise [k0_pay48, k0_pay47]
  simp only [hy, ht]
  exact turn Y c s l.val l.isLt

/-- A key head in the last 128 columns of a product. -/
theorem key_high (l : Fin 128) : k0_pay49 (F := Ideal) y tb (ix3 0 r l) = rope (fun l => Y (128 + l)) c s l.val := by
  pointwise [k0_pay49, k0_pay47]
  simp only [hy, ht]
  exact turn (fun l => Y (128 + l)) c s l.val l.isLt

/-- A query head in the first 128 columns of a product. -/
theorem query_low (l : Fin 128) : k0_pay9 (F := Ideal) y tb (ix3 0 r l) = rope Y c s l.val * Ideal.ofBits .f32 0x3E0293EE#32 := by
  pointwise [k0_pay9, k0_pay8]
  simp only [hy, ht]
  exact congrArg (fun p : EReal => p * Ideal.ofBits .f32 0x3E0293EE#32) (turn Y c s l.val l.isLt)

/-- A query head in the last 128 columns of a product. -/
theorem query_high (l : Fin 128) : k0_pay16 (F := Ideal) (k0_pay15 y tb) (ix3 0 r l)
    = rope (fun l => Y (128 + l)) c s l.val * Ideal.ofBits .f32 0x3E0293EE#32 := by
  pointwise [k0_pay16, k0_pay15, k0_pay13]
  simp only [hy, ht]
  exact congrArg (fun p : EReal => p * Ideal.ofBits .f32 0x3E0293EE#32) (turn (fun l => Y (128 + l)) c s l.val l.isLt)

end Cert.Kernel6Ideal.Layer

end
-- ==== Proof.ProjHeads.lean ====
/- The body of the dilated mixer's input projection at an index: the queries and the keys. -/
module

public import proofs.«01_k».proof.Proof.ProjBody
public import proofs.«01_k».proof.Proof.ProjRope

@[expose] public section

set_option maxRecDepth 16384

noncomputable section

namespace Cert.Kernel6Ideal.Layer

open Cert.Kernel6Ideal Cert.Kernel6Ideal.Gen Idealize.ShloMosaic Idealize.ShloMosaic.TcCoe Idealize.SL.Sem Cert.Proj

/-- An index of a stored head. -/
theorem piece_h (x : S1x256x128.Idx) : ∃ (r : Fin 256) (l : Fin 128), x = ix3 0 r l :=
  ⟨x 1, x 2, by
    funext a
    match a with
    | ⟨0, _⟩ => exact Fin.ext (by have := (x 0).isLt; change _ < 1 at this; show (x 0).val = 0; omega)
    | ⟨1, _⟩ => rfl
    | ⟨2, _⟩ => rfl⟩

/-- The turn depends on the lanes of the head alone. -/
theorem rope_congr {t t' c c' s s' : ℕ → EReal} {l l' : ℕ} (ht : ∀ l, t l = t' l) (hc : c = c') (hs : s = s') (hl : l = l') :
    rope t c s l = rope t' c' s' l' := by
  obtain rfl : t = t' := funext ht
  subst hc hs hl
  rfl

variable (x0 : Vec Ideal S1x512x1024 .f32) (x1 : Vec Ideal S1x1024 .f32) (x2 : Vec Ideal S1024x3328 .bf16) (x3 : Vec Ideal S1x512x384 .f32)
  (X : ℕ → ℕ → ℕ → EReal) (g : ℕ → EReal) (W : ℕ → ℕ → EReal) (C S : ℕ → ℕ → ℕ → EReal) (b n : ℕ)
  (h0 : ∀ i, x0 i = X b (512 * n + (i 1).val) (i 2).val) (h1 : ∀ i, x1 i = g (i 1).val) (h2 : ∀ i, x2 i = W (i 0).val (i 1).val)
  (h3 : ∀ i, x3 i = table (C b (512 * n + (i 1).val)) (S b (512 * n + (i 1).val)) (i 2).val)

include h3 in
/-- The tables of the first half of the rows. -/
theorem table_first (r : Fin 256) (j : Fin 384) : (View.ld x3 r0_5 : FVec Ideal S1x256x384 .f32) (ix3 0 r j)
    = table (C b (512 * n + r.val)) (S b (512 * n + r.val)) j.val :=
  (h3 _).trans (by
    show table (C b (512 * n + (0 + 1 * r.val))) (S b (512 * n + (0 + 1 * r.val))) (0 + 1 * j.val) = _
    simp only [zero_add, one_mul])

include h3 in
/-- The tables of the second half of the rows. -/
theorem table_second (r : Fin 256) (j : Fin 384) : (View.ld x3 r0_8 : FVec Ideal S1x256x384 .f32) (ix3 0 r j)
    = table (C b (512 * n + 256 + r.val)) (S b (512 * n + 256 + r.val)) j.val :=
  (h3 _).trans (by
    show table (C b (512 * n + (256 + 1 * r.val))) (S b (512 * n + (256 + 1 * r.val))) (0 + 1 * j.val) = _
    simp only [zero_add, one_mul, add_assoc])

include h0 h1 h2 h3

/-- What the body leaves in the queries' block. -/
theorem queries_body : out0_4 x0 x1 x2 x3 = fun i => queries X g W C S b (512 * n + (i 1).val) (i 2).val := by
  funext i
  refine (View.canon_apply_of_pieces (fun i : S1x512x1024.Idx => (queries X g W C S b (512 * n + (i 1).val) (i 2).val : EReal)) _ ?_ i
    (cover0_4 _ _ _ _ _ _ _ _ _ _ _ _ _ _ _ _ i)).trans rfl
  intro p hm x
  simp only [List.mem_cons, List.not_mem_nil, or_false] at hm
  rcases hm with rfl | rfl | rfl | rfl | rfl | rfl | rfl | rfl | rfl | rfl | rfl | rfl | rfl | rfl | rfl | rfl
  · obtain ⟨r, l, rfl⟩ := piece_h x
    refine (query_high (k0_pay77 (F := Ideal) (k0_pay107 x0 x1 x2 x3) (View.ld x2 r0_16)) (View.ld x3 r0_8)
      (fun j => prod X g W b (512 * n + 256 + r.val) (768 + j)) (C b (512 * n + 256 + r.val)) (S b (512 * n + 256 + r.val)) r
      (fun j => second x0 x1 x2 x3 X g W b n h0 h1 (View.ld x2 r0_16) 768 (fun k e => (h2 _).trans
        (congrArg₂ W (by show 0 + 1 * k.val = _; omega) (by show 768 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (896 + 1 * l.val)
    rw [er, queries, show (896 + 1 * l.val) / 128 = 7 by omega, show (896 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay107 x0 x1 x2 x3) (View.ld x2 r0_16)) (View.ld x3 r0_8)
      (fun j => prod X g W b (512 * n + 256 + r.val) (768 + j)) (C b (512 * n + 256 + r.val)) (S b (512 * n + 256 + r.val)) r
      (fun j => second x0 x1 x2 x3 X g W b n h0 h1 (View.ld x2 r0_16) 768 (fun k e => (h2 _).trans
        (congrArg₂ W (by show 0 + 1 * k.val = _; omega) (by show 768 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (768 + 1 * l.val)
    rw [er, queries, show (768 + 1 * l.val) / 128 = 6 by omega, show (768 + 1 * l.val) % 128 = l.val by omega]
  · obtain ⟨r, l, rfl⟩ := piece_h x
    refine (query_high (k0_pay77 (F := Ideal) (k0_pay106 x0 x1 x2 x3) (View.ld x2 r0_16)) (View.ld x3 r0_5)
      (fun j => prod X g W b (512 * n + r.val) (768 + j)) (C b (512 * n + r.val)) (S b (512 * n + r.val)) r
      (fun j => first x0 x1 x2 x3 X g W b n h0 h1 (View.ld x2 r0_16) 768 (fun k e => (h2 _).trans
        (congrArg₂ W (by show 0 + 1 * k.val = _; omega) (by show 768 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (896 + 1 * l.val)
    rw [er, queries, show (896 + 1 * l.val) / 128 = 7 by omega, show (896 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay106 x0 x1 x2 x3) (View.ld x2 r0_16)) (View.ld x3 r0_5)
      (fun j => prod X g W b (512 * n + r.val) (768 + j)) (C b (512 * n + r.val)) (S b (512 * n + r.val)) r
      (fun j => first x0 x1 x2 x3 X g W b n h0 h1 (View.ld x2 r0_16) 768 (fun k e => (h2 _).trans
        (congrArg₂ W (by show 0 + 1 * k.val = _; omega) (by show 768 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (768 + 1 * l.val)
    rw [er, queries, show (768 + 1 * l.val) / 128 = 6 by omega, show (768 + 1 * l.val) % 128 = l.val by omega]
  · obtain ⟨r, l, rfl⟩ := piece_h x
    refine (query_high (k0_pay77 (F := Ideal) (k0_pay107 x0 x1 x2 x3) (View.ld x2 r0_11)) (View.ld x3 r0_8)
      (fun j => prod X g W b (512 * n + 256 + r.val) (512 + j)) (C b (512 * n + 256 + r.val)) (S b (512 * n + 256 + r.val)) r
      (fun j => second x0 x1 x2 x3 X g W b n h0 h1 (View.ld x2 r0_11) 512 (fun k e => (h2 _).trans
        (congrArg₂ W (by show 0 + 1 * k.val = _; omega) (by show 512 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (640 + 1 * l.val)
    rw [er, queries, show (640 + 1 * l.val) / 128 = 5 by omega, show (640 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay107 x0 x1 x2 x3) (View.ld x2 r0_11)) (View.ld x3 r0_8)
      (fun j => prod X g W b (512 * n + 256 + r.val) (512 + j)) (C b (512 * n + 256 + r.val)) (S b (512 * n + 256 + r.val)) r
      (fun j => second x0 x1 x2 x3 X g W b n h0 h1 (View.ld x2 r0_11) 512 (fun k e => (h2 _).trans
        (congrArg₂ W (by show 0 + 1 * k.val = _; omega) (by show 512 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (512 + 1 * l.val)
    rw [er, queries, show (512 + 1 * l.val) / 128 = 4 by omega, show (512 + 1 * l.val) % 128 = l.val by omega]
  · obtain ⟨r, l, rfl⟩ := piece_h x
    refine (query_high (k0_pay77 (F := Ideal) (k0_pay106 x0 x1 x2 x3) (View.ld x2 r0_11)) (View.ld x3 r0_5)
      (fun j => prod X g W b (512 * n + r.val) (512 + j)) (C b (512 * n + r.val)) (S b (512 * n + r.val)) r
      (fun j => first x0 x1 x2 x3 X g W b n h0 h1 (View.ld x2 r0_11) 512 (fun k e => (h2 _).trans
        (congrArg₂ W (by show 0 + 1 * k.val = _; omega) (by show 512 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (640 + 1 * l.val)
    rw [er, queries, show (640 + 1 * l.val) / 128 = 5 by omega, show (640 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay106 x0 x1 x2 x3) (View.ld x2 r0_11)) (View.ld x3 r0_5)
      (fun j => prod X g W b (512 * n + r.val) (512 + j)) (C b (512 * n + r.val)) (S b (512 * n + r.val)) r
      (fun j => first x0 x1 x2 x3 X g W b n h0 h1 (View.ld x2 r0_11) 512 (fun k e => (h2 _).trans
        (congrArg₂ W (by show 0 + 1 * k.val = _; omega) (by show 512 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (512 + 1 * l.val)
    rw [er, queries, show (512 + 1 * l.val) / 128 = 4 by omega, show (512 + 1 * l.val) % 128 = l.val by omega]
  · obtain ⟨r, l, rfl⟩ := piece_h x
    refine (query_high (k0_pay77 (F := Ideal) (k0_pay107 x0 x1 x2 x3) (View.ld x2 r0_4)) (View.ld x3 r0_8)
      (fun j => prod X g W b (512 * n + 256 + r.val) (256 + j)) (C b (512 * n + 256 + r.val)) (S b (512 * n + 256 + r.val)) r
      (fun j => second x0 x1 x2 x3 X g W b n h0 h1 (View.ld x2 r0_4) 256 (fun k e => (h2 _).trans
        (congrArg₂ W (by show 0 + 1 * k.val = _; omega) (by show 256 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (384 + 1 * l.val)
    rw [er, queries, show (384 + 1 * l.val) / 128 = 3 by omega, show (384 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay107 x0 x1 x2 x3) (View.ld x2 r0_4)) (View.ld x3 r0_8)
      (fun j => prod X g W b (512 * n + 256 + r.val) (256 + j)) (C b (512 * n + 256 + r.val)) (S b (512 * n + 256 + r.val)) r
      (fun j => second x0 x1 x2 x3 X g W b n h0 h1 (View.ld x2 r0_4) 256 (fun k e => (h2 _).trans
        (congrArg₂ W (by show 0 + 1 * k.val = _; omega) (by show 256 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (256 + 1 * l.val)
    rw [er, queries, show (256 + 1 * l.val) / 128 = 2 by omega, show (256 + 1 * l.val) % 128 = l.val by omega]
  · obtain ⟨r, l, rfl⟩ := piece_h x
    refine (query_high (k0_pay77 (F := Ideal) (k0_pay106 x0 x1 x2 x3) (View.ld x2 r0_4)) (View.ld x3 r0_5)
      (fun j => prod X g W b (512 * n + r.val) (256 + j)) (C b (512 * n + r.val)) (S b (512 * n + r.val)) r
      (fun j => first x0 x1 x2 x3 X g W b n h0 h1 (View.ld x2 r0_4) 256 (fun k e => (h2 _).trans
        (congrArg₂ W (by show 0 + 1 * k.val = _; omega) (by show 256 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (384 + 1 * l.val)
    rw [er, queries, show (384 + 1 * l.val) / 128 = 3 by omega, show (384 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay106 x0 x1 x2 x3) (View.ld x2 r0_4)) (View.ld x3 r0_5)
      (fun j => prod X g W b (512 * n + r.val) (256 + j)) (C b (512 * n + r.val)) (S b (512 * n + r.val)) r
      (fun j => first x0 x1 x2 x3 X g W b n h0 h1 (View.ld x2 r0_4) 256 (fun k e => (h2 _).trans
        (congrArg₂ W (by show 0 + 1 * k.val = _; omega) (by show 256 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (256 + 1 * l.val)
    rw [er, queries, show (256 + 1 * l.val) / 128 = 2 by omega, show (256 + 1 * l.val) % 128 = l.val by omega]
  · obtain ⟨r, l, rfl⟩ := piece_h x
    refine (query_high (k0_pay77 (F := Ideal) (k0_pay107 x0 x1 x2 x3) (View.ld x2 r0_3)) (View.ld x3 r0_8)
      (fun j => prod X g W b (512 * n + 256 + r.val) (0 + j)) (C b (512 * n + 256 + r.val)) (S b (512 * n + 256 + r.val)) r
      (fun j => second x0 x1 x2 x3 X g W b n h0 h1 (View.ld x2 r0_3) 0 (fun k e => (h2 _).trans
        (congrArg₂ W (by show 0 + 1 * k.val = _; omega) (by show 0 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (128 + 1 * l.val)
    rw [er, queries, show (128 + 1 * l.val) / 128 = 1 by omega, show (128 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay107 x0 x1 x2 x3) (View.ld x2 r0_3)) (View.ld x3 r0_8)
      (fun j => prod X g W b (512 * n + 256 + r.val) (0 + j)) (C b (512 * n + 256 + r.val)) (S b (512 * n + 256 + r.val)) r
      (fun j => second x0 x1 x2 x3 X g W b n h0 h1 (View.ld x2 r0_3) 0 (fun k e => (h2 _).trans
        (congrArg₂ W (by show 0 + 1 * k.val = _; omega) (by show 0 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (0 + 1 * l.val)
    rw [er, queries, show (0 + 1 * l.val) / 128 = 0 by omega, show (0 + 1 * l.val) % 128 = l.val by omega]
  · obtain ⟨r, l, rfl⟩ := piece_h x
    refine (query_high (k0_pay77 (F := Ideal) (k0_pay106 x0 x1 x2 x3) (View.ld x2 r0_3)) (View.ld x3 r0_5)
      (fun j => prod X g W b (512 * n + r.val) (0 + j)) (C b (512 * n + r.val)) (S b (512 * n + r.val)) r
      (fun j => first x0 x1 x2 x3 X g W b n h0 h1 (View.ld x2 r0_3) 0 (fun k e => (h2 _).trans
        (congrArg₂ W (by show 0 + 1 * k.val = _; omega) (by show 0 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (128 + 1 * l.val)
    rw [er, queries, show (128 + 1 * l.val) / 128 = 1 by omega, show (128 + 1 * l.val) % 128 = l.val by omega]
    exact congrArg (fun p : EReal => p * Ideal.ofBits .f32 0x3E0293EE#32) (rope_congr (fun l => congrArg (prod X g W b _) (by omega)) rfl rfl rfl)
  · obtain ⟨r, l, rfl⟩ := piece_h x
    refine (query_low (k0_pay77 (F := Ideal) (k0_pay106 x0 x1 x2 x3) (View.ld x2 r0_3)) (View.ld x3 r0_5)
      (fun j => prod X g W b (512 * n + r.val) (0 + j)) (C b (512 * n + r.val)) (S b (512 * n + r.val)) r
      (fun j => first x0 x1 x2 x3 X g W b n h0 h1 (View.ld x2 r0_3) 0 (fun k e => (h2 _).trans
        (congrArg₂ W (by show 0 + 1 * k.val = _; omega) (by show 0 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (0 + 1 * l.val)
    rw [er, queries, show (0 + 1 * l.val) / 128 = 0 by omega, show (0 + 1 * l.val) % 128 = l.val by omega]

/-- What the body leaves in the keys' block. -/
theorem keys_body : out0_5 x0 x1 x2 x3 = fun i => keys X g W C S b (512 * n + (i 1).val) (i 2).val := by
  funext i
  refine (View.canon_apply_of_pieces (fun i : S1x512x1024.Idx => (keys X g W C S b (512 * n + (i 1).val) (i 2).val : EReal)) _ ?_ i
    (cover0_5 _ _ _ _ _ _ _ _ _ _ _ _ _ _ _ _ i)).trans rfl
  intro p hm x
  simp only [List.mem_cons, List.not_mem_nil, or_false] at hm
  rcases hm with rfl | rfl | rfl | rfl | rfl | rfl | rfl | rfl | rfl | rfl | rfl | rfl | rfl | rfl | rfl | rfl
  · obtain ⟨r, l, rfl⟩ := piece_h x
    refine (key_high (k0_pay77 (F := Ideal) (k0_pay107 x0 x1 x2 x3) (View.ld x2 r0_28)) (View.ld x3 r0_8)
      (fun j => prod X g W b (512 * n + 256 + r.val) (1792 + j)) (C b (512 * n + 256 + r.val)) (S b (512 * n + 256 + r.val)) r
      (fun j => second x0 x1 x2 x3 X g W b n h0 h1 (View.ld x2 r0_28) 1792 (fun k e => (h2 _).trans
        (congrArg₂ W (by show 0 + 1 * k.val = _; omega) (by show 1792 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (896 + 1 * l.val)
    rw [er, keys, show (896 + 1 * l.val) / 128 = 7 by omega, show (896 + 1 * l.val) % 128 = l.val by omega]
    exact rope_congr (fun l => congrArg (prod X g W b _) (by omega)) rfl rfl rfl
  · obtain ⟨r, l, rfl⟩ := piece_h x
    refine (key_low (k0_pay77 (F := Ideal) (k0_pay107 x0 x1 x2 x3) (View.ld x2 r0_28)) (View.ld x3 r0_8)
      (fun j => prod X g W b (512 * n + 256 + r.val) (1792 + j)) (C b (512 * n + 256 + r.val)) (S b (512 * n + 256 + r.val)) r
      (fun j => second x0 x1 x2 x3 X g W b n h0 h1 (View.ld x2 r0_28) 1792 (fun k e => (h2 _).trans
        (congrArg₂ W (by show 0 + 1 * k.val = _; omega) (by show 1792 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (768 + 1 * l.val)
    rw [er, keys, show (768 + 1 * l.val) / 128 = 6 by omega, show (768 + 1 * l.val) % 128 = l.val by omega]
  · obtain ⟨r, l, rfl⟩ := piece_h x
    refine (key_high (k0_pay77 (F := Ideal) (k0_pay106 x0 x1 x2 x3) (View.ld x2 r0_28)) (View.ld x3 r0_5)
      (fun j => prod X g W b (512 * n + r.val) (1792 + j)) (C b (512 * n + r.val)) (S b (512 * n + r.val)) r
      (fun j => first x0 x1 x2 x3 X g W b n h0 h1 (View.ld x2 r0_28) 1792 (fun k e => (h2 _).trans
        (congrArg₂ W (by show 0 + 1 * k.val = _; omega) (by show 1792 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (896 + 1 * l.val)
    rw [er, keys, show (896 + 1 * l.val) / 128 = 7 by omega, show (896 + 1 * l.val) % 128 = l.val by omega]
    exact rope_congr (fun l => congrArg (prod X g W b _) (by omega)) rfl rfl rfl
  · obtain ⟨r, l, rfl⟩ := piece_h x
    refine (key_low (k0_pay77 (F := Ideal) (k0_pay106 x0 x1 x2 x3) (View.ld x2 r0_28)) (View.ld x3 r0_5)
      (fun j => prod X g W b (512 * n + r.val) (1792 + j)) (C b (512 * n + r.val)) (S b (512 * n + r.val)) r
      (fun j => first x0 x1 x2 x3 X g W b n h0 h1 (View.ld x2 r0_28) 1792 (fun k e => (h2 _).trans
        (congrArg₂ W (by show 0 + 1 * k.val = _; omega) (by show 1792 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (768 + 1 * l.val)
    rw [er, keys, show (768 + 1 * l.val) / 128 = 6 by omega, show (768 + 1 * l.val) % 128 = l.val by omega]
  · obtain ⟨r, l, rfl⟩ := piece_h x
    refine (key_high (k0_pay77 (F := Ideal) (k0_pay107 x0 x1 x2 x3) (View.ld x2 r0_27)) (View.ld x3 r0_8)
      (fun j => prod X g W b (512 * n + 256 + r.val) (1536 + j)) (C b (512 * n + 256 + r.val)) (S b (512 * n + 256 + r.val)) r
      (fun j => second x0 x1 x2 x3 X g W b n h0 h1 (View.ld x2 r0_27) 1536 (fun k e => (h2 _).trans
        (congrArg₂ W (by show 0 + 1 * k.val = _; omega) (by show 1536 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (640 + 1 * l.val)
    rw [er, keys, show (640 + 1 * l.val) / 128 = 5 by omega, show (640 + 1 * l.val) % 128 = l.val by omega]
    exact rope_congr (fun l => congrArg (prod X g W b _) (by omega)) rfl rfl rfl
  · obtain ⟨r, l, rfl⟩ := piece_h x
    refine (key_low (k0_pay77 (F := Ideal) (k0_pay107 x0 x1 x2 x3) (View.ld x2 r0_27)) (View.ld x3 r0_8)
      (fun j => prod X g W b (512 * n + 256 + r.val) (1536 + j)) (C b (512 * n + 256 + r.val)) (S b (512 * n + 256 + r.val)) r
      (fun j => second x0 x1 x2 x3 X g W b n h0 h1 (View.ld x2 r0_27) 1536 (fun k e => (h2 _).trans
        (congrArg₂ W (by show 0 + 1 * k.val = _; omega) (by show 1536 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (512 + 1 * l.val)
    rw [er, keys, show (512 + 1 * l.val) / 128 = 4 by omega, show (512 + 1 * l.val) % 128 = l.val by omega]
  · obtain ⟨r, l, rfl⟩ := piece_h x
    refine (key_high (k0_pay77 (F := Ideal) (k0_pay106 x0 x1 x2 x3) (View.ld x2 r0_27)) (View.ld x3 r0_5)
      (fun j => prod X g W b (512 * n + r.val) (1536 + j)) (C b (512 * n + r.val)) (S b (512 * n + r.val)) r
      (fun j => first x0 x1 x2 x3 X g W b n h0 h1 (View.ld x2 r0_27) 1536 (fun k e => (h2 _).trans
        (congrArg₂ W (by show 0 + 1 * k.val = _; omega) (by show 1536 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (640 + 1 * l.val)
    rw [er, keys, show (640 + 1 * l.val) / 128 = 5 by omega, show (640 + 1 * l.val) % 128 = l.val by omega]
    exact rope_congr (fun l => congrArg (prod X g W b _) (by omega)) rfl rfl rfl
  · obtain ⟨r, l, rfl⟩ := piece_h x
    refine (key_low (k0_pay77 (F := Ideal) (k0_pay106 x0 x1 x2 x3) (View.ld x2 r0_27)) (View.ld x3 r0_5)
      (fun j => prod X g W b (512 * n + r.val) (1536 + j)) (C b (512 * n + r.val)) (S b (512 * n + r.val)) r
      (fun j => first x0 x1 x2 x3 X g W b n h0 h1 (View.ld x2 r0_27) 1536 (fun k e => (h2 _).trans
        (congrArg₂ W (by show 0 + 1 * k.val = _; omega) (by show 1536 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (512 + 1 * l.val)
    rw [er, keys, show (512 + 1 * l.val) / 128 = 4 by omega, show (512 + 1 * l.val) % 128 = l.val by omega]
  · obtain ⟨r, l, rfl⟩ := piece_h x
    refine (key_high (k0_pay77 (F := Ideal) (k0_pay107 x0 x1 x2 x3) (View.ld x2 r0_26)) (View.ld x3 r0_8)
      (fun j => prod X g W b (512 * n + 256 + r.val) (1280 + j)) (C b (512 * n + 256 + r.val)) (S b (512 * n + 256 + r.val)) r
      (fun j => second x0 x1 x2 x3 X g W b n h0 h1 (View.ld x2 r0_26) 1280 (fun k e => (h2 _).trans
        (congrArg₂ W (by show 0 + 1 * k.val = _; omega) (by show 1280 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (384 + 1 * l.val)
    rw [er, keys, show (384 + 1 * l.val) / 128 = 3 by omega, show (384 + 1 * l.val) % 128 = l.val by omega]
    exact rope_congr (fun l => congrArg (prod X g W b _) (by omega)) rfl rfl rfl
  · obtain ⟨r, l, rfl⟩ := piece_h x
    refine (key_low (k0_pay77 (F := Ideal) (k0_pay107 x0 x1 x2 x3) (View.ld x2 r0_26)) (View.ld x3 r0_8)
      (fun j => prod X g W b (512 * n + 256 + r.val) (1280 + j)) (C b (512 * n + 256 + r.val)) (S b (512 * n + 256 + r.val)) r
      (fun j => second x0 x1 x2 x3 X g W b n h0 h1 (View.ld x2 r0_26) 1280 (fun k e => (h2 _).trans
        (congrArg₂ W (by show 0 + 1 * k.val = _; omega) (by show 1280 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (256 + 1 * l.val)
    rw [er, keys, show (256 + 1 * l.val) / 128 = 2 by omega, show (256 + 1 * l.val) % 128 = l.val by omega]
  · obtain ⟨r, l, rfl⟩ := piece_h x
    refine (key_high (k0_pay77 (F := Ideal) (k0_pay106 x0 x1 x2 x3) (View.ld x2 r0_26)) (View.ld x3 r0_5)
      (fun j => prod X g W b (512 * n + r.val) (1280 + j)) (C b (512 * n + r.val)) (S b (512 * n + r.val)) r
      (fun j => first x0 x1 x2 x3 X g W b n h0 h1 (View.ld x2 r0_26) 1280 (fun k e => (h2 _).trans
        (congrArg₂ W (by show 0 + 1 * k.val = _; omega) (by show 1280 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (384 + 1 * l.val)
    rw [er, keys, show (384 + 1 * l.val) / 128 = 3 by omega, show (384 + 1 * l.val) % 128 = l.val by omega]
    exact rope_congr (fun l => congrArg (prod X g W b _) (by omega)) rfl rfl rfl
  · obtain ⟨r, l, rfl⟩ := piece_h x
    refine (key_low (k0_pay77 (F := Ideal) (k0_pay106 x0 x1 x2 x3) (View.ld x2 r0_26)) (View.ld x3 r0_5)
      (fun j => prod X g W b (512 * n + r.val) (1280 + j)) (C b (512 * n + r.val)) (S b (512 * n + r.val)) r
      (fun j => first x0 x1 x2 x3 X g W b n h0 h1 (View.ld x2 r0_26) 1280 (fun k e => (h2 _).trans
        (congrArg₂ W (by show 0 + 1 * k.val = _; omega) (by show 1280 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (256 + 1 * l.val)
    rw [er, keys, show (256 + 1 * l.val) / 128 = 2 by omega, show (256 + 1 * l.val) % 128 = l.val by omega]
  · obtain ⟨r, l, rfl⟩ := piece_h x
    refine (key_high (k0_pay77 (F := Ideal) (k0_pay107 x0 x1 x2 x3) (View.ld x2 r0_21)) (View.ld x3 r0_8)
      (fun j => prod X g W b (512 * n + 256 + r.val) (1024 + j)) (C b (512 * n + 256 + r.val)) (S b (512 * n + 256 + r.val)) r
      (fun j => second x0 x1 x2 x3 X g W b n h0 h1 (View.ld x2 r0_21) 1024 (fun k e => (h2 _).trans
        (congrArg₂ W (by show 0 + 1 * k.val = _; omega) (by show 1024 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (128 + 1 * l.val)
    rw [er, keys, show (128 + 1 * l.val) / 128 = 1 by omega, show (128 + 1 * l.val) % 128 = l.val by omega]
    exact rope_congr (fun l => congrArg (prod X g W b _) (by omega)) rfl rfl rfl
  · obtain ⟨r, l, rfl⟩ := piece_h x
    refine (key_low (k0_pay77 (F := Ideal) (k0_pay107 x0 x1 x2 x3) (View.ld x2 r0_21)) (View.ld x3 r0_8)
      (fun j => prod X g W b (512 * n + 256 + r.val) (1024 + j)) (C b (512 * n + 256 + r.val)) (S b (512 * n + 256 + r.val)) r
      (fun j => second x0 x1 x2 x3 X g W b n h0 h1 (View.ld x2 r0_21) 1024 (fun k e => (h2 _).trans
        (congrArg₂ W (by show 0 + 1 * k.val = _; omega) (by show 1024 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (0 + 1 * l.val)
    rw [er, keys, show (0 + 1 * l.val) / 128 = 0 by omega, show (0 + 1 * l.val) % 128 = l.val by omega]
  · obtain ⟨r, l, rfl⟩ := piece_h x
    refine (key_high (k0_pay77 (F := Ideal) (k0_pay106 x0 x1 x2 x3) (View.ld x2 r0_21)) (View.ld x3 r0_5)
      (fun j => prod X g W b (512 * n + r.val) (1024 + j)) (C b (512 * n + r.val)) (S b (512 * n + r.val)) r
      (fun j => first x0 x1 x2 x3 X g W b n h0 h1 (View.ld x2 r0_21) 1024 (fun k e => (h2 _).trans
        (congrArg₂ W (by show 0 + 1 * k.val = _; omega) (by show 1024 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (128 + 1 * l.val)
    rw [er, keys, show (128 + 1 * l.val) / 128 = 1 by omega, show (128 + 1 * l.val) % 128 = l.val by omega]
    exact rope_congr (fun l => congrArg (prod X g W b _) (by omega)) rfl rfl rfl
  · obtain ⟨r, l, rfl⟩ := piece_h x
    refine (key_low (k0_pay77 (F := Ideal) (k0_pay106 x0 x1 x2 x3) (View.ld x2 r0_21)) (View.ld x3 r0_5)
      (fun j => prod X g W b (512 * n + r.val) (1024 + j)) (C b (512 * n + r.val)) (S b (512 * n + r.val)) r
      (fun j => first x0 x1 x2 x3 X g W b n h0 h1 (View.ld x2 r0_21) 1024 (fun k e => (h2 _).trans
        (congrArg₂ W (by show 0 + 1 * k.val = _; omega) (by show 1024 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (0 + 1 * l.val)
    rw [er, keys, show (0 + 1 * l.val) / 128 = 0 by omega, show (0 + 1 * l.val) % 128 = l.val by omega]

end Cert.Kernel6Ideal.Layer

end
-- ==== Proof.ProjBlocks.lean ====
/- The blocks of a grid point hold the operands, and what each point writes is the four results. -/
module

public import proofs.«01_k».proof.Proof.ProjHeads
public import proofs.«01_k».proof.Proof.Gen.Kernel6Ideal.Value
public import Idealize.ShloMosaic.Lib.Pipeline.ReadBack
public import Idealize.ShloMosaic.Lib.Claim

@[expose] public section

set_option maxRecDepth 16384

noncomputable section

namespace Cert.Kernel6Ideal.Layer

open Cert.Kernel6Ideal Cert.Kernel6Ideal.Gen Idealize.ShloMosaic Idealize.ShloMosaic.TcCoe Idealize.SL.Sem Cert.Ffn Cert.Proj

variable (m : (ℓ : Loc nD τ sig) → Buf (Elt Ideal) ℓ)

theorem idx : ∀ t : Fin cfg0.N, win0_0.index t = ![t.val / 8, t.val % 8, 0] ∧ win0_1.index t = ![0, 0]
    ∧ win0_2.index t = ![0, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0, 0]
    ∧ win0_7.index t = ![t.val / 8, t.val % 8, 0] :=
  (by decide +kernel : ∀ t : Fin grid0.N, _)

theorem blk_x (c : Dev nD) (t : Fin cfg0.N) (i : S1x512x1024.Idx) : (iblk m c 0 t : Vec Ideal S1x512x1024 .f32) i
    = at3 (m ((c : Thread nD τ).loc main_arg0)) (t.val / 8) (512 * (t.val % 8) + (i 1).val) (i 2).val := by
  have e : (i 0).val = 0 := by have := (i 0).isLt; change _ < 1 at this; omega
  refine eq_at3 (m ((c : Thread nD τ).loc main_arg0)) (((cfg0.win 0).blk t).view.emb i) ?_ ?_ ?_ <;>
    (blk_simp [idx t]; try omega)

/-- The gains as a row, as the host line prepares them. -/
theorem at_v0 (c : Dev nD) :
    V m c main_v0 = (shapeCast S1x1024 (m ((c : Thread nD τ).loc main_arg1)) shapeCasts_S1024_S1x1024 : Vec Ideal S1x1024 .f32) := by
  simp only [V, List.flatten_cons, List.flatten_nil, List.append_nil, List.cons_append, List.nil_append, hostOps0]
  after_results
  try rfl

/-- The weights in their narrower format, as the host line prepares them. -/
theorem at_v1 (c : Dev nD) :
    V m c main_v1 = (truncf (F := Ideal) .bf16 (m ((c : Thread nD τ).loc main_arg2) : Vec Ideal S1024x3328 .f32) bitsLt_bf16_f32
      : Vec Ideal S1024x3328 .bf16) := by
  simp only [V, List.flatten_cons, List.flatten_nil, List.append_nil, List.cons_append, List.nil_append, hostOps0]
  after_results
  try rfl

theorem row1024 (v : FVec Ideal S1024 .f32) (j : S1x1024.Idx) {a : ℕ} (h : (j 1).val = a) :
    shapeCast S1x1024 v shapeCasts_S1024_S1x1024 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem blk_g (c : Dev nD) (t : Fin cfg0.N) (i : S1x1024.Idx) :
    (iblk m c 1 t : Vec Ideal S1x1024 .f32) i = at1 (m ((c : Thread nD τ).loc main_arg1)) (i 1).val := by
  show V m c main_v0 (((cfg0.win 1).blk t).view.emb i) = _
  rw [at_v0]
  exact row1024 _ _ (by blk_simp [idx t]; try omega)

theorem blk_w (c : Dev nD) (t : Fin cfg0.N) (i : S1024x3328.Idx) :
    (iblk m c 2 t : Vec Ideal S1024x3328 .bf16) i = at2 (m ((c : Thread nD τ).loc main_arg2)) (i 0).val (i 1).val := by
  show V m c main_v1 (((cfg0.win 2).blk t).view.emb i) = _
  rw [at_v1]
  refine eq_at2 (m ((c : Thread nD τ).loc main_arg2)) (((cfg0.win 2).blk t).view.emb i) ?_ ?_ <;> (blk_simp [idx t]; try omega)

/-- The three tables side by side, from the cosines and the sines. -/
def tables (C S : FVec Ideal S8x4096x16 .f32) : FVec Ideal S8x4096x384 .f32 :=
  concatenate S8x4096x384 2
    [⟨S8x4096x128, (concatenate S8x4096x128 2
        [⟨S8x4096x32, (concatenate S8x4096x32 2 [⟨S8x4096x16, C⟩, ⟨S8x4096x16, C⟩] concatenates_S8x4096x16_S8x4096x16_S8x4096x32_d2
          : FVec Ideal S8x4096x32 .f32)⟩,
         ⟨S8x4096x96, (broadcastInDim S8x4096x96 ![] bcast_S_S8x4096x96 (constant (F := Ideal) S_ .f32 0x3F800000#32) : FVec Ideal S8x4096x96 .f32)⟩]
        concatenates_S8x4096x32_S8x4096x96_S8x4096x128_d2 : FVec Ideal S8x4096x128 .f32)⟩,
     ⟨S8x4096x256, (concatenate S8x4096x256 2
        [⟨S8x4096x128, (concatenate S8x4096x128 2
            [⟨S8x4096x16, (broadcastInDim S8x4096x16 ![] bcast_S_S8x4096x16 (constant (F := Ideal) S_ .f32 0x00000000#32) : FVec Ideal S8x4096x16 .f32)⟩,
             ⟨S8x4096x112, (concatenate S8x4096x112 2
                [⟨S8x4096x16, S⟩,
                 ⟨S8x4096x96, (broadcastInDim S8x4096x96 ![] bcast_S_S8x4096x96 (constant (F := Ideal) S_ .f32 0x00000000#32) : FVec Ideal S8x4096x96 .f32)⟩]
                concatenates_S8x4096x16_S8x4096x96_S8x4096x112_d2 : FVec Ideal S8x4096x112 .f32)⟩]
            concatenates_S8x4096x16_S8x4096x112_S8x4096x128_d2 : FVec Ideal S8x4096x128 .f32)⟩,
         ⟨S8x4096x128, (concatenate S8x4096x128 2
            [⟨S8x4096x16, (Host.negf S : FVec Ideal S8x4096x16 .f32)⟩,
             ⟨S8x4096x112, (broadcastInDim S8x4096x112 ![] bcast_S_S8x4096x112 (constant (F := Ideal) S_ .f32 0x00000000#32) : FVec Ideal S8x4096x112 .f32)⟩]
            concatenates_S8x4096x16_S8x4096x112_S8x4096x128_d2 : FVec Ideal S8x4096x128 .f32)⟩]
        concatenates_S8x4096x128_S8x4096x128_S8x4096x256_d2 : FVec Ideal S8x4096x256 .f32)⟩]
    concatenates_S8x4096x128_S8x4096x256_S8x4096x384_d2

/-- The tables at an index. -/
theorem tables_apply (C S : FVec Ideal S8x4096x16 .f32) (b : Fin 8) (q : Fin 4096) (j : Fin 384) :
    tables C S (ix3 b q j) = table (at3 C b.val q.val) (at3 S b.val q.val) j.val := by
  have hc : ∀ k : Fin 16, C (ix3 b q k) = at3 C b.val q.val k.val := fun k => eq_at3 C _ rfl rfl rfl
  have hs : ∀ k : Fin 16, S (ix3 b q k) = at3 S b.val q.val k.val := fun k => eq_at3 S _ rfl rfl rfl
  pointwise [tables]
  simp only [hc, hs, table, Ideal.ofBits_zero_f32, Ideal.ofBits_one_f32]
  split_ifs <;> first | rfl | omega | skip

/-- The tables as the host lines prepare them. -/
theorem at_v13 (c : Dev nD) : V m c main_v13 = (tables (m ((c : Thread nD τ).loc main_arg3)) (m ((c : Thread nD τ).loc main_arg4))
      : Vec Ideal S8x4096x384 .f32) := by
  simp only [V, List.flatten_cons, List.flatten_nil, List.append_nil, List.cons_append, List.nil_append, hostOps0]
  after_results
  try rfl

theorem tables_at (C S : FVec Ideal S8x4096x16 .f32) (j : S8x4096x384.Idx) {b q k : ℕ} (h0 : (j 0).val = b) (h1 : (j 1).val = q)
    (h2 : (j 2).val = k) : tables C S j = table (at3 C b q) (at3 S b q) k := by
  subst h0 h1 h2
  have e : j = ix3 (j 0) (j 1) (j 2) := by funext a; match a with | ⟨0, _⟩ => rfl | ⟨1, _⟩ => rfl | ⟨2, _⟩ => rfl
  exact (congrArg (tables C S) e).trans (tables_apply C S (j 0) (j 1) (j 2))

theorem blk_tab (c : Dev nD) (t : Fin cfg0.N) (i : S1x512x384.Idx) : (iblk m c 3 t : Vec Ideal S1x512x384 .f32) i
    = table (at3 (m ((c : Thread nD τ).loc main_arg3)) (t.val / 8) (512 * (t.val % 8) + (i 1).val))
      (at3 (m ((c : Thread nD τ).loc main_arg4)) (t.val / 8) (512 * (t.val % 8) + (i 1).val)) (i 2).val := by
  have e : (i 0).val = 0 := by have := (i 0).isLt; change _ < 1 at this; omega
  show V m c main_v13 (((cfg0.win 3).blk t).view.emb i) = _
  rw [at_v13]
  refine tables_at _ _ _ ?_ ?_ ?_ <;> (blk_simp [idx t]; try omega)

/-- The queries after the run. -/
theorem final_queries (c : Dev nD) : (dats m 0 c).arrAt 4 cfg0.N = fun i => queries (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val := by
  refine (dats m 0 c).arrAt_eq_of_covers 4 (fun i => queries (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val)
    (by decide +kernel) fun t _ y => ?_
  blk_simp
  rw [after0_4, queries_body _ _ _ _ _ _ _ _ _ _ _ (blk_x m c t) (blk_g m c t) (blk_w m c t) (blk_tab m c t)]
  blk_simp [idx t]
  rw [Nat.mul_comm 512]

/-- The keys after the run. -/
theorem final_keys (c : Dev nD) : (dats m 0 c).arrAt 5 cfg0.N = fun i => keys (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val := by
  refine (dats m 0 c).arrAt_eq_of_covers 5 (fun i => keys (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val)
    (by decide +kernel) fun t _ y => ?_
  blk_simp
  rw [after0_5, keys_body _ _ _ _ _ _ _ _ _ _ _ (blk_x m c t) (blk_g m c t) (blk_w m c t) (blk_tab m c t)]
  blk_simp [idx t]
  rw [Nat.mul_comm 512]

/-- The values after the run. -/
theorem final_vals (c : Dev nD) : (dats m 0 c).arrAt 6 cfg0.N = fun i => vals (at3 (m ((c : Thread nD τ).loc main_arg0)))
    (at1 (m ((c : Thread nD τ).loc main_arg1))) (at2 (m ((c : Thread nD τ).loc main_arg2))) (i 0).val (i 1).val (i 2).val (i 3).val := by
  refine (dats m 0 c).arrAt_eq_of_covers 6 (fun i => vals (at3 (m ((c : Thread nD τ).loc main_arg0)))
    (at1 (m ((c : Thread nD τ).loc main_arg1))) (at2 (m ((c : Thread nD τ).loc main_arg2))) (i 0).val (i 1).val (i 2).val (i 3).val)
    (by decide +kernel) fun t _ y => ?_
  blk_simp
  rw [after0_6, vals_body _ _ _ _ _ _ _ _ _ (blk_x m c t) (blk_g m c t) (blk_w m c t)]
  blk_simp [idx t]
  rw [Nat.mul_comm 2]

/-- The memory queries after the run. -/
theorem final_memq (c : Dev nD) : (dats m 0 c).arrAt 7 cfg0.N = fun i => memq (at3 (m ((c : Thread nD τ).loc main_arg0)))
    (at1 (m ((c : Thread nD τ).loc main_arg1))) (at2 (m ((c : Thread nD τ).loc main_arg2))) (i 0).val (i 1).val (i 2).val := by
  refine (dats m 0 c).arrAt_eq_of_covers 7 (fun i => memq (at3 (m ((c : Thread nD τ).loc main_arg0)))
    (at1 (m ((c : Thread nD τ).loc main_arg1))) (at2 (m ((c : Thread nD τ).loc main_arg2))) (i 0).val (i 1).val (i 2).val)
    (by decide +kernel) fun t _ y => ?_
  blk_simp
  rw [after0_7, memq_body _ _ _ _ _ _ _ _ _ (blk_x m c t) (blk_g m c t) (blk_w m c t)]
  blk_simp [idx t]
  rw [Nat.mul_comm 512]

end Cert.Kernel6Ideal.Layer

end
-- ==== Proof.WinSpec.lean ====
/- The four results of the window mixer's input projection, as plain functions of whole-number coordinates. Both
   programs are compared with these. -/
module

public import proofs.«01_k».proof.Proof.ProjSpec

@[expose] public section

noncomputable section

namespace Cert.Win

open Idealize.ShloMosaic Cert.Ffn
export Cert.Proj (prod)

/-- The values, whose columns come after 1024 of the queries and 1024 of the keys. -/
def vals (x : ℕ → ℕ → ℕ → EReal) (g : ℕ → EReal) (w : ℕ → ℕ → EReal) (b s e : ℕ) : EReal :=
  prod x g w b s (2048 + e)

/-- The memory queries, which come last, scaled. -/
def memq (x : ℕ → ℕ → ℕ → EReal) (g : ℕ → EReal) (w : ℕ → ℕ → EReal) (b s e : ℕ) : EReal :=
  prod x g w b s (3072 + e) * Ideal.ofBits .f32 0x3E38AA3B#32

/-- Lane `l` of a head after the turn: the first 8 lanes and the next 8 are turned against each other, the others stay. -/
def rope (t c s : ℕ → EReal) (l : ℕ) : EReal :=
  if l < 8 then t l * c l - t (l + 8) * s l
  else if l < 16 then t l * c (l - 8) + t (l - 8) * s (l - 8)
  else t l

/-- The queries: heads of 64 lanes, turned and scaled. -/
def queries (x : ℕ → ℕ → ℕ → EReal) (g : ℕ → EReal) (w : ℕ → ℕ → EReal) (C S : ℕ → ℕ → ℕ → EReal) (b s e : ℕ) : EReal :=
  rope (fun l => prod x g w b s (64 * (e / 64) + l)) (C b s) (S b s) (e % 64) * Ideal.ofBits .f32 0x3E38AA3B#32

/-- The keys: heads of 64 lanes after the queries' columns, turned. -/
def keys (x : ℕ → ℕ → ℕ → EReal) (g : ℕ → EReal) (w : ℕ → ℕ → EReal) (C S : ℕ → ℕ → ℕ → EReal) (b s e : ℕ) : EReal :=
  rope (fun l => prod x g w b s (1024 + 64 * (e / 64) + l)) (C b s) (S b s) (e % 64)

/-- Lane `j` of a row of the three tables side by side, each of two heads: what multiplies a lane, its neighbour 8 before and
    its neighbour 8 after. -/
def table (c s : ℕ → EReal) (j : ℕ) : EReal :=
  if j < 128 then (if j % 64 < 8 then c (j % 64) else if j % 64 < 16 then c (j % 64 - 8) else 1)
  else if j < 256 then (if j % 64 < 8 then 0 else if j % 64 < 16 then s (j % 64 - 8) else 0)
  else (if j % 64 < 8 then -s (j % 64) else 0)

/-- A lane and its two neighbours, going round, each times its table, are the turn of the lane's head. -/
theorem turn (t c s : ℕ → EReal) (l : ℕ) (h : l < 128) :
    t l * table c s l + t ((l + 120) % 128) * table c s (128 + l) + t ((l + 8) % 128) * table c s (256 + l)
      = rope (fun k => t (64 * (l / 64) + k)) c s (l % 64) := by
  have e : 64 * (l / 64) + l % 64 = l := by omega
  have e1 : (128 + l) % 64 = l % 64 := by omega
  have e2 : (256 + l) % 64 = l % 64 := by omega
  simp only [table, rope, if_pos h, if_neg (show ¬ 128 + l < 128 by omega), if_pos (show 128 + l < 256 by omega),
    if_neg (show ¬ 256 + l < 128 by omega), if_neg (show ¬ 256 + l < 256 by omega), e1, e2, e]
  by_cases h1 : l % 64 < 8
  · rw [show (l + 8) % 128 = 64 * (l / 64) + (l % 64 + 8) by omega]
    simp only [if_pos h1]
    rw [mul_zero, add_zero, mul_neg, sub_eq_add_neg]
  · by_cases h2 : l % 64 < 16
    · rw [show (l + 120) % 128 = 64 * (l / 64) + (l % 64 - 8) by omega]
      simp only [if_neg h1, if_pos h2]
      rw [mul_zero, add_zero]
    · simp only [if_neg h1, if_neg h2]
      rw [mul_zero, mul_zero, add_zero, add_zero, mul_one]

end Cert.Win

end
-- ==== Proof.WinRef.lean ====
/- The reference of the window mixer's input projection at an index: its operations read one after the other. -/
module

public import proofs.«01_k».proof.Proof.WinSpec
public import proofs.«01_k».proof.Proof.Gen.Reference7Ideal.Read
public import Idealize.ShloMosaic.Lib.KernelVsHost
public import Idealize.ShloMosaic.Lib.Pipeline.Value

@[expose] public section

set_option maxRecDepth 16384

noncomputable section

namespace Cert.Win.Ref

open Cert.Reference7Ideal Cert.Reference7Ideal.Gen Cert.Reference7Ideal.Read Idealize.ShloMosaic Cert.Ffn Cert.Win

variable (x0 : FVec Ideal S8x4096x1024 .f32) (x1 : FVec Ideal S1024 .f32) (x2 : FVec Ideal S1024x3328 .f32)

/-- The normalised rows. -/
theorem norm_eq (i : S8x4096x1024.Idx) : val_main_v12 (F := Ideal) x0 x1 i
    = norm (at3 x0 (i 0).val (i 1).val) (at1 x1) (i 2).val := by
  simp only [val_main_v12_apply, val_main_v9_apply, val_main_v8_apply, val_main_v7_apply, val_main_v6_apply,
    val_main_v5_apply, val_main_v4_apply, val_main_v3_apply, val_main_v2_apply, val_main_v1_apply, val_main_v0_apply,
    val_main_v11_apply, val_main_v10_apply, val_main_cst_apply, val_main_cst_0_apply, val_main_cst_1_apply,
    Ideal.mulf_def, Ideal.addf_def, Ideal.hostDivf_def, Ideal.hostUnary_rsqrt_def, Ideal.ofBits_def,
    Ideal.ofBits_zero_f32, zero_add]
  simp only [Ffn.norm, Ffn.inv, fun j => eq_at3 x0 j rfl rfl rfl, fun j => eq_at1 x1 j rfl]

/-- The product. -/
theorem prod_eq (i : S8x4096x3328.Idx) : val_main_v13 (F := Ideal) x0 x1 x2 i
    = prod (at3 x0) (at1 x1) (at2 x2) (i 0).val (i 1).val (i 2).val := by
  rw [val_main_v13_apply, prod]
  refine Finset.sum_congr rfl fun k _ => ?_
  rw [norm_eq, eq_at2 x2 (ridx_main_v13 i k) rfl rfl]

/-- The values the reference returns. -/
theorem vals_eq (i : S8x4096x1024.Idx) : val_main_v62 (F := Ideal) x0 x1 x2 i
    = vals (at3 x0) (at1 x1) (at2 x2) (i 0).val (i 1).val (i 2).val := by
  rw [val_main_v62_apply, val_main_v16_apply, prod_eq]
  rfl

/-- The memory queries the reference returns. -/
theorem memq_eq (i : S8x4096x256.Idx) : val_main_v65 (F := Ideal) x0 x1 x2 i
    = memq (at3 x0) (at1 x1) (at2 x2) (i 0).val (i 1).val (i 2).val := by
  rw [val_main_v65_apply, val_main_v64_apply, val_main_v17_apply, prod_eq, val_main_v63_apply, val_main_cst_3_apply]
  rfl

/-- The reference's turn of all heads. -/
def heads (y : FVec Ideal S8x4096x16x64 .f32) (c s : FVec Ideal S8x4096x8 .f32) : FVec Ideal S8x4096x16x64 .f32 :=
  have t : FVec Ideal S8x4096x16x16 .f32 := extractStridedSlice S8x4096x16x16 ![0, 0, 0, 0] y slices_S8x4096x16x64_S8x4096x16x16_0_0_0_0
  have t1 : FVec Ideal S8x4096x16x8 .f32 := extractStridedSlice S8x4096x16x8 ![0, 0, 0, 0] t slices_S8x4096x16x16_S8x4096x16x8_0_0_0_0
  have t2 : FVec Ideal S8x4096x16x8 .f32 := extractStridedSlice S8x4096x16x8 ![0, 0, 0, 8] t slices_S8x4096x16x16_S8x4096x16x8_0_0_0_8
  have C : FVec Ideal S8x4096x16x8 .f32 := broadcastInDim S8x4096x16x8 ![0, 1, 2, 3] bcast_S8x4096x1x8_S8x4096x16x8_0_1_2_3
    (broadcastInDim S8x4096x1x8 ![0, 1, 3] bcast_S8x4096x8_S8x4096x1x8_0_1_3 c)
  have S : FVec Ideal S8x4096x16x8 .f32 := broadcastInDim S8x4096x16x8 ![0, 1, 2, 3] bcast_S8x4096x1x8_S8x4096x16x8_0_1_2_3
    (broadcastInDim S8x4096x1x8 ![0, 1, 3] bcast_S8x4096x8_S8x4096x1x8_0_1_3 s)
  concatenate S8x4096x16x64 3
    [⟨S8x4096x16x16, (concatenate S8x4096x16x16 3
        [⟨S8x4096x16x8, subf (mulf t1 C) (mulf t2 S)⟩, ⟨S8x4096x16x8, addf (mulf t2 C) (mulf t1 S)⟩]
        concatenates_S8x4096x16x8_S8x4096x16x8_S8x4096x16x16_d3 : FVec Ideal S8x4096x16x16 .f32)⟩,
     ⟨S8x4096x16x48, extractStridedSlice S8x4096x16x48 ![0, 0, 0, 16] y slices_S8x4096x16x64_S8x4096x16x48_0_0_0_16⟩]
    concatenates_S8x4096x16x16_S8x4096x16x48_S8x4096x16x64_d3

/-- The turn at an index. -/
theorem heads_eq (y : FVec Ideal S8x4096x16x64 .f32) (c s : FVec Ideal S8x4096x8 .f32) (T : ℕ → EReal)
    (b : Fin 8) (q : Fin 4096) (h : Fin 16) (l : Fin 64) (hy : ∀ l : Fin 64, y (ix4 b q h l) = T l.val) :
    heads y c s (ix4 b q h l) = rope T (at3 c b.val q.val) (at3 s b.val q.val) l.val := by
  have hc : ∀ k : Fin 8, c (ix3 b q k) = at3 c b.val q.val k.val := fun k => eq_at3 c _ rfl rfl rfl
  have hs : ∀ k : Fin 8, s (ix3 b q k) = at3 s b.val q.val k.val := fun k => eq_at3 s _ rfl rfl rfl
  pointwise [heads]
  simp only [hy, hc, hs, rope]
  split_ifs with h1 h2 <;> first
    | omega
    | rw [show 8 + l.val = l.val + 8 by omega]
    | rw [show 8 + (l.val - 8) = l.val by omega]
    | rw [show 16 + (l.val - 16) = l.val by omega]

/-- The queries' columns in heads. -/
theorem q_heads (b : Fin 8) (q : Fin 4096) (h : Fin 16) (l : Fin 64) : val_main_v18 (F := Ideal) x0 x1 x2 (ix4 b q h l)
    = prod (at3 x0) (at1 x1) (at2 x2) b.val q.val (64 * h.val + l.val) := by
  have hb := b.isLt
  have hq := q.isLt
  have hh := h.isLt
  have hl := l.isLt
  have e0 : ((idx_main_v14 (idx_main_v18 (ix4 b q h l))) 0).val = b.val := by
    show (((b.val * 4096 + q.val) * 16 + h.val) * 64 + l.val) / 4194304 = _; omega
  have e1 : ((idx_main_v14 (idx_main_v18 (ix4 b q h l))) 1).val = q.val := by
    show (((b.val * 4096 + q.val) * 16 + h.val) * 64 + l.val) / 1024 % 4096 = _; omega
  have e2 : ((idx_main_v14 (idx_main_v18 (ix4 b q h l))) 2).val = 64 * h.val + l.val := by
    show (((b.val * 4096 + q.val) * 16 + h.val) * 64 + l.val) % 1024 = _; omega
  rw [val_main_v18_apply, val_main_v14_apply, prod_eq, e0, e1, e2]

/-- The keys' columns in heads. -/
theorem k_heads (b : Fin 8) (q : Fin 4096) (h : Fin 16) (l : Fin 64) : val_main_v38 (F := Ideal) x0 x1 x2 (ix4 b q h l)
    = prod (at3 x0) (at1 x1) (at2 x2) b.val q.val (1024 + 64 * h.val + l.val) := by
  have hb := b.isLt
  have hq := q.isLt
  have hh := h.isLt
  have hl := l.isLt
  have e0 : ((idx_main_v15 (idx_main_v38 (ix4 b q h l))) 0).val = b.val := by
    show (((b.val * 4096 + q.val) * 16 + h.val) * 64 + l.val) / 4194304 = _; omega
  have e1 : ((idx_main_v15 (idx_main_v38 (ix4 b q h l))) 1).val = q.val := by
    show (((b.val * 4096 + q.val) * 16 + h.val) * 64 + l.val) / 1024 % 4096 = _; omega
  have e2 : ((idx_main_v15 (idx_main_v38 (ix4 b q h l))) 2).val = 1024 + 64 * h.val + l.val := by
    show 1024 + (((b.val * 4096 + q.val) * 16 + h.val) * 64 + l.val) % 1024 = _; omega
  rw [val_main_v38_apply, val_main_v15_apply, prod_eq, e0, e1, e2]

variable (x3 x4 : FVec Ideal S8x4096x8 .f32)

/-- Where an element of a row lies among the heads. -/
theorem spread (i : S8x4096x1024.Idx) : idx_main_v37 i = ix4 (⟨(i 0).val, (i 0).isLt⟩ : Fin 8) (⟨(i 1).val, (i 1).isLt⟩ : Fin 4096)
    (⟨(i 2).val / 64, by have h2 : (i 2).val < 1024 := (i 2).isLt; omega⟩ : Fin 16)
    (⟨(i 2).val % 64, by omega⟩ : Fin 64) := by
  have h0 : (i 0).val < 8 := (i 0).isLt
  have h1 : (i 1).val < 4096 := (i 1).isLt
  have h2 : (i 2).val < 1024 := (i 2).isLt
  funext a
  match a with
  | ⟨0, _⟩ => exact Fin.ext (by show (((i 0).val * 4096 + (i 1).val) * 1024 + (i 2).val) / 4194304 = (i 0).val; omega)
  | ⟨1, _⟩ => exact Fin.ext (by show (((i 0).val * 4096 + (i 1).val) * 1024 + (i 2).val) / 1024 % 4096 = (i 1).val; omega)
  | ⟨2, _⟩ => exact Fin.ext (by show (((i 0).val * 4096 + (i 1).val) * 1024 + (i 2).val) / 64 % 16 = (i 2).val / 64; omega)
  | ⟨3, _⟩ => exact Fin.ext (by show (((i 0).val * 4096 + (i 1).val) * 1024 + (i 2).val) % 64 = (i 2).val % 64; omega)

/-- The queries the reference returns. -/
theorem queries_eq (i : S8x4096x1024.Idx) : val_main_v60 (F := Ideal) x0 x1 x2 x3 x4 i
    = queries (at3 x0) (at1 x1) (at2 x2) (at3 x3) (at3 x4) (i 0).val (i 1).val (i 2).val := by
  rw [val_main_v60_apply, val_main_v59_apply, val_main_v58_apply, val_main_cst_2_apply, val_main_v37_apply, spread]
  exact congrArg (fun p : EReal => p * Ideal.ofBits .f32 0x3E38AA3B#32)
    (heads_eq (val_main_v18 (F := Ideal) x0 x1 x2) x3 x4 _ _ _ _ _ (q_heads x0 x1 x2 _ _ _))

/-- The keys the reference returns. -/
theorem keys_eq (i : S8x4096x1024.Idx) : val_main_v61 (F := Ideal) x0 x1 x2 x3 x4 i
    = keys (at3 x0) (at1 x1) (at2 x2) (at3 x3) (at3 x4) (i 0).val (i 1).val (i 2).val := by
  rw [val_main_v61_apply, val_main_v57_apply, show idx_main_v57 i = idx_main_v37 i from rfl, spread]
  exact heads_eq (val_main_v38 (F := Ideal) x0 x1 x2) x3 x4 _ _ _ _ _ (k_heads x0 x1 x2 _ _ _)

end Cert.Win.Ref

end
-- ==== Proof.WinBody.lean ====
/- The body of the window mixer's input projection at an index: the values and the memory queries. -/
module

public import proofs.«01_k».proof.Proof.WinSpec
public import proofs.«01_k».proof.Proof.Gen.Kernel7Ideal.Frame
public import Idealize.ShloMosaic.Lib.Pipeline.ValueKit

@[expose] public section

set_option maxRecDepth 16384

noncomputable section

namespace Cert.Kernel7Ideal.Layer

open Cert.Kernel7Ideal Cert.Kernel7Ideal.Gen Idealize.ShloMosaic Idealize.ShloMosaic.TcCoe Idealize.SL.Sem Cert.Win

/-- A normalised row at an index. -/
theorem norm_apply (v : FVec Ideal S1x256x1024 .f32) (g : FVec Ideal S1x1024 .f32) (V s : ℕ → EReal) (r : Fin 256)
    (hv : ∀ d : Fin 1024, v (ix3 0 r d) = V d.val) (hg : ∀ d : Fin 1024, g (ix2 0 d) = s d.val) (k : Fin 1024) :
    k0_pay3 (F := Ideal) v g (ix2 r k) = Ffn.norm V s k.val := by
  pointwise [k0_pay3]
  simp only [hv, hg, Ffn.norm, Ffn.inv]

/-- A product at an index. -/
theorem dot_apply (h : FVec Ideal S256x1024 .bf16) (w : FVec Ideal S1024x256 .bf16) (r e : Fin 256) :
    k0_pay78 (F := Ideal) h w (ix2 r e) = ∑ k : Fin 1024, (h (ix2 r k) : EReal) * w (ix2 k e) := by
  pointwise [k0_pay78]

/-- A product stored as it is. -/
theorem stored (y : FVec Ideal S256x256 .f32) (r e : Fin 256) : k0_pay90 (F := Ideal) y (ix3 0 r e) = y (ix2 r e) := by
  pointwise [k0_pay90]

/-- A product stored scaled. -/
theorem scaled (h : FVec Ideal S256x1024 .bf16) (w : FVec Ideal S1024x256 .bf16) (r e : Fin 256) :
    k0_pay1 (F := Ideal) (k0_pay102 h w) (ix3 0 r e) = (k0_pay78 (F := Ideal) h w (ix2 r e) : EReal) * Ideal.ofBits .f32 0x3E38AA3B#32 := by
  pointwise [k0_pay1, k0_pay102, k0_pay78]

/-- An index of a stored block. -/
theorem piece_q (x : S1x256x256.Idx) : ∃ (r e : Fin 256), x = ix3 0 r e :=
  ⟨x 1, x 2, by
    funext a
    match a with
    | ⟨0, _⟩ => exact Fin.ext (by have := (x 0).isLt; change _ < 1 at this; show (x 0).val = 0; omega)
    | ⟨1, _⟩ => rfl
    | ⟨2, _⟩ => rfl⟩

section Blocks

variable (x0 : Vec Ideal S1x512x1024 .f32) (x1 : Vec Ideal S1x1024 .f32) (x2 : Vec Ideal S1024x3328 .bf16) (x3 : Vec Ideal S1x512x384 .f32)
  (X : ℕ → ℕ → ℕ → EReal) (g : ℕ → EReal) (W : ℕ → ℕ → EReal) (b n : ℕ)
  (h0 : ∀ i, x0 i = X b (512 * n + (i 1).val) (i 2).val) (h1 : ∀ i, x1 i = g (i 1).val) (h2 : ∀ i, x2 i = W (i 0).val (i 1).val)

include h0 h1

/-- The products of the first half of the rows. -/
theorem first (w : FVec Ideal S1024x256 .bf16) (o : ℕ) (hw : ∀ (k : Fin 1024) (e : Fin 256), w (ix2 k e) = W k.val (o + e.val))
    (r e : Fin 256) : k0_pay78 (F := Ideal) (k0_pay103 x0 x1 x2 x3) w (ix2 r e) = prod X g W b (512 * n + r.val) (o + e.val) := by
  rw [dot_apply]
  refine Finset.sum_congr rfl fun k _ => congrArg₂ (fun p q : EReal => p * q) ?_ (hw k e)
  exact norm_apply (View.ld x0 r0_0) (View.ld x1 r0_1) (X b (512 * n + r.val)) g r
    (fun d => (h0 _).trans (congrArg₂ (X b) (by show 512 * n + (0 + 1 * r.val) = _; omega) (by show 0 + 1 * d.val = _; omega)))
    (fun d => (h1 _).trans (congrArg g (by show 0 + 1 * d.val = _; omega))) k

/-- The products of the second half of the rows. -/
theorem second (w : FVec Ideal S1024x256 .bf16) (o : ℕ) (hw : ∀ (k : Fin 1024) (e : Fin 256), w (ix2 k e) = W k.val (o + e.val))
    (r e : Fin 256) : k0_pay78 (F := Ideal) (k0_pay104 x0 x1 x2 x3) w (ix2 r e) = prod X g W b (512 * n + 256 + r.val) (o + e.val) := by
  rw [dot_apply]
  refine Finset.sum_congr rfl fun k _ => congrArg₂ (fun p q : EReal => p * q) ?_ (hw k e)
  exact norm_apply (View.ld x0 r0_2) (View.ld x1 r0_1) (X b (512 * n + 256 + r.val)) g r
    (fun d => (h0 _).trans (congrArg₂ (X b) (by show 512 * n + (256 + 1 * r.val) = _; omega) (by show 0 + 1 * d.val = _; omega)))
    (fun d => (h1 _).trans (congrArg g (by show 0 + 1 * d.val = _; omega))) k

include h2

/-- What the body leaves in the values' block. -/
theorem vals_body : out0_6 x0 x1 x2 x3 = fun i => vals X g W b (512 * n + (i 1).val) (i 2).val := by
  funext i
  refine (View.canon_apply_of_pieces (fun i : S1x512x1024.Idx => (vals X g W b (512 * n + (i 1).val) (i 2).val : EReal)) _ ?_ i
    (cover0_6 _ _ _ _ _ _ _ _ i)).trans rfl
  intro p hm x
  simp only [List.mem_cons, List.not_mem_nil, or_false] at hm
  rcases hm with rfl | rfl | rfl | rfl | rfl | rfl | rfl | rfl
  · obtain ⟨r, e, rfl⟩ := piece_q x
    refine (stored (k0_pay78 (F := Ideal) (k0_pay104 x0 x1 x2 x3) (View.ld x2 r0_36)) r e).trans ?_
    refine (second x0 x1 x2 x3 X g W b n h0 h1 (View.ld x2 r0_36) 2816 (fun k e => (h2 _).trans
      (congrArg₂ W (by show 0 + 1 * k.val = _; omega) (by show 2816 + 1 * e.val = _; omega))) r e).trans ?_
    show _ = prod X g W b (512 * n + (256 + 1 * r.val)) (2048 + (768 + 1 * e.val))
    exact congrArg₂ (prod X g W b) (by omega) (by omega)
  · obtain ⟨r, e, rfl⟩ := piece_q x
    refine (stored (k0_pay78 (F := Ideal) (k0_pay103 x0 x1 x2 x3) (View.ld x2 r0_36)) r e).trans ?_
    refine (first x0 x1 x2 x3 X g W b n h0 h1 (View.ld x2 r0_36) 2816 (fun k e => (h2 _).trans
      (congrArg₂ W (by show 0 + 1 * k.val = _; omega) (by show 2816 + 1 * e.val = _; omega))) r e).trans ?_
    show _ = prod X g W b (512 * n + (0 + 1 * r.val)) (2048 + (768 + 1 * e.val))
    exact congrArg₂ (prod X g W b) (by omega) (by omega)
  · obtain ⟨r, e, rfl⟩ := piece_q x
    refine (stored (k0_pay78 (F := Ideal) (k0_pay104 x0 x1 x2 x3) (View.ld x2 r0_33)) r e).trans ?_
    refine (second x0 x1 x2 x3 X g W b n h0 h1 (View.ld x2 r0_33) 2560 (fun k e => (h2 _).trans
      (congrArg₂ W (by show 0 + 1 * k.val = _; omega) (by show 2560 + 1 * e.val = _; omega))) r e).trans ?_
    show _ = prod X g W b (512 * n + (256 + 1 * r.val)) (2048 + (512 + 1 * e.val))
    exact congrArg₂ (prod X g W b) (by omega) (by omega)
  · obtain ⟨r, e, rfl⟩ := piece_q x
    refine (stored (k0_pay78 (F := Ideal) (k0_pay103 x0 x1 x2 x3) (View.ld x2 r0_33)) r e).trans ?_
    refine (first x0 x1 x2 x3 X g W b n h0 h1 (View.ld x2 r0_33) 2560 (fun k e => (h2 _).trans
      (congrArg₂ W (by show 0 + 1 * k.val = _; omega) (by show 2560 + 1 * e.val = _; omega))) r e).trans ?_
    show _ = prod X g W b (512 * n + (0 + 1 * r.val)) (2048 + (512 + 1 * e.val))
    exact congrArg₂ (prod X g W b) (by omega) (by omega)
  · obtain ⟨r, e, rfl⟩ := piece_q x
    refine (stored (k0_pay78 (F := Ideal) (k0_pay104 x0 x1 x2 x3) (View.ld x2 r0_30)) r e).trans ?_
    refine (second x0 x1 x2 x3 X g W b n h0 h1 (View.ld x2 r0_30) 2304 (fun k e => (h2 _).trans
      (congrArg₂ W (by show 0 + 1 * k.val = _; omega) (by show 2304 + 1 * e.val = _; omega))) r e).trans ?_
    show _ = prod X g W b (512 * n + (256 + 1 * r.val)) (2048 + (256 + 1 * e.val))
    exact congrArg₂ (prod X g W b) (by omega) (by omega)
  · obtain ⟨r, e, rfl⟩ := piece_q x
    refine (stored (k0_pay78 (F := Ideal) (k0_pay103 x0 x1 x2 x3) (View.ld x2 r0_30)) r e).trans ?_
    refine (first x0 x1 x2 x3 X g W b n h0 h1 (View.ld x2 r0_30) 2304 (fun k e => (h2 _).trans
      (congrArg₂ W (by show 0 + 1 * k.val = _; omega) (by show 2304 + 1 * e.val = _; omega))) r e).trans ?_
    show _ = prod X g W b (512 * n + (0 + 1 * r.val)) (2048 + (256 + 1 * e.val))
    exact congrArg₂ (prod X g W b) (by omega) (by omega)
  · obtain ⟨r, e, rfl⟩ := piece_q x
    refine (stored (k0_pay78 (F := Ideal) (k0_pay104 x0 x1 x2 x3) (View.ld x2 r0_29)) r e).trans ?_
    refine (second x0 x1 x2 x3 X g W b n h0 h1 (View.ld x2 r0_29) 2048 (fun k e => (h2 _).trans
      (congrArg₂ W (by show 0 + 1 * k.val = _; omega) (by show 2048 + 1 * e.val = _; omega))) r e).trans ?_
    show _ = prod X g W b (512 * n + (256 + 1 * r.val)) (2048 + (0 + 1 * e.val))
    exact congrArg₂ (prod X g W b) (by omega) (by omega)
  · obtain ⟨r, e, rfl⟩ := piece_q x
    refine (stored (k0_pay78 (F := Ideal) (k0_pay103 x0 x1 x2 x3) (View.ld x2 r0_29)) r e).trans ?_
    refine (first x0 x1 x2 x3 X g W b n h0 h1 (View.ld x2 r0_29) 2048 (fun k e => (h2 _).trans
      (congrArg₂ W (by show 0 + 1 * k.val = _; omega) (by show 2048 + 1 * e.val = _; omega))) r e).trans ?_
    show _ = prod X g W b (512 * n + (0 + 1 * r.val)) (2048 + (0 + 1 * e.val))
    exact congrArg₂ (prod X g W b) (by omega) (by omega)

/-- What the body leaves in the memory queries' block. -/
theorem memq_body : out0_7 x0 x1 x2 x3 = fun i => memq X g W b (512 * n + (i 1).val) (i 2).val := by
  funext i
  refine (View.canon_apply_of_pieces (fun i : S1x512x256.Idx => (memq X g W b (512 * n + (i 1).val) (i 2).val : EReal)) _ ?_ i
    (cover0_7 _ _ i)).trans rfl
  intro p hm x
  simp only [List.mem_cons, List.not_mem_nil, or_false] at hm
  rcases hm with rfl | rfl
  · obtain ⟨r, e, rfl⟩ := piece_q x
    refine (scaled (k0_pay104 x0 x1 x2 x3) (View.ld x2 r0_39) r e).trans ?_
    refine (congrArg (fun p : EReal => p * Ideal.ofBits .f32 0x3E38AA3B#32)
      (second x0 x1 x2 x3 X g W b n h0 h1 (View.ld x2 r0_39) 3072 (fun k e => (h2 _).trans
      (congrArg₂ W (by show 0 + 1 * k.val = _; omega) (by show 3072 + 1 * e.val = _; omega))) r e)).trans ?_
    show _ = prod X g W b (512 * n + (256 + 1 * r.val)) (3072 + (0 + 1 * e.val)) * Ideal.ofBits .f32 0x3E38AA3B#32
    exact congrArg (fun p : EReal => p * Ideal.ofBits .f32 0x3E38AA3B#32) (congrArg₂ (prod X g W b) (by omega) (by omega))
  · obtain ⟨r, e, rfl⟩ := piece_q x
    refine (scaled (k0_pay103 x0 x1 x2 x3) (View.ld x2 r0_39) r e).trans ?_
    refine (congrArg (fun p : EReal => p * Ideal.ofBits .f32 0x3E38AA3B#32)
      (first x0 x1 x2 x3 X g W b n h0 h1 (View.ld x2 r0_39) 3072 (fun k e => (h2 _).trans
      (congrArg₂ W (by show 0 + 1 * k.val = _; omega) (by show 3072 + 1 * e.val = _; omega))) r e)).trans ?_
    show _ = prod X g W b (512 * n + (0 + 1 * r.val)) (3072 + (0 + 1 * e.val)) * Ideal.ofBits .f32 0x3E38AA3B#32
    exact congrArg (fun p : EReal => p * Ideal.ofBits .f32 0x3E38AA3B#32) (congrArg₂ (prod X g W b) (by omega) (by omega))

end Blocks

end Cert.Kernel7Ideal.Layer

end
-- ==== Proof.WinRope.lean ====
/- The turn of two heads in the body of the window mixer's input projection, at an index. -/
module

public import proofs.«01_k».proof.Proof.WinSpec
public import proofs.«01_k».proof.Proof.Gen.Kernel7Ideal.Skeleton
public import Idealize.ShloMosaic.Lib.Pipeline.ValueKit

@[expose] public section

set_option maxRecDepth 16384

noncomputable section

namespace Cert.Kernel7Ideal.Layer

open Cert.Kernel7Ideal Cert.Kernel7Ideal.Gen Idealize.ShloMosaic Idealize.ShloMosaic.TcCoe Idealize.SL.Sem Cert.Win

variable (y : FVec Ideal S256x256 .f32) (tb : FVec Ideal S1x256x384 .f32) (Y c s : ℕ → EReal) (r : Fin 256)
  (hy : ∀ j : Fin 256, y (ix2 r j) = Y j.val) (ht : ∀ j : Fin 384, tb (ix3 0 r j) = table c s j.val)

include hy ht

/-- Two key heads in the first 128 columns of a product. -/
theorem key_low (l : Fin 128) : k0_pay49 (F := Ideal) y tb (ix3 0 r l) = rope (fun k => Y (64 * (l.val / 64) + k)) c s (l.val % 64) := by
  pointwise [k0_pay49, k0_pay48]
  simp only [hy, ht]
  exact turn Y c s l.val l.isLt

/-- Two key heads in the last 128 columns of a product. -/
theorem key_high (l : Fin 128) : k0_pay50 (F := Ideal) y tb (ix3 0 r l) = rope (fun k => Y (128 + (64 * (l.val / 64) + k))) c s (l.val % 64) := by
  pointwise [k0_pay50, k0_pay48]
  simp only [hy, ht]
  exact turn (fun l => Y (128 + l)) c s l.val l.isLt

/-- Two query heads in the first 128 columns of a product. -/
theorem query_low (l : Fin 128) : k0_pay10 (F := Ideal) y tb (ix3 0 r l) = rope (fun k => Y (64 * (l.val / 64) + k)) c s (l.val % 64) * Ideal.ofBits .f32 0x3E38AA3B#32 := by
  pointwise [k0_pay10, k0_pay9]
  simp only [hy, ht]
  exact congrArg (fun p : EReal => p * Ideal.ofBits .f32 0x3E38AA3B#32) (turn Y c s l.val l.isLt)

/-- Two query heads in the last 128 columns of a product. -/
theorem query_high (l : Fin 128) : k0_pay17 (F := Ideal) (k0_pay16 y tb) (ix3 0 r l)
    = rope (fun k => Y (128 + (64 * (l.val / 64) + k))) c s (l.val % 64) * Ideal.ofBits .f32 0x3E38AA3B#32 := by
  pointwise [k0_pay17, k0_pay16, k0_pay14]
  simp only [hy, ht]
  exact congrArg (fun p : EReal => p * Ideal.ofBits .f32 0x3E38AA3B#32) (turn (fun l => Y (128 + l)) c s l.val l.isLt)

end Cert.Kernel7Ideal.Layer

end
-- ==== Proof.WinHeads.lean ====
/- The body of the window mixer's input projection at an index: the queries and the keys. -/
module

public import proofs.«01_k».proof.Proof.WinBody
public import proofs.«01_k».proof.Proof.WinRope

@[expose] public section

set_option maxRecDepth 16384

noncomputable section

namespace Cert.Kernel7Ideal.Layer

open Cert.Kernel7Ideal Cert.Kernel7Ideal.Gen Idealize.ShloMosaic Idealize.ShloMosaic.TcCoe Idealize.SL.Sem Cert.Win

/-- An index of two stored heads. -/
theorem piece_h (x : S1x256x128.Idx) : ∃ (r : Fin 256) (l : Fin 128), x = ix3 0 r l :=
  ⟨x 1, x 2, by
    funext a
    match a with
    | ⟨0, _⟩ => exact Fin.ext (by have := (x 0).isLt; change _ < 1 at this; show (x 0).val = 0; omega)
    | ⟨1, _⟩ => rfl
    | ⟨2, _⟩ => rfl⟩

/-- The turn depends on the lanes of the head alone. -/
theorem rope_congr {t t' c c' s s' : ℕ → EReal} {l l' : ℕ} (ht : ∀ l, t l = t' l) (hc : c = c') (hs : s = s') (hl : l = l') :
    rope t c s l = rope t' c' s' l' := by
  obtain rfl : t = t' := funext ht
  subst hc hs hl
  rfl

variable (x0 : Vec Ideal S1x512x1024 .f32) (x1 : Vec Ideal S1x1024 .f32) (x2 : Vec Ideal S1024x3328 .bf16) (x3 : Vec Ideal S1x512x384 .f32)
  (X : ℕ → ℕ → ℕ → EReal) (g : ℕ → EReal) (W : ℕ → ℕ → EReal) (C S : ℕ → ℕ → ℕ → EReal) (b n : ℕ)
  (h0 : ∀ i, x0 i = X b (512 * n + (i 1).val) (i 2).val) (h1 : ∀ i, x1 i = g (i 1).val) (h2 : ∀ i, x2 i = W (i 0).val (i 1).val)
  (h3 : ∀ i, x3 i = table (C b (512 * n + (i 1).val)) (S b (512 * n + (i 1).val)) (i 2).val)

include h3 in
/-- The tables of the first half of the rows. -/
theorem table_first (r : Fin 256) (j : Fin 384) : (View.ld x3 r0_5 : FVec Ideal S1x256x384 .f32) (ix3 0 r j)
    = table (C b (512 * n + r.val)) (S b (512 * n + r.val)) j.val :=
  (h3 _).trans (by
    show table (C b (512 * n + (0 + 1 * r.val))) (S b (512 * n + (0 + 1 * r.val))) (0 + 1 * j.val) = _
    simp only [zero_add, one_mul])

include h3 in
/-- The tables of the second half of the rows. -/
theorem table_second (r : Fin 256) (j : Fin 384) : (View.ld x3 r0_8 : FVec Ideal S1x256x384 .f32) (ix3 0 r j)
    = table (C b (512 * n + 256 + r.val)) (S b (512 * n + 256 + r.val)) j.val :=
  (h3 _).trans (by
    show table (C b (512 * n + (256 + 1 * r.val))) (S b (512 * n + (256 + 1 * r.val))) (0 + 1 * j.val) = _
    simp only [zero_add, one_mul, add_assoc])

include h0 h1 h2 h3

/-- What the body leaves in the queries' block. -/
theorem queries_body : out0_4 x0 x1 x2 x3 = fun i => queries X g W C S b (512 * n + (i 1).val) (i 2).val := by
  funext i
  refine (View.canon_apply_of_pieces (fun i : S1x512x1024.Idx => (queries X g W C S b (512 * n + (i 1).val) (i 2).val : EReal)) _ ?_ i
    (cover0_4 _ _ _ _ _ _ _ _ _ _ _ _ _ _ _ _ i)).trans rfl
  intro p hm x
  simp only [List.mem_cons, List.not_mem_nil, or_false] at hm
  rcases hm with rfl | rfl | rfl | rfl | rfl | rfl | rfl | rfl | rfl | rfl | rfl | rfl | rfl | rfl | rfl | rfl
  · obtain ⟨r, l, rfl⟩ := piece_h x
    refine (query_high (k0_pay78 (F := Ideal) (k0_pay104 x0 x1 x2 x3) (View.ld x2 r0_16)) (View.ld x3 r0_8)
      (fun j => prod X g W b (512 * n + 256 + r.val) (768 + j)) (C b (512 * n + 256 + r.val)) (S b (512 * n + 256 + r.val)) r
      (fun j => second x0 x1 x2 x3 X g W b n h0 h1 (View.ld x2 r0_16) 768 (fun k e => (h2 _).trans
        (congrArg₂ W (by show 0 + 1 * k.val = _; omega) (by show 768 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (896 + 1 * l.val)
    rw [er, queries, show (896 + 1 * l.val) / 64 = 14 + l.val / 64 by omega, show (896 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay104 x0 x1 x2 x3) (View.ld x2 r0_16)) (View.ld x3 r0_8)
      (fun j => prod X g W b (512 * n + 256 + r.val) (768 + j)) (C b (512 * n + 256 + r.val)) (S b (512 * n + 256 + r.val)) r
      (fun j => second x0 x1 x2 x3 X g W b n h0 h1 (View.ld x2 r0_16) 768 (fun k e => (h2 _).trans
        (congrArg₂ W (by show 0 + 1 * k.val = _; omega) (by show 768 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (768 + 1 * l.val)
    rw [er, queries, show (768 + 1 * l.val) / 64 = 12 + l.val / 64 by omega, show (768 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay103 x0 x1 x2 x3) (View.ld x2 r0_16)) (View.ld x3 r0_5)
      (fun j => prod X g W b (512 * n + r.val) (768 + j)) (C b (512 * n + r.val)) (S b (512 * n + r.val)) r
      (fun j => first x0 x1 x2 x3 X g W b n h0 h1 (View.ld x2 r0_16) 768 (fun k e => (h2 _).trans
        (congrArg₂ W (by show 0 + 1 * k.val = _; omega) (by show 768 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (896 + 1 * l.val)
    rw [er, queries, show (896 + 1 * l.val) / 64 = 14 + l.val / 64 by omega, show (896 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay103 x0 x1 x2 x3) (View.ld x2 r0_16)) (View.ld x3 r0_5)
      (fun j => prod X g W b (512 * n + r.val) (768 + j)) (C b (512 * n + r.val)) (S b (512 * n + r.val)) r
      (fun j => first x0 x1 x2 x3 X g W b n h0 h1 (View.ld x2 r0_16) 768 (fun k e => (h2 _).trans
        (congrArg₂ W (by show 0 + 1 * k.val = _; omega) (by show 768 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (768 + 1 * l.val)
    rw [er, queries, show (768 + 1 * l.val) / 64 = 12 + l.val / 64 by omega, show (768 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay104 x0 x1 x2 x3) (View.ld x2 r0_11)) (View.ld x3 r0_8)
      (fun j => prod X g W b (512 * n + 256 + r.val) (512 + j)) (C b (512 * n + 256 + r.val)) (S b (512 * n + 256 + r.val)) r
      (fun j => second x0 x1 x2 x3 X g W b n h0 h1 (View.ld x2 r0_11) 512 (fun k e => (h2 _).trans
        (congrArg₂ W (by show 0 + 1 * k.val = _; omega) (by show 512 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (640 + 1 * l.val)
    rw [er, queries, show (640 + 1 * l.val) / 64 = 10 + l.val / 64 by omega, show (640 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay104 x0 x1 x2 x3) (View.ld x2 r0_11)) (View.ld x3 r0_8)
      (fun j => prod X g W b (512 * n + 256 + r.val) (512 + j)) (C b (512 * n + 256 + r.val)) (S b (512 * n + 256 + r.val)) r
      (fun j => second x0 x1 x2 x3 X g W b n h0 h1 (View.ld x2 r0_11) 512 (fun k e => (h2 _).trans
        (congrArg₂ W (by show 0 + 1 * k.val = _; omega) (by show 512 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (512 + 1 * l.val)
    rw [er, queries, show (512 + 1 * l.val) / 64 = 8 + l.val / 64 by omega, show (512 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay103 x0 x1 x2 x3) (View.ld x2 r0_11)) (View.ld x3 r0_5)
      (fun j => prod X g W b (512 * n + r.val) (512 + j)) (C b (512 * n + r.val)) (S b (512 * n + r.val)) r
      (fun j => first x0 x1 x2 x3 X g W b n h0 h1 (View.ld x2 r0_11) 512 (fun k e => (h2 _).trans
        (congrArg₂ W (by show 0 + 1 * k.val = _; omega) (by show 512 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (640 + 1 * l.val)
    rw [er, queries, show (640 + 1 * l.val) / 64 = 10 + l.val / 64 by omega, show (640 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay103 x0 x1 x2 x3) (View.ld x2 r0_11)) (View.ld x3 r0_5)
      (fun j => prod X g W b (512 * n + r.val) (512 + j)) (C b (512 * n + r.val)) (S b (512 * n + r.val)) r
      (fun j => first x0 x1 x2 x3 X g W b n h0 h1 (View.ld x2 r0_11) 512 (fun k e => (h2 _).trans
        (congrArg₂ W (by show 0 + 1 * k.val = _; omega) (by show 512 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (512 + 1 * l.val)
    rw [er, queries, show (512 + 1 * l.val) / 64 = 8 + l.val / 64 by omega, show (512 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay104 x0 x1 x2 x3) (View.ld x2 r0_4)) (View.ld x3 r0_8)
      (fun j => prod X g W b (512 * n + 256 + r.val) (256 + j)) (C b (512 * n + 256 + r.val)) (S b (512 * n + 256 + r.val)) r
      (fun j => second x0 x1 x2 x3 X g W b n h0 h1 (View.ld x2 r0_4) 256 (fun k e => (h2 _).trans
        (congrArg₂ W (by show 0 + 1 * k.val = _; omega) (by show 256 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (384 + 1 * l.val)
    rw [er, queries, show (384 + 1 * l.val) / 64 = 6 + l.val / 64 by omega, show (384 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay104 x0 x1 x2 x3) (View.ld x2 r0_4)) (View.ld x3 r0_8)
      (fun j => prod X g W b (512 * n + 256 + r.val) (256 + j)) (C b (512 * n + 256 + r.val)) (S b (512 * n + 256 + r.val)) r
      (fun j => second x0 x1 x2 x3 X g W b n h0 h1 (View.ld x2 r0_4) 256 (fun k e => (h2 _).trans
        (congrArg₂ W (by show 0 + 1 * k.val = _; omega) (by show 256 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (256 + 1 * l.val)
    rw [er, queries, show (256 + 1 * l.val) / 64 = 4 + l.val / 64 by omega, show (256 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay103 x0 x1 x2 x3) (View.ld x2 r0_4)) (View.ld x3 r0_5)
      (fun j => prod X g W b (512 * n + r.val) (256 + j)) (C b (512 * n + r.val)) (S b (512 * n + r.val)) r
      (fun j => first x0 x1 x2 x3 X g W b n h0 h1 (View.ld x2 r0_4) 256 (fun k e => (h2 _).trans
        (congrArg₂ W (by show 0 + 1 * k.val = _; omega) (by show 256 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (384 + 1 * l.val)
    rw [er, queries, show (384 + 1 * l.val) / 64 = 6 + l.val / 64 by omega, show (384 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay103 x0 x1 x2 x3) (View.ld x2 r0_4)) (View.ld x3 r0_5)
      (fun j => prod X g W b (512 * n + r.val) (256 + j)) (C b (512 * n + r.val)) (S b (512 * n + r.val)) r
      (fun j => first x0 x1 x2 x3 X g W b n h0 h1 (View.ld x2 r0_4) 256 (fun k e => (h2 _).trans
        (congrArg₂ W (by show 0 + 1 * k.val = _; omega) (by show 256 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (256 + 1 * l.val)
    rw [er, queries, show (256 + 1 * l.val) / 64 = 4 + l.val / 64 by omega, show (256 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay104 x0 x1 x2 x3) (View.ld x2 r0_3)) (View.ld x3 r0_8)
      (fun j => prod X g W b (512 * n + 256 + r.val) (0 + j)) (C b (512 * n + 256 + r.val)) (S b (512 * n + 256 + r.val)) r
      (fun j => second x0 x1 x2 x3 X g W b n h0 h1 (View.ld x2 r0_3) 0 (fun k e => (h2 _).trans
        (congrArg₂ W (by show 0 + 1 * k.val = _; omega) (by show 0 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (128 + 1 * l.val)
    rw [er, queries, show (128 + 1 * l.val) / 64 = 2 + l.val / 64 by omega, show (128 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay104 x0 x1 x2 x3) (View.ld x2 r0_3)) (View.ld x3 r0_8)
      (fun j => prod X g W b (512 * n + 256 + r.val) (0 + j)) (C b (512 * n + 256 + r.val)) (S b (512 * n + 256 + r.val)) r
      (fun j => second x0 x1 x2 x3 X g W b n h0 h1 (View.ld x2 r0_3) 0 (fun k e => (h2 _).trans
        (congrArg₂ W (by show 0 + 1 * k.val = _; omega) (by show 0 + 1 * e.val = _; omega))) r j)
      (table_second x3 C S b n h3 r) l).trans ?_
    have hl := l.isLt
    have er : 512 * n + (256 + 1 * r.val) = 512 * n + 256 + r.val := by omega
    show _ = queries X g W C S b (512 * n + (256 + 1 * r.val)) (0 + 1 * l.val)
    rw [er, queries, show (0 + 1 * l.val) / 64 = 0 + l.val / 64 by omega, show (0 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_high (k0_pay78 (F := Ideal) (k0_pay103 x0 x1 x2 x3) (View.ld x2 r0_3)) (View.ld x3 r0_5)
      (fun j => prod X g W b (512 * n + r.val) (0 + j)) (C b (512 * n + r.val)) (S b (512 * n + r.val)) r
      (fun j => first x0 x1 x2 x3 X g W b n h0 h1 (View.ld x2 r0_3) 0 (fun k e => (h2 _).trans
        (congrArg₂ W (by show 0 + 1 * k.val = _; omega) (by show 0 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (128 + 1 * l.val)
    rw [er, queries, show (128 + 1 * l.val) / 64 = 2 + l.val / 64 by omega, show (128 + 1 * l.val) % 64 = l.val % 64 by omega]
    exact congrArg (fun p : EReal => p * Ideal.ofBits .f32 0x3E38AA3B#32) (rope_congr (fun k => congrArg (prod X g W b _) (by omega)) rfl rfl rfl)
  · obtain ⟨r, l, rfl⟩ := piece_h x
    refine (query_low (k0_pay78 (F := Ideal) (k0_pay103 x0 x1 x2 x3) (View.ld x2 r0_3)) (View.ld x3 r0_5)
      (fun j => prod X g W b (512 * n + r.val) (0 + j)) (C b (512 * n + r.val)) (S b (512 * n + r.val)) r
      (fun j => first x0 x1 x2 x3 X g W b n h0 h1 (View.ld x2 r0_3) 0 (fun k e => (h2 _).trans
        (congrArg₂ W (by show 0 + 1 * k.val = _; omega) (by show 0 + 1 * e.val = _; omega))) r j)
      (table_first x3 C S b n h3 r) l).trans ?_
    have hl := l.isLt
    have er : 512 * n + (0 + 1 * r.val) = 512 * n + r.val := by omega
    show _ = queries X g W C S b (512 * n + (0 + 1 * r.val)) (0 + 1 * l.val)
    rw [er, queries, show (0 + 1 * l.val) / 64 = 0 + l.val / 64 by omega, show (0 + 1 * l.val) % 64 = l.val % 64 by omega]
    exact congrArg (fun p : EReal => p * Ideal.ofBits .f32 0x3E38AA3B#32) (rope_congr (fun k => congrArg (prod X g W b _) (by omega)) rfl rfl rfl)

/-- What the body leaves in the keys' block. -/
theorem keys_body : out0_5 x0 x1 x2 x3 = fun i => keys X g W C S b (512 * n + (i 1).val) (i 2).val := by
  funext i
  refine (View.canon_apply_of_pieces (fun i : S1x512x1024.Idx => (keys X g W C S b (512 * n + (i 1).val) (i 2).val : EReal)) _ ?_ i
    (cover0_5 _ _ _ _ _ _ _ _ _ _ _ _ _ _ _ _ i)).trans rfl
  intro p hm x
  simp only [List.mem_cons, List.not_mem_nil, or_false] at hm
  rcases hm with rfl | rfl | rfl | rfl | rfl | rfl | rfl | rfl | rfl | rfl | rfl | rfl | rfl | rfl | rfl | rfl
  · obtain ⟨r, l, rfl⟩ := piece_h x
    refine (key_high (k0_pay78 (F := Ideal) (k0_pay104 x0 x1 x2 x3) (View.ld x2 r0_28)) (View.ld x3 r0_8)
      (fun j => prod X g W b (512 * n + 256 + r.val) (1792 + j)) (C b (512 * n + 256 + r.val)) (S b (512 * n + 256 + r.val)) r
      (fun j => second x0 x1 x2 x3 X g W b n h0 h1 (View.ld x2 r0_28) 1792 (fun k e => (h2 _).trans
        (congrArg₂ W (by show 0 + 1 * k.val = _; omega) (by show 1792 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (896 + 1 * l.val)
    rw [er, keys, show (896 + 1 * l.val) / 64 = 14 + l.val / 64 by omega, show (896 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay104 x0 x1 x2 x3) (View.ld x2 r0_28)) (View.ld x3 r0_8)
      (fun j => prod X g W b (512 * n + 256 + r.val) (1792 + j)) (C b (512 * n + 256 + r.val)) (S b (512 * n + 256 + r.val)) r
      (fun j => second x0 x1 x2 x3 X g W b n h0 h1 (View.ld x2 r0_28) 1792 (fun k e => (h2 _).trans
        (congrArg₂ W (by show 0 + 1 * k.val = _; omega) (by show 1792 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (768 + 1 * l.val)
    rw [er, keys, show (768 + 1 * l.val) / 64 = 12 + l.val / 64 by omega, show (768 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay103 x0 x1 x2 x3) (View.ld x2 r0_28)) (View.ld x3 r0_5)
      (fun j => prod X g W b (512 * n + r.val) (1792 + j)) (C b (512 * n + r.val)) (S b (512 * n + r.val)) r
      (fun j => first x0 x1 x2 x3 X g W b n h0 h1 (View.ld x2 r0_28) 1792 (fun k e => (h2 _).trans
        (congrArg₂ W (by show 0 + 1 * k.val = _; omega) (by show 1792 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (896 + 1 * l.val)
    rw [er, keys, show (896 + 1 * l.val) / 64 = 14 + l.val / 64 by omega, show (896 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay103 x0 x1 x2 x3) (View.ld x2 r0_28)) (View.ld x3 r0_5)
      (fun j => prod X g W b (512 * n + r.val) (1792 + j)) (C b (512 * n + r.val)) (S b (512 * n + r.val)) r
      (fun j => first x0 x1 x2 x3 X g W b n h0 h1 (View.ld x2 r0_28) 1792 (fun k e => (h2 _).trans
        (congrArg₂ W (by show 0 + 1 * k.val = _; omega) (by show 1792 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (768 + 1 * l.val)
    rw [er, keys, show (768 + 1 * l.val) / 64 = 12 + l.val / 64 by omega, show (768 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay104 x0 x1 x2 x3) (View.ld x2 r0_27)) (View.ld x3 r0_8)
      (fun j => prod X g W b (512 * n + 256 + r.val) (1536 + j)) (C b (512 * n + 256 + r.val)) (S b (512 * n + 256 + r.val)) r
      (fun j => second x0 x1 x2 x3 X g W b n h0 h1 (View.ld x2 r0_27) 1536 (fun k e => (h2 _).trans
        (congrArg₂ W (by show 0 + 1 * k.val = _; omega) (by show 1536 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (640 + 1 * l.val)
    rw [er, keys, show (640 + 1 * l.val) / 64 = 10 + l.val / 64 by omega, show (640 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay104 x0 x1 x2 x3) (View.ld x2 r0_27)) (View.ld x3 r0_8)
      (fun j => prod X g W b (512 * n + 256 + r.val) (1536 + j)) (C b (512 * n + 256 + r.val)) (S b (512 * n + 256 + r.val)) r
      (fun j => second x0 x1 x2 x3 X g W b n h0 h1 (View.ld x2 r0_27) 1536 (fun k e => (h2 _).trans
        (congrArg₂ W (by show 0 + 1 * k.val = _; omega) (by show 1536 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (512 + 1 * l.val)
    rw [er, keys, show (512 + 1 * l.val) / 64 = 8 + l.val / 64 by omega, show (512 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay103 x0 x1 x2 x3) (View.ld x2 r0_27)) (View.ld x3 r0_5)
      (fun j => prod X g W b (512 * n + r.val) (1536 + j)) (C b (512 * n + r.val)) (S b (512 * n + r.val)) r
      (fun j => first x0 x1 x2 x3 X g W b n h0 h1 (View.ld x2 r0_27) 1536 (fun k e => (h2 _).trans
        (congrArg₂ W (by show 0 + 1 * k.val = _; omega) (by show 1536 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (640 + 1 * l.val)
    rw [er, keys, show (640 + 1 * l.val) / 64 = 10 + l.val / 64 by omega, show (640 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay103 x0 x1 x2 x3) (View.ld x2 r0_27)) (View.ld x3 r0_5)
      (fun j => prod X g W b (512 * n + r.val) (1536 + j)) (C b (512 * n + r.val)) (S b (512 * n + r.val)) r
      (fun j => first x0 x1 x2 x3 X g W b n h0 h1 (View.ld x2 r0_27) 1536 (fun k e => (h2 _).trans
        (congrArg₂ W (by show 0 + 1 * k.val = _; omega) (by show 1536 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (512 + 1 * l.val)
    rw [er, keys, show (512 + 1 * l.val) / 64 = 8 + l.val / 64 by omega, show (512 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay104 x0 x1 x2 x3) (View.ld x2 r0_26)) (View.ld x3 r0_8)
      (fun j => prod X g W b (512 * n + 256 + r.val) (1280 + j)) (C b (512 * n + 256 + r.val)) (S b (512 * n + 256 + r.val)) r
      (fun j => second x0 x1 x2 x3 X g W b n h0 h1 (View.ld x2 r0_26) 1280 (fun k e => (h2 _).trans
        (congrArg₂ W (by show 0 + 1 * k.val = _; omega) (by show 1280 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (384 + 1 * l.val)
    rw [er, keys, show (384 + 1 * l.val) / 64 = 6 + l.val / 64 by omega, show (384 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay104 x0 x1 x2 x3) (View.ld x2 r0_26)) (View.ld x3 r0_8)
      (fun j => prod X g W b (512 * n + 256 + r.val) (1280 + j)) (C b (512 * n + 256 + r.val)) (S b (512 * n + 256 + r.val)) r
      (fun j => second x0 x1 x2 x3 X g W b n h0 h1 (View.ld x2 r0_26) 1280 (fun k e => (h2 _).trans
        (congrArg₂ W (by show 0 + 1 * k.val = _; omega) (by show 1280 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (256 + 1 * l.val)
    rw [er, keys, show (256 + 1 * l.val) / 64 = 4 + l.val / 64 by omega, show (256 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay103 x0 x1 x2 x3) (View.ld x2 r0_26)) (View.ld x3 r0_5)
      (fun j => prod X g W b (512 * n + r.val) (1280 + j)) (C b (512 * n + r.val)) (S b (512 * n + r.val)) r
      (fun j => first x0 x1 x2 x3 X g W b n h0 h1 (View.ld x2 r0_26) 1280 (fun k e => (h2 _).trans
        (congrArg₂ W (by show 0 + 1 * k.val = _; omega) (by show 1280 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (384 + 1 * l.val)
    rw [er, keys, show (384 + 1 * l.val) / 64 = 6 + l.val / 64 by omega, show (384 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay103 x0 x1 x2 x3) (View.ld x2 r0_26)) (View.ld x3 r0_5)
      (fun j => prod X g W b (512 * n + r.val) (1280 + j)) (C b (512 * n + r.val)) (S b (512 * n + r.val)) r
      (fun j => first x0 x1 x2 x3 X g W b n h0 h1 (View.ld x2 r0_26) 1280 (fun k e => (h2 _).trans
        (congrArg₂ W (by show 0 + 1 * k.val = _; omega) (by show 1280 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (256 + 1 * l.val)
    rw [er, keys, show (256 + 1 * l.val) / 64 = 4 + l.val / 64 by omega, show (256 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay104 x0 x1 x2 x3) (View.ld x2 r0_21)) (View.ld x3 r0_8)
      (fun j => prod X g W b (512 * n + 256 + r.val) (1024 + j)) (C b (512 * n + 256 + r.val)) (S b (512 * n + 256 + r.val)) r
      (fun j => second x0 x1 x2 x3 X g W b n h0 h1 (View.ld x2 r0_21) 1024 (fun k e => (h2 _).trans
        (congrArg₂ W (by show 0 + 1 * k.val = _; omega) (by show 1024 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (128 + 1 * l.val)
    rw [er, keys, show (128 + 1 * l.val) / 64 = 2 + l.val / 64 by omega, show (128 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay104 x0 x1 x2 x3) (View.ld x2 r0_21)) (View.ld x3 r0_8)
      (fun j => prod X g W b (512 * n + 256 + r.val) (1024 + j)) (C b (512 * n + 256 + r.val)) (S b (512 * n + 256 + r.val)) r
      (fun j => second x0 x1 x2 x3 X g W b n h0 h1 (View.ld x2 r0_21) 1024 (fun k e => (h2 _).trans
        (congrArg₂ W (by show 0 + 1 * k.val = _; omega) (by show 1024 + 1 * e.val = _; omega))) r j)
      (table_second x3 C S b n h3 r) l).trans ?_
    have hl := l.isLt
    have er : 512 * n + (256 + 1 * r.val) = 512 * n + 256 + r.val := by omega
    show _ = keys X g W C S b (512 * n + (256 + 1 * r.val)) (0 + 1 * l.val)
    rw [er, keys, show (0 + 1 * l.val) / 64 = 0 + l.val / 64 by omega, show (0 + 1 * l.val) % 64 = l.val % 64 by omega]
    exact rope_congr (fun k => congrArg (prod X g W b _) (by omega)) rfl rfl rfl
  · obtain ⟨r, l, rfl⟩ := piece_h x
    refine (key_high (k0_pay78 (F := Ideal) (k0_pay103 x0 x1 x2 x3) (View.ld x2 r0_21)) (View.ld x3 r0_5)
      (fun j => prod X g W b (512 * n + r.val) (1024 + j)) (C b (512 * n + r.val)) (S b (512 * n + r.val)) r
      (fun j => first x0 x1 x2 x3 X g W b n h0 h1 (View.ld x2 r0_21) 1024 (fun k e => (h2 _).trans
        (congrArg₂ W (by show 0 + 1 * k.val = _; omega) (by show 1024 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (128 + 1 * l.val)
    rw [er, keys, show (128 + 1 * l.val) / 64 = 2 + l.val / 64 by omega, show (128 + 1 * l.val) % 64 = l.val % 64 by omega]
    exact rope_congr (fun k => congrArg (prod X g W b _) (by omega)) rfl rfl rfl
  · obtain ⟨r, l, rfl⟩ := piece_h x
    refine (key_low (k0_pay78 (F := Ideal) (k0_pay103 x0 x1 x2 x3) (View.ld x2 r0_21)) (View.ld x3 r0_5)
      (fun j => prod X g W b (512 * n + r.val) (1024 + j)) (C b (512 * n + r.val)) (S b (512 * n + r.val)) r
      (fun j => first x0 x1 x2 x3 X g W b n h0 h1 (View.ld x2 r0_21) 1024 (fun k e => (h2 _).trans
        (congrArg₂ W (by show 0 + 1 * k.val = _; omega) (by show 1024 + 1 * e.val = _; omega))) r j)
      (table_first x3 C S b n h3 r) l).trans ?_
    have hl := l.isLt
    have er : 512 * n + (0 + 1 * r.val) = 512 * n + r.val := by omega
    show _ = keys X g W C S b (512 * n + (0 + 1 * r.val)) (0 + 1 * l.val)
    rw [er, keys, show (0 + 1 * l.val) / 64 = 0 + l.val / 64 by omega, show (0 + 1 * l.val) % 64 = l.val % 64 by omega]
    exact rope_congr (fun k => congrArg (prod X g W b _) (by omega)) rfl rfl rfl

end Cert.Kernel7Ideal.Layer

end
-- ==== Proof.WinBlocks.lean ====
/- The blocks of a grid point hold the operands, and what each point writes is the four results. -/
module

public import proofs.«01_k».proof.Proof.WinHeads
public import proofs.«01_k».proof.Proof.Gen.Kernel7Ideal.Value
public import Idealize.ShloMosaic.Lib.Pipeline.ReadBack
public import Idealize.ShloMosaic.Lib.Claim

@[expose] public section

set_option maxRecDepth 16384

noncomputable section

namespace Cert.Kernel7Ideal.Layer

open Cert.Kernel7Ideal Cert.Kernel7Ideal.Gen Idealize.ShloMosaic Idealize.ShloMosaic.TcCoe Idealize.SL.Sem Cert.Ffn Cert.Win

variable (m : (ℓ : Loc nD τ sig) → Buf (Elt Ideal) ℓ)

theorem idx : ∀ t : Fin cfg0.N, win0_0.index t = ![t.val / 8, t.val % 8, 0] ∧ win0_1.index t = ![0, 0]
    ∧ win0_2.index t = ![0, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0]
    ∧ win0_7.index t = ![t.val / 8, t.val % 8, 0] :=
  (by decide +kernel : ∀ t : Fin grid0.N, _)

theorem blk_x (c : Dev nD) (t : Fin cfg0.N) (i : S1x512x1024.Idx) : (iblk m c 0 t : Vec Ideal S1x512x1024 .f32) i
    = at3 (m ((c : Thread nD τ).loc main_arg0)) (t.val / 8) (512 * (t.val % 8) + (i 1).val) (i 2).val := by
  have e : (i 0).val = 0 := by have := (i 0).isLt; change _ < 1 at this; omega
  refine eq_at3 (m ((c : Thread nD τ).loc main_arg0)) (((cfg0.win 0).blk t).view.emb i) ?_ ?_ ?_ <;>
    (blk_simp [idx t]; try omega)

/-- The gains as a row, as the host line prepares them. -/
theorem at_v0 (c : Dev nD) :
    V m c main_v0 = (shapeCast S1x1024 (m ((c : Thread nD τ).loc main_arg1)) shapeCasts_S1024_S1x1024 : Vec Ideal S1x1024 .f32) := by
  simp only [V, List.flatten_cons, List.flatten_nil, List.append_nil, List.cons_append, List.nil_append, hostOps0]
  after_results
  try rfl

/-- The weights in their narrower format, as the host line prepares them. -/
theorem at_v1 (c : Dev nD) :
    V m c main_v1 = (truncf (F := Ideal) .bf16 (m ((c : Thread nD τ).loc main_arg2) : Vec Ideal S1024x3328 .f32) bitsLt_bf16_f32
      : Vec Ideal S1024x3328 .bf16) := by
  simp only [V, List.flatten_cons, List.flatten_nil, List.append_nil, List.cons_append, List.nil_append, hostOps0]
  after_results
  try rfl

theorem row1024 (v : FVec Ideal S1024 .f32) (j : S1x1024.Idx) {a : ℕ} (h : (j 1).val = a) :
    shapeCast S1x1024 v shapeCasts_S1024_S1x1024 j = at1 v a := by
  obtain ⟨r, f, rfl⟩ : ∃ r f, j = ix2 r f := ⟨j 0, j 1, by funext a; match a with | ⟨0, _⟩ => rfl | ⟨1, _⟩ => rfl⟩
  pointwise
  exact eq_at1 v _ h

theorem blk_g (c : Dev nD) (t : Fin cfg0.N) (i : S1x1024.Idx) :
    (iblk m c 1 t : Vec Ideal S1x1024 .f32) i = at1 (m ((c : Thread nD τ).loc main_arg1)) (i 1).val := by
  show V m c main_v0 (((cfg0.win 1).blk t).view.emb i) = _
  rw [at_v0]
  exact row1024 _ _ (by blk_simp [idx t]; try omega)

theorem blk_w (c : Dev nD) (t : Fin cfg0.N) (i : S1024x3328.Idx) :
    (iblk m c 2 t : Vec Ideal S1024x3328 .bf16) i = at2 (m ((c : Thread nD τ).loc main_arg2)) (i 0).val (i 1).val := by
  show V m c main_v1 (((cfg0.win 2).blk t).view.emb i) = _
  rw [at_v1]
  refine eq_at2 (m ((c : Thread nD τ).loc main_arg2)) (((cfg0.win 2).blk t).view.emb i) ?_ ?_ <;> (blk_simp [idx t]; try omega)

/-- The table of a lane itself, for one head. -/
def tableC (C : FVec Ideal S8x4096x8 .f32) : FVec Ideal S8x4096x64 .f32 :=
  (concatenate S8x4096x64 2 [⟨S8x4096x16, (concatenate S8x4096x16 2 [⟨S8x4096x8, C⟩, ⟨S8x4096x8, C⟩] concatenates_S8x4096x8_S8x4096x8_S8x4096x16_d2 : FVec Ideal S8x4096x16 .f32)⟩, ⟨S8x4096x48, (broadcastInDim S8x4096x48 ![] bcast_S_S8x4096x48 (constant (F := Ideal) S_ .f32 0x3F800000#32) : FVec Ideal S8x4096x48 .f32)⟩] concatenates_S8x4096x16_S8x4096x48_S8x4096x64_d2 : FVec Ideal S8x4096x64 .f32)

/-- The table of the neighbour before, for one head. -/
def tableA (S : FVec Ideal S8x4096x8 .f32) : FVec Ideal S8x4096x64 .f32 :=
  (concatenate S8x4096x64 2 [⟨S8x4096x8, (broadcastInDim S8x4096x8 ![] bcast_S_S8x4096x8 (constant (F := Ideal) S_ .f32 0x00000000#32) : FVec Ideal S8x4096x8 .f32)⟩, ⟨S8x4096x56, (concatenate S8x4096x56 2 [⟨S8x4096x8, S⟩, ⟨S8x4096x48, (broadcastInDim S8x4096x48 ![] bcast_S_S8x4096x48 (constant (F := Ideal) S_ .f32 0x00000000#32) : FVec Ideal S8x4096x48 .f32)⟩] concatenates_S8x4096x8_S8x4096x48_S8x4096x56_d2 : FVec Ideal S8x4096x56 .f32)⟩] concatenates_S8x4096x8_S8x4096x56_S8x4096x64_d2 : FVec Ideal S8x4096x64 .f32)

/-- The table of the neighbour after, for one head. -/
def tableB (S : FVec Ideal S8x4096x8 .f32) : FVec Ideal S8x4096x64 .f32 :=
  (concatenate S8x4096x64 2 [⟨S8x4096x8, (Host.negf S : FVec Ideal S8x4096x8 .f32)⟩, ⟨S8x4096x56, (broadcastInDim S8x4096x56 ![] bcast_S_S8x4096x56 (constant (F := Ideal) S_ .f32 0x00000000#32) : FVec Ideal S8x4096x56 .f32)⟩] concatenates_S8x4096x8_S8x4096x56_S8x4096x64_d2 : FVec Ideal S8x4096x64 .f32)

/-- The three tables side by side, each of two heads, from the cosines and the sines. -/
def tables (C S : FVec Ideal S8x4096x8 .f32) : FVec Ideal S8x4096x384 .f32 :=
  (concatenate S8x4096x384 2 [⟨S8x4096x128, (concatenate S8x4096x128 2 [⟨S8x4096x64, tableC C⟩, ⟨S8x4096x64, tableC C⟩] concatenates_S8x4096x64_S8x4096x64_S8x4096x128_d2 : FVec Ideal S8x4096x128 .f32)⟩, ⟨S8x4096x256, (concatenate S8x4096x256 2 [⟨S8x4096x128, (concatenate S8x4096x128 2 [⟨S8x4096x64, tableA S⟩, ⟨S8x4096x64, tableA S⟩] concatenates_S8x4096x64_S8x4096x64_S8x4096x128_d2 : FVec Ideal S8x4096x128 .f32)⟩, ⟨S8x4096x128, (concatenate S8x4096x128 2 [⟨S8x4096x64, tableB S⟩, ⟨S8x4096x64, tableB S⟩] concatenates_S8x4096x64_S8x4096x64_S8x4096x128_d2 : FVec Ideal S8x4096x128 .f32)⟩] concatenates_S8x4096x128_S8x4096x128_S8x4096x256_d2 : FVec Ideal S8x4096x256 .f32)⟩] concatenates_S8x4096x128_S8x4096x256_S8x4096x384_d2 : FVec Ideal S8x4096x384 .f32)

section Lanes

variable (C S : FVec Ideal S8x4096x8 .f32) (b : Fin 8) (q : Fin 4096)

theorem tableC_apply (j : Fin 64) : tableC C (ix3 b q j)
    = (if j.val < 8 then at3 C b.val q.val j.val else if j.val < 16 then at3 C b.val q.val (j.val - 8) else 1) := by
  have hc : ∀ k : Fin 8, C (ix3 b q k) = at3 C b.val q.val k.val := fun k => eq_at3 C _ rfl rfl rfl
  pointwise [tableC]
  simp only [hc, Ideal.ofBits_one_f32]
  split_ifs <;> first | rfl | omega

theorem tableA_apply (j : Fin 64) : tableA S (ix3 b q j)
    = (if j.val < 8 then 0 else if j.val < 16 then at3 S b.val q.val (j.val - 8) else 0) := by
  have hs : ∀ k : Fin 8, S (ix3 b q k) = at3 S b.val q.val k.val := fun k => eq_at3 S _ rfl rfl rfl
  pointwise [tableA]
  simp only [hs, Ideal.ofBits_zero_f32]
  split_ifs <;> first | rfl | omega

theorem tableB_apply (j : Fin 64) : tableB S (ix3 b q j) = (if j.val < 8 then -at3 S b.val q.val j.val else 0) := by
  have hs : ∀ k : Fin 8, S (ix3 b q k) = at3 S b.val q.val k.val := fun k => eq_at3 S _ rfl rfl rfl
  pointwise [tableB]
  simp only [hs, Ideal.ofBits_zero_f32]
  try (split_ifs <;> first | rfl | omega)

/-- The tables at an index. -/
theorem tables_apply (j : Fin 384) : tables C S (ix3 b q j) = table (at3 C b.val q.val) (at3 S b.val q.val) j.val := by
  have hj := j.isLt
  pointwise [tables]
  simp only [tableC_apply, tableA_apply, tableB_apply, table]
  by_cases h1 : j.val < 128
  · simp only [if_pos h1, dif_pos h1]
    by_cases h2 : j.val < 64
    · simp only [if_pos h2, dif_pos h2, show j.val % 64 = j.val by omega]
    · simp only [if_neg h2, dif_neg h2, show j.val % 64 = j.val - 64 by omega]
  · simp only [if_neg h1, dif_neg h1]
    by_cases h3 : j.val < 256
    · have h3' : j.val - 128 < 128 := by omega
      simp only [if_pos h3, if_pos h3', dif_pos h3']
      by_cases h2 : j.val - 128 < 64
      · simp only [if_pos h2, dif_pos h2, show j.val % 64 = j.val - 128 by omega]
      · simp only [if_neg h2, dif_neg h2, show j.val % 64 = j.val - 128 - 64 by omega]
    · have h3' : ¬ j.val - 128 < 128 := by omega
      simp only [if_neg h3, if_neg h3', dif_neg h3']
      by_cases h2 : j.val - 128 - 128 < 64
      · simp only [if_pos h2, dif_pos h2, show j.val % 64 = j.val - 128 - 128 by omega]
      · simp only [if_neg h2, dif_neg h2, show j.val % 64 = j.val - 128 - 128 - 64 by omega]

end Lanes

/-- The tables as the host lines prepare them. -/
theorem at_v16 (c : Dev nD) : V m c main_v16 = (tables (m ((c : Thread nD τ).loc main_arg3)) (m ((c : Thread nD τ).loc main_arg4))
      : Vec Ideal S8x4096x384 .f32) := by
  simp only [V, List.flatten_cons, List.flatten_nil, List.append_nil, List.cons_append, List.nil_append, hostOps0]
  after_results
  try rfl

theorem tables_at (C S : FVec Ideal S8x4096x8 .f32) (j : S8x4096x384.Idx) {b q k : ℕ} (h0 : (j 0).val = b) (h1 : (j 1).val = q)
    (h2 : (j 2).val = k) : tables C S j = table (at3 C b q) (at3 S b q) k := by
  subst h0 h1 h2
  have e : j = ix3 (j 0) (j 1) (j 2) := by funext a; match a with | ⟨0, _⟩ => rfl | ⟨1, _⟩ => rfl | ⟨2, _⟩ => rfl
  exact (congrArg (tables C S) e).trans (tables_apply C S (j 0) (j 1) (j 2))

theorem blk_tab (c : Dev nD) (t : Fin cfg0.N) (i : S1x512x384.Idx) : (iblk m c 3 t : Vec Ideal S1x512x384 .f32) i
    = table (at3 (m ((c : Thread nD τ).loc main_arg3)) (t.val / 8) (512 * (t.val % 8) + (i 1).val))
      (at3 (m ((c : Thread nD τ).loc main_arg4)) (t.val / 8) (512 * (t.val % 8) + (i 1).val)) (i 2).val := by
  have e : (i 0).val = 0 := by have := (i 0).isLt; change _ < 1 at this; omega
  show V m c main_v16 (((cfg0.win 3).blk t).view.emb i) = _
  rw [at_v16]
  refine tables_at _ _ _ ?_ ?_ ?_ <;> (blk_simp [idx t]; try omega)

/-- The queries after the run. -/
theorem final_queries (c : Dev nD) : (dats m 0 c).arrAt 4 cfg0.N = fun i => queries (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val := by
  refine (dats m 0 c).arrAt_eq_of_covers 4 (fun i => queries (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val)
    (by decide +kernel) fun t _ y => ?_
  blk_simp
  rw [after0_4, queries_body _ _ _ _ _ _ _ _ _ _ _ (blk_x m c t) (blk_g m c t) (blk_w m c t) (blk_tab m c t)]
  blk_simp [idx t]
  rw [Nat.mul_comm 512]

/-- The keys after the run. -/
theorem final_keys (c : Dev nD) : (dats m 0 c).arrAt 5 cfg0.N = fun i => keys (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val := by
  refine (dats m 0 c).arrAt_eq_of_covers 5 (fun i => keys (at3 (m ((c : Thread nD τ).loc main_arg0)))
    (at1 (m ((c : Thread nD τ).loc main_arg1))) (at2 (m ((c : Thread nD τ).loc main_arg2))) (at3 (m ((c : Thread nD τ).loc main_arg3)))
    (at3 (m ((c : Thread nD τ).loc main_arg4))) (i 0).val (i 1).val (i 2).val)
    (by decide +kernel) fun t _ y => ?_
  blk_simp
  rw [after0_5, keys_body _ _ _ _ _ _ _ _ _ _ _ (blk_x m c t) (blk_g m c t) (blk_w m c t) (blk_tab m c t)]
  blk_simp [idx t]
  rw [Nat.mul_comm 512]

/-- The values after the run. -/
theorem final_vals (c : Dev nD) : (dats m 0 c).arrAt 6 cfg0.N = fun i => vals (at3 (m ((c : Thread nD τ).loc main_arg0)))
    (at1 (m ((c : Thread nD τ).loc main_arg1))) (at2 (m ((c : Thread nD τ).loc main_arg2))) (i 0).val (i 1).val (i 2).val := by
  refine (dats m 0 c).arrAt_eq_of_covers 6 (fun i => vals (at3 (m ((c : Thread nD τ).loc main_arg0)))
    (at1 (m ((c : Thread nD τ).loc main_arg1))) (at2 (m ((c : Thread nD τ).loc main_arg2))) (i 0).val (i 1).val (i 2).val)
    (by decide +kernel) fun t _ y => ?_
  blk_simp
  rw [after0_6, vals_body _ _ _ _ _ _ _ _ _ (blk_x m c t) (blk_g m c t) (blk_w m c t)]
  blk_simp [idx t]
  rw [Nat.mul_comm 512]

/-- The memory queries after the run. -/
theorem final_memq (c : Dev nD) : (dats m 0 c).arrAt 7 cfg0.N = fun i => memq (at3 (m ((c : Thread nD τ).loc main_arg0)))
    (at1 (m ((c : Thread nD τ).loc main_arg1))) (at2 (m ((c : Thread nD τ).loc main_arg2))) (i 0).val (i 1).val (i 2).val := by
  refine (dats m 0 c).arrAt_eq_of_covers 7 (fun i => memq (at3 (m ((c : Thread nD τ).loc main_arg0)))
    (at1 (m ((c : Thread nD τ).loc main_arg1))) (at2 (m ((c : Thread nD τ).loc main_arg2))) (i 0).val (i 1).val (i 2).val)
    (by decide +kernel) fun t _ y => ?_
  blk_simp
  rw [after0_7, memq_body _ _ _ _ _ _ _ _ _ (blk_x m c t) (blk_g m c t) (blk_w m c t)]
  blk_simp [idx t]
  rw [Nat.mul_comm 512]

end Cert.Kernel7Ideal.Layer

end
-- ==== Proof.lean ====
module

public import proofs.«01_k».proof.Defs
public import proofs.«01_k».proof.Proof.Gen.Kernel
public import proofs.«01_k».proof.Proof.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.FfnRef
public import proofs.«01_k».proof.Proof.FfnBlocks
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.MidRef
public import proofs.«01_k».proof.Proof.MidBlocks
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.OutRef
public import proofs.«01_k».proof.Proof.OutBlocks
public import proofs.«01_k».proof.Proof.MemRef
public import proofs.«01_k».proof.Proof.MemBlocks
public import proofs.«01_k».proof.Proof.ProjRef
public import proofs.«01_k».proof.Proof.ProjBlocks
public import proofs.«01_k».proof.Proof.WinRef
public import proofs.«01_k».proof.Proof.WinBlocks
public import Idealize.ShloMosaic.Lib.Claim

@[expose] public section

noncomputable section

namespace Cert.Proof

open Idealize.ShloMosaic Idealize.ShloMosaic.TcCoe Idealize.SL.Sem

/-- The second call returns what its reference returns. -/
theorem layer : Cert.algebraic_Kernel2Ideal_Reference2Ideal := by
  pair_intro
  · run_from Cert.Kernel2Ideal.Value.run m g
  · run_from Cert.Reference2Ideal.Value.run m' g'
    rw [Cert.Reference2Ideal.Read.val_main_v58_eq, (hagree c).1, (hagree c).2.1, (hagree c).2.2.1, (hagree c).2.2.2.1,
      (hagree c).2.2.2.2.1, (hagree c).2.2.2.2.2.1, (hagree c).2.2.2.2.2.2]
    refine Eq.trans (funext fun i => ?_) (Cert.Kernel2Ideal.Layer.result m c).symm
    exact Cert.Ffn.Ref.out_eq _ _ _ _ _ _ _ i

/-- The second call's reference runs and leaves its arguments. -/
theorem plain : Cert.quiescent_Reference2Ideal := by
  intro m g _
  exact (θ_run _ _ _).mono (fun r h => ⟨fun c => (h c).2, sem_eq_zero_of_no_sems (by decide) r.2⟩)
    (Cert.Reference2Ideal.Value.run m g)

/-- The inner layers' call returns what its reference returns. -/
theorem inner : Cert.algebraic_Kernel3Ideal_Reference3Ideal := by
  pair_intro
  · run_from Cert.Kernel3Ideal.Value.run m g
  · run_from Cert.Reference3Ideal.Value.run m' g'
    rw [Cert.Reference3Ideal.Read.val_main_v45_eq, (hagree c).1, (hagree c).2.1, (hagree c).2.2.1, (hagree c).2.2.2.1,
      (hagree c).2.2.2.2.1, (hagree c).2.2.2.2.2.1]
    refine Eq.trans (funext fun i => ?_) (Cert.Kernel3Ideal.Layer.result m c).symm
    exact Cert.Ffn.MidRef.mix_eq _ _ _ _ _ _ _ i

/-- The inner layers' reference runs and leaves its arguments. -/
theorem plain_inner : Cert.quiescent_Reference3Ideal := by
  intro m g _
  exact (θ_run _ _ _).mono (fun r h => ⟨fun c => (h c).2, sem_eq_zero_of_no_sems (by decide) r.2⟩)
    (Cert.Reference3Ideal.Value.run m g)

/-- The output projection returns what its reference returns. -/
theorem projection : Cert.algebraic_Kernel4Ideal_Reference4Ideal := by
  pair_intro
  · run_from Cert.Kernel4Ideal.Value.run_blocks m g
  · run_from Cert.Reference4Ideal.Value.run m' g'
    rw [Cert.Reference4Ideal.Read.val_main_v25_eq, (hagree c).2.1, (hagree c).2.2.1, (hagree c).2.2.2.1,
      (hagree c).2.2.2.2.1]
    refine Eq.trans (funext fun i => ?_) (Cert.Kernel4Ideal.Layer.final m c).symm
    exact Cert.Out.Ref.out_eq _ _ _ _ _ _ i

/-- The output projection's reference runs and leaves its arguments. -/
theorem plain_projection : Cert.quiescent_Reference4Ideal := by
  intro m g _
  exact (θ_run _ _ _).mono (fun r h => ⟨fun c => (h c).2, sem_eq_zero_of_no_sems (by decide) r.2⟩)
    (Cert.Reference4Ideal.Value.run m g)

/-- The call of the memory's keys and values returns what its reference returns. -/
theorem memory : Cert.algebraic_Kernel5Ideal_Reference5Ideal := by
  pair_intro
  · run_from Cert.Kernel5Ideal.Value.run_blocks m g
  · run_from Cert.Reference5Ideal.Value.run m' g'
    · rw [Cert.Reference5Ideal.Read.val_main_v29_eq, (hagree c).2.2]
      refine Eq.trans (funext fun i => ?_) (Cert.Kernel5Ideal.Layer.final_keys m c).symm
      exact Cert.Mem.Ref.keys_eq _ _ _ i
    · rw [Cert.Reference5Ideal.Read.val_main_v41_eq, (hagree c).2.2]
      refine Eq.trans (funext fun i => ?_) (Cert.Kernel5Ideal.Layer.final_vals m c).symm
      exact Cert.Mem.Ref.vals_eq _ _ _ i

/-- The reference of the memory's keys and values runs and leaves its arguments. -/
theorem plain_memory : Cert.quiescent_Reference5Ideal := by
  intro m g _
  exact (θ_run _ _ _).mono (fun r h => ⟨fun c => (h c).2.2, sem_eq_zero_of_no_sems (by decide) r.2⟩)
    (Cert.Reference5Ideal.Value.run m g)

set_option maxHeartbeats 1000000 in
/-- The dilated mixer's input projection returns the queries, keys, values and memory queries its reference returns. -/
theorem inputs : Cert.algebraic_Kernel6Ideal_Reference6Ideal := by
  pair_intro
  · run_from Cert.Kernel6Ideal.Value.run_blocks m g
  · run_from Cert.Reference6Ideal.Value.run m' g'
    all_goals obtain ⟨e0, e1, e2, e3, e4⟩ := hagree c
    · rw [Cert.Reference6Ideal.Read.val_main_v62_eq]
      refine Eq.trans (funext fun i => ?_) (Cert.Kernel6Ideal.Layer.final_queries m c).symm
      refine (Cert.Proj.Ref.queries_eq _ _ _ _ _ i).trans ?_
      rw [e0, e1, e2, e3, e4]
    · rw [Cert.Reference6Ideal.Read.val_main_v63_eq]
      refine Eq.trans (funext fun i => ?_) (Cert.Kernel6Ideal.Layer.final_keys m c).symm
      refine (Cert.Proj.Ref.keys_eq _ _ _ _ _ i).trans ?_
      rw [e0, e1, e2, e3, e4]
    · rw [Cert.Reference6Ideal.Read.val_main_v64_eq]
      refine Eq.trans (funext fun i => ?_) (Cert.Kernel6Ideal.Layer.final_vals m c).symm
      exact Cert.Proj.Ref.vals_eq _ _ _ i
    · rw [Cert.Reference6Ideal.Read.val_main_v67_eq]
      refine Eq.trans (funext fun i => ?_) (Cert.Kernel6Ideal.Layer.final_memq m c).symm
      exact Cert.Proj.Ref.memq_eq _ _ _ i

/-- The reference of the dilated mixer's input projection runs and leaves its arguments. -/
theorem plain_inputs : Cert.quiescent_Reference6Ideal := by
  intro m g _
  exact (θ_run _ _ _).mono (fun r h => ⟨fun c => (h c).2.2.2.2, sem_eq_zero_of_no_sems (by decide) r.2⟩)
    (Cert.Reference6Ideal.Value.run m g)

set_option maxHeartbeats 1000000 in
/-- The window mixer's input projection returns the queries, keys, values and memory queries its reference returns. -/
theorem window : Cert.algebraic_Kernel7Ideal_Reference7Ideal := by
  pair_intro
  · run_from Cert.Kernel7Ideal.Value.run_blocks m g
  · run_from Cert.Reference7Ideal.Value.run m' g'
    all_goals obtain ⟨e0, e1, e2, e3, e4⟩ := hagree c
    · rw [Cert.Reference7Ideal.Read.val_main_v60_eq]
      refine Eq.trans (funext fun i => ?_) (Cert.Kernel7Ideal.Layer.final_queries m c).symm
      refine (Cert.Win.Ref.queries_eq _ _ _ _ _ i).trans ?_
      rw [e0, e1, e2, e3, e4]
    · rw [Cert.Reference7Ideal.Read.val_main_v61_eq]
      refine Eq.trans (funext fun i => ?_) (Cert.Kernel7Ideal.Layer.final_keys m c).symm
      refine (Cert.Win.Ref.keys_eq _ _ _ _ _ i).trans ?_
      rw [e0, e1, e2, e3, e4]
    · rw [Cert.Reference7Ideal.Read.val_main_v62_eq]
      refine Eq.trans (funext fun i => ?_) (Cert.Kernel7Ideal.Layer.final_vals m c).symm
      exact Cert.Win.Ref.vals_eq _ _ _ i
    · rw [Cert.Reference7Ideal.Read.val_main_v65_eq]
      refine Eq.trans (funext fun i => ?_) (Cert.Kernel7Ideal.Layer.final_memq m c).symm
      exact Cert.Win.Ref.memq_eq _ _ _ i

/-- The reference of the window mixer's input projection runs and leaves its arguments. -/
theorem plain_window : Cert.quiescent_Reference7Ideal := by
  intro m g _
  exact (θ_run _ _ _).mono (fun r h => ⟨fun c => (h c).2.2.2.2, sem_eq_zero_of_no_sems (by decide) r.2⟩)
    (Cert.Reference7Ideal.Value.run m g)

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    fun m g _ => Cert.Proof.run m g, fun m g _ => Cert.Kernel2.Gen.frame m g, fun m g _ => Cert.Kernel2Ideal.Gen.frame m g,
    plain, fun m g _ => Cert.Kernel3.Gen.frame m g, fun m g _ => Cert.Kernel3Ideal.Gen.frame m g, plain_inner,
    fun m g _ => Cert.Kernel4.Gen.frame m g, fun m g _ => Cert.Kernel4Ideal.Gen.frame m g, plain_projection,
    fun m g _ => Cert.Kernel5.Gen.frame m g, fun m g _ => Cert.Kernel5Ideal.Gen.frame m g, plain_memory,
    fun m g _ => Cert.Kernel6.Gen.frame m g, fun m g _ => Cert.Kernel6Ideal.Gen.frame m g, plain_inputs,
    fun m g _ => Cert.Kernel7.Gen.frame m g, fun m g _ => Cert.Kernel7Ideal.Gen.frame m g, plain_window, trivial, layer,
    trivial, inner, trivial, projection, trivial, memory, trivial, inputs, trivial, window⟩

end Cert.Proof

end
